-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_v22) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v33) = v1 c
          ∧ r.2.mem ((c.tc : Thread Cert.Reference10Ideal.nD Cert.Reference10Ideal.τ).loc Cert.Reference10Ideal.main_v29) = v2 c
          ∧ r.2.mem ((c.tc : Thread Cert.Reference10Ideal.nD Cert.Reference10Ideal.τ).loc Cert.Reference10Ideal.main_v25) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_v62) = v1 c
          ∧ r.2.mem ((c.tc : Thread Cert.Reference11Ideal.nD Cert.Reference11Ideal.τ).loc Cert.Reference11Ideal.main_v63) = v2 c
          ∧ r.2.mem ((c.tc : Thread Cert.Reference11Ideal.nD Cert.Reference11Ideal.τ).loc Cert.Reference11Ideal.main_v61) = v3 c
          ∧ r.2.mem ((c.tc : Thread Cert.Reference11Ideal.nD Cert.Reference11Ideal.τ).loc Cert.Reference11Ideal.main_v57) = v4 c
          ∧ r.2.mem ((c.tc : Thread Cert.Reference11Ideal.nD Cert.Reference11Ideal.τ).loc Cert.Reference11Ideal.main_v53) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v53) = v0 c
          ∧ r.2.mem ((c.tc : Thread Cert.Reference12Ideal.nD Cert.Reference12Ideal.τ).loc Cert.Reference12Ideal.main_v55) = v1 c
          ∧ r.2.mem ((c.tc : Thread Cert.Reference12Ideal.nD Cert.Reference12Ideal.τ).loc Cert.Reference12Ideal.main_v45) = v2 c
          ∧ r.2.mem ((c.tc : Thread Cert.Reference12Ideal.nD Cert.Reference12Ideal.τ).loc Cert.Reference12Ideal.main_v52) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_v19) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v21) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S4096x3072 : Shape := ⟨2, ![4096, 3072]⟩
abbrev S4096x1024 : Shape := ⟨2, ![4096, 1024]⟩
abbrev S3x1024 : Shape := ⟨2, ![3, 1024]⟩
abbrev S1x1024 : Shape := ⟨2, ![1, 1024]⟩
abbrev S256x1024 : Shape := ⟨2, ![256, 1024]⟩
abbrev S16x1024 : Shape := ⟨2, ![16, 1024]⟩
abbrev S256x3072 : Shape := ⟨2, ![256, 3072]⟩
abbrev S272x1024 : Shape := ⟨2, ![272, 1024]⟩
abbrev S24x1024 : Shape := ⟨2, ![24, 1024]⟩
abbrev S1024 : Shape := ⟨1, ![1024]⟩
abbrev S8x1024 : Shape := ⟨2, ![8, 1024]⟩

abbrev nBuf : Space → Nat
  | .hbm => 7
  | .vmem => 25
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3x1024, .f32⟩
  | .hbm, ⟨3, _⟩ => ⟨S1x1024, .f32⟩
  | .hbm, ⟨4, _⟩ => ⟨S4096x3072, .bf16⟩
  | .hbm, ⟨5, _⟩ => ⟨S3x1024, .f32⟩
  | .hbm, ⟨6, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S256x1024, .bf16⟩
  | .local _ .vmem, ⟨13, _⟩ => ⟨S256x1024, .bf16⟩
  | .local _ .vmem, ⟨14, _⟩ => ⟨S16x1024, .bf16⟩
  | .local _ .vmem, ⟨15, _⟩ => ⟨S16x1024, .bf16⟩
  | .local _ .vmem, ⟨16, _⟩ => ⟨S3x1024, .f32⟩
  | .local _ .vmem, ⟨17, _⟩ => ⟨S1x1024, .f32⟩
  | .local _ .vmem, ⟨18, _⟩ => ⟨S256x3072, .bf16⟩
  | .local _ .vmem, ⟨19, _⟩ => ⟨S256x3072, .bf16⟩
  | .local _ .vmem, ⟨20, _⟩ => ⟨S3x1024, .f32⟩
  | .local _ .vmem, ⟨21, _⟩ => ⟨S1x1024, .f32⟩
  | .local _ .vmem, ⟨22, _⟩ => ⟨S272x1024, .f32⟩
  | .local _ .vmem, ⟨23, _⟩ => ⟨S272x1024, .f32⟩
  | .local _ .vmem, ⟨24, _⟩ => ⟨S24x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_780 : BitVec 32 := 15#32
  let v1231 : BitVec 1 := Scalar.cmpi .eq arg0 c15_i32_780
  let v1232 : BitVec 32 := Scalar.extui v1231
  let c0_i32_781 : BitVec 32 := 0#32
  let v1233 : BitVec 1 := Scalar.cmpi .ne v1232 c0_i32_781
  v1233

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x3072 : Shape := ⟨2, ![4096, 3072]⟩
abbrev S4096x1024 : Shape := ⟨2, ![4096, 1024]⟩
abbrev S3x1024 : Shape := ⟨2, ![3, 1024]⟩
abbrev S1x1024 : Shape := ⟨2, ![1, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3x1024, .f32⟩
  | .hbm, ⟨3, _⟩ => ⟨S1x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S2x1024, .f32⟩
  | .hbm, ⟨11, _⟩ => ⟨S4098x1024, .f32⟩
  | .hbm, ⟨12, _⟩ => ⟨S_, .f32⟩
  | .hbm, ⟨13, _⟩ => ⟨S2x1024, .f32⟩
  | .hbm, ⟨14, _⟩ => ⟨S1x1024, .f32⟩
  | .hbm, ⟨15, _⟩ => ⟨S1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S_, .f32⟩
  | .hbm, ⟨55, _⟩ => ⟨S4098x1024, .f32⟩
  | .hbm, ⟨56, _⟩ => ⟨S1x1024, .f32⟩
  | .hbm, ⟨57, _⟩ => ⟨S_, .f32⟩
  | .hbm, ⟨58, _⟩ => ⟨S3x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S_, .f32⟩
  | .hbm, ⟨68, _⟩ => ⟨S4098x1024, .f32⟩
  | .hbm, ⟨69, _⟩ => ⟨S4098x1024, .f32⟩
  | .hbm, ⟨70, _⟩ => ⟨S1x1024, .f32⟩
  | .hbm, ⟨71, _⟩ => ⟨S_, .f32⟩
  | .hbm, ⟨72, _⟩ => ⟨S3x1024, .f32⟩
  | .hbm, ⟨73, _⟩ => ⟨S3x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S1024, .f32⟩
  | .hbm, ⟨82, _⟩ => ⟨S_, .f32⟩
  | .hbm, ⟨83, _⟩ => ⟨S4098x1024, .f32⟩
  | .hbm, ⟨84, _⟩ => ⟨S4098x1024, .f32⟩
  | .hbm, ⟨85, _⟩ => ⟨S1x1024, .f32⟩
  | .hbm, ⟨86, _⟩ => ⟨S_, .f32⟩
  | .hbm, ⟨87, _⟩ => ⟨S3x1024, .f32⟩
  | .hbm, ⟨88, _⟩ => ⟨S3x1024, .f32⟩
  | .hbm, ⟨89, _⟩ => ⟨S2x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x3072, .f32⟩
  | .hbm, ⟨94, _⟩ => ⟨S4096x3072, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Kernel2.lean ====
abbrev S4096x3072 : Shape := ⟨2, ![4096, 3072]⟩
abbrev S4096x1024 : Shape := ⟨2, ![4096, 1024]⟩
abbrev S8x352x1024 : Shape := ⟨3, ![8, 352, 1024]⟩
abbrev S1024x3072 : Shape := ⟨2, ![1024, 3072]⟩
abbrev S1024x1024 : Shape := ⟨2, ![1024, 1024]⟩
abbrev S3072x1024 : Shape := ⟨2, ![3072, 1024]⟩
abbrev S352x1024 : Shape := ⟨2, ![352, 1024]⟩
abbrev S1x352x1024 : Shape := ⟨3, ![1, 352, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S8x352x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x352x1024, .bf16⟩
  | .local _ .vmem, ⟨5, _⟩ => ⟨S3072x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S4096x3072 : Shape := ⟨2, ![4096, 3072]⟩
abbrev S4096x1024 : Shape := ⟨2, ![4096, 1024]⟩
abbrev S4096x8x384 : Shape := ⟨3, ![4096, 8, 384]⟩
abbrev S4096x8x352 : Shape := ⟨3, ![4096, 8, 352]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x3072, .f32⟩
  | .hbm, ⟨3, _⟩ => ⟨S4096x8x384, .f32⟩
  | .hbm, ⟨4, _⟩ => ⟨S4096x8x352, .f32⟩
  | .hbm, ⟨5, _⟩ => ⟨S4096x2816, .f32⟩
  | .hbm, ⟨6, _⟩ => ⟨S4096x1024, .f32⟩
  | .hbm, ⟨7, _⟩ => ⟨S_, .f32⟩
  | .hbm, ⟨8, _⟩ => ⟨S2816x1024, .f32⟩
  | .hbm, ⟨9, _⟩ => ⟨S4096x1024, .f32⟩
  | .hbm, ⟨10, _⟩ => ⟨S1024x2816, .f32⟩
  | .hbm, ⟨11, _⟩ => ⟨S2816x1024, .f32⟩
  | .hbm, ⟨12, _⟩ => ⟨S8x352x1024, .f32⟩
  | .hbm, ⟨13, _⟩ => ⟨S8x352x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S4096x3072 : Shape := ⟨2, ![4096, 3072]⟩
abbrev S8x352x1024 : Shape := ⟨3, ![8, 352, 1024]⟩
abbrev S1024x1024 : Shape := ⟨2, ![1024, 1024]⟩
abbrev S1024x3072 : Shape := ⟨2, ![1024, 3072]⟩
abbrev S3072x1024 : Shape := ⟨2, ![3072, 1024]⟩
abbrev S352x1024 : Shape := ⟨2, ![352, 1024]⟩
abbrev S1x352x1024 : Shape := ⟨3, ![1, 352, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x3072, .bf16⟩
  | .hbm, ⟨4, _⟩ => ⟨S8x352x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S1024x3072, .bf16⟩
  | .local _ .vmem, ⟨6, _⟩ => ⟨S8x352x1024, .bf16⟩
  | .local _ .vmem, ⟨7, _⟩ => ⟨S3072x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference3Ideal.lean ====
abbrev S4096x1024 : Shape := ⟨2, ![4096, 1024]⟩
abbrev S1x1024 : Shape := ⟨2, ![1, 1024]⟩
abbrev S4096x3072 : Shape := ⟨2, ![4096, 3072]⟩
abbrev S_ : Shape := ⟨0, ![]⟩
abbrev S4096x8x384 : Shape := ⟨3, ![4096, 8, 384]⟩
abbrev S4096x8x352 : Shape := ⟨3, ![4096, 8, 352]⟩
abbrev S4096x2816 : Shape := ⟨2, ![4096, 2816]⟩
abbrev S1024x2816 : Shape := ⟨2, ![1024, 2816]⟩
abbrev S2816x1024 : Shape := ⟨2, ![2816, 1024]⟩
abbrev S8x352x1024 : Shape := ⟨3, ![8, 352, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x3072, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x3072, .f32⟩
  | .hbm, ⟨12, _⟩ => ⟨S4096x8x384, .f32⟩
  | .hbm, ⟨13, _⟩ => ⟨S4096x8x352, .f32⟩
  | .hbm, ⟨14, _⟩ => ⟨S4096x2816, .f32⟩
  | .hbm, ⟨15, _⟩ => ⟨S_, .f32⟩
  | .hbm, ⟨16, _⟩ => ⟨S1024x2816, .f32⟩
  | .hbm, ⟨17, _⟩ => ⟨S4096x2816, .f32⟩
  | .hbm, ⟨18, _⟩ => ⟨S2816x1024, .f32⟩
  | .hbm, ⟨19, _⟩ => ⟨S1024x2816, .f32⟩
  | .hbm, ⟨20, _⟩ => ⟨S2816x1024, .f32⟩
  | .hbm, ⟨21, _⟩ => ⟨S8x352x1024, .f32⟩
  | .hbm, ⟨22, _⟩ => ⟨S8x352x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S4096x1024 : Shape := ⟨2, ![4096, 1024]⟩
abbrev S8x128x1024 : Shape := ⟨3, ![8, 128, 1024]⟩
abbrev S1024x1024 : Shape := ⟨2, ![1024, 1024]⟩
abbrev S128x1024 : Shape := ⟨2, ![128, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4096x1024 : Shape := ⟨2, ![4096, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S8x128x1024, .f32⟩
  | .hbm, ⟨10, _⟩ => ⟨S8x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S4096x2048 : Shape := ⟨2, ![4096, 2048]⟩
abbrev S8x1024x256 : Shape := ⟨3, ![8, 1024, 256]⟩
abbrev S1024x1024 : Shape := ⟨2, ![1024, 1024]⟩
abbrev S1024x2048 : Shape := ⟨2, ![1024, 2048]⟩
abbrev S1024x256 : Shape := ⟨2, ![1024, 256]⟩
abbrev S1x1024x256 : Shape := ⟨3, ![1, 1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x2048, .bf16⟩
  | .hbm, ⟨4, _⟩ => ⟨S8x1024x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1024x2048, .bf16⟩
  | .local _ .vmem, ⟨6, _⟩ => ⟨S8x1024x256, .bf16⟩
  | .local _ .vmem, ⟨7, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference5Ideal.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x2048, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x2048, .f32⟩
  | .hbm, ⟨12, _⟩ => ⟨S_, .f32⟩
  | .hbm, ⟨13, _⟩ => ⟨S1024x2048, .f32⟩
  | .hbm, ⟨14, _⟩ => ⟨S4096x2048, .f32⟩
  | .hbm, ⟨15, _⟩ => ⟨S2048x1024, .f32⟩
  | .hbm, ⟨16, _⟩ => ⟨S1024x2048, .f32⟩
  | .hbm, ⟨17, _⟩ => ⟨S1024x8x256, .f32⟩
  | .hbm, ⟨18, _⟩ => ⟨S8x1024x256, .f32⟩
  | .hbm, ⟨19, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S4096x3072 : Shape := ⟨2, ![4096, 3072]⟩
abbrev S8x1024x384 : Shape := ⟨3, ![8, 1024, 384]⟩
abbrev S1024x1024 : Shape := ⟨2, ![1024, 1024]⟩
abbrev S1024x3072 : Shape := ⟨2, ![1024, 3072]⟩
abbrev S1024x384 : Shape := ⟨2, ![1024, 384]⟩
abbrev S1x1024x384 : Shape := ⟨3, ![1, 1024, 384]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x3072, .bf16⟩
  | .hbm, ⟨4, _⟩ => ⟨S8x1024x384, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S1024x3072, .bf16⟩
  | .local _ .vmem, ⟨6, _⟩ => ⟨S8x1024x384, .bf16⟩
  | .local _ .vmem, ⟨7, _⟩ => ⟨S1024x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference6Ideal.lean ====
abbrev S4096x1024 : Shape := ⟨2, ![4096, 1024]⟩
abbrev S1x1024 : Shape := ⟨2, ![1, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x3072, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x3072, .f32⟩
  | .hbm, ⟨12, _⟩ => ⟨S_, .f32⟩
  | .hbm, ⟨13, _⟩ => ⟨S1024x3072, .f32⟩
  | .hbm, ⟨14, _⟩ => ⟨S4096x3072, .f32⟩
  | .hbm, ⟨15, _⟩ => ⟨S3072x1024, .f32⟩
  | .hbm, ⟨16, _⟩ => ⟨S1024x3072, .f32⟩
  | .hbm, ⟨17, _⟩ => ⟨S1024x8x384, .f32⟩
  | .hbm, ⟨18, _⟩ => ⟨S8x1024x384, .f32⟩
  | .hbm, ⟨19, _⟩ => ⟨S8x1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel7.lean ====
abbrev S4096x1024 : Shape := ⟨2, ![4096, 1024]⟩
abbrev S8x128x1024 : Shape := ⟨3, ![8, 128, 1024]⟩
abbrev S512x1024 : Shape := ⟨2, ![512, 1024]⟩
abbrev S1024x1024 : Shape := ⟨2, ![1024, 1024]⟩
abbrev S8 : Shape := ⟨1, ![8]⟩
abbrev S1 : Shape := ⟨1, ![1]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x128x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S4096x1024 : Shape := ⟨2, ![4096, 1024]⟩
abbrev S8x128x1024 : Shape := ⟨3, ![8, 128, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x128x1024, .bf16⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S8x512x1024 : Shape := ⟨3, ![8, 512, 1024]⟩
abbrev S512x1024 : Shape := ⟨2, ![512, 1024]⟩
abbrev S1024x1024 : Shape := ⟨2, ![1024, 1024]⟩
abbrev S8 : Shape := ⟨1, ![8]⟩
abbrev S1 : Shape := ⟨1, ![1]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x512x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S4096x1024 : Shape := ⟨2, ![4096, 1024]⟩
abbrev S8x512x1024 : Shape := ⟨3, ![8, 512, 1024]⟩
abbrev S8x128x1024 : Shape := ⟨3, ![8, 128, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x512x1024, .bf16⟩
  | .hbm, ⟨2, _⟩ => ⟨S8x128x1024, .bf16⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x1024 : Shape := ⟨2, ![4096, 1024]⟩
abbrev S8x128x1024 : Shape := ⟨3, ![8, 128, 1024]⟩
abbrev S1x1024 : Shape := ⟨2, ![1, 1024]⟩
abbrev S_ : Shape := ⟨0, ![]⟩
abbrev S4096x1 : Shape := ⟨2, ![4096, 1]⟩
abbrev S512x1024 : Shape := ⟨2, ![512, 1024]⟩
abbrev S512x1 : Shape := ⟨2, ![512, 1]⟩
abbrev S1024x1024 : Shape := ⟨2, ![1024, 1024]⟩
abbrev S8 : Shape := ⟨1, ![8]⟩
abbrev S1 : Shape := ⟨1, ![1]⟩
abbrev S128x1024 : Shape := ⟨2, ![128, 1024]⟩
abbrev S1x128x1024 : Shape := ⟨3, ![1, 128, 1024]⟩
abbrev S512 : Shape := ⟨1, ![512]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S8x128x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | .local _ .vmem, ⟨16, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S4096x1024 : Shape := ⟨2, ![4096, 1024]⟩
abbrev S8x128x1024 : Shape := ⟨3, ![8, 128, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x128x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1024x1024, .bf16⟩
  | .hbm, ⟨8, _⟩ => ⟨S1024x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel10.lean ====
abbrev S4096x1024 : Shape := ⟨2, ![4096, 1024]⟩
abbrev S8x512x1024 : Shape := ⟨3, ![8, 512, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S1024x1024 : Shape := ⟨2, ![1024, 1024]⟩
abbrev S8 : Shape := ⟨1, ![8]⟩
abbrev S1 : Shape := ⟨1, ![1]⟩
abbrev S_ : Shape := ⟨0, ![]⟩
abbrev S128x1024 : Shape := ⟨2, ![128, 1024]⟩
abbrev S1x128x1024 : Shape := ⟨3, ![1, 128, 1024]⟩
abbrev S512 : Shape := ⟨1, ![512]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S8x512x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | .local _ .vmem, ⟨16, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x1024 : Shape := ⟨2, ![4096, 1024]⟩
abbrev S8x512x1024 : Shape := ⟨3, ![8, 512, 1024]⟩
abbrev S1x1024 : Shape := ⟨2, ![1, 1024]⟩
abbrev S8x128x1024 : Shape := ⟨3, ![8, 128, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x512x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S8x128x1024, .bf16⟩
  | .hbm, ⟨9, _⟩ => ⟨S1024x1024, .bf16⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel11.lean ====
abbrev S4096x3072 : Shape := ⟨2, ![4096, 3072]⟩
abbrev S3x3072 : Shape := ⟨2, ![3, 3072]⟩
abbrev S1x3072 : Shape := ⟨2, ![1, 3072]⟩
abbrev S8x384x1024 : Shape := ⟨3, ![8, 384, 1024]⟩
abbrev S4096x1024 : Shape := ⟨2, ![4096, 1024]⟩
abbrev S1x1024 : Shape := ⟨2, ![1, 1024]⟩
abbrev S4096x1 : Shape := ⟨2, ![4096, 1]⟩
abbrev S256x3072 : Shape := ⟨2, ![256, 3072]⟩
abbrev S16x3072 : Shape := ⟨2, ![16, 3072]⟩
abbrev S256x1024 : Shape := ⟨2, ![256, 1024]⟩
abbrev S256x1 : Shape := ⟨2, ![256, 1]⟩
abbrev S272x3072 : Shape := ⟨2, ![272, 3072]⟩
abbrev S3072x1024 : Shape := ⟨2, ![3072, 1024]⟩
abbrev S8 : Shape := ⟨1, ![8]⟩
abbrev S1 : Shape := ⟨1, ![1]⟩
abbrev S_ : Shape := ⟨0, ![]⟩
abbrev S384x1024 : Shape := ⟨2, ![384, 1024]⟩
abbrev S1x384x1024 : Shape := ⟨3, ![1, 384, 1024]⟩
abbrev S16x1024 : Shape := ⟨2, ![16, 1024]⟩
abbrev S1024x1024 : Shape := ⟨2, ![1024, 1024]⟩
abbrev S256 : Shape := ⟨1, ![256]⟩

abbrev nBuf : Space → Nat
  | .hbm => 15
  | .vmem => 27
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S3x3072, .f32⟩
  | .hbm, ⟨3, _⟩ => ⟨S1x3072, .f32⟩
  | .hbm, ⟨4, _⟩ => ⟨S8x384x1024, .bf16⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x3072, .bf16⟩
  | .hbm, ⟨10, _⟩ => ⟨S4096x3072, .bf16⟩
  | .hbm, ⟨11, _⟩ => ⟨S4096x1024, .bf16⟩
  | .hbm, ⟨12, _⟩ => ⟨S4096x1024, .f32⟩
  | .hbm, ⟨13, _⟩ => ⟨S4096x1024, .f32⟩
  | .hbm, ⟨14, _⟩ => ⟨S4096x1, .f32⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S256x3072, .bf16⟩
  | .local _ .vmem, ⟨5, _⟩ => ⟨S256x3072, .bf16⟩
  | .local _ .vmem, ⟨6, _⟩ => ⟨S3x3072, .f32⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x3072, .bf16⟩
  | .local _ .vmem, ⟨14, _⟩ => ⟨S256x3072, .bf16⟩
  | .local _ .vmem, ⟨15, _⟩ => ⟨S256x3072, .bf16⟩
  | .local _ .vmem, ⟨16, _⟩ => ⟨S256x3072, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1, .f32⟩
  | .local _ .vmem, ⟨24, _⟩ => ⟨S256x1, .f32⟩
  | .local _ .vmem, ⟨25, _⟩ => ⟨S272x3072, .f32⟩
  | .local _ .vmem, ⟨26, _⟩ => ⟨S3072x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference11Ideal.lean ====
abbrev S4096x3072 : Shape := ⟨2, ![4096, 3072]⟩
abbrev S3x3072 : Shape := ⟨2, ![3, 3072]⟩
abbrev S1x3072 : Shape := ⟨2, ![1, 3072]⟩
abbrev S8x384x1024 : Shape := ⟨3, ![8, 384, 1024]⟩
abbrev S4096x1024 : Shape := ⟨2, ![4096, 1024]⟩
abbrev S1x1024 : Shape := ⟨2, ![1, 1024]⟩
abbrev S_ : Shape := ⟨0, ![]⟩
abbrev S2x3072 : Shape := ⟨2, ![2, 3072]⟩
abbrev S4098x3072 : Shape := ⟨2, ![4098, 3072]⟩
abbrev S3072 : Shape := ⟨1, ![3072]⟩
abbrev S3072x1024 : Shape := ⟨2, ![3072, 1024]⟩
abbrev S4096 : Shape := ⟨1, ![4096]⟩
abbrev S4096x1 : Shape := ⟨2, ![4096, 1]⟩

abbrev nBuf : Space → Nat
  | .hbm => 89
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S3x3072, .f32⟩
  | .hbm, ⟨3, _⟩ => ⟨S1x3072, .f32⟩
  | .hbm, ⟨4, _⟩ => ⟨S8x384x1024, .bf16⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x3072, .f32⟩
  | .hbm, ⟨10, _⟩ => ⟨S_, .f32⟩
  | .hbm, ⟨11, _⟩ => ⟨S2x3072, .f32⟩
  | .hbm, ⟨12, _⟩ => ⟨S4098x3072, .f32⟩
  | .hbm, ⟨13, _⟩ => ⟨S1x3072, .f32⟩
  | .hbm, ⟨14, _⟩ => ⟨S3072, .f32⟩
  | .hbm, ⟨15, _⟩ => ⟨S4096x3072, .f32⟩
  | .hbm, ⟨16, _⟩ => ⟨S1x3072, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S3072, .f32⟩
  | .hbm, ⟨24, _⟩ => ⟨S4096x3072, .f32⟩
  | .hbm, ⟨25, _⟩ => ⟨S1x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S1x3072, .f32⟩
  | .hbm, ⟨30, _⟩ => ⟨S3072, .f32⟩
  | .hbm, ⟨31, _⟩ => ⟨S4096x3072, .f32⟩
  | .hbm, ⟨32, _⟩ => ⟨S1x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S_, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S4096x3072, .f32⟩
  | .hbm, ⟨48, _⟩ => ⟨S4096x3072, .f32⟩
  | .hbm, ⟨49, _⟩ => ⟨S4096x3072, .bf16⟩
  | .hbm, ⟨50, _⟩ => ⟨S4096x3072, .f32⟩
  | .hbm, ⟨51, _⟩ => ⟨S3072x1024, .bf16⟩
  | .hbm, ⟨52, _⟩ => ⟨S3072x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x3072, .bf16⟩
  | .hbm, ⟨88, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_4 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Kernel12.lean ====
abbrev S4096x2048 : Shape := ⟨2, ![4096, 2048]⟩
abbrev S8x1x1024x256 : Shape := ⟨4, ![8, 1, 1024, 256]⟩
abbrev S4096x1024 : Shape := ⟨2, ![4096, 1024]⟩
abbrev S1x1024 : Shape := ⟨2, ![1, 1024]⟩
abbrev S4096x1 : Shape := ⟨2, ![4096, 1]⟩
abbrev S8x1024 : Shape := ⟨2, ![8, 1024]⟩
abbrev S512x2048 : Shape := ⟨2, ![512, 2048]⟩
abbrev S512x1024 : Shape := ⟨2, ![512, 1024]⟩
abbrev S512x1 : Shape := ⟨2, ![512, 1]⟩
abbrev S1024x2048 : Shape := ⟨2, ![1024, 2048]⟩
abbrev S1x8 : Shape := ⟨2, ![1, 8]⟩
abbrev S8 : Shape := ⟨1, ![8]⟩
abbrev S1 : Shape := ⟨1, ![1]⟩
abbrev S_ : Shape := ⟨0, ![]⟩
abbrev S1024x256 : Shape := ⟨2, ![1024, 256]⟩
abbrev S1x1x1024x256 : Shape := ⟨4, ![1, 1, 1024, 256]⟩
abbrev S512 : Shape := ⟨1, ![512]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S4096x2048, .bf16⟩
  | .hbm, ⟨1, _⟩ => ⟨S8x1x1024x256, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1, .f32⟩
  | .hbm, ⟨7, _⟩ => ⟨S1x1024, .f32⟩
  | .hbm, ⟨8, _⟩ => ⟨S4096x1024, .bf16⟩
  | .hbm, ⟨9, _⟩ => ⟨S1x1024, .f32⟩
  | .hbm, ⟨10, _⟩ => ⟨S4096x1024, .bf16⟩
  | .hbm, ⟨11, _⟩ => ⟨S4096x1024, .f32⟩
  | .hbm, ⟨12, _⟩ => ⟨S8x1024, .f32⟩
  | .hbm, ⟨13, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S8x1024, .f32⟩
  | .local _ .vmem, ⟨20, _⟩ => ⟨S8x1024, .f32⟩
  | .local _ .vmem, ⟨21, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference12Ideal.lean ====
abbrev S4096x2048 : Shape := ⟨2, ![4096, 2048]⟩
abbrev S8x1x1024x256 : Shape := ⟨4, ![8, 1, 1024, 256]⟩
abbrev S4096x1024 : Shape := ⟨2, ![4096, 1024]⟩
abbrev S1x1024 : Shape := ⟨2, ![1, 1024]⟩
abbrev S4096x1 : Shape := ⟨2, ![4096, 1]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S4096 : Shape := ⟨1, ![4096]⟩
abbrev S1024 : Shape := ⟨1, ![1024]⟩
abbrev S4x1024 : Shape := ⟨2, ![4, 1024]⟩
abbrev S8x1024 : Shape := ⟨2, ![8, 1024]⟩
abbrev S6x1024 : Shape := ⟨2, ![6, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1x1024x256, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1, .f32⟩
  | .hbm, ⟨7, _⟩ => ⟨S1x1024, .f32⟩
  | .hbm, ⟨8, _⟩ => ⟨S4096x1024, .bf16⟩
  | .hbm, ⟨9, _⟩ => ⟨S1x1024, .f32⟩
  | .hbm, ⟨10, _⟩ => ⟨S8x1024x256, .bf16⟩
  | .hbm, ⟨11, _⟩ => ⟨S1024x8x256, .bf16⟩
  | .hbm, ⟨12, _⟩ => ⟨S1024x2048, .bf16⟩
  | .hbm, ⟨13, _⟩ => ⟨S1024x2048, .f32⟩
  | .hbm, ⟨14, _⟩ => ⟨S_, .f32⟩
  | .hbm, ⟨15, _⟩ => ⟨S4096x1024, .f32⟩
  | .hbm, ⟨16, _⟩ => ⟨S4096x2048, .f32⟩
  | .hbm, ⟨17, _⟩ => ⟨S4096x2048, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S4x1024, .f32⟩
  | .hbm, ⟨66, _⟩ => ⟨S8x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S6x1024, .f32⟩
  | .hbm, ⟨76, _⟩ => ⟨S8x1024, .f32⟩
  | .hbm, ⟨77, _⟩ => ⟨S4096x1024, .bf16⟩
  | .hbm, ⟨78, _⟩ => ⟨S_, .f32⟩
  | .hbm, ⟨79, _⟩ => ⟨S4096x1024, .f32⟩
  | .hbm, ⟨80, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S8x1x1024x384 : Shape := ⟨4, ![8, 1, 1024, 384]⟩
abbrev S_ : Shape := ⟨0, ![]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S1024x3072 : Shape := ⟨2, ![1024, 3072]⟩
abbrev S1x8 : Shape := ⟨2, ![1, 8]⟩
abbrev S8 : Shape := ⟨1, ![8]⟩
abbrev S1 : Shape := ⟨1, ![1]⟩
abbrev S1024x384 : Shape := ⟨2, ![1024, 384]⟩
abbrev S1x1x1024x384 : Shape := ⟨4, ![1, 1, 1024, 384]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S8x1x1024x384, .bf16⟩
  | .hbm, ⟨4, _⟩ => ⟨S_, .f32⟩
  | .hbm, ⟨5, _⟩ => ⟨S1x3072, .f32⟩
  | .hbm, ⟨6, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x3072, .f32⟩
  | .local _ .vmem, ⟨5, _⟩ => ⟨S512x3072, .bf16⟩
  | .local _ .vmem, ⟨6, _⟩ => ⟨S512x3072, .bf16⟩
  | .local _ .vmem, ⟨7, _⟩ => ⟨S1024x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S4096x1024 : Shape := ⟨2, ![4096, 1024]⟩
abbrev S1x1024 : Shape := ⟨2, ![1, 1024]⟩
abbrev S8x1x1024x384 : Shape := ⟨4, ![8, 1, 1024, 384]⟩
abbrev S_ : Shape := ⟨0, ![]⟩
abbrev S8x1024x384 : Shape := ⟨3, ![8, 1024, 384]⟩
abbrev S1024x8x384 : Shape := ⟨3, ![1024, 8, 384]⟩
abbrev S1024x3072 : Shape := ⟨2, ![1024, 3072]⟩
abbrev S4096x3072 : Shape := ⟨2, ![4096, 3072]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S8x1x1024x384, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S8x1024x384, .bf16⟩
  | .hbm, ⟨12, _⟩ => ⟨S1024x8x384, .bf16⟩
  | .hbm, ⟨13, _⟩ => ⟨S1024x3072, .bf16⟩
  | .hbm, ⟨14, _⟩ => ⟨S1024x3072, .f32⟩
  | .hbm, ⟨15, _⟩ => ⟨S4096x3072, .f32⟩
  | .hbm, ⟨16, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1x2048 : Shape := ⟨2, ![1, 2048]⟩
abbrev S8x1x1024x256 : Shape := ⟨4, ![8, 1, 1024, 256]⟩
abbrev S4096x2048 : Shape := ⟨2, ![4096, 2048]⟩
abbrev S512x1024 : Shape := ⟨2, ![512, 1024]⟩
abbrev S512x2048 : Shape := ⟨2, ![512, 2048]⟩
abbrev S1024x2048 : Shape := ⟨2, ![1024, 2048]⟩
abbrev S1x8 : Shape := ⟨2, ![1, 8]⟩
abbrev S8 : Shape := ⟨1, ![8]⟩
abbrev S1 : Shape := ⟨1, ![1]⟩
abbrev S_ : Shape := ⟨0, ![]⟩
abbrev S1024x256 : Shape := ⟨2, ![1024, 256]⟩
abbrev S1x1x1024x256 : Shape := ⟨4, ![1, 1, 1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x2048, .f32⟩
  | .hbm, ⟨4, _⟩ => ⟨S8x1x1024x256, .bf16⟩
  | .hbm, ⟨5, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1024x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S4096x1024 : Shape := ⟨2, ![4096, 1024]⟩
abbrev S1x1024 : Shape := ⟨2, ![1, 1024]⟩
abbrev S1x2048 : Shape := ⟨2, ![1, 2048]⟩
abbrev S8x1x1024x256 : Shape := ⟨4, ![8, 1, 1024, 256]⟩
abbrev S_ : Shape := ⟨0, ![]⟩
abbrev S8x1024x256 : Shape := ⟨3, ![8, 1024, 256]⟩
abbrev S1024x8x256 : Shape := ⟨3, ![1024, 8, 256]⟩
abbrev S1024x2048 : Shape := ⟨2, ![1024, 2048]⟩
abbrev S4096x2048 : Shape := ⟨2, ![4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x2048, .f32⟩
  | .hbm, ⟨4, _⟩ => ⟨S8x1x1024x256, .bf16⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S8x1024x256, .bf16⟩
  | .hbm, ⟨13, _⟩ => ⟨S1024x8x256, .bf16⟩
  | .hbm, ⟨14, _⟩ => ⟨S1024x2048, .bf16⟩
  | .hbm, ⟨15, _⟩ => ⟨S1024x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S8x2x1024x384 : Shape := ⟨4, ![8, 2, 1024, 384]⟩
abbrev S_ : Shape := ⟨0, ![]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S1024x3072 : Shape := ⟨2, ![1024, 3072]⟩
abbrev S2x8 : Shape := ⟨2, ![2, 8]⟩
abbrev S1x8 : Shape := ⟨2, ![1, 8]⟩
abbrev S8 : Shape := ⟨1, ![8]⟩
abbrev S1 : Shape := ⟨1, ![1]⟩
abbrev S1024x384 : Shape := ⟨2, ![1024, 384]⟩
abbrev S1x1x1024x384 : Shape := ⟨4, ![1, 1, 1024, 384]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S8x2x1024x384, .bf16⟩
  | .hbm, ⟨4, _⟩ => ⟨S_, .f32⟩
  | .hbm, ⟨5, _⟩ => ⟨S1x3072, .f32⟩
  | .hbm, ⟨6, _⟩ => ⟨S4096x3072, .bf16⟩
  | .hbm, ⟨7, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x3072, .f32⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | .local _ .vmem, ⟨9, _⟩ => ⟨S1024x3072, .bf16⟩
  | .local _ .vmem, ⟨10, _⟩ => ⟨S1024x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S4096x1024 : Shape := ⟨2, ![4096, 1024]⟩
abbrev S1x1024 : Shape := ⟨2, ![1, 1024]⟩
abbrev S8x2x1024x384 : Shape := ⟨4, ![8, 2, 1024, 384]⟩
abbrev S_ : Shape := ⟨0, ![]⟩
abbrev S8x1x1024x384 : Shape := ⟨4, ![8, 1, 1024, 384]⟩
abbrev S8x1024x384 : Shape := ⟨3, ![8, 1024, 384]⟩
abbrev S1024x8x384 : Shape := ⟨3, ![1024, 8, 384]⟩
abbrev S1024x3072 : Shape := ⟨2, ![1024, 3072]⟩
abbrev S4096x3072 : Shape := ⟨2, ![4096, 3072]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S8x2x1024x384, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S8x1x1024x384, .bf16⟩
  | .hbm, ⟨12, _⟩ => ⟨S8x1024x384, .bf16⟩
  | .hbm, ⟨13, _⟩ => ⟨S1024x8x384, .bf16⟩
  | .hbm, ⟨14, _⟩ => ⟨S1024x3072, .bf16⟩
  | .hbm, ⟨15, _⟩ => ⟨S1024x3072, .f32⟩
  | .hbm, ⟨16, _⟩ => ⟨S4096x3072, .f32⟩
  | .hbm, ⟨17, _⟩ => ⟨S4096x3072, .bf16⟩
  | .hbm, ⟨18, _⟩ => ⟨S8x1x1024x384, .bf16⟩
  | .hbm, ⟨19, _⟩ => ⟨S8x1024x384, .bf16⟩
  | .hbm, ⟨20, _⟩ => ⟨S1024x8x384, .bf16⟩
  | .hbm, ⟨21, _⟩ => ⟨S1024x3072, .bf16⟩
  | .hbm, ⟨22, _⟩ => ⟨S1024x3072, .f32⟩
  | .hbm, ⟨23, _⟩ => ⟨S4096x3072, .f32⟩
  | .hbm, ⟨24, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel16.lean ====
abbrev S4096x3072 : Shape := ⟨2, ![4096, 3072]⟩
abbrev S8x1x1024x384 : Shape := ⟨4, ![8, 1, 1024, 384]⟩
abbrev S4096x1024 : Shape := ⟨2, ![4096, 1024]⟩
abbrev S1x1024 : Shape := ⟨2, ![1, 1024]⟩
abbrev S8x1024 : Shape := ⟨2, ![8, 1024]⟩
abbrev S512x3072 : Shape := ⟨2, ![512, 3072]⟩
abbrev S512x1024 : Shape := ⟨2, ![512, 1024]⟩
abbrev S1024x3072 : Shape := ⟨2, ![1024, 3072]⟩
abbrev S1x8 : Shape := ⟨2, ![1, 8]⟩
abbrev S8 : Shape := ⟨1, ![8]⟩
abbrev S1 : Shape := ⟨1, ![1]⟩
abbrev S_ : Shape := ⟨0, ![]⟩
abbrev S1024x384 : Shape := ⟨2, ![1024, 384]⟩
abbrev S1x1x1024x384 : Shape := ⟨4, ![1, 1, 1024, 384]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S8x1x1024x384, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S1024x3072, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference16Ideal.lean ====
abbrev S4096x3072 : Shape := ⟨2, ![4096, 3072]⟩
abbrev S8x1x1024x384 : Shape := ⟨4, ![8, 1, 1024, 384]⟩
abbrev S4096x1024 : Shape := ⟨2, ![4096, 1024]⟩
abbrev S1x1024 : Shape := ⟨2, ![1, 1024]⟩
abbrev S_ : Shape := ⟨0, ![]⟩
abbrev S8x1024x384 : Shape := ⟨3, ![8, 1024, 384]⟩
abbrev S1024x8x384 : Shape := ⟨3, ![1024, 8, 384]⟩
abbrev S1024x3072 : Shape := ⟨2, ![1024, 3072]⟩
abbrev S1024 : Shape := ⟨1, ![1024]⟩
abbrev S6x1024 : Shape := ⟨2, ![6, 1024]⟩
abbrev S8x1024 : Shape := ⟨2, ![8, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S8x1x1024x384, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S8x1024x384, .bf16⟩
  | .hbm, ⟨15, _⟩ => ⟨S1024x8x384, .bf16⟩
  | .hbm, ⟨16, _⟩ => ⟨S1024x3072, .bf16⟩
  | .hbm, ⟨17, _⟩ => ⟨S1024x3072, .f32⟩
  | .hbm, ⟨18, _⟩ => ⟨S4096x3072, .f32⟩
  | .hbm, ⟨19, _⟩ => ⟨S4096x3072, .f32⟩
  | .hbm, ⟨20, _⟩ => ⟨S4096x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S6x1024, .f32⟩
  | .hbm, ⟨33, _⟩ => ⟨S8x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Shards.Own.lean ====
module

public import Idealize.ShloMosaic.Lib.Pipeline.FrameBody
public import Idealize.ShloMosaic.Lib.Pipeline.Value
public import Idealize.ShloMosaic.Lib.Pipeline.ValueKit
public import Idealize.ShloMosaic.Lib.Pipeline.ReadBack
public import Idealize.ShloMosaic.Lib.Claim
public import Idealize.ShloMosaic.Lib.Ring
public import Idealize.ShloMosaic.Lib.Tactic
public import Idealize.ShloMosaic.Lib.ValueLayout
public import Idealize.ShloMosaic.Lib.WordCmp
public import Idealize.ShloMosaic.Lib.WritesUnit
public import Idealize.ShloMosaic.Adequacy
public import Idealize.ShloMosaic.Init

@[expose] public section

noncomputable section

namespace Cert.Shards

open Idealize.ShloMosaic Idealize.SL Idealize.SL.RA
open Idealize.SL.BI (sProp)
open scoped Idealize.SL.BI
open Idealize.SL.BI.BIBase Idealize.SL.BI.Laws Idealize.SL.ProofMode

variable {nD : Nat} {τ : Topo} {sig : RefSig} {Val : EltTy → Type} {Ix : Type} [DecidableEq Ix] {Name : Type} [DecidableEq Name] {U : Type} [URA U] {Lvl : Type}

local notation "𝕄" => MT nD τ sig Ix Val Name U Lvl

/-- A buffer written by pieces that cover it is owned at what those pieces read back as, over anything and through any view. -/
theorem owned {c : Thread nD τ} {sp : Space} {s : Shape} {e : EltTy} (M : Memref sig c.2.kind sp s e) (f : M.view.ty.Contents Val) (L : List (View.Piece Val s e))
    {sig' : RefSig} {κ' : Kind} {sp' : Space} (v : View sig' κ' sp' s e) (g : v.ty.Contents Val) (h : ∀ y, ∃ p ∈ L, y ∈ p.1.set) :
    (M.view.loc c ↦[M.view.set]{fullShare} M.view.writes Val f L : sProp 𝕄) ⊢ owns c M fullShare (v.read Val (v.writes Val g L)) := by
  rw [← View.read_writes_of_cover M.view f v g L h]
  exact owns_intro c M fullShare _

/-- A buffer at the contents that read back as `x` is owned at `x`. -/
theorem unread {c : Thread nD τ} {sp : Space} {s : Shape} {e : EltTy} {M : Memref sig c.2.kind sp s e} (h : M.IsWhole) (x : s.Idx → Val e) :
    (M.view.loc c ↦[M.view.set]{fullShare} h.unread x : sProp 𝕄) ⊢ iprop(∃ f, ⌜M.view.read Val f = x⌝ ∗ (M.view.loc c ↦[M.view.set]{fullShare} f)) := by
  iintro H
  iexists _; isplitr; · ipureintro; exact h.read_unread _
  iexact H

/-- A rank-two index is a pair of coordinates. -/
theorem pair {a b : ℕ} (y : (⟨2, ![a, b]⟩ : Shape).Idx) : ∃ (i : Fin a) (j : Fin b), y = ix2 i j :=
  ⟨y 0, y 1, funext fun k => by fin_cases k <;> rfl⟩

/-- The place of an entry in the block at index zero. -/
theorem at_zero {i s x : ℕ} (h : i = 0) : i * s + 1 * x = x := by
  rw [h, Nat.zero_mul, Nat.zero_add, Nat.one_mul]

/-- The place of an entry in the block at index `k`. -/
theorem at_row {i s k x : ℕ} (h : i = k) : i * s + 1 * x = k * s + x := by
  rw [h, Nat.one_mul]

end Cert.Shards

end
-- ==== Proof.DwDown.lean ====
module

public import proofs.«01_k».proof.Proof.Gen.Kernel2Ideal.Value
public import proofs.«01_k».proof.Defs
public import proofs.«01_k».proof.Proof.Gen.Reference2Ideal.Run
public import proofs.«01_k».proof.Proof.Shards.Own

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- One block's contribution to the accumulator's entry (a, b): the sum over the block's rows of the left operand's column `a` times the cotangent's column `b`. -/
def part (x : Vec Ideal S1024x3072 .bf16) (d : Vec Ideal S1024x1024 .bf16)
    (a : Fin 3072) (b : Fin 1024) : EReal :=
  ∑ s : Fin 1024, x (ix2 s a) * d (ix2 s b)

/-- What a point makes of the accumulator, at an entry: the block's sum is added. -/
theorem pay2_apply (x : Vec Ideal S1024x3072 .bf16) (d : Vec Ideal S1024x1024 .bf16) (acc : Vec Ideal S3072x1024 .f32)
    (a : Fin 3072) (b : Fin 1024) :
    k0_pay2 (F := Ideal) acc x d (ix2 a b) = acc (ix2 a b) + part x d a b := by
  unfold part
  pointwise [k0_pay2]

/-- The accumulator starts from zero. -/
theorem pay1_apply (j : S3072x1024.Idx) : k0_pay1 (F := Ideal) j = 0 := by
  pointwise [k0_pay1]

/-- The first point clears the accumulator and adds its block. -/
theorem acc_first (h0 : t.val % 4 = 0) :
    (outsAt0 m c t.val t.isLt).2 = k0_pay2 (F := Ideal) (k0_pay1 (F := Ideal)) (iblk m c 0 t) (iblk m c 1 t) := by
  rw [outsAt0_A m c t h0 (by omega)]
  frame_out

/-- Every later point adds its block to what the point before left. -/
theorem acc_step (h0 : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    simp only [read_unread_whole]
  · rw [outsAt0_B m c t h0 h1]
    frame_out
    simp only [read_unread_whole]

/-- What the last point stores: the accumulator, cut into the eight devices' blocks. -/
theorem out (j : S8x352x1024.Idx) (h0 : ¬t.val % 4 = 0) (h1 : t.val % 4 = 3)
    (i : S3072x1024.Idx) (hi0 : (i 0).val = (j 0).val * 384 + (j 1).val) (hi1 : (i 1).val = (j 2).val) :
    (outsAt0 m c t.val t.isLt).1 j = (outsAt0 m c t.val t.isLt).2 i := by
  rw [acc_step m c t h0]
  rw [outsAt0_C m c t h0 h1]
  frame_out
  simp only [read_unread_whole]
  generalize k0_pay2 (F := Ideal) (outsAt0 m c (t.val - 1) (Nat.lt_of_le_of_lt (Nat.sub_le _ _) t.isLt)).2 (iblk m c 0 t) (iblk m c 1 t) = Z
  simp (disch := decide) only [View.readCov_fill]
  canon_tiles x h
  all_goals open_payloads
  all_goals pointwise []
  all_goals (refine congrArg Z (funext fun a => Fin.ext ?_); fin_cases a <;> simp_all <;> omega)

/-- The accumulator after the last point is the sum of the four blocks' contributions. -/
theorem acc_last (ht : t.val + 1 = cfg0.N) (a : Fin 3072) (b : Fin 1024) :
    (outsAt0 m c t.val t.isLt).2 (ix2 a b)
      = ∑ p : Fin cfg0.N, part (iblk m c 0 p) (iblk m c 1 p) a b := by
  rw [Pipeline.eq_sum_fin_of_reset_step_apply_last (fun n h (i : Fin 3072 × Fin 1024) => (outsAt0 m c n h).2 (ix2 i.1 i.2)) 4
    (fun _ => 0) (fun p i => part (iblk m c 0 p) (iblk m c 1 p) i.1 i.2) ?_ ?_ (by decide) t ht (a, b), zero_add]
  · intro t h i
    rw [acc_first m c t h, pay2_apply, pay1_apply]
  · intro t h i
    rw [acc_step m c t h, pay2_apply]

/-- The sum over all rows of the left operand's column `a` times the cotangent's column `b`. -/
def tot (x : Vec Ideal S4096x3072 .bf16) (d : Vec Ideal S4096x1024 .bf16)
    (a : Fin 3072) (b : Fin 1024) : EReal :=
  ∑ r : Fin 4096, x (ix2 r a) * d (ix2 r b)

/-- The four blocks' sums are the sum over all rows: block `p` holds rows 1024 p to 1024 p + 1023. -/
theorem part_sum (a : Fin 3072) (b : Fin 1024) :
    ∑ p : Fin cfg0.N, part (iblk m c 0 p) (iblk m c 1 p) a b
      = tot (m (c.tc.loc main_arg0)) (m (c.tc.loc main_arg1)) a b := by
  unfold part tot
  refine Fin.sum_mul_add_congr (S := cfg0.N) (n := 1024) (fun p s hl => ?_) rfl
  have h0 := (by decide +kernel : ∀ t : Fin cfg0.N, win0_0.index t (0 : Fin 2) = t.val ∧ win0_0.index t (1 : Fin 2) = 0) p
  have h1 := (by decide +kernel : ∀ t : Fin cfg0.N, win0_1.index t (0 : Fin 2) = t.val ∧ win0_1.index t (1 : Fin 2) = 0) p
  blk_point [iblk, V, h0.1, h0.2, h1.1, h1.2]

/-- The result array's entry is the sum over all rows, at the accumulator's entry that the cut puts there. -/
theorem final (j : S8x352x1024.Idx) (a : Fin 3072) (ha : a.val = (j 0).val * 384 + (j 1).val) :
    (dats m 0 c).arrAt 2 cfg0.N j = tot (m (c.tc.loc main_arg0)) (m (c.tc.loc main_arg1)) a (j 2) := by
  have key : (dats m 0 c).arrAt 2 cfg0.N = (outsAt0 m c 3 (by decide)).1 := by
    refine (dats m 0 c).arrAt_eq_of_covers 2 _ (by decide +kernel) fun t hf y => ?_
    blk_simp
    have ht := (by decide +kernel : ∀ t : Fin cfg0.N, (cfg0.win 2).flush t = true → t = ⟨3, by decide⟩) t hf
    subst ht
    rw [after0_2]
    refine congrArg (outsAt0 m c 3 (by decide)).1 (funext fun a => Fin.ext ?_)
    have hw := (by decide +kernel : ∀ a : Fin 3, win0_2.index ⟨3, by decide⟩ a = 0) a
    blk_simp
    show (y a).val = win0_2.index ⟨3, by decide⟩ a * win0_2.size a + (y a).val
    rw [hw, Nat.zero_mul, Nat.zero_add]
  rw [key, out m c ⟨3, by decide⟩ j (by decide) (by decide) (ix2 a (j 2)) ha rfl]
  exact (acc_last m c ⟨3, by decide⟩ rfl a (j 2)).trans (part_sum m c a (j 2))

end Cert.Kernel2Ideal.Hand

namespace Cert.Proof

open Idealize.ShloMosaic Idealize.SL.Sem

/-- The weight gradient of the down projection: on memories that agree on the arguments, the kernel's result array is the reference's, entry by entry. -/
theorem algebraic_DwDown : algebraic_Kernel2Ideal_Reference2Ideal := by
  intro m ρ m' ρ' _ hagree
  refine ⟨_, Kernel2Ideal.Value.run_blocks (F := Ideal) m ρ, ?_⟩
  refine (θ_run Reference2Ideal.defs _ _).mono (fun _ h c => ⟨?_, (h c).2⟩) (Reference2Ideal.Value.run (F := Ideal) m' ρ')
  rw [(h c).1]
  simp only [hagree c]
  funext j
  rw [Kernel2Ideal.Hand.final m c j ⟨(j 0).val * 384 + (j 1).val, by have := (j 0).isLt; have := (j 1).isLt; simp at *; omega⟩ rfl]
  unfold Kernel2Ideal.Hand.tot
  pointwise []
  exact Finset.sum_congr rfl fun _ _ => mul_comm (G := EReal) _ _

end Cert.Proof

end
-- ==== Proof.DwUp.lean ====
module

public import proofs.«01_k».proof.Proof.Gen.Kernel3Ideal.Value
public import proofs.«01_k».proof.Defs
public import proofs.«01_k».proof.Proof.Gen.Reference3Ideal.Run
public import proofs.«01_k».proof.Proof.Shards.Own

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- One block's contribution to the accumulator's entry (a, b): the sum over the block's rows of the cotangent times the
    modulated activation. -/
def part (x : Vec Ideal S1024x1024 .f32) (sc sh : Vec Ideal S1x1024 .f32) (d : Vec Ideal S1024x3072 .bf16)
    (a : Fin 3072) (b : Fin 1024) : EReal :=
  ∑ s : Fin 1024, d (ix2 s a) * (x (ix2 s b) * (1 + sc (ix2 0 b)) + sh (ix2 0 b))

/-- What a point makes of the accumulator, at an entry: the block's sum is added. -/
theorem pay2_apply (x : Vec Ideal S1024x1024 .f32) (sc sh : Vec Ideal S1x1024 .f32) (acc : Vec Ideal S3072x1024 .f32)
    (d : Vec Ideal S1024x3072 .bf16) (a : Fin 3072) (b : Fin 1024) :
    k0_pay2 (F := Ideal) x sc sh acc d (ix2 a b) = acc (ix2 a b) + part x sc sh d a b := by
  unfold part
  pointwise [k0_pay2]

/-- The accumulator starts from zero. -/
theorem pay1_apply (j : S3072x1024.Idx) : k0_pay1 (F := Ideal) j = 0 := by
  pointwise [k0_pay1]

/-- The first point clears the accumulator and adds its block. -/
theorem acc_first (h0 : t.val % 4 = 0) :
    (outsAt0 m c t.val t.isLt).2 = k0_pay2 (iblk m c 0 t) (iblk m c 1 t) (iblk m c 2 t) (k0_pay1 (F := Ideal)) (iblk m c 3 t) := by
  rw [outsAt0_A m c t h0 (by omega)]
  frame_out

/-- Every later point adds its block to what the point before left. -/
theorem acc_step (h0 : ¬t.val % 4 = 0) :
    (outsAt0 m c t.val t.isLt).2 = k0_pay2 (iblk m c 0 t) (iblk m c 1 t) (iblk m c 2 t) (outsAt0 m c (t.val - 1) (Nat.lt_of_le_of_lt (Nat.sub_le _ _) t.isLt)).2 (iblk m c 3 t) := by
  by_cases h1 : t.val % 4 = 3
  · rw [outsAt0_C m c t h0 h1]
    frame_out
    simp only [read_unread_whole]
  · rw [outsAt0_B m c t h0 h1]
    frame_out
    simp only [read_unread_whole]

/-- What the last point stores: the accumulator's rows, cut into the eight devices' blocks without the padding rows. -/
theorem out (j : S8x352x1024.Idx) (h0 : ¬t.val % 4 = 0) (h1 : t.val % 4 = 3) (i : S3072x1024.Idx)
    (hi0 : (i 0).val = (j 0).val * 384 + (j 1).val) (hi1 : (i 1).val = (j 2).val) :
    (outsAt0 m c t.val t.isLt).1 j = (outsAt0 m c t.val t.isLt).2 i := by
  rw [acc_step m c t h0]
  rw [outsAt0_C m c t h0 h1]
  frame_out
  simp only [read_unread_whole]
  generalize k0_pay2 (iblk m c 0 t) (iblk m c 1 t) (iblk m c 2 t) (outsAt0 m c (t.val - 1) (Nat.lt_of_le_of_lt (Nat.sub_le _ _) t.isLt)).2 (iblk m c 3 t) = Z
  simp (disch := decide) only [View.readCov_fill]
  canon_tiles x h
  all_goals open_payloads
  all_goals pointwise []
  all_goals (refine congrArg Z (funext fun a => Fin.ext ?_); fin_cases a <;> simp_all <;> omega)

/-- The accumulator after the last point: the sum over the four blocks. -/
theorem acc_last (ht : t.val + 1 = cfg0.N) (a : Fin 3072) (b : Fin 1024) :
    (outsAt0 m c t.val t.isLt).2 (ix2 a b)
      = ∑ p : Fin cfg0.N, part (iblk m c 0 p) (iblk m c 1 p) (iblk m c 2 p) (iblk m c 3 p) a b := by
  rw [Pipeline.eq_sum_fin_of_reset_step_apply_last (fun n h (i : Fin 3072 × Fin 1024) => (outsAt0 m c n h).2 (ix2 i.1 i.2)) 4
    (fun _ => 0) (fun p i => part (iblk m c 0 p) (iblk m c 1 p) (iblk m c 2 p) (iblk m c 3 p) i.1 i.2) ?_ ?_ (by decide) t ht (a, b), zero_add]
  · intro t h i
    rw [acc_first m c t h, pay2_apply, pay1_apply]
  · intro t h i
    rw [acc_step m c t h, pay2_apply]

/-- The sum over all rows of the cotangent's column `a` times the modulated activation's column `b`. -/
def tot (x : Vec Ideal S4096x1024 .f32) (sc sh : Vec Ideal S1x1024 .f32) (d : Vec Ideal S4096x3072 .bf16)
    (a : Fin 3072) (b : Fin 1024) : EReal :=
  ∑ r : Fin 4096, d (ix2 r a) * (x (ix2 r b) * (1 + sc (ix2 0 b)) + sh (ix2 0 b))

/-- The four blocks' sums are the sum over all rows: block `p` holds rows 1024 p to 1024 p + 1023. -/
theorem part_sum (a : Fin 3072) (b : Fin 1024) :
    ∑ p : Fin cfg0.N, part (iblk m c 0 p) (iblk m c 1 p) (iblk m c 2 p) (iblk m c 3 p) a b
      = tot (m (c.tc.loc main_arg0)) (m (c.tc.loc main_arg1)) (m (c.tc.loc main_arg2)) (m (c.tc.loc main_arg3)) a b := by
  unfold part tot
  refine Fin.sum_mul_add_congr (S := cfg0.N) (n := 1024) (fun p s hl => ?_) rfl
  have h0 := (by decide +kernel : ∀ t : Fin cfg0.N, win0_0.index t (0 : Fin 2) = t.val ∧ win0_0.index t (1 : Fin 2) = 0) p
  have h3 := (by decide +kernel : ∀ t : Fin cfg0.N, win0_3.index t (0 : Fin 2) = t.val ∧ win0_3.index t (1 : Fin 2) = 0) p
  have h1 := (by decide +kernel : ∀ t : Fin cfg0.N, win0_1.index t (0 : Fin 2) = 0 ∧ win0_1.index t (1 : Fin 2) = 0) p
  have h2 := (by decide +kernel : ∀ t : Fin cfg0.N, win0_2.index t (0 : Fin 2) = 0 ∧ win0_2.index t (1 : Fin 2) = 0) p
  blk_point [iblk, V, h0.1, h0.2, h1.1, h1.2, h2.1, h2.2, h3.1, h3.2]

/-- The result array's entry (k, r, b) is the total at column 384 k + r of the cotangent and column b of the activation. -/
theorem final (j : S8x352x1024.Idx) (a : Fin 3072) (ha : a.val = (j 0).val * 384 + (j 1).val) :
    (dats m 0 c).arrAt 4 cfg0.N j = tot (m (c.tc.loc main_arg0)) (m (c.tc.loc main_arg1)) (m (c.tc.loc main_arg2)) (m (c.tc.loc main_arg3)) a (j 2) := by
  have key : (dats m 0 c).arrAt 4 cfg0.N = (outsAt0 m c 3 (by decide)).1 := by
    refine (dats m 0 c).arrAt_eq_of_covers 4 _ (by decide +kernel) fun t hf y => ?_
    blk_simp
    have ht := (by decide +kernel : ∀ t : Fin cfg0.N, (cfg0.win 4).flush t = true → t = ⟨3, by decide⟩) t hf
    subst ht
    rw [after0_4]
    refine congrArg (outsAt0 m c 3 (by decide)).1 (funext fun a => Fin.ext ?_)
    have h4 := (by decide +kernel : ∀ a : Fin 3, win0_4.index ⟨3, by decide⟩ a = 0) a
    blk_simp
    show (y a).val = win0_4.index ⟨3, by decide⟩ a * win0_4.size a + (y a).val
    rw [h4, Nat.zero_mul, Nat.zero_add]
  rw [key, out m c ⟨3, by decide⟩ j (by decide) (by decide) (ix2 a (j 2)) ha rfl]
  exact (acc_last m c ⟨3, by decide⟩ rfl a (j 2)).trans (part_sum m c a (j 2))

end Cert.Kernel3Ideal.Hand

namespace Cert.Proof

open Idealize.ShloMosaic Idealize.SL.Sem

/-- The weight gradient of the up projections: on memories that agree on the arguments, the kernel's result array is the reference's, entry by entry. -/
theorem algebraic_DwUp : algebraic_Kernel3Ideal_Reference3Ideal := by
  intro m ρ m' ρ' _ hagree
  refine ⟨_, Kernel3Ideal.Value.run_blocks (F := Ideal) m ρ, ?_⟩
  refine (θ_run Reference3Ideal.defs _ _).mono (fun _ h c => ⟨?_, (h c).2⟩) (Reference3Ideal.Value.run (F := Ideal) m' ρ')
  rw [(h c).1]
  simp only [hagree c]
  funext j
  rw [Kernel3Ideal.Hand.final m c j ⟨(j 0).val * 384 + (j 1).val, by have := (j 0).isLt; have := (j 1).isLt; simp at *; omega⟩ rfl]
  unfold Kernel3Ideal.Hand.tot
  pointwise []

end Cert.Proof

end
-- ==== Proof.DwOut.lean ====
module

public import proofs.«01_k».proof.Proof.Gen.Kernel4Ideal.Value
public import proofs.«01_k».proof.Defs
public import proofs.«01_k».proof.Proof.Gen.Reference4Ideal.Run
public import proofs.«01_k».proof.Proof.Shards.Own

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- One block's contribution to the accumulator's entry (a, b): the sum over the block's rows of the left operand's column `a` times the cotangent's column `b`. -/
def part (x : Vec Ideal S1024x1024 .bf16) (d : Vec Ideal S1024x1024 .bf16)
    (a : Fin 1024) (b : Fin 1024) : EReal :=
  ∑ s : Fin 1024, x (ix2 s a) * d (ix2 s b)

/-- What a point makes of the accumulator, at an entry: the block's sum is added. -/
theorem pay2_apply (x : Vec Ideal S1024x1024 .bf16) (d : Vec Ideal S1024x1024 .bf16) (acc : Vec Ideal S1024x1024 .f32)
    (a : Fin 1024) (b : Fin 1024) :
    k0_pay2 (F := Ideal) acc x d (ix2 a b) = acc (ix2 a b) + part x d a b := by
  unfold part
  pointwise [k0_pay2]

/-- The accumulator starts from zero. -/
theorem pay1_apply (j : S1024x1024.Idx) : k0_pay1 (F := Ideal) j = 0 := by
  pointwise [k0_pay1]

/-- The first point clears the accumulator and adds its block. -/
theorem acc_first (h0 : t.val % 4 = 0) :
    (outsAt0 m c t.val t.isLt).2 = k0_pay2 (F := Ideal) (k0_pay1 (F := Ideal)) (iblk m c 0 t) (iblk m c 1 t) := by
  rw [outsAt0_A m c t h0 (by omega)]
  frame_out

/-- Every later point adds its block to what the point before left. -/
theorem acc_step (h0 : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    simp only [read_unread_whole]
  · rw [outsAt0_B m c t h0 h1]
    frame_out
    simp only [read_unread_whole]

/-- What the last point stores: the accumulator, cut into the eight devices' blocks. -/
theorem out (j : S8x128x1024.Idx) (h0 : ¬t.val % 4 = 0) (h1 : t.val % 4 = 3)
    (i : S1024x1024.Idx) (hi0 : (i 0).val = (j 0).val * 128 + (j 1).val) (hi1 : (i 1).val = (j 2).val) :
    (outsAt0 m c t.val t.isLt).1 j = (outsAt0 m c t.val t.isLt).2 i := by
  rw [acc_step m c t h0]
  rw [outsAt0_C m c t h0 h1]
  frame_out
  simp only [read_unread_whole]
  generalize k0_pay2 (F := Ideal) (outsAt0 m c (t.val - 1) (Nat.lt_of_le_of_lt (Nat.sub_le _ _) t.isLt)).2 (iblk m c 0 t) (iblk m c 1 t) = Z
  simp (disch := decide) only [View.readCov_fill]
  canon_tiles x h
  all_goals open_payloads
  all_goals pointwise []
  all_goals (refine congrArg Z (funext fun a => Fin.ext ?_); fin_cases a <;> simp_all <;> omega)

/-- The accumulator after the last point is the sum of the four blocks' contributions. -/
theorem acc_last (ht : t.val + 1 = cfg0.N) (a : Fin 1024) (b : Fin 1024) :
    (outsAt0 m c t.val t.isLt).2 (ix2 a b)
      = ∑ p : Fin cfg0.N, part (iblk m c 0 p) (iblk m c 1 p) a b := by
  rw [Pipeline.eq_sum_fin_of_reset_step_apply_last (fun n h (i : Fin 1024 × Fin 1024) => (outsAt0 m c n h).2 (ix2 i.1 i.2)) 4
    (fun _ => 0) (fun p i => part (iblk m c 0 p) (iblk m c 1 p) i.1 i.2) ?_ ?_ (by decide) t ht (a, b), zero_add]
  · intro t h i
    rw [acc_first m c t h, pay2_apply, pay1_apply]
  · intro t h i
    rw [acc_step m c t h, pay2_apply]

/-- The sum over all rows of the left operand's column `a` times the cotangent's column `b`. -/
def tot (x : Vec Ideal S4096x1024 .bf16) (d : Vec Ideal S4096x1024 .bf16)
    (a : Fin 1024) (b : Fin 1024) : EReal :=
  ∑ r : Fin 4096, x (ix2 r a) * d (ix2 r b)

/-- The four blocks' sums are the sum over all rows: block `p` holds rows 1024 p to 1024 p + 1023. -/
theorem part_sum (a : Fin 1024) (b : Fin 1024) :
    ∑ p : Fin cfg0.N, part (iblk m c 0 p) (iblk m c 1 p) a b
      = tot (m (c.tc.loc main_arg0)) (m (c.tc.loc main_arg1)) a b := by
  unfold part tot
  refine Fin.sum_mul_add_congr (S := cfg0.N) (n := 1024) (fun p s hl => ?_) rfl
  have h0 := (by decide +kernel : ∀ t : Fin cfg0.N, win0_0.index t (0 : Fin 2) = t.val ∧ win0_0.index t (1 : Fin 2) = 0) p
  have h1 := (by decide +kernel : ∀ t : Fin cfg0.N, win0_1.index t (0 : Fin 2) = t.val ∧ win0_1.index t (1 : Fin 2) = 0) p
  blk_point [iblk, V, h0.1, h0.2, h1.1, h1.2]

/-- The result array's entry is the sum over all rows, at the accumulator's entry that the cut puts there. -/
theorem final (j : S8x128x1024.Idx) (a : Fin 1024) (ha : a.val = (j 0).val * 128 + (j 1).val) :
    (dats m 0 c).arrAt 2 cfg0.N j = tot (m (c.tc.loc main_arg0)) (m (c.tc.loc main_arg1)) a (j 2) := by
  have key : (dats m 0 c).arrAt 2 cfg0.N = (outsAt0 m c 3 (by decide)).1 := by
    refine (dats m 0 c).arrAt_eq_of_covers 2 _ (by decide +kernel) fun t hf y => ?_
    blk_simp
    have ht := (by decide +kernel : ∀ t : Fin cfg0.N, (cfg0.win 2).flush t = true → t = ⟨3, by decide⟩) t hf
    subst ht
    rw [after0_2]
    refine congrArg (outsAt0 m c 3 (by decide)).1 (funext fun a => Fin.ext ?_)
    have hw := (by decide +kernel : ∀ a : Fin 3, win0_2.index ⟨3, by decide⟩ a = 0) a
    blk_simp
    show (y a).val = win0_2.index ⟨3, by decide⟩ a * win0_2.size a + (y a).val
    rw [hw, Nat.zero_mul, Nat.zero_add]
  rw [key, out m c ⟨3, by decide⟩ j (by decide) (by decide) (ix2 a (j 2)) ha rfl]
  exact (acc_last m c ⟨3, by decide⟩ rfl a (j 2)).trans (part_sum m c a (j 2))

end Cert.Kernel4Ideal.Hand

namespace Cert.Proof

open Idealize.ShloMosaic Idealize.SL.Sem

/-- The weight gradient of an output projection: on memories that agree on the arguments, the kernel's result array is the reference's, entry by entry. -/
theorem algebraic_DwOut : algebraic_Kernel4Ideal_Reference4Ideal := by
  intro m ρ m' ρ' _ hagree
  refine ⟨_, Kernel4Ideal.Value.run_blocks (F := Ideal) m ρ, ?_⟩
  refine (θ_run Reference4Ideal.defs _ _).mono (fun _ h c => ⟨?_, (h c).2⟩) (Reference4Ideal.Value.run (F := Ideal) m' ρ')
  rw [(h c).1]
  simp only [hagree c]
  funext j
  rw [Kernel4Ideal.Hand.final m c j ⟨(j 0).val * 128 + (j 1).val, by have := (j 0).isLt; have := (j 1).isLt; simp at *; omega⟩ rfl]
  unfold Kernel4Ideal.Hand.tot
  pointwise []
  exact Finset.sum_congr rfl fun _ _ => mul_comm (G := EReal) _ _

end Cert.Proof

end
-- ==== Proof.DwPw.lean ====
module

public import proofs.«01_k».proof.Proof.Gen.Kernel5Ideal.Value
public import proofs.«01_k».proof.Defs
public import proofs.«01_k».proof.Proof.Gen.Reference5Ideal.Run
public import proofs.«01_k».proof.Proof.Shards.Own

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- One block's contribution to the accumulator's entry (a, b): the sum over the block's rows of the modulated activation's column `a` times the cotangent's column `b`. -/
def part (x : Vec Ideal S1024x1024 .f32) (sc sh : Vec Ideal S1x1024 .f32) (d : Vec Ideal S1024x2048 .bf16)
    (a : Fin 1024) (b : Fin 2048) : EReal :=
  ∑ s : Fin 1024, (x (ix2 s a) * (1 + sc (ix2 0 a)) + sh (ix2 0 a)) * d (ix2 s b)

/-- What a point makes of the accumulator, at an entry: the block's sum is added. -/
theorem pay2_apply (x : Vec Ideal S1024x1024 .f32) (sc sh : Vec Ideal S1x1024 .f32) (d : Vec Ideal S1024x2048 .bf16) (acc : Vec Ideal S1024x2048 .f32)
    (a : Fin 1024) (b : Fin 2048) :
    k0_pay2 (F := Ideal) x sc sh acc d (ix2 a b) = acc (ix2 a b) + part x sc sh d a b := by
  unfold part
  pointwise [k0_pay2]

/-- The accumulator starts from zero. -/
theorem pay1_apply (j : S1024x2048.Idx) : k0_pay1 (F := Ideal) j = 0 := by
  pointwise [k0_pay1]

/-- The first point clears the accumulator and adds its block. -/
theorem acc_first (h0 : t.val % 4 = 0) :
    (outsAt0 m c t.val t.isLt).2 = k0_pay2 (F := Ideal) (iblk m c 0 t) (iblk m c 1 t) (iblk m c 2 t) (k0_pay1 (F := Ideal)) (iblk m c 3 t) := by
  rw [outsAt0_A m c t h0 (by omega)]
  frame_out

/-- Every later point adds its block to what the point before left. -/
theorem acc_step (h0 : ¬t.val % 4 = 0) :
    (outsAt0 m c t.val t.isLt).2 = k0_pay2 (F := Ideal) (iblk m c 0 t) (iblk m c 1 t) (iblk m c 2 t) (outsAt0 m c (t.val - 1) (Nat.lt_of_le_of_lt (Nat.sub_le _ _) t.isLt)).2 (iblk m c 3 t) := by
  by_cases h1 : t.val % 4 = 3
  · rw [outsAt0_C m c t h0 h1]
    frame_out
    simp only [read_unread_whole]
  · rw [outsAt0_B m c t h0 h1]
    frame_out
    simp only [read_unread_whole]

/-- What the last point stores: the accumulator, cut into the eight devices' blocks. -/
theorem out (j : S8x1024x256.Idx) (h0 : ¬t.val % 4 = 0) (h1 : t.val % 4 = 3)
    (i : S1024x2048.Idx) (hi0 : (i 0).val = (j 1).val) (hi1 : (i 1).val = (j 0).val * 256 + (j 2).val) :
    (outsAt0 m c t.val t.isLt).1 j = (outsAt0 m c t.val t.isLt).2 i := by
  rw [acc_step m c t h0]
  rw [outsAt0_C m c t h0 h1]
  frame_out
  simp only [read_unread_whole]
  generalize k0_pay2 (F := Ideal) (iblk m c 0 t) (iblk m c 1 t) (iblk m c 2 t) (outsAt0 m c (t.val - 1) (Nat.lt_of_le_of_lt (Nat.sub_le _ _) t.isLt)).2 (iblk m c 3 t) = Z
  simp (disch := decide) only [View.readCov_fill]
  canon_tiles x h
  all_goals open_payloads
  all_goals pointwise []
  all_goals (refine congrArg Z (funext fun a => Fin.ext ?_); fin_cases a <;> simp_all <;> omega)

/-- The accumulator after the last point is the sum of the four blocks' contributions. -/
theorem acc_last (ht : t.val + 1 = cfg0.N) (a : Fin 1024) (b : Fin 2048) :
    (outsAt0 m c t.val t.isLt).2 (ix2 a b)
      = ∑ p : Fin cfg0.N, part (iblk m c 0 p) (iblk m c 1 p) (iblk m c 2 p) (iblk m c 3 p) a b := by
  rw [Pipeline.eq_sum_fin_of_reset_step_apply_last (fun n h (i : Fin 1024 × Fin 2048) => (outsAt0 m c n h).2 (ix2 i.1 i.2)) 4
    (fun _ => 0) (fun p i => part (iblk m c 0 p) (iblk m c 1 p) (iblk m c 2 p) (iblk m c 3 p) i.1 i.2) ?_ ?_ (by decide) t ht (a, b), zero_add]
  · intro t h i
    rw [acc_first m c t h, pay2_apply, pay1_apply]
  · intro t h i
    rw [acc_step m c t h, pay2_apply]

/-- The sum over all rows of the modulated activation's column `a` times the cotangent's column `b`. -/
def tot (x : Vec Ideal S4096x1024 .f32) (sc sh : Vec Ideal S1x1024 .f32) (d : Vec Ideal S4096x2048 .bf16)
    (a : Fin 1024) (b : Fin 2048) : EReal :=
  ∑ r : Fin 4096, (x (ix2 r a) * (1 + sc (ix2 0 a)) + sh (ix2 0 a)) * d (ix2 r b)

/-- The four blocks' sums are the sum over all rows: block `p` holds rows 1024 p to 1024 p + 1023. -/
theorem part_sum (a : Fin 1024) (b : Fin 2048) :
    ∑ p : Fin cfg0.N, part (iblk m c 0 p) (iblk m c 1 p) (iblk m c 2 p) (iblk m c 3 p) a b
      = tot (m (c.tc.loc main_arg0)) (m (c.tc.loc main_arg1)) (m (c.tc.loc main_arg2)) (m (c.tc.loc main_arg3)) a b := by
  unfold part tot
  refine Fin.sum_mul_add_congr (S := cfg0.N) (n := 1024) (fun p s hl => ?_) rfl
  have h0 := (by decide +kernel : ∀ t : Fin cfg0.N, win0_0.index t (0 : Fin 2) = t.val ∧ win0_0.index t (1 : Fin 2) = 0) p
  have h1 := (by decide +kernel : ∀ t : Fin cfg0.N, win0_1.index t (0 : Fin 2) = 0 ∧ win0_1.index t (1 : Fin 2) = 0) p
  have h2 := (by decide +kernel : ∀ t : Fin cfg0.N, win0_2.index t (0 : Fin 2) = 0 ∧ win0_2.index t (1 : Fin 2) = 0) p
  have h3 := (by decide +kernel : ∀ t : Fin cfg0.N, win0_3.index t (0 : Fin 2) = t.val ∧ win0_3.index t (1 : Fin 2) = 0) p
  blk_point [iblk, V, h0.1, h0.2, h1.1, h1.2, h2.1, h2.2, h3.1, h3.2]

/-- The result array's entry is the sum over all rows, at the accumulator's entry that the cut puts there. -/
theorem final (j : S8x1024x256.Idx) (b : Fin 2048) (hb : b.val = (j 0).val * 256 + (j 2).val) :
    (dats m 0 c).arrAt 4 cfg0.N j = tot (m (c.tc.loc main_arg0)) (m (c.tc.loc main_arg1)) (m (c.tc.loc main_arg2)) (m (c.tc.loc main_arg3)) (j 1) b := by
  have key : (dats m 0 c).arrAt 4 cfg0.N = (outsAt0 m c 3 (by decide)).1 := by
    refine (dats m 0 c).arrAt_eq_of_covers 4 _ (by decide +kernel) fun t hf y => ?_
    blk_simp
    have ht := (by decide +kernel : ∀ t : Fin cfg0.N, (cfg0.win 4).flush t = true → t = ⟨3, by decide⟩) t hf
    subst ht
    rw [after0_4]
    refine congrArg (outsAt0 m c 3 (by decide)).1 (funext fun a => Fin.ext ?_)
    have hw := (by decide +kernel : ∀ a : Fin 3, win0_4.index ⟨3, by decide⟩ a = 0) a
    blk_simp
    show (y a).val = win0_4.index ⟨3, by decide⟩ a * win0_4.size a + (y a).val
    rw [hw, Nat.zero_mul, Nat.zero_add]
  rw [key, out m c ⟨3, by decide⟩ j (by decide) (by decide) (ix2 (j 1) b) rfl hb]
  exact (acc_last m c ⟨3, by decide⟩ rfl (j 1) b).trans (part_sum m c (j 1) b)

end Cert.Kernel5Ideal.Hand

namespace Cert.Proof

open Idealize.ShloMosaic Idealize.SL.Sem

/-- The weight gradient of the first pointwise projection: on memories that agree on the arguments, the kernel's result array is the reference's, entry by entry. -/
theorem algebraic_DwPw : algebraic_Kernel5Ideal_Reference5Ideal := by
  intro m ρ m' ρ' _ hagree
  refine ⟨_, Kernel5Ideal.Value.run_blocks (F := Ideal) m ρ, ?_⟩
  refine (θ_run Reference5Ideal.defs _ _).mono (fun _ h c => ⟨?_, (h c).2⟩) (Reference5Ideal.Value.run (F := Ideal) m' ρ')
  rw [(h c).1]
  simp only [hagree c]
  funext j
  rw [Kernel5Ideal.Hand.final m c j ⟨(j 0).val * 256 + (j 2).val, by have := (j 0).isLt; have := (j 2).isLt; simp at *; omega⟩ rfl]
  unfold Kernel5Ideal.Hand.tot
  pointwise []
  exact Finset.sum_congr rfl fun _ _ => mul_comm (G := EReal) _ _

end Cert.Proof

end
-- ==== Proof.DwIn.lean ====
module

public import proofs.«01_k».proof.Proof.Gen.Kernel6Ideal.Value
public import proofs.«01_k».proof.Defs
public import proofs.«01_k».proof.Proof.Gen.Reference6Ideal.Run
public import proofs.«01_k».proof.Proof.Shards.Own

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- One block's contribution to the accumulator's entry (a, b): the sum over the block's rows of the modulated activation's column `a` times the cotangent's column `b`. -/
def part (x : Vec Ideal S1024x1024 .f32) (sc sh : Vec Ideal S1x1024 .f32) (d : Vec Ideal S1024x3072 .bf16)
    (a : Fin 1024) (b : Fin 3072) : EReal :=
  ∑ s : Fin 1024, (x (ix2 s a) * (1 + sc (ix2 0 a)) + sh (ix2 0 a)) * d (ix2 s b)

/-- What a point makes of the accumulator, at an entry: the block's sum is added. -/
theorem pay2_apply (x : Vec Ideal S1024x1024 .f32) (sc sh : Vec Ideal S1x1024 .f32) (d : Vec Ideal S1024x3072 .bf16) (acc : Vec Ideal S1024x3072 .f32)
    (a : Fin 1024) (b : Fin 3072) :
    k0_pay2 (F := Ideal) x sc sh acc d (ix2 a b) = acc (ix2 a b) + part x sc sh d a b := by
  unfold part
  pointwise [k0_pay2]

/-- The accumulator starts from zero. -/
theorem pay1_apply (j : S1024x3072.Idx) : k0_pay1 (F := Ideal) j = 0 := by
  pointwise [k0_pay1]

/-- The first point clears the accumulator and adds its block. -/
theorem acc_first (h0 : t.val % 4 = 0) :
    (outsAt0 m c t.val t.isLt).2 = k0_pay2 (F := Ideal) (iblk m c 0 t) (iblk m c 1 t) (iblk m c 2 t) (k0_pay1 (F := Ideal)) (iblk m c 3 t) := by
  rw [outsAt0_A m c t h0 (by omega)]
  frame_out

/-- Every later point adds its block to what the point before left. -/
theorem acc_step (h0 : ¬t.val % 4 = 0) :
    (outsAt0 m c t.val t.isLt).2 = k0_pay2 (F := Ideal) (iblk m c 0 t) (iblk m c 1 t) (iblk m c 2 t) (outsAt0 m c (t.val - 1) (Nat.lt_of_le_of_lt (Nat.sub_le _ _) t.isLt)).2 (iblk m c 3 t) := by
  by_cases h1 : t.val % 4 = 3
  · rw [outsAt0_C m c t h0 h1]
    frame_out
    simp only [read_unread_whole]
  · rw [outsAt0_B m c t h0 h1]
    frame_out
    simp only [read_unread_whole]

/-- What the last point stores: the accumulator, cut into the eight devices' blocks. -/
theorem out (j : S8x1024x384.Idx) (h0 : ¬t.val % 4 = 0) (h1 : t.val % 4 = 3)
    (i : S1024x3072.Idx) (hi0 : (i 0).val = (j 1).val) (hi1 : (i 1).val = (j 0).val * 384 + (j 2).val) :
    (outsAt0 m c t.val t.isLt).1 j = (outsAt0 m c t.val t.isLt).2 i := by
  rw [acc_step m c t h0]
  rw [outsAt0_C m c t h0 h1]
  frame_out
  simp only [read_unread_whole]
  generalize k0_pay2 (F := Ideal) (iblk m c 0 t) (iblk m c 1 t) (iblk m c 2 t) (outsAt0 m c (t.val - 1) (Nat.lt_of_le_of_lt (Nat.sub_le _ _) t.isLt)).2 (iblk m c 3 t) = Z
  simp (disch := decide) only [View.readCov_fill]
  canon_tiles x h
  all_goals open_payloads
  all_goals pointwise []
  all_goals (refine congrArg Z (funext fun a => Fin.ext ?_); fin_cases a <;> simp_all <;> omega)

/-- The accumulator after the last point is the sum of the four blocks' contributions. -/
theorem acc_last (ht : t.val + 1 = cfg0.N) (a : Fin 1024) (b : Fin 3072) :
    (outsAt0 m c t.val t.isLt).2 (ix2 a b)
      = ∑ p : Fin cfg0.N, part (iblk m c 0 p) (iblk m c 1 p) (iblk m c 2 p) (iblk m c 3 p) a b := by
  rw [Pipeline.eq_sum_fin_of_reset_step_apply_last (fun n h (i : Fin 1024 × Fin 3072) => (outsAt0 m c n h).2 (ix2 i.1 i.2)) 4
    (fun _ => 0) (fun p i => part (iblk m c 0 p) (iblk m c 1 p) (iblk m c 2 p) (iblk m c 3 p) i.1 i.2) ?_ ?_ (by decide) t ht (a, b), zero_add]
  · intro t h i
    rw [acc_first m c t h, pay2_apply, pay1_apply]
  · intro t h i
    rw [acc_step m c t h, pay2_apply]

/-- The sum over all rows of the modulated activation's column `a` times the cotangent's column `b`. -/
def tot (x : Vec Ideal S4096x1024 .f32) (sc sh : Vec Ideal S1x1024 .f32) (d : Vec Ideal S4096x3072 .bf16)
    (a : Fin 1024) (b : Fin 3072) : EReal :=
  ∑ r : Fin 4096, (x (ix2 r a) * (1 + sc (ix2 0 a)) + sh (ix2 0 a)) * d (ix2 r b)

/-- The four blocks' sums are the sum over all rows: block `p` holds rows 1024 p to 1024 p + 1023. -/
theorem part_sum (a : Fin 1024) (b : Fin 3072) :
    ∑ p : Fin cfg0.N, part (iblk m c 0 p) (iblk m c 1 p) (iblk m c 2 p) (iblk m c 3 p) a b
      = tot (m (c.tc.loc main_arg0)) (m (c.tc.loc main_arg1)) (m (c.tc.loc main_arg2)) (m (c.tc.loc main_arg3)) a b := by
  unfold part tot
  refine Fin.sum_mul_add_congr (S := cfg0.N) (n := 1024) (fun p s hl => ?_) rfl
  have h0 := (by decide +kernel : ∀ t : Fin cfg0.N, win0_0.index t (0 : Fin 2) = t.val ∧ win0_0.index t (1 : Fin 2) = 0) p
  have h1 := (by decide +kernel : ∀ t : Fin cfg0.N, win0_1.index t (0 : Fin 2) = 0 ∧ win0_1.index t (1 : Fin 2) = 0) p
  have h2 := (by decide +kernel : ∀ t : Fin cfg0.N, win0_2.index t (0 : Fin 2) = 0 ∧ win0_2.index t (1 : Fin 2) = 0) p
  have h3 := (by decide +kernel : ∀ t : Fin cfg0.N, win0_3.index t (0 : Fin 2) = t.val ∧ win0_3.index t (1 : Fin 2) = 0) p
  blk_point [iblk, V, h0.1, h0.2, h1.1, h1.2, h2.1, h2.2, h3.1, h3.2]

/-- The result array's entry is the sum over all rows, at the accumulator's entry that the cut puts there. -/
theorem final (j : S8x1024x384.Idx) (b : Fin 3072) (hb : b.val = (j 0).val * 384 + (j 2).val) :
    (dats m 0 c).arrAt 4 cfg0.N j = tot (m (c.tc.loc main_arg0)) (m (c.tc.loc main_arg1)) (m (c.tc.loc main_arg2)) (m (c.tc.loc main_arg3)) (j 1) b := by
  have key : (dats m 0 c).arrAt 4 cfg0.N = (outsAt0 m c 3 (by decide)).1 := by
    refine (dats m 0 c).arrAt_eq_of_covers 4 _ (by decide +kernel) fun t hf y => ?_
    blk_simp
    have ht := (by decide +kernel : ∀ t : Fin cfg0.N, (cfg0.win 4).flush t = true → t = ⟨3, by decide⟩) t hf
    subst ht
    rw [after0_4]
    refine congrArg (outsAt0 m c 3 (by decide)).1 (funext fun a => Fin.ext ?_)
    have hw := (by decide +kernel : ∀ a : Fin 3, win0_4.index ⟨3, by decide⟩ a = 0) a
    blk_simp
    show (y a).val = win0_4.index ⟨3, by decide⟩ a * win0_4.size a + (y a).val
    rw [hw, Nat.zero_mul, Nat.zero_add]
  rw [key, out m c ⟨3, by decide⟩ j (by decide) (by decide) (ix2 (j 1) b) rfl hb]
  exact (acc_last m c ⟨3, by decide⟩ rfl (j 1) b).trans (part_sum m c (j 1) b)

end Cert.Kernel6Ideal.Hand

namespace Cert.Proof

open Idealize.ShloMosaic Idealize.SL.Sem

/-- The weight gradient of the mixer's input projection: on memories that agree on the arguments, the kernel's result array is the reference's, entry by entry. -/
theorem algebraic_DwIn : algebraic_Kernel6Ideal_Reference6Ideal := by
  intro m ρ m' ρ' _ hagree
  refine ⟨_, Kernel6Ideal.Value.run_blocks (F := Ideal) m ρ, ?_⟩
  refine (θ_run Reference6Ideal.defs _ _).mono (fun _ h c => ⟨?_, (h c).2⟩) (Reference6Ideal.Value.run (F := Ideal) m' ρ')
  rw [(h c).1]
  simp only [hagree c]
  funext j
  rw [Kernel6Ideal.Hand.final m c j ⟨(j 0).val * 384 + (j 2).val, by have := (j 0).isLt; have := (j 2).isLt; simp at *; omega⟩ rfl]
  unfold Kernel6Ideal.Hand.tot
  pointwise []
  exact Finset.sum_congr rfl fun _ _ => mul_comm (G := EReal) _ _

end Cert.Proof

end
-- ==== Proof.Shards.Read.lean ====
module

public import Idealize.ShloMosaic.Lib.Pipeline.ValueKit
public import Idealize.ShloMosaic.Lib.Pipeline.ReadBack
public import Idealize.ShloMosaic.Lib.ValueLayout

@[expose] public section

noncomputable section

namespace Cert.Shards

open Idealize.ShloMosaic

variable {sig : RefSig} {κ : Kind} {sp : Space} {e : EltTy} {Val : EltTy → Type}

/-- Rows of block `d` of a stack of matrices, read as one matrix, are the stack's entries there. -/
theorem read_block {n A a b : ℕ} (v : View sig κ sp ⟨3, ![n, A, b]⟩ e) (o : Fin 3 → ℕ) (inb) (h) (f : v.ty.Contents Val)
    (d : Fin n) (x : Fin a) (y : Fin b) (r : Fin A) (z : Fin b) (h0 : o 0 = d.val) (h1 : o 1 + x.val = r.val) (hz : y.val = z.val) (h2 : o 2 = 0) :
    View.read Val ((v.slice (Rect.unit o ![1, a, b] inb)).reshape ⟨2, ![a, b]⟩ h) f (ix2 x y) = View.read Val v f (ix3 d r z) := by
  have e : (Rect.unit o ![1, a, b] inb).emb (Shape.reshapeEquiv h (ix2 x y)) = (ix3 d r z : (⟨3, ![n, A, b]⟩ : Shape).Idx) := by
    erw [ValueIdx.reshapeEquiv_ix2_1ab]
    funext i
    apply Fin.ext
    fin_cases i
    · show o 0 + 0 * 1 = d.val; omega
    · show o 1 + 1 * x.val = r.val; omega
    · show o 2 + 1 * y.val = z.val; omega
  show View.read Val v f ((Rect.unit o ![1, a, b] inb).emb (Shape.reshapeEquiv h (ix2 x y))) = _
  rw [e]

/-- The same for a stack of stacks: block (d, l), of one matrix. -/
theorem read_block4 {n L a b : ℕ} (v : View sig κ sp ⟨4, ![n, L, a, b]⟩ e) (o : Fin 4 → ℕ) (inb) (h) (f : v.ty.Contents Val)
    (d : Fin n) (l : Fin L) (x : Fin a) (y : Fin b) (r : Fin a) (z : Fin b) (h0 : o 0 = d.val) (h3 : o 1 = l.val)
    (h1 : o 2 + x.val = r.val) (h2 : o 3 + y.val = z.val) :
    View.read Val ((v.slice (Rect.unit o ![1, 1, a, b] inb)).reshape ⟨2, ![a, b]⟩ h) f (ix2 x y) = View.read Val v f (ix4 d l r z) := by
  have e : (Rect.unit o ![1, 1, a, b] inb).emb (Shape.reshapeEquiv h (ix2 x y)) = (ix4 d l r z : (⟨4, ![n, L, a, b]⟩ : Shape).Idx) := by
    erw [ValueIdx.reshapeEquiv_ix2_11ab]
    funext i
    apply Fin.ext
    fin_cases i
    · show o 0 + 0 * 1 = d.val; omega
    · show o 1 + 0 * 1 = l.val; omega
    · show o 2 + 1 * x.val = r.val; omega
    · show o 3 + 1 * y.val = z.val; omega
  show View.read Val v f ((Rect.unit o ![1, 1, a, b] inb).emb (Shape.reshapeEquiv h (ix2 x y))) = _
  rw [e]

/-- Written pieces read back over the whole shape are the contents they leave. -/
theorem readCov_all [∀ e, Nonempty (Val e)] {s : Shape} (v : View sig κ sp s e) (L : List (View.Piece Val s e)) {off : Fin s.rank → ℕ}
    (inb : ∀ a, off a + s.size a ≤ s.size a) : v.readCov L (Rect.unit off s.size inb).toLoadRect = View.canon L := by
  rw [View.readCov_eq_canon']
  funext y
  refine congrArg (View.canon L) (funext fun a => Fin.ext ?_)
  show off a + 1 * (y a).val = (y a).val
  have := inb a
  omega

/-- The matrix whose row blocks are the shards `w 0, w 1, …`. -/
theorem rows_apply {n a b N : ℕ} {α : Type} (w : (⟨3, ![n, a, b]⟩ : Shape).Idx → α) (h : (⟨3, ![n, a, b]⟩ : Shape).ShapeCasts ⟨2, ![N, b]⟩)
    (i : Fin N) (k : Fin b) (d : Fin n) (r : Fin a) (hi : i.val = d.val * a + r.val) :
    shapeCast ⟨2, ![N, b]⟩ w h (ix2 i k) = w (ix3 d r k) :=
  shapeCast_apply w h _ _ (by
    rw [Shape.rowMajor_val_two, Shape.rowMajor_val_three]
    show ((d.val * a + r.val) * b + k.val) = i.val * b + k.val
    rw [hi])

end Cert.Shards

end
-- ==== Proof.Shards.Cols.lean ====
module

public import Idealize.ShloMosaic.Lib.Pipeline.ValueKit
public import Idealize.ShloMosaic.Lib.ValueLayout

@[expose] public section

noncomputable section

namespace Cert.Shards

open Idealize.ShloMosaic

/-- The matrix whose column blocks are the shards `w 0, w 1, …`. -/
theorem cols_apply {n a b N : ℕ} {F : EltTy → Type} {e : EltTy} (w : (⟨3, ![n, a, b]⟩ : Shape).Idx → F e) (ht)
    (h : (⟨3, ![a, n, b]⟩ : Shape).ShapeCasts ⟨2, ![a, N]⟩) (hN : N = n * b)
    (k : Fin a) (j : Fin N) (d : Fin n) (r : Fin b) (hj : j.val = d.val * b + r.val) :
    shapeCast ⟨2, ![a, N]⟩ (transpose ⟨3, ![a, n, b]⟩ [1, 0, 2] w ht) h (ix2 k j) = w (ix3 d k r) := by
  rw [shapeCast_apply (transpose ⟨3, ![a, n, b]⟩ [1, 0, 2] w ht) h _ (ix3 k d r) (by
    rw [Shape.rowMajor_val_two, Shape.rowMajor_val_three]
    show ((k.val * n + d.val) * b + r.val) = k.val * N + j.val
    rw [hj, hN]
    ring)]
  exact congrArg w (funext fun i => by fin_cases i <;> rfl)

/-- A stack of one-matrix stacks, read as a stack of matrices. -/
theorem drop_apply {n a b : ℕ} {F : EltTy → Type} {e : EltTy} (w : (⟨4, ![n, 1, a, b]⟩ : Shape).Idx → F e)
    (h : (⟨4, ![n, 1, a, b]⟩ : Shape).ShapeCasts ⟨3, ![n, a, b]⟩) (d : Fin n) (k : Fin a) (r : Fin b) :
    shapeCast ⟨3, ![n, a, b]⟩ w h (ix3 d k r) = w (ix4 d (0 : Fin 1) k r) :=
  shapeCast_apply w h _ _ (by
    rw [Shape.rowMajor_val_four, Shape.rowMajor_val_three]
    show (((d.val * 1 + 0) * a + k.val) * b + r.val) = (d.val * a + k.val) * b + r.val
    rw [Nat.mul_one, Nat.add_zero])

end Cert.Shards

end
-- ==== Proof.OutDx.lean ====
module

public import proofs.«01_k».proof.Proof.Shards.Own
public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Shards.Read
public import proofs.«01_k».proof.Proof.Shards.Cols
public import proofs.«01_k».proof.Defs
public import proofs.«01_k».proof.Proof.Gen.Reference7Ideal.Run
public import proofs.«01_k».proof.Proof.Gen.Kernel7

@[expose] public section

set_option maxRecDepth 16384

noncomputable section

namespace Cert.Kernel7Ideal.Run

section
open Cert.Kernel7Ideal Cert.Kernel7Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body copies the weight in: the grid's coordinate is zero. -/
abbrev first (i : grid0.Coords) : Prop := (Scalar.cmpi .ne (Scalar.extui (Scalar.cmpi .eq (BitVec.ofNat 32 (i 0).val) 0#32)) 0#32) = 1#1

/-- It holds at the first point of the grid and at no other. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : first (grid0.coords t) ↔ t.val % 8 = 0 := by
    simp only [first, e0]
    word_cmp
  rw [e1, Nat.mod_eq_of_lt ht]

/-- The gathered weight, left in HBM. -/
abbrev wgt : Memref sig .tc .hbm S8x128x1024 .bf16 := Memref.whole main_arg1
/-- A memref's contents on core `c`, and its buffer held whole at some. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc c.tc ↦{fullShare} f

/-- The counters of the copies' semaphores, all at zero. -/
def cells (c : Dev nD) : sProp 𝕄 :=
  iprop(semVal (c.tc, SemLoc.dma 4) 0 ∗ semVal (c.tc, SemLoc.dma 5) 0 ∗ semVal (c.tc, SemLoc.dma 6) 0 ∗ semVal (c.tc, SemLoc.dma 7) 0 ∗ semVal (c.tc, SemLoc.dma 8) 0 ∗ semVal (c.tc, SemLoc.dma 9) 0 ∗ semVal (c.tc, SemLoc.dma 10) 0 ∗ semVal (c.tc, SemLoc.dma 11) 0)

section
variable (c : Dev nD) (i : grid0.Coords) (arg1 : Memref sig .tc .vmem S512x1024 .bf16) (harg1 : arg1.IsWhole)
  (arg3 : Memref sig .tc .vmem S512x1024 .bf16) (harg3 : arg3.IsWhole)
  (arg4 : Memref sig .tc .vmem S1024x1024 .bf16) (harg4 : arg4.IsWhole)

set_option maxHeartbeats 4000000 in
set_option sl_exec.dmaWindow true in
set_option sl_exec.dmaWindowSet true in
/-- The body at the first point copies the weight into the scratch and leaves each output and the scratch written by the pieces found here. -/
def bodyFirst (hc : first i) (x0 : Vec F S512x1024 .bf16) (fh : Held (F := F) c wgt) :
    Σ' (L1 : List (View.Piece (Elt F) S512x1024 .bf16)), { T0 : List (View.Piece (Elt F) S1024x1024 .bf16) //
      ∀ (W : Waits sig Unit) (K : PUnit → sProp 𝕄),
        iprop(owns c.tc arg1 fullShare x0 ∗ (∃ d, owns c.tc arg3 fullShare d) ∗ (∃ d, owns c.tc arg4 fullShare d) ∗ cells c ∗ held c wgt fh ∗ owes c.tc 0 W
            ∗ (iprop(owns c.tc arg1 fullShare x0 ∗ (∃ f, arg3.view.loc c.tc ↦[arg3.view.set]{fullShare} arg3.view.writes (Elt F) f L1) ∗ (∃ f, arg4.view.loc c.tc ↦[arg4.view.set]{fullShare} arg4.view.writes (Elt F) f T0) ∗ cells c ∗ held c wgt fh ∗ (∃ W', owes c.tc 0 W')) -∗ K ⟨⟩))
          ⊢ wp frame (wpE (defs₀ (F := F)) Variants.none c none) Set.univ (cc0_a_out_dx i arg1 harg1 (Memref.whole main_arg1) (Memref.isWhole_whole _) arg3 harg3 arg4 harg4 cc0_scratch1) K } := by
  refine ⟨?_, ?_, fun W K => ?run⟩
  case run =>
    simp only [cc0_a_out_dx_eq_skeleton]; unfold cc0_a_out_dx_skel
    simp only [k0_part1_eq_skeleton, k0_part2_eq_skeleton, k0_part3_eq_skeleton]
    unfold owns cells
    iintro ⟨⟨%f0, %hf0, H0⟩, ⟨%d1, %f1, -, H1⟩, ⟨%ds0, %fs0, -, HS0⟩, ⟨Hq0, Hq1, Hq2, Hq3, Hq4, Hq5, Hq6, Hq7⟩, Hh, HW, Hk⟩
    obtain rfl := harg1.eq_unread hf0
    sl_exec (disch := first | sl_exact hc)
    sl_step
    iapply Hk
    isplitl [H0]; · iapply (Shards.unread harg1 _); iexact H0
    isplitl [H1]; · iexists _; iexact H1
    isplitl [HS0]; · iexists _; iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

set_option maxHeartbeats 4000000 in
set_option sl_exec.dmaWindow true in
set_option sl_exec.dmaWindowSet true in
/-- The body at a later point: the scratch holds the weight already and keeps it. -/
def bodyLater (hc : ¬first i) (x0 : Vec F S512x1024 .bf16) (s0 : Vec F S1024x1024 .bf16) (fh : Held (F := F) c wgt) :
    { L1 : List (View.Piece (Elt F) S512x1024 .bf16) //
      ∀ (W : Waits sig Unit) (K : PUnit → sProp 𝕄),
        iprop(owns c.tc arg1 fullShare x0 ∗ (∃ d, owns c.tc arg3 fullShare d) ∗ owns c.tc arg4 fullShare s0 ∗ cells c ∗ held c wgt fh ∗ owes c.tc 0 W
            ∗ (iprop(owns c.tc arg1 fullShare x0 ∗ (∃ f, arg3.view.loc c.tc ↦[arg3.view.set]{fullShare} arg3.view.writes (Elt F) f L1) ∗ owns c.tc arg4 fullShare s0 ∗ cells c ∗ held c wgt fh ∗ (∃ W', owes c.tc 0 W')) -∗ K ⟨⟩))
          ⊢ wp frame (wpE (defs₀ (F := F)) Variants.none c none) Set.univ (cc0_a_out_dx i arg1 harg1 (Memref.whole main_arg1) (Memref.isWhole_whole _) arg3 harg3 arg4 harg4 cc0_scratch1) K } := by
  refine ⟨?_, fun W K => ?run⟩
  case run =>
    simp only [cc0_a_out_dx_eq_skeleton]; unfold cc0_a_out_dx_skel
    simp only [k0_part1_eq_skeleton, k0_part2_eq_skeleton, k0_part3_eq_skeleton]
    unfold owns cells
    iintro ⟨⟨%f0, %hf0, H0⟩, ⟨%d1, %f1, -, H1⟩, ⟨%fs0, %hfs0, HS0⟩, ⟨Hq0, Hq1, Hq2, Hq3, Hq4, Hq5, Hq6, Hq7⟩, Hh, HW, Hk⟩
    obtain rfl := harg1.eq_unread hf0
    obtain rfl := harg4.eq_unread hfs0
    sl_exec (disch := first | sl_exact hc)
    sl_step
    iapply Hk
    isplitl [H0]; · iapply (Shards.unread harg1 _); iexact H0
    isplitl [H1]; · iexists _; iexact H1
    isplitl [HS0]; · iapply (Shards.unread harg4 _); iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

end

variable (m : (ℓ : Loc nD τ sig) → Buf (Elt F) ℓ) (ρ : Dev nD → PrngReg)
variable (c : Dev nD) (t : Fin cfg0.N)

/-- Core `c`'s buffers when the grid starts: as launched. -/
abbrev V (b : Ref sig .tc) : Buf (Elt F) ((c : Thread nD τ).loc b) := m ((c : Thread nD τ).loc b)

/-- The program is the grid alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 : V m c main_arg0 = m (c.tc.loc main_arg0) := rfl
theorem V_main_arg1 : V m c main_arg1 = m (c.tc.loc main_arg1) := rfl

/-- Window `w`'s block at point `t`. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 : Memref sig .tc .vmem S512x1024 .bf16 := win0_0.stage (cfg0.slots t 0)
abbrev hs0 : (ms0 t).IsWhole := hstage0_0 ((cfg0.slots t 0).cast nbuf0_0)
abbrev ms1 : Memref sig .tc .vmem S512x1024 .bf16 := win0_1.stage (cfg0.slots t 1)
abbrev hs1 : (ms1 t).IsWhole := hstage0_1 ((cfg0.slots t 1).cast nbuf0_1)
/-- The scratch that keeps the weight. -/
abbrev scr0 : Memref sig .tc .vmem S1024x1024 .bf16 := Memref.whole cc0_scratch0
abbrev VO1 : View sig .tc .vmem S512x1024 .bf16 := (Memref.whole cc0_stg1_0 : Memref sig .tc .vmem S512x1024 .bf16).view

/-- The copies' semaphores. -/
abbrev sems : Fin 8 → SemLoc sig := fun j => (![SemLoc.dma 4, SemLoc.dma 5, SemLoc.dma 6, SemLoc.dma 7, SemLoc.dma 8, SemLoc.dma 9, SemLoc.dma 10, SemLoc.dma 11] : Fin 8 → SemLoc sig) j
theorem sems_own : Pipeline.OwnSemFacts spec0 sems := by decide
theorem sems_eq :
    (Pipeline.ownSems0 (Ix := Unit) (Name := ℕ) (U := Pipeline.UD sig nD τ) (Lvl := ℕ) (Val := Elt F) (τ := τ) sems c : sProp 𝕄) = cells c := by
  rw [Pipeline.ownSems0_eq_of_list c sems [0, 1, 2, 3, 4, 5, 6, 7] (by decide) (by decide)]; rfl
/-- The operand the body copies itself. -/
def moved : Finset (Ref sig .tc) := {main_arg1}
theorem moved_sub : moved ⊆ Pipeline.restRefs sig spec0 := by decide
theorem moved_eq :
    (bigSep moved (fun b => (c.tc.loc b) ↦{fullShare} V m c b) : sProp 𝕄) = iprop(held c wgt (V m c main_arg1)) := by
  rw [BI.bigSep_eq_bigSepL_of_eq [main_arg1] (by decide) (by decide)]; rfl

/-- What the grid starts with, conjunct by conjunct. -/
theorem start_eq :
    (Pipeline.ΦD sems spec0 moved (V m) c : sProp 𝕄)
      = iprop(iprop((∃ d, owns c.tc scr0 fullShare d)) ∗ (∃ r, prngReg c r) ∗ cells c ∗ iprop(held c wgt (V m c main_arg1))) := by
  rw [Pipeline.ΦD_eq, scopedRest0_eq, sems_eq, moved_eq]; simp only [scr0, owns_whole]; try rfl

/-- The body's run at the first point, on that point's buffers and blocks. -/
def runFirst (h : t.val = 0) :=
  bodyFirst (F := F) c (grid0.coords t) (ms0 t) (hs0 t) (ms1 t) (hs1 t) scr0 (Memref.isWhole_whole _) ((first_iff t).mpr h) (iblk m c 0 t) (V m c main_arg1)
/-- The body's run at a later point. -/
def runLater (h : ¬t.val = 0) (s0 : Vec F S1024x1024 .bf16) :=
  bodyLater (F := F) c (grid0.coords t) (ms0 t) (hs0 t) (ms1 t) (hs1 t) scr0 (Memref.isWhole_whole _) (fun e => h ((first_iff t).mp e)) (iblk m c 0 t) s0 (V m c main_arg1)

theorem coverFirst1 (h : t.val = 0) (y : S512x1024.Idx) : ∃ pc ∈ (runFirst m c t h).1, y ∈ pc.1.set :=
  View.cover_of_tiledL _ S512x1024.size (by sl_kernel_rfl) y
/-- What the first point leaves in output 0. -/
def outFirst1 (h : t.val = 0) : Vec F S512x1024 .bf16 := VO1.read (Elt F) (VO1.writes (Elt F) VO1.junk (runFirst m c t h).1)
theorem coverLater1 (h : ¬t.val = 0) (s0 : Vec F S1024x1024 .bf16) (y : S512x1024.Idx) : ∃ pc ∈ (runLater m c t h s0).1, y ∈ pc.1.set :=
  View.cover_of_tiledL _ S512x1024.size (by sl_kernel_rfl) y
/-- What a later point leaves in output 0, the scratch holding `s0`. -/
def outLater1 (h : ¬t.val = 0) (s0 : Vec F S1024x1024 .bf16) : Vec F S512x1024 .bf16 := VO1.read (Elt F) (VO1.writes (Elt F) VO1.junk (runLater m c t h s0).1)
theorem coverScr0 (h : t.val = 0) (y : S1024x1024.Idx) : ∃ pc ∈ (runFirst m c t h).2.1, y ∈ pc.1.set :=
  View.cover_of_tiledL _ ![128,1024] (by sl_kernel_rfl) y
/-- The weight as the first point leaves it in the scratch. -/
def weight0 : Vec F S1024x1024 .bf16 :=
  scr0.view.read (Elt F) (scr0.view.writes (Elt F) scr0.view.junk (runFirst m c t0_0 (show t0_0.val = 0 from rfl)).2.1)

/-- What point `t` leaves in output 0. -/
def out1 : Vec F S512x1024 .bf16 := if h : t.val = 0 then outFirst1 m c t h else outLater1 m c t h (weight0 m c)
theorem out1_first (h : t.val = 0) : out1 m c t = outFirst1 m c t h := dif_pos h
theorem out1_later (h : ¬t.val = 0) : out1 m c t = outLater1 m c t h (weight0 m c) := dif_neg h

/-- Between the points: at first what the grid starts with, afterwards the scratch at the weight. -/
def Keep : (n : ℕ) → n ≤ cfg0.N → sProp 𝕄
  | 0, _ => Pipeline.ΦD sems spec0 moved (V m) c
  | n + 1, _ => iprop(iprop(owns c.tc scr0 fullShare (weight0 m c)) ∗ (∃ r, prngReg c r) ∗ cells c ∗ iprop(held c wgt (V m c main_arg1)))
theorem Keep_zero (n : ℕ) (h : n ≤ cfg0.N) (hz : n = 0) : Keep m c n h = Pipeline.ΦD sems spec0 moved (V m) c := by
  subst hz; rfl
theorem Keep_pos (n : ℕ) (h : n ≤ cfg0.N) (hz : n ≠ 0) :
    Keep m c n h = iprop(iprop(owns c.tc scr0 fullShare (weight0 m c)) ∗ (∃ r, prngReg c r) ∗ cells c ∗ iprop(held c wgt (V m c main_arg1))) := by
  cases n with
  | zero => exact absurd rfl hz
  | succ n => rfl

/-- The proof data: inputs at their blocks, outputs at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => out1 m c t
  Φ t := Keep m c t.val (Nat.le_of_lt_succ t.isLt)
  q _ := fullShare
  owed _ := 0
theorem A_eq (w : Fin cfg0.W) : (dats m 0 c).A w = V m c (Pipeline.arrRef spec0 w) := by
  dsimp only [dats]
theorem Keep_castSucc :
    (dats m 0 c).Φ t.castSucc = Keep m c t.val (Nat.le_of_lt t.isLt) := by
  dsimp only [dats]; exact Pipeline.Dat.Φ_castSucc (Keep m c) t
theorem after0 : (dats m 0 c).after 0 t = iblk m c 0 t := by dsimp only [dats]
theorem after1 : (dats m 0 c).after 1 t = out1 m c t := by dsimp only [dats]
theorem before0 (d) : (dats m 0 c).before 0 t d = iblk m c 0 t :=
  (dats m 0 c).before_in_eq_fetched 0 rfl (fun _ => rfl) (fun _ _ _ => rfl) (fun _ => rfl) t d

def bodyPre : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d)))
def bodyPost : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t))

set_option maxHeartbeats 4000000 in
/-- The body at every point takes what holds before the point to what holds after it. -/
theorem sound :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = Keep m c (t.val + 1) t.isLt from rfl, Keep_pos m c _ _ (Nat.succ_ne_zero _),
    after0, after1]
  unfold Dat.owesAt Pipeline.owesWithin
  rw [show (dats m 0 c).owed t.castSucc = 0 from rfl, show (dats m 0 c).owed t.succ = 0 from rfl]
  by_cases h0 : t.val = 0
  · have hz := h0
    rw [Keep_castSucc m c t, Keep_zero m c _ _ h0, start_eq]
    obtain rfl : t = t0_0 := Fin.ext h0
    rw [out1_first m c t0_0 h0]
    unfold outFirst1 weight0; (try dsimp only)
    iintro ⟨⟨HS0, Hg, Hq, Hh⟩, ⟨%W, -, HW⟩, ⟨%d0, H0⟩, ⟨%d1, H1⟩⟩
    iapply ((runFirst m c t0_0 h0).2.2 W _)
    isplitl [H0]; · iexact H0
    isplitl [H1]; · iexists _; iexact H1
    iframe HS0 Hq Hh HW
    iintro ⟨H0, ⟨%e1, H1⟩, ⟨%es0, HS0⟩, Hq, Hh, ⟨%W', HW'⟩⟩
    isplitl [HS0 Hg Hq Hh]
    · isplitl [HS0]
      · iapply (Shards.owned _ _ _ _ _ (coverScr0 m c t0_0 h0)); iexact HS0
      iframe Hg Hq Hh
    isplitl [HW']
    · iexists W'; isplitr; · ipureintro; exact fun _ _ => Or.inl trivial
      iexact HW'
    isplitl [H0]; · iexact H0
    iapply (Shards.owned _ _ _ _ _ (coverFirst1 m c _ h0)); iexact H1
  · have hz := h0
    rw [Keep_castSucc m c t, Keep_pos m c _ _ h0]
    rw [out1_later m c t h0]
    unfold outLater1; (try dsimp only)
    iintro ⟨⟨HS0, Hg, Hq, Hh⟩, ⟨%W, -, HW⟩, ⟨%d0, H0⟩, ⟨%d1, H1⟩⟩
    iapply ((runLater m c t h0 (weight0 m c)).2 W _)
    isplitl [H0]; · iexact H0
    isplitl [H1]; · iexists _; iexact H1
    iframe HS0 Hq Hh HW
    iintro ⟨H0, ⟨%e1, H1⟩, HS0, Hq, Hh, ⟨%W', HW'⟩⟩
    isplitl [HS0 Hg Hq Hh]
    · isplitl [HS0]
      · iexact HS0
      iframe Hg Hq Hh
    isplitl [HW']
    · iexists W'; isplitr; · ipureintro; exact fun _ _ => Or.inl trivial
      iexact HW'
    isplitl [H0]; · iexact H0
    iapply (Shards.owned _ _ _ _ _ (coverLater1 m c _ h0 _)); iexact H1

theorem defs_row :
    defs₀ (F := F) .tc cfg0.body (cfg0.bodyArgs t (cfg0.slots t)) = bodyAt0 t := by
  unfold defs₀; rw [Defs.onTc_tc]
theorem obligation : BodyObligation (dats (F := F) m 0 c) (defs₀ (F := F)) Variants.none () Set.univ := fun t => by
  rw [bigSep_W0, bigSep_W0, defs_row]
  exact triple_restated (sound m c t) rfl .rfl fun _ => .rfl
theorem hin : Pipeline.ΦD sems spec0 moved (V m) c ⊢ (dats m 0 c).Φ 0 := by
  rw [show (dats m 0 c).Φ 0 = Keep m c 0 (Nat.zero_le _) from rfl, Keep_zero m c 0 _ rfl]
  try exact Idealize.SL.BI.Entails.refl _
theorem hout : (dats m 0 c).Φ (Fin.last cfg0.N) ⊢ Pipeline.ΦD sems spec0 moved (V m) c := by
  rw [show (dats m 0 c).Φ (Fin.last cfg0.N) = Keep m c (Fin.last cfg0.N).val (Nat.le_of_lt_succ (Fin.last cfg0.N).isLt) from rfl,
    Keep_pos m c _ _ (by rw [Fin.val_last]; have : cfg0.N = 8 := N_0; omega), start_eq]
  iintro ⟨HS0, Hg, Hq, Hh⟩
  isplitl [HS0]
  · iexists _; iexact HS0
  iframe Hg Hq Hh

set_option backward.isDefEq.respectTransparency.types false in
/-- Every fair execution ends, the arrays at what the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none sems_own moved moved_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments are as launched. -/
abbrev Kept (μ : (ℓ : Loc nD τ sig) → Buf (Elt F) ℓ) : Prop :=
  μ (c.tc.loc main_arg0) = m (c.tc.loc main_arg0) ∧ μ (c.tc.loc main_arg1) = m (c.tc.loc main_arg1)

/-- The arguments end as they were. -/
theorem kept (r : PUnit × MemSt nD τ sig (Elt F)) (h : Pipeline.FramePost cfgs (dats m) 0 (V m) r) (c : Dev nD) :
    Kept m c r.2.mem :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c)⟩

/-- The program ends with its arguments unchanged and every counter at zero. -/
theorem frame : θ_run defs (onTc (τ := τ) (main (F := F))) ⟨m, fun _ => 0, ρ⟩ (fun r => (∀ c : Dev nD,
      Kept m c r.2.mem)
      ∧ r.2.sem = fun _ => 0) :=
  (θ_run defs _ _).mono (fun r h => ⟨fun c => kept m r h.1 c, h.2⟩) (run_quiescent m ρ)

/-- The program ends with each result at the blocks the points wrote. -/
theorem run_blocks : θ_run defs (onTc (τ := τ) (main (F := F))) ⟨m, fun _ => 0, ρ⟩ fun r => ∀ c : Dev nD,
      (r.2.mem (c.tc.loc main_v0) = (dats m 0 c).arrAt 1 cfg0.N)
      ∧ (Kept m c r.2.mem) :=
  (θ_run defs _ _).mono (fun r h c => ⟨(h.1 c).1 1, kept m r h.1 c⟩) (run_quiescent m ρ)

end

section
open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- The weight in the scratch: row `k` is row `0 + k % 128` of the shard of device `k / 128`. -/
theorem weight0_apply (d : Fin 8) (r : Fin 128) (k : Fin 1024) (j : Fin 1024) (hk : k.val = d.val * 128 + (r.val - 0)) (hr : 0 ≤ r.val) (hr' : r.val < 128) :
    weight0 m c (ix2 k j) = m (c.tc.loc main_arg1) (ix3 d r j) := by
  unfold weight0 runFirst
  frame_out
  canon_tiles x h
  all_goals obtain ⟨x0, x1, rfl⟩ := Shards.pair x
  all_goals
    have e0 : ((ix2 k j : S1024x1024.Idx) 0).val = k.val := rfl
    have e1 : ((ix2 k j : S1024x1024.Idx) 1).val = j.val := rfl
    have e2 : ((ix2 x0 x1 : S128x1024.Idx) 0).val = x0.val := rfl
    have e3 : ((ix2 x0 x1 : S128x1024.Idx) 1).val = x1.val := rfl
    rw [e0, e2] at h0
    rw [e1, e3] at h1
    have := x0.isLt
    have := x1.isLt
    refine (Shards.read_block _ _ _ _ _ d x0 x1 r j ?_ ?_ ?_ rfl).trans (congrFun (V_main_arg1 m c) _)
    all_goals
      try simp only [Matrix.cons_val_zero, Matrix.cons_val_one, Matrix.cons_val]
      omega

/-- Every point leaves the product with the transposed weight of its block. -/
theorem out1_eq : out1 m c t = k0_pay1 (F := Ideal) (iblk m c 0 t) (weight0 m c) := by
  by_cases h : t.val = 0
  · rw [out1_first m c t h]
    obtain rfl : t = t0_0 := Fin.ext h
    unfold outFirst1 weight0 runFirst
    frame_out
    try simp only [read_unread_whole]
    repeat erw [Shards.readCov_all]
    try rfl
  · rw [out1_later m c t h]
    unfold outLater1 runLater
    frame_out
    try simp only [read_unread_whole]

/-- The product with the transposed weight at an entry: row `r` of the cotangent against row `j` of the gathered weight. -/
def prod (d : S4096x1024.Idx → Elt Ideal .bf16) (w : S8x128x1024.Idx → Elt Ideal .bf16) (r : Fin 4096) (j : Fin 1024) : EReal :=
  ∑ k : Fin 1024, d (ix2 r k) * w (ix3 (⟨j.val / 128, by omega⟩ : Fin 8) (⟨0 + j.val % 128, by omega⟩ : Fin 128) k)

theorem blk0 (x : Fin 512) (r : Fin 4096) (hr : r.val = t.val * 512 + x.val) (k : Fin 1024) :
    iblk m c 0 t (ix2 x k) = m (c.tc.loc main_arg0) (ix2 r k) := by
  have hi := (by decide +kernel : ∀ t : Fin cfg0.N, win0_0.index t (0 : Fin 2) = t.val ∧ win0_0.index t (1 : Fin 2) = 0) t
  rw [← V_main_arg0 m c]
  blk_point [iblk, hi.1, hi.2]

/-- One block of output window 1. -/
theorem out1_apply (x : Fin 512) (j : Fin 1024) (r : Fin 4096) (hr : r.val = t.val * 512 + x.val) :
    out1 m c t (ix2 x j) = (prod (m (c.tc.loc main_arg0)) (m (c.tc.loc main_arg1)) r j : EReal) := by
  rw [out1_eq]
  unfold prod
  have hW : ∀ k : Fin 1024, weight0 m c (ix2 j k) = m (c.tc.loc main_arg1) (ix3 (⟨j.val / 128, by omega⟩ : Fin 8) (⟨0 + j.val % 128, by omega⟩ : Fin 128) k) :=
    fun k => weight0_apply m c _ _ j k (by dsimp only; omega) (by dsimp only; omega) (by dsimp only; omega)
  simp only [← hW, ← blk0 m c t x r hr]
  generalize weight0 m c = W
  generalize iblk m c 0 t = D
  pointwise [k0_pay1]

/-- The whole array of output window 1. -/
theorem final1 : (dats m 0 c).arrAt 1 cfg0.N = fun i : S4096x1024.Idx => (fun (r : Fin 4096) (j : Fin 1024) => (prod (m (c.tc.loc main_arg0)) (m (c.tc.loc main_arg1)) r j : EReal)) (i 0) (i 1) := by
  refine (dats m 0 c).arrAt_eq_of_covers 1 _ (by decide +kernel) fun t hf y => ?_
  rw [after1]
  obtain ⟨a, b, rfl⟩ := Shards.pair y
  have hi := (by decide +kernel : ∀ t : Fin cfg0.N, win0_1.index t (0 : Fin 2) = t.val ∧ win0_1.index t (1 : Fin 2) = 0) t
  blk_simp
  have e1 : (win0_1.blk t).view.emb (ix2 a b) 1 = b :=
    Fin.ext (Shards.at_zero hi.2)
  dsimp only
  rw [e1]
  exact out1_apply m c t a b _ (Shards.at_row hi.1)

end

end Cert.Kernel7Ideal.Run

namespace Cert.Proof

open Idealize.ShloMosaic Idealize.SL.Sem

/-- The gradient of the mixer's output projection by its input: on memories that agree on the arguments, the kernel's result arrays are the reference's, entry by entry. -/
theorem algebraic_OutDx : algebraic_Kernel7Ideal_Reference7Ideal := by
  intro m ρ m' ρ' _ hagree
  refine ⟨fun c => (Kernel7Ideal.Run.dats m 0 c).arrAt 1 Kernel7Ideal.cfg0.N, (θ_run Kernel7Ideal.defs _ _).mono (fun _ h c => ?run) (Kernel7Ideal.Run.run_blocks (F := Ideal) m ρ), ?_⟩
  case run =>
    have h := h c
    exact ⟨h.1, h.2⟩
  refine (θ_run Reference7Ideal.defs _ _).mono (fun _ h c => ⟨?_, (h c).2⟩) (Reference7Ideal.Value.run (F := Ideal) m' ρ')
  · refine ((h c).1).trans (Eq.trans ?_ (Kernel7Ideal.Run.final1 m c).symm)
    simp only [hagree c]
    funext j
    obtain ⟨r, q, rfl⟩ := Shards.pair j
    show _ = (_ : EReal)
    have hW : ∀ i k : Fin 1024, (shapeCast Reference7Ideal.S1024x1024 (m (c.tc.loc Kernel7Ideal.main_arg1)) Reference7Ideal.Gen.shapeCasts_S8x128x1024_S1024x1024) (ix2 i k)
        = m (c.tc.loc Kernel7Ideal.main_arg1) (ix3 (⟨i.val / 128, by omega⟩ : Fin 8) (⟨0 + i.val % 128, by omega⟩ : Fin 128) k) := by
      intro i k
      rw [Shards.rows_apply _ _ i k (⟨i.val / 128, by omega⟩ : Fin 8) (⟨i.val % 128, by omega⟩ : Fin 128) (by dsimp only; omega)]
      exact congrArg (m (c.tc.loc Kernel7Ideal.main_arg1)) (congrArg (fun z => ix3 _ z k) (Fin.ext (Nat.zero_add _).symm))
    unfold Kernel7Ideal.Run.prod
    refine Eq.trans ?_ (Finset.sum_congr rfl fun k _ => congrArg (HMul.hMul (α := EReal) (β := EReal) (γ := EReal) _) (hW q k))
    generalize (shapeCast Reference7Ideal.S1024x1024 (m (c.tc.loc Kernel7Ideal.main_arg1)) Reference7Ideal.Gen.shapeCasts_S8x128x1024_S1024x1024) = W
    pointwise []

/-- The two printings of the program have the same bodies. -/
theorem defs_OutDx : Kernel7.defs (F := Bits) = Kernel7Ideal.defs (F := Bits) := by
  have e : Kernel7.defs₀ (F := Bits) = Kernel7Ideal.defs₀ (F := Bits) := by
    unfold Kernel7.defs₀ Kernel7Ideal.defs₀
    refine congrArg Defs.onTc (funext fun i => ?_)
    match i with
    | 0 => exact funext fun p => rfl
  exact congrArg (Pipeline.defs (Kernel7.pcfgs (F := Bits))) e

/-- As printed, on bits, it ends with its arguments unchanged and every counter at zero. -/
theorem frame_OutDx : quiescent_Kernel7 := fun m ρ _ => by
  rw [defs_OutDx]
  exact Kernel7Ideal.Run.frame (F := Bits) m ρ

end Cert.Proof

end
-- ==== Proof.Pw2Dx.lean ====
module

public import proofs.«01_k».proof.Proof.Shards.Own
public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Shards.Read
public import proofs.«01_k».proof.Proof.Shards.Cols
public import proofs.«01_k».proof.Defs
public import proofs.«01_k».proof.Proof.Gen.Reference8Ideal.Run
public import proofs.«01_k».proof.Proof.Gen.Kernel8

@[expose] public section

set_option maxRecDepth 16384

noncomputable section

namespace Cert.Kernel8Ideal.Run

section
open Cert.Kernel8Ideal Cert.Kernel8Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body copies the weight in: the grid's coordinate is zero. -/
abbrev first (i : grid0.Coords) : Prop := (Scalar.cmpi .ne (Scalar.extui (Scalar.cmpi .eq (BitVec.ofNat 32 (i 0).val) 0#32)) 0#32) = 1#1

/-- It holds at the first point of the grid and at no other. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : first (grid0.coords t) ↔ t.val % 8 = 0 := by
    simp only [first, e0]
    word_cmp
  rw [e1, Nat.mod_eq_of_lt ht]

/-- The gathered weight, left in HBM. -/
abbrev wgt : Memref sig .tc .hbm S8x512x1024 .bf16 := Memref.whole main_arg1
/-- A memref's contents on core `c`, and its buffer held whole at some. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc c.tc ↦{fullShare} f

/-- The counters of the copies' semaphores, all at zero. -/
def cells (c : Dev nD) : sProp 𝕄 :=
  iprop(semVal (c.tc, SemLoc.dma 4) 0 ∗ semVal (c.tc, SemLoc.dma 5) 0 ∗ semVal (c.tc, SemLoc.dma 6) 0 ∗ semVal (c.tc, SemLoc.dma 7) 0 ∗ semVal (c.tc, SemLoc.dma 8) 0 ∗ semVal (c.tc, SemLoc.dma 9) 0 ∗ semVal (c.tc, SemLoc.dma 10) 0 ∗ semVal (c.tc, SemLoc.dma 11) 0)

section
variable (c : Dev nD) (i : grid0.Coords) (arg1 : Memref sig .tc .vmem S512x1024 .bf16) (harg1 : arg1.IsWhole)
  (arg3 : Memref sig .tc .vmem S512x1024 .bf16) (harg3 : arg3.IsWhole)
  (arg4 : Memref sig .tc .vmem S1024x1024 .bf16) (harg4 : arg4.IsWhole)

set_option maxHeartbeats 4000000 in
set_option sl_exec.dmaWindow true in
set_option sl_exec.dmaWindowSet true in
/-- The body at the first point copies the weight into the scratch and leaves each output and the scratch written by the pieces found here. -/
def bodyFirst (hc : first i) (x0 : Vec F S512x1024 .bf16) (fh : Held (F := F) c wgt) :
    Σ' (L1 : List (View.Piece (Elt F) S512x1024 .bf16)), { T0 : List (View.Piece (Elt F) S1024x1024 .bf16) //
      ∀ (W : Waits sig Unit) (K : PUnit → sProp 𝕄),
        iprop(owns c.tc arg1 fullShare x0 ∗ (∃ d, owns c.tc arg3 fullShare d) ∗ (∃ d, owns c.tc arg4 fullShare d) ∗ cells c ∗ held c wgt fh ∗ owes c.tc 0 W
            ∗ (iprop(owns c.tc arg1 fullShare x0 ∗ (∃ f, arg3.view.loc c.tc ↦[arg3.view.set]{fullShare} arg3.view.writes (Elt F) f L1) ∗ (∃ f, arg4.view.loc c.tc ↦[arg4.view.set]{fullShare} arg4.view.writes (Elt F) f T0) ∗ cells c ∗ held c wgt fh ∗ (∃ W', owes c.tc 0 W')) -∗ K ⟨⟩))
          ⊢ wp frame (wpE (defs₀ (F := F)) Variants.none c none) Set.univ (cc0_b_pw2_dx i arg1 harg1 (Memref.whole main_arg1) (Memref.isWhole_whole _) arg3 harg3 arg4 harg4 cc0_scratch1) K } := by
  refine ⟨?_, ?_, fun W K => ?run⟩
  case run =>
    simp only [cc0_b_pw2_dx_eq_skeleton]; unfold cc0_b_pw2_dx_skel
    simp only [k0_part1_eq_skeleton, k0_part2_eq_skeleton, k0_part3_eq_skeleton]
    unfold owns cells
    iintro ⟨⟨%f0, %hf0, H0⟩, ⟨%d1, %f1, -, H1⟩, ⟨%ds0, %fs0, -, HS0⟩, ⟨Hq0, Hq1, Hq2, Hq3, Hq4, Hq5, Hq6, Hq7⟩, Hh, HW, Hk⟩
    obtain rfl := harg1.eq_unread hf0
    sl_exec (disch := first | sl_exact hc)
    sl_step
    iapply Hk
    isplitl [H0]; · iapply (Shards.unread harg1 _); iexact H0
    isplitl [H1]; · iexists _; iexact H1
    isplitl [HS0]; · iexists _; iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

set_option maxHeartbeats 4000000 in
set_option sl_exec.dmaWindow true in
set_option sl_exec.dmaWindowSet true in
/-- The body at a later point: the scratch holds the weight already and keeps it. -/
def bodyLater (hc : ¬first i) (x0 : Vec F S512x1024 .bf16) (s0 : Vec F S1024x1024 .bf16) (fh : Held (F := F) c wgt) :
    { L1 : List (View.Piece (Elt F) S512x1024 .bf16) //
      ∀ (W : Waits sig Unit) (K : PUnit → sProp 𝕄),
        iprop(owns c.tc arg1 fullShare x0 ∗ (∃ d, owns c.tc arg3 fullShare d) ∗ owns c.tc arg4 fullShare s0 ∗ cells c ∗ held c wgt fh ∗ owes c.tc 0 W
            ∗ (iprop(owns c.tc arg1 fullShare x0 ∗ (∃ f, arg3.view.loc c.tc ↦[arg3.view.set]{fullShare} arg3.view.writes (Elt F) f L1) ∗ owns c.tc arg4 fullShare s0 ∗ cells c ∗ held c wgt fh ∗ (∃ W', owes c.tc 0 W')) -∗ K ⟨⟩))
          ⊢ wp frame (wpE (defs₀ (F := F)) Variants.none c none) Set.univ (cc0_b_pw2_dx i arg1 harg1 (Memref.whole main_arg1) (Memref.isWhole_whole _) arg3 harg3 arg4 harg4 cc0_scratch1) K } := by
  refine ⟨?_, fun W K => ?run⟩
  case run =>
    simp only [cc0_b_pw2_dx_eq_skeleton]; unfold cc0_b_pw2_dx_skel
    simp only [k0_part1_eq_skeleton, k0_part2_eq_skeleton, k0_part3_eq_skeleton]
    unfold owns cells
    iintro ⟨⟨%f0, %hf0, H0⟩, ⟨%d1, %f1, -, H1⟩, ⟨%fs0, %hfs0, HS0⟩, ⟨Hq0, Hq1, Hq2, Hq3, Hq4, Hq5, Hq6, Hq7⟩, Hh, HW, Hk⟩
    obtain rfl := harg1.eq_unread hf0
    obtain rfl := harg4.eq_unread hfs0
    sl_exec (disch := first | sl_exact hc)
    sl_step
    iapply Hk
    isplitl [H0]; · iapply (Shards.unread harg1 _); iexact H0
    isplitl [H1]; · iexists _; iexact H1
    isplitl [HS0]; · iapply (Shards.unread harg4 _); iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

end

variable (m : (ℓ : Loc nD τ sig) → Buf (Elt F) ℓ) (ρ : Dev nD → PrngReg)
variable (c : Dev nD) (t : Fin cfg0.N)

/-- Core `c`'s buffers when the grid starts: as launched. -/
abbrev V (b : Ref sig .tc) : Buf (Elt F) ((c : Thread nD τ).loc b) := m ((c : Thread nD τ).loc b)

/-- The program is the grid alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 : V m c main_arg0 = m (c.tc.loc main_arg0) := rfl
theorem V_main_arg1 : V m c main_arg1 = m (c.tc.loc main_arg1) := rfl

/-- Window `w`'s block at point `t`. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 : Memref sig .tc .vmem S512x1024 .bf16 := win0_0.stage (cfg0.slots t 0)
abbrev hs0 : (ms0 t).IsWhole := hstage0_0 ((cfg0.slots t 0).cast nbuf0_0)
abbrev ms1 : Memref sig .tc .vmem S512x1024 .bf16 := win0_1.stage (cfg0.slots t 1)
abbrev hs1 : (ms1 t).IsWhole := hstage0_1 ((cfg0.slots t 1).cast nbuf0_1)
/-- The scratch that keeps the weight. -/
abbrev scr0 : Memref sig .tc .vmem S1024x1024 .bf16 := Memref.whole cc0_scratch0
abbrev VO1 : View sig .tc .vmem S512x1024 .bf16 := (Memref.whole cc0_stg1_0 : Memref sig .tc .vmem S512x1024 .bf16).view

/-- The copies' semaphores. -/
abbrev sems : Fin 8 → SemLoc sig := fun j => (![SemLoc.dma 4, SemLoc.dma 5, SemLoc.dma 6, SemLoc.dma 7, SemLoc.dma 8, SemLoc.dma 9, SemLoc.dma 10, SemLoc.dma 11] : Fin 8 → SemLoc sig) j
theorem sems_own : Pipeline.OwnSemFacts spec0 sems := by decide
theorem sems_eq :
    (Pipeline.ownSems0 (Ix := Unit) (Name := ℕ) (U := Pipeline.UD sig nD τ) (Lvl := ℕ) (Val := Elt F) (τ := τ) sems c : sProp 𝕄) = cells c := by
  rw [Pipeline.ownSems0_eq_of_list c sems [0, 1, 2, 3, 4, 5, 6, 7] (by decide) (by decide)]; rfl
/-- The operand the body copies itself. -/
def moved : Finset (Ref sig .tc) := {main_arg1}
theorem moved_sub : moved ⊆ Pipeline.restRefs sig spec0 := by decide
theorem moved_eq :
    (bigSep moved (fun b => (c.tc.loc b) ↦{fullShare} V m c b) : sProp 𝕄) = iprop(held c wgt (V m c main_arg1)) := by
  rw [BI.bigSep_eq_bigSepL_of_eq [main_arg1] (by decide) (by decide)]; rfl

/-- What the grid starts with, conjunct by conjunct. -/
theorem start_eq :
    (Pipeline.ΦD sems spec0 moved (V m) c : sProp 𝕄)
      = iprop(iprop((∃ d, owns c.tc scr0 fullShare d)) ∗ (∃ r, prngReg c r) ∗ cells c ∗ iprop(held c wgt (V m c main_arg1))) := by
  rw [Pipeline.ΦD_eq, scopedRest0_eq, sems_eq, moved_eq]; simp only [scr0, owns_whole]; try rfl

/-- The body's run at the first point, on that point's buffers and blocks. -/
def runFirst (h : t.val = 0) :=
  bodyFirst (F := F) c (grid0.coords t) (ms0 t) (hs0 t) (ms1 t) (hs1 t) scr0 (Memref.isWhole_whole _) ((first_iff t).mpr h) (iblk m c 0 t) (V m c main_arg1)
/-- The body's run at a later point. -/
def runLater (h : ¬t.val = 0) (s0 : Vec F S1024x1024 .bf16) :=
  bodyLater (F := F) c (grid0.coords t) (ms0 t) (hs0 t) (ms1 t) (hs1 t) scr0 (Memref.isWhole_whole _) (fun e => h ((first_iff t).mp e)) (iblk m c 0 t) s0 (V m c main_arg1)

theorem coverFirst1 (h : t.val = 0) (y : S512x1024.Idx) : ∃ pc ∈ (runFirst m c t h).1, y ∈ pc.1.set :=
  View.cover_of_tiledL _ S512x1024.size (by sl_kernel_rfl) y
/-- What the first point leaves in output 0. -/
def outFirst1 (h : t.val = 0) : Vec F S512x1024 .bf16 := VO1.read (Elt F) (VO1.writes (Elt F) VO1.junk (runFirst m c t h).1)
theorem coverLater1 (h : ¬t.val = 0) (s0 : Vec F S1024x1024 .bf16) (y : S512x1024.Idx) : ∃ pc ∈ (runLater m c t h s0).1, y ∈ pc.1.set :=
  View.cover_of_tiledL _ S512x1024.size (by sl_kernel_rfl) y
/-- What a later point leaves in output 0, the scratch holding `s0`. -/
def outLater1 (h : ¬t.val = 0) (s0 : Vec F S1024x1024 .bf16) : Vec F S512x1024 .bf16 := VO1.read (Elt F) (VO1.writes (Elt F) VO1.junk (runLater m c t h s0).1)
theorem coverScr0 (h : t.val = 0) (y : S1024x1024.Idx) : ∃ pc ∈ (runFirst m c t h).2.1, y ∈ pc.1.set :=
  View.cover_of_tiledL _ ![128,1024] (by sl_kernel_rfl) y
/-- The weight as the first point leaves it in the scratch. -/
def weight0 : Vec F S1024x1024 .bf16 :=
  scr0.view.read (Elt F) (scr0.view.writes (Elt F) scr0.view.junk (runFirst m c t0_0 (show t0_0.val = 0 from rfl)).2.1)

/-- What point `t` leaves in output 0. -/
def out1 : Vec F S512x1024 .bf16 := if h : t.val = 0 then outFirst1 m c t h else outLater1 m c t h (weight0 m c)
theorem out1_first (h : t.val = 0) : out1 m c t = outFirst1 m c t h := dif_pos h
theorem out1_later (h : ¬t.val = 0) : out1 m c t = outLater1 m c t h (weight0 m c) := dif_neg h

/-- Between the points: at first what the grid starts with, afterwards the scratch at the weight. -/
def Keep : (n : ℕ) → n ≤ cfg0.N → sProp 𝕄
  | 0, _ => Pipeline.ΦD sems spec0 moved (V m) c
  | n + 1, _ => iprop(iprop(owns c.tc scr0 fullShare (weight0 m c)) ∗ (∃ r, prngReg c r) ∗ cells c ∗ iprop(held c wgt (V m c main_arg1)))
theorem Keep_zero (n : ℕ) (h : n ≤ cfg0.N) (hz : n = 0) : Keep m c n h = Pipeline.ΦD sems spec0 moved (V m) c := by
  subst hz; rfl
theorem Keep_pos (n : ℕ) (h : n ≤ cfg0.N) (hz : n ≠ 0) :
    Keep m c n h = iprop(iprop(owns c.tc scr0 fullShare (weight0 m c)) ∗ (∃ r, prngReg c r) ∗ cells c ∗ iprop(held c wgt (V m c main_arg1))) := by
  cases n with
  | zero => exact absurd rfl hz
  | succ n => rfl

/-- The proof data: inputs at their blocks, outputs at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => out1 m c t
  Φ t := Keep m c t.val (Nat.le_of_lt_succ t.isLt)
  q _ := fullShare
  owed _ := 0
theorem A_eq (w : Fin cfg0.W) : (dats m 0 c).A w = V m c (Pipeline.arrRef spec0 w) := by
  dsimp only [dats]
theorem Keep_castSucc :
    (dats m 0 c).Φ t.castSucc = Keep m c t.val (Nat.le_of_lt t.isLt) := by
  dsimp only [dats]; exact Pipeline.Dat.Φ_castSucc (Keep m c) t
theorem after0 : (dats m 0 c).after 0 t = iblk m c 0 t := by dsimp only [dats]
theorem after1 : (dats m 0 c).after 1 t = out1 m c t := by dsimp only [dats]
theorem before0 (d) : (dats m 0 c).before 0 t d = iblk m c 0 t :=
  (dats m 0 c).before_in_eq_fetched 0 rfl (fun _ => rfl) (fun _ _ _ => rfl) (fun _ => rfl) t d

def bodyPre : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d)))
def bodyPost : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t))

set_option maxHeartbeats 4000000 in
/-- The body at every point takes what holds before the point to what holds after it. -/
theorem sound :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = Keep m c (t.val + 1) t.isLt from rfl, Keep_pos m c _ _ (Nat.succ_ne_zero _),
    after0, after1]
  unfold Dat.owesAt Pipeline.owesWithin
  rw [show (dats m 0 c).owed t.castSucc = 0 from rfl, show (dats m 0 c).owed t.succ = 0 from rfl]
  by_cases h0 : t.val = 0
  · have hz := h0
    rw [Keep_castSucc m c t, Keep_zero m c _ _ h0, start_eq]
    obtain rfl : t = t0_0 := Fin.ext h0
    rw [out1_first m c t0_0 h0]
    unfold outFirst1 weight0; (try dsimp only)
    iintro ⟨⟨HS0, Hg, Hq, Hh⟩, ⟨%W, -, HW⟩, ⟨%d0, H0⟩, ⟨%d1, H1⟩⟩
    iapply ((runFirst m c t0_0 h0).2.2 W _)
    isplitl [H0]; · iexact H0
    isplitl [H1]; · iexists _; iexact H1
    iframe HS0 Hq Hh HW
    iintro ⟨H0, ⟨%e1, H1⟩, ⟨%es0, HS0⟩, Hq, Hh, ⟨%W', HW'⟩⟩
    isplitl [HS0 Hg Hq Hh]
    · isplitl [HS0]
      · iapply (Shards.owned _ _ _ _ _ (coverScr0 m c t0_0 h0)); iexact HS0
      iframe Hg Hq Hh
    isplitl [HW']
    · iexists W'; isplitr; · ipureintro; exact fun _ _ => Or.inl trivial
      iexact HW'
    isplitl [H0]; · iexact H0
    iapply (Shards.owned _ _ _ _ _ (coverFirst1 m c _ h0)); iexact H1
  · have hz := h0
    rw [Keep_castSucc m c t, Keep_pos m c _ _ h0]
    rw [out1_later m c t h0]
    unfold outLater1; (try dsimp only)
    iintro ⟨⟨HS0, Hg, Hq, Hh⟩, ⟨%W, -, HW⟩, ⟨%d0, H0⟩, ⟨%d1, H1⟩⟩
    iapply ((runLater m c t h0 (weight0 m c)).2 W _)
    isplitl [H0]; · iexact H0
    isplitl [H1]; · iexists _; iexact H1
    iframe HS0 Hq Hh HW
    iintro ⟨H0, ⟨%e1, H1⟩, HS0, Hq, Hh, ⟨%W', HW'⟩⟩
    isplitl [HS0 Hg Hq Hh]
    · isplitl [HS0]
      · iexact HS0
      iframe Hg Hq Hh
    isplitl [HW']
    · iexists W'; isplitr; · ipureintro; exact fun _ _ => Or.inl trivial
      iexact HW'
    isplitl [H0]; · iexact H0
    iapply (Shards.owned _ _ _ _ _ (coverLater1 m c _ h0 _)); iexact H1

theorem defs_row :
    defs₀ (F := F) .tc cfg0.body (cfg0.bodyArgs t (cfg0.slots t)) = bodyAt0 t := by
  unfold defs₀; rw [Defs.onTc_tc]
theorem obligation : BodyObligation (dats (F := F) m 0 c) (defs₀ (F := F)) Variants.none () Set.univ := fun t => by
  rw [bigSep_W0, bigSep_W0, defs_row]
  exact triple_restated (sound m c t) rfl .rfl fun _ => .rfl
theorem hin : Pipeline.ΦD sems spec0 moved (V m) c ⊢ (dats m 0 c).Φ 0 := by
  rw [show (dats m 0 c).Φ 0 = Keep m c 0 (Nat.zero_le _) from rfl, Keep_zero m c 0 _ rfl]
  try exact Idealize.SL.BI.Entails.refl _
theorem hout : (dats m 0 c).Φ (Fin.last cfg0.N) ⊢ Pipeline.ΦD sems spec0 moved (V m) c := by
  rw [show (dats m 0 c).Φ (Fin.last cfg0.N) = Keep m c (Fin.last cfg0.N).val (Nat.le_of_lt_succ (Fin.last cfg0.N).isLt) from rfl,
    Keep_pos m c _ _ (by rw [Fin.val_last]; have : cfg0.N = 8 := N_0; omega), start_eq]
  iintro ⟨HS0, Hg, Hq, Hh⟩
  isplitl [HS0]
  · iexists _; iexact HS0
  iframe Hg Hq Hh

set_option backward.isDefEq.respectTransparency.types false in
/-- Every fair execution ends, the arrays at what the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none sems_own moved moved_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments are as launched. -/
abbrev Kept (μ : (ℓ : Loc nD τ sig) → Buf (Elt F) ℓ) : Prop :=
  μ (c.tc.loc main_arg0) = m (c.tc.loc main_arg0) ∧ μ (c.tc.loc main_arg1) = m (c.tc.loc main_arg1)

/-- The arguments end as they were. -/
theorem kept (r : PUnit × MemSt nD τ sig (Elt F)) (h : Pipeline.FramePost cfgs (dats m) 0 (V m) r) (c : Dev nD) :
    Kept m c r.2.mem :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c)⟩

/-- The program ends with its arguments unchanged and every counter at zero. -/
theorem frame : θ_run defs (onTc (τ := τ) (main (F := F))) ⟨m, fun _ => 0, ρ⟩ (fun r => (∀ c : Dev nD,
      Kept m c r.2.mem)
      ∧ r.2.sem = fun _ => 0) :=
  (θ_run defs _ _).mono (fun r h => ⟨fun c => kept m r h.1 c, h.2⟩) (run_quiescent m ρ)

/-- The program ends with each result at the blocks the points wrote. -/
theorem run_blocks : θ_run defs (onTc (τ := τ) (main (F := F))) ⟨m, fun _ => 0, ρ⟩ fun r => ∀ c : Dev nD,
      (r.2.mem (c.tc.loc main_v0) = (dats m 0 c).arrAt 1 cfg0.N)
      ∧ (Kept m c r.2.mem) :=
  (θ_run defs _ _).mono (fun r h c => ⟨(h.1 c).1 1, kept m r h.1 c⟩) (run_quiescent m ρ)

end

section
open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- The weight in the scratch: row `k` is row `384 + k % 128` of the shard of device `k / 128`. -/
theorem weight0_apply (d : Fin 8) (r : Fin 512) (k : Fin 1024) (j : Fin 1024) (hk : k.val = d.val * 128 + (r.val - 384)) (hr : 384 ≤ r.val) (hr' : r.val < 512) :
    weight0 m c (ix2 k j) = m (c.tc.loc main_arg1) (ix3 d r j) := by
  unfold weight0 runFirst
  frame_out
  canon_tiles x h
  all_goals obtain ⟨x0, x1, rfl⟩ := Shards.pair x
  all_goals
    have e0 : ((ix2 k j : S1024x1024.Idx) 0).val = k.val := rfl
    have e1 : ((ix2 k j : S1024x1024.Idx) 1).val = j.val := rfl
    have e2 : ((ix2 x0 x1 : S128x1024.Idx) 0).val = x0.val := rfl
    have e3 : ((ix2 x0 x1 : S128x1024.Idx) 1).val = x1.val := rfl
    rw [e0, e2] at h0
    rw [e1, e3] at h1
    have := x0.isLt
    have := x1.isLt
    refine (Shards.read_block _ _ _ _ _ d x0 x1 r j ?_ ?_ ?_ rfl).trans (congrFun (V_main_arg1 m c) _)
    all_goals
      try simp only [Matrix.cons_val_zero, Matrix.cons_val_one, Matrix.cons_val]
      omega

/-- Every point leaves the product with the transposed weight of its block. -/
theorem out1_eq : out1 m c t = k0_pay1 (F := Ideal) (iblk m c 0 t) (weight0 m c) := by
  by_cases h : t.val = 0
  · rw [out1_first m c t h]
    obtain rfl : t = t0_0 := Fin.ext h
    unfold outFirst1 weight0 runFirst
    frame_out
    try simp only [read_unread_whole]
    repeat erw [Shards.readCov_all]
    try rfl
  · rw [out1_later m c t h]
    unfold outLater1 runLater
    frame_out
    try simp only [read_unread_whole]

/-- The product with the transposed weight at an entry: row `r` of the cotangent against row `j` of the gathered weight. -/
def prod (d : S4096x1024.Idx → Elt Ideal .bf16) (w : S8x512x1024.Idx → Elt Ideal .bf16) (r : Fin 4096) (j : Fin 1024) : EReal :=
  ∑ k : Fin 1024, d (ix2 r k) * w (ix3 (⟨j.val / 128, by omega⟩ : Fin 8) (⟨384 + j.val % 128, by omega⟩ : Fin 512) k)

theorem blk0 (x : Fin 512) (r : Fin 4096) (hr : r.val = t.val * 512 + x.val) (k : Fin 1024) :
    iblk m c 0 t (ix2 x k) = m (c.tc.loc main_arg0) (ix2 r k) := by
  have hi := (by decide +kernel : ∀ t : Fin cfg0.N, win0_0.index t (0 : Fin 2) = t.val ∧ win0_0.index t (1 : Fin 2) = 0) t
  rw [← V_main_arg0 m c]
  blk_point [iblk, hi.1, hi.2]

/-- One block of output window 1. -/
theorem out1_apply (x : Fin 512) (j : Fin 1024) (r : Fin 4096) (hr : r.val = t.val * 512 + x.val) :
    out1 m c t (ix2 x j) = (prod (m (c.tc.loc main_arg0)) (m (c.tc.loc main_arg1)) r j : EReal) := by
  rw [out1_eq]
  unfold prod
  have hW : ∀ k : Fin 1024, weight0 m c (ix2 j k) = m (c.tc.loc main_arg1) (ix3 (⟨j.val / 128, by omega⟩ : Fin 8) (⟨384 + j.val % 128, by omega⟩ : Fin 512) k) :=
    fun k => weight0_apply m c _ _ j k (by dsimp only; omega) (by dsimp only; omega) (by dsimp only; omega)
  simp only [← hW, ← blk0 m c t x r hr]
  generalize weight0 m c = W
  generalize iblk m c 0 t = D
  pointwise [k0_pay1]

/-- The whole array of output window 1. -/
theorem final1 : (dats m 0 c).arrAt 1 cfg0.N = fun i : S4096x1024.Idx => (fun (r : Fin 4096) (j : Fin 1024) => (prod (m (c.tc.loc main_arg0)) (m (c.tc.loc main_arg1)) r j : EReal)) (i 0) (i 1) := by
  refine (dats m 0 c).arrAt_eq_of_covers 1 _ (by decide +kernel) fun t hf y => ?_
  rw [after1]
  obtain ⟨a, b, rfl⟩ := Shards.pair y
  have hi := (by decide +kernel : ∀ t : Fin cfg0.N, win0_1.index t (0 : Fin 2) = t.val ∧ win0_1.index t (1 : Fin 2) = 0) t
  blk_simp
  have e1 : (win0_1.blk t).view.emb (ix2 a b) 1 = b :=
    Fin.ext (Shards.at_zero hi.2)
  dsimp only
  rw [e1]
  exact out1_apply m c t a b _ (Shards.at_row hi.1)

end

end Cert.Kernel8Ideal.Run

namespace Cert.Proof

open Idealize.ShloMosaic Idealize.SL.Sem

/-- The gradient of the second pointwise projection by its input: on memories that agree on the arguments, the kernel's result arrays are the reference's, entry by entry. -/
theorem algebraic_Pw2Dx : algebraic_Kernel8Ideal_Reference8Ideal := by
  intro m ρ m' ρ' _ hagree
  refine ⟨fun c => (Kernel8Ideal.Run.dats m 0 c).arrAt 1 Kernel8Ideal.cfg0.N, (θ_run Kernel8Ideal.defs _ _).mono (fun _ h c => ?run) (Kernel8Ideal.Run.run_blocks (F := Ideal) m ρ), ?_⟩
  case run =>
    have h := h c
    exact ⟨h.1, h.2⟩
  refine (θ_run Reference8Ideal.defs _ _).mono (fun _ h c => ⟨?_, (h c).2⟩) (Reference8Ideal.Value.run (F := Ideal) m' ρ')
  · refine ((h c).1).trans (Eq.trans ?_ (Kernel8Ideal.Run.final1 m c).symm)
    simp only [hagree c]
    funext j
    obtain ⟨r, q, rfl⟩ := Shards.pair j
    show _ = (_ : EReal)
    have hW : ∀ i k : Fin 1024, (shapeCast Reference8Ideal.S1024x1024 (extractStridedSlice Reference8Ideal.S8x128x1024 ![0, 384, 0] (m (c.tc.loc Kernel8Ideal.main_arg1)) Reference8Ideal.Gen.slices_S8x512x1024_S8x128x1024_0_384_0) Reference8Ideal.Gen.shapeCasts_S8x128x1024_S1024x1024) (ix2 i k)
        = m (c.tc.loc Kernel8Ideal.main_arg1) (ix3 (⟨i.val / 128, by omega⟩ : Fin 8) (⟨384 + i.val % 128, by omega⟩ : Fin 512) k) := by
      intro i k
      rw [Shards.rows_apply _ _ i k (⟨i.val / 128, by omega⟩ : Fin 8) (⟨i.val % 128, by omega⟩ : Fin 128) (by dsimp only; omega)]
      pointwise []
    unfold Kernel8Ideal.Run.prod
    refine Eq.trans ?_ (Finset.sum_congr rfl fun k _ => congrArg (HMul.hMul (α := EReal) (β := EReal) (γ := EReal) _) (hW q k))
    generalize (shapeCast Reference8Ideal.S1024x1024 (extractStridedSlice Reference8Ideal.S8x128x1024 ![0, 384, 0] (m (c.tc.loc Kernel8Ideal.main_arg1)) Reference8Ideal.Gen.slices_S8x512x1024_S8x128x1024_0_384_0) Reference8Ideal.Gen.shapeCasts_S8x128x1024_S1024x1024) = W
    pointwise []

/-- The two printings of the program have the same bodies. -/
theorem defs_Pw2Dx : Kernel8.defs (F := Bits) = Kernel8Ideal.defs (F := Bits) := by
  have e : Kernel8.defs₀ (F := Bits) = Kernel8Ideal.defs₀ (F := Bits) := by
    unfold Kernel8.defs₀ Kernel8Ideal.defs₀
    refine congrArg Defs.onTc (funext fun i => ?_)
    match i with
    | 0 => exact funext fun p => rfl
  exact congrArg (Pipeline.defs (Kernel8.pcfgs (F := Bits))) e

/-- As printed, on bits, it ends with its arguments unchanged and every counter at zero. -/
theorem frame_Pw2Dx : quiescent_Kernel8 := fun m ρ _ => by
  rw [defs_Pw2Dx]
  exact Kernel8Ideal.Run.frame (F := Bits) m ρ

end Cert.Proof

end
-- ==== Proof.Shards.Norm.lean ====
module

public import Idealize.ShloMosaic.Lib.Pipeline.ValueKit

@[expose] public section

noncomputable section

namespace Cert.Shards

open Idealize.ShloMosaic

/-- A row less its mean, at an entry. -/
def dev (z : Fin 1024 → EReal) (j : Fin 1024) : EReal :=
  z j - Ideal.div (∑ k, z k) (Ideal.ofBits FTy.f32 0x44800000#32)

/-- The reciprocal deviation of a row: of the mean of the squares of `dev`, plus the norm's small constant. -/
def rstd (z : Fin 1024 → EReal) : EReal :=
  Ideal.rsqrt (Ideal.div (∑ k, dev z k * dev z k) (Ideal.ofBits FTy.f32 0x44800000#32) + Ideal.ofBits FTy.f32 0x3727C5AC#32)

/-- The normalised row, at an entry. -/
def normed (z : Fin 1024 → EReal) (j : Fin 1024) : EReal := dev z j * rstd z

end Cert.Shards

end
-- ==== Proof.OutLn.lean ====
module

public import proofs.«01_k».proof.Proof.Shards.Own
public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.Shards.Read
public import proofs.«01_k».proof.Proof.Shards.Norm
public import proofs.«01_k».proof.Defs
public import proofs.«01_k».proof.Proof.Gen.Reference9Ideal.Run
public import proofs.«01_k».proof.Proof.Gen.Kernel9

@[expose] public section

set_option maxRecDepth 16384

noncomputable section

namespace Cert.Kernel9Ideal.Run

section
open Cert.Kernel9Ideal Cert.Kernel9Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body copies the weight in: the grid's coordinate is zero. -/
abbrev first (i : grid0.Coords) : Prop := (Scalar.cmpi .ne (Scalar.extui (Scalar.cmpi .eq (BitVec.ofNat 32 (i 0).val) 0#32)) 0#32) = 1#1

/-- It holds at the first point of the grid and at no other. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : first (grid0.coords t) ↔ t.val % 8 = 0 := by
    simp only [first, e0]
    word_cmp
  rw [e1, Nat.mod_eq_of_lt ht]

/-- The gathered weight, left in HBM. -/
abbrev wgt : Memref sig .tc .hbm S8x128x1024 .bf16 := Memref.whole main_arg1
/-- A memref's contents on core `c`, and its buffer held whole at some. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc c.tc ↦{fullShare} f

/-- The counters of the copies' semaphores, all at zero. -/
def cells (c : Dev nD) : sProp 𝕄 :=
  iprop(semVal (c.tc, SemLoc.dma 16) 0 ∗ semVal (c.tc, SemLoc.dma 17) 0 ∗ semVal (c.tc, SemLoc.dma 18) 0 ∗ semVal (c.tc, SemLoc.dma 19) 0 ∗ semVal (c.tc, SemLoc.dma 20) 0 ∗ semVal (c.tc, SemLoc.dma 21) 0 ∗ semVal (c.tc, SemLoc.dma 22) 0 ∗ semVal (c.tc, SemLoc.dma 23) 0)

section
variable (c : Dev nD) (i : grid0.Coords) (arg1 : Memref sig .tc .vmem S512x1024 .bf16) (harg1 : arg1.IsWhole)
  (arg3 : Memref sig .tc .vmem S512x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S512x1024 .bf16) (harg8 : arg8.IsWhole)
  (arg9 : Memref sig .tc .vmem S512x1024 .f32) (harg9 : arg9.IsWhole)
  (arg10 : Memref sig .tc .vmem S512x1024 .f32) (harg10 : arg10.IsWhole)
  (arg11 : Memref sig .tc .vmem S512x1 .f32) (harg11 : arg11.IsWhole)
  (arg12 : Memref sig .tc .vmem S1024x1024 .bf16) (harg12 : arg12.IsWhole)

set_option maxHeartbeats 4000000 in
set_option sl_exec.dmaWindow true in
set_option sl_exec.dmaWindowSet true in
/-- The body at the first point copies the weight into the scratch and leaves each output and the scratch written by the pieces found here. -/
def bodyFirst (hc : first i) (x0 : Vec F S512x1024 .bf16) (x1 : Vec F S512x1024 .f32) (x2 : Vec F S1x1024 .f32) (x3 : Vec F S1x1024 .f32) (x4 : Vec F S1x1024 .f32) (x5 : Vec F S1x1024 .f32) (fh : Held (F := F) c wgt) :
    Σ' (L6 : List (View.Piece (Elt F) S512x1024 .bf16)), Σ' (L7 : List (View.Piece (Elt F) S512x1024 .f32)), Σ' (L8 : List (View.Piece (Elt F) S512x1024 .f32)), Σ' (L9 : List (View.Piece (Elt F) S512x1 .f32)), { T0 : List (View.Piece (Elt F) S1024x1024 .bf16) //
      ∀ (W : Waits sig Unit) (K : PUnit → sProp 𝕄),
        iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ (∃ d, owns c.tc arg10 fullShare d) ∗ (∃ d, owns c.tc arg11 fullShare d) ∗ (∃ d, owns c.tc arg12 fullShare d) ∗ cells c ∗ held c wgt fh ∗ owes c.tc 0 W
            ∗ (iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ (∃ f, arg8.view.loc c.tc ↦[arg8.view.set]{fullShare} arg8.view.writes (Elt F) f L6) ∗ (∃ f, arg9.view.loc c.tc ↦[arg9.view.set]{fullShare} arg9.view.writes (Elt F) f L7) ∗ (∃ f, arg10.view.loc c.tc ↦[arg10.view.set]{fullShare} arg10.view.writes (Elt F) f L8) ∗ (∃ f, arg11.view.loc c.tc ↦[arg11.view.set]{fullShare} arg11.view.writes (Elt F) f L9) ∗ (∃ f, arg12.view.loc c.tc ↦[arg12.view.set]{fullShare} arg12.view.writes (Elt F) f T0) ∗ cells c ∗ held c wgt fh ∗ (∃ W', owes c.tc 0 W')) -∗ K ⟨⟩))
          ⊢ wp frame (wpE (defs₀ (F := F)) Variants.none c none) Set.univ (cc0_a_out_ln_fwd i arg1 harg1 (Memref.whole main_arg1) (Memref.isWhole_whole _) arg3 harg3 arg4 harg4 arg5 harg5 arg6 harg6 arg7 harg7 arg8 harg8 arg9 harg9 arg10 harg10 arg11 harg11 arg12 harg12 cc0_scratch1) K } := by
  refine ⟨?_, ?_, ?_, ?_, ?_, fun W K => ?run⟩
  case run =>
    simp only [cc0_a_out_ln_fwd_eq_skeleton]; unfold cc0_a_out_ln_fwd_skel
    simp only [k0_part1_eq_skeleton, k0_part2_eq_skeleton, k0_part3_eq_skeleton, k0_part4_eq_skeleton]
    unfold owns cells
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨Hq0, Hq1, Hq2, Hq3, Hq4, Hq5, Hq6, Hq7⟩, Hh, HW, Hk⟩
    obtain rfl := harg1.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | sl_exact hc)
    sl_step
    iapply Hk
    isplitl [H0]; · iapply (Shards.unread harg1 _); iexact H0
    isplitl [H1]; · iapply (Shards.unread harg3 _); iexact H1
    isplitl [H2]; · iapply (Shards.unread harg4 _); iexact H2
    isplitl [H3]; · iapply (Shards.unread harg5 _); iexact H3
    isplitl [H4]; · iapply (Shards.unread harg6 _); iexact H4
    isplitl [H5]; · iapply (Shards.unread harg7 _); iexact H5
    isplitl [H6]; · iexists _; iexact H6
    isplitl [H7]; · iexists _; iexact H7
    isplitl [H8]; · iexists _; iexact H8
    isplitl [H9]; · iexists _; iexact H9
    isplitl [HS0]; · iexists _; iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

set_option maxHeartbeats 4000000 in
set_option sl_exec.dmaWindow true in
set_option sl_exec.dmaWindowSet true in
/-- The body at a later point: the scratch holds the weight already and keeps it. -/
def bodyLater (hc : ¬first i) (x0 : Vec F S512x1024 .bf16) (x1 : Vec F S512x1024 .f32) (x2 : Vec F S1x1024 .f32) (x3 : Vec F S1x1024 .f32) (x4 : Vec F S1x1024 .f32) (x5 : Vec F S1x1024 .f32) (s0 : Vec F S1024x1024 .bf16) (fh : Held (F := F) c wgt) :
    Σ' (L6 : List (View.Piece (Elt F) S512x1024 .bf16)), Σ' (L7 : List (View.Piece (Elt F) S512x1024 .f32)), Σ' (L8 : List (View.Piece (Elt F) S512x1024 .f32)), { L9 : List (View.Piece (Elt F) S512x1 .f32) //
      ∀ (W : Waits sig Unit) (K : PUnit → sProp 𝕄),
        iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ (∃ d, owns c.tc arg10 fullShare d) ∗ (∃ d, owns c.tc arg11 fullShare d) ∗ owns c.tc arg12 fullShare s0 ∗ cells c ∗ held c wgt fh ∗ owes c.tc 0 W
            ∗ (iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ (∃ f, arg8.view.loc c.tc ↦[arg8.view.set]{fullShare} arg8.view.writes (Elt F) f L6) ∗ (∃ f, arg9.view.loc c.tc ↦[arg9.view.set]{fullShare} arg9.view.writes (Elt F) f L7) ∗ (∃ f, arg10.view.loc c.tc ↦[arg10.view.set]{fullShare} arg10.view.writes (Elt F) f L8) ∗ (∃ f, arg11.view.loc c.tc ↦[arg11.view.set]{fullShare} arg11.view.writes (Elt F) f L9) ∗ owns c.tc arg12 fullShare s0 ∗ cells c ∗ held c wgt fh ∗ (∃ W', owes c.tc 0 W')) -∗ K ⟨⟩))
          ⊢ wp frame (wpE (defs₀ (F := F)) Variants.none c none) Set.univ (cc0_a_out_ln_fwd i arg1 harg1 (Memref.whole main_arg1) (Memref.isWhole_whole _) arg3 harg3 arg4 harg4 arg5 harg5 arg6 harg6 arg7 harg7 arg8 harg8 arg9 harg9 arg10 harg10 arg11 harg11 arg12 harg12 cc0_scratch1) K } := by
  refine ⟨?_, ?_, ?_, ?_, fun W K => ?run⟩
  case run =>
    simp only [cc0_a_out_ln_fwd_eq_skeleton]; unfold cc0_a_out_ln_fwd_skel
    simp only [k0_part1_eq_skeleton, k0_part2_eq_skeleton, k0_part3_eq_skeleton, k0_part4_eq_skeleton]
    unfold owns cells
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨Hq0, Hq1, Hq2, Hq3, Hq4, Hq5, Hq6, Hq7⟩, Hh, HW, Hk⟩
    obtain rfl := harg1.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg12.eq_unread hfs0
    sl_exec (disch := first | sl_exact hc)
    sl_step
    iapply Hk
    isplitl [H0]; · iapply (Shards.unread harg1 _); iexact H0
    isplitl [H1]; · iapply (Shards.unread harg3 _); iexact H1
    isplitl [H2]; · iapply (Shards.unread harg4 _); iexact H2
    isplitl [H3]; · iapply (Shards.unread harg5 _); iexact H3
    isplitl [H4]; · iapply (Shards.unread harg6 _); iexact H4
    isplitl [H5]; · iapply (Shards.unread harg7 _); iexact H5
    isplitl [H6]; · iexists _; iexact H6
    isplitl [H7]; · iexists _; iexact H7
    isplitl [H8]; · iexists _; iexact H8
    isplitl [H9]; · iexists _; iexact H9
    isplitl [HS0]; · iapply (Shards.unread harg12 _); iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

end

variable (m : (ℓ : Loc nD τ sig) → Buf (Elt F) ℓ) (ρ : Dev nD → PrngReg)
variable (c : Dev nD) (t : Fin cfg0.N)

/-- Core `c`'s buffers when the grid starts: after the host's lines before it. -/
abbrev V (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the grid is the host's lines. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host's lines leave the arguments as they were. -/
theorem V_args : V m c main_arg0 = m (c.tc.loc main_arg0) ∧ V m c main_arg1 = m (c.tc.loc main_arg1) ∧ V m c main_arg2 = m (c.tc.loc main_arg2) ∧ V m c main_arg3 = m (c.tc.loc main_arg3) ∧ V m c main_arg4 = m (c.tc.loc main_arg4) ∧ V m c main_arg5 = m (c.tc.loc main_arg5) := by
  refine ⟨?_, ?_, ?_, ?_, ?_, ?_⟩
  all_goals
    refine StableHlo.after_of_forall_not_mem (b := Proc.devRef .tc _) _ _ (List.forall_iff_forall_mem.mp ?_)
    simp only [hostOps0, List.Forall, StableHlo.nullary_writes, StableHlo.unary_writes, Finset.mem_singleton]
    repeat' apply And.intro
    all_goals exact StableHlo.devRef_ne_of_ne (by decide)

/-- Window `w`'s block at point `t`. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 : Memref sig .tc .vmem S512x1024 .bf16 := win0_0.stage (cfg0.slots t 0)
abbrev hs0 : (ms0 t).IsWhole := hstage0_0 ((cfg0.slots t 0).cast nbuf0_0)
abbrev ms1 : Memref sig .tc .vmem S512x1024 .f32 := win0_1.stage (cfg0.slots t 1)
abbrev hs1 : (ms1 t).IsWhole := hstage0_1 ((cfg0.slots t 1).cast nbuf0_1)
abbrev ms2 : Memref sig .tc .vmem S1x1024 .f32 := win0_2.stage (cfg0.slots t 2)
abbrev hs2 : (ms2 t).IsWhole := hstage0_2 ((cfg0.slots t 2).cast nbuf0_2)
abbrev ms3 : Memref sig .tc .vmem S1x1024 .f32 := win0_3.stage (cfg0.slots t 3)
abbrev hs3 : (ms3 t).IsWhole := hstage0_3 ((cfg0.slots t 3).cast nbuf0_3)
abbrev ms4 : Memref sig .tc .vmem S1x1024 .f32 := win0_4.stage (cfg0.slots t 4)
abbrev hs4 : (ms4 t).IsWhole := hstage0_4 ((cfg0.slots t 4).cast nbuf0_4)
abbrev ms5 : Memref sig .tc .vmem S1x1024 .f32 := win0_5.stage (cfg0.slots t 5)
abbrev hs5 : (ms5 t).IsWhole := hstage0_5 ((cfg0.slots t 5).cast nbuf0_5)
abbrev ms6 : Memref sig .tc .vmem S512x1024 .bf16 := win0_6.stage (cfg0.slots t 6)
abbrev hs6 : (ms6 t).IsWhole := hstage0_6 ((cfg0.slots t 6).cast nbuf0_6)
abbrev ms7 : Memref sig .tc .vmem S512x1024 .f32 := win0_7.stage (cfg0.slots t 7)
abbrev hs7 : (ms7 t).IsWhole := hstage0_7 ((cfg0.slots t 7).cast nbuf0_7)
abbrev ms8 : Memref sig .tc .vmem S512x1024 .f32 := win0_8.stage (cfg0.slots t 8)
abbrev hs8 : (ms8 t).IsWhole := hstage0_8 ((cfg0.slots t 8).cast nbuf0_8)
abbrev ms9 : Memref sig .tc .vmem S512x1 .f32 := win0_9.stage (cfg0.slots t 9)
abbrev hs9 : (ms9 t).IsWhole := hstage0_9 ((cfg0.slots t 9).cast nbuf0_9)
/-- The scratch that keeps the weight. -/
abbrev scr0 : Memref sig .tc .vmem S1024x1024 .bf16 := Memref.whole cc0_scratch0
abbrev VO6 : View sig .tc .vmem S512x1024 .bf16 := (Memref.whole cc0_stg6_0 : Memref sig .tc .vmem S512x1024 .bf16).view
abbrev VO7 : View sig .tc .vmem S512x1024 .f32 := (Memref.whole cc0_stg7_0 : Memref sig .tc .vmem S512x1024 .f32).view
abbrev VO8 : View sig .tc .vmem S512x1024 .f32 := (Memref.whole cc0_stg8_0 : Memref sig .tc .vmem S512x1024 .f32).view
abbrev VO9 : View sig .tc .vmem S512x1 .f32 := (Memref.whole cc0_stg9_0 : Memref sig .tc .vmem S512x1 .f32).view

/-- The copies' semaphores. -/
abbrev sems : Fin 8 → SemLoc sig := fun j => (![SemLoc.dma 16, SemLoc.dma 17, SemLoc.dma 18, SemLoc.dma 19, SemLoc.dma 20, SemLoc.dma 21, SemLoc.dma 22, SemLoc.dma 23] : Fin 8 → SemLoc sig) j
theorem sems_own : Pipeline.OwnSemFacts spec0 sems := by decide
theorem sems_eq :
    (Pipeline.ownSems0 (Ix := Unit) (Name := ℕ) (U := Pipeline.UD sig nD τ) (Lvl := ℕ) (Val := Elt F) (τ := τ) sems c : sProp 𝕄) = cells c := by
  rw [Pipeline.ownSems0_eq_of_list c sems [0, 1, 2, 3, 4, 5, 6, 7] (by decide) (by decide)]; rfl
/-- The operand the body copies itself. -/
def moved : Finset (Ref sig .tc) := {main_arg1}
theorem moved_sub : moved ⊆ Pipeline.restRefs sig spec0 := by decide
theorem moved_eq :
    (bigSep moved (fun b => (c.tc.loc b) ↦{fullShare} V m c b) : sProp 𝕄) = iprop(held c wgt (V m c main_arg1)) := by
  rw [BI.bigSep_eq_bigSepL_of_eq [main_arg1] (by decide) (by decide)]; rfl

/-- What the grid starts with, conjunct by conjunct. -/
theorem start_eq :
    (Pipeline.ΦD sems spec0 moved (V m) c : sProp 𝕄)
      = iprop(iprop((∃ d, owns c.tc scr0 fullShare d)) ∗ (∃ r, prngReg c r) ∗ cells c ∗ iprop(held c wgt (V m c main_arg1))) := by
  rw [Pipeline.ΦD_eq, scopedRest0_eq, sems_eq, moved_eq]; simp only [scr0, owns_whole]; try rfl

/-- The body's run at the first point, on that point's buffers and blocks. -/
def runFirst (h : t.val = 0) :=
  bodyFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr0 (Memref.isWhole_whole _) ((first_iff t).mpr h) (iblk m c 0 t) (iblk m c 1 t) (iblk m c 2 t) (iblk m c 3 t) (iblk m c 4 t) (iblk m c 5 t) (V m c main_arg1)
/-- The body's run at a later point. -/
def runLater (h : ¬t.val = 0) (s0 : Vec F S1024x1024 .bf16) :=
  bodyLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr0 (Memref.isWhole_whole _) (fun e => h ((first_iff t).mp e)) (iblk m c 0 t) (iblk m c 1 t) (iblk m c 2 t) (iblk m c 3 t) (iblk m c 4 t) (iblk m c 5 t) s0 (V m c main_arg1)

theorem coverFirst6 (h : t.val = 0) (y : S512x1024.Idx) : ∃ pc ∈ (runFirst m c t h).1, y ∈ pc.1.set :=
  View.cover_of_tiledL _ S512x1024.size (by sl_kernel_rfl) y
/-- What the first point leaves in output 0. -/
def outFirst6 (h : t.val = 0) : Vec F S512x1024 .bf16 := VO6.read (Elt F) (VO6.writes (Elt F) VO6.junk (runFirst m c t h).1)
theorem coverFirst7 (h : t.val = 0) (y : S512x1024.Idx) : ∃ pc ∈ (runFirst m c t h).2.1, y ∈ pc.1.set :=
  View.cover_of_tiledL _ S512x1024.size (by sl_kernel_rfl) y
/-- What the first point leaves in output 1. -/
def outFirst7 (h : t.val = 0) : Vec F S512x1024 .f32 := VO7.read (Elt F) (VO7.writes (Elt F) VO7.junk (runFirst m c t h).2.1)
theorem coverFirst8 (h : t.val = 0) (y : S512x1024.Idx) : ∃ pc ∈ (runFirst m c t h).2.2.1, y ∈ pc.1.set :=
  View.cover_of_tiledL _ S512x1024.size (by sl_kernel_rfl) y
/-- What the first point leaves in output 2. -/
def outFirst8 (h : t.val = 0) : Vec F S512x1024 .f32 := VO8.read (Elt F) (VO8.writes (Elt F) VO8.junk (runFirst m c t h).2.2.1)
theorem coverFirst9 (h : t.val = 0) (y : S512x1.Idx) : ∃ pc ∈ (runFirst m c t h).2.2.2.1, y ∈ pc.1.set :=
  View.cover_of_tiledL _ S512x1.size (by sl_kernel_rfl) y
/-- What the first point leaves in output 3. -/
def outFirst9 (h : t.val = 0) : Vec F S512x1 .f32 := VO9.read (Elt F) (VO9.writes (Elt F) VO9.junk (runFirst m c t h).2.2.2.1)
theorem coverLater6 (h : ¬t.val = 0) (s0 : Vec F S1024x1024 .bf16) (y : S512x1024.Idx) : ∃ pc ∈ (runLater m c t h s0).1, y ∈ pc.1.set :=
  View.cover_of_tiledL _ S512x1024.size (by sl_kernel_rfl) y
/-- What a later point leaves in output 0, the scratch holding `s0`. -/
def outLater6 (h : ¬t.val = 0) (s0 : Vec F S1024x1024 .bf16) : Vec F S512x1024 .bf16 := VO6.read (Elt F) (VO6.writes (Elt F) VO6.junk (runLater m c t h s0).1)
theorem coverLater7 (h : ¬t.val = 0) (s0 : Vec F S1024x1024 .bf16) (y : S512x1024.Idx) : ∃ pc ∈ (runLater m c t h s0).2.1, y ∈ pc.1.set :=
  View.cover_of_tiledL _ S512x1024.size (by sl_kernel_rfl) y
/-- What a later point leaves in output 1, the scratch holding `s0`. -/
def outLater7 (h : ¬t.val = 0) (s0 : Vec F S1024x1024 .bf16) : Vec F S512x1024 .f32 := VO7.read (Elt F) (VO7.writes (Elt F) VO7.junk (runLater m c t h s0).2.1)
theorem coverLater8 (h : ¬t.val = 0) (s0 : Vec F S1024x1024 .bf16) (y : S512x1024.Idx) : ∃ pc ∈ (runLater m c t h s0).2.2.1, y ∈ pc.1.set :=
  View.cover_of_tiledL _ S512x1024.size (by sl_kernel_rfl) y
/-- What a later point leaves in output 2, the scratch holding `s0`. -/
def outLater8 (h : ¬t.val = 0) (s0 : Vec F S1024x1024 .bf16) : Vec F S512x1024 .f32 := VO8.read (Elt F) (VO8.writes (Elt F) VO8.junk (runLater m c t h s0).2.2.1)
theorem coverLater9 (h : ¬t.val = 0) (s0 : Vec F S1024x1024 .bf16) (y : S512x1.Idx) : ∃ pc ∈ (runLater m c t h s0).2.2.2.1, y ∈ pc.1.set :=
  View.cover_of_tiledL _ S512x1.size (by sl_kernel_rfl) y
/-- What a later point leaves in output 3, the scratch holding `s0`. -/
def outLater9 (h : ¬t.val = 0) (s0 : Vec F S1024x1024 .bf16) : Vec F S512x1 .f32 := VO9.read (Elt F) (VO9.writes (Elt F) VO9.junk (runLater m c t h s0).2.2.2.1)
theorem coverScr0 (h : t.val = 0) (y : S1024x1024.Idx) : ∃ pc ∈ (runFirst m c t h).2.2.2.2.1, y ∈ pc.1.set :=
  View.cover_of_tiledL _ ![128,1024] (by sl_kernel_rfl) y
/-- The weight as the first point leaves it in the scratch. -/
def weight0 : Vec F S1024x1024 .bf16 :=
  scr0.view.read (Elt F) (scr0.view.writes (Elt F) scr0.view.junk (runFirst m c t0_0 (show t0_0.val = 0 from rfl)).2.2.2.2.1)

/-- What point `t` leaves in output 0. -/
def out6 : Vec F S512x1024 .bf16 := if h : t.val = 0 then outFirst6 m c t h else outLater6 m c t h (weight0 m c)
theorem out6_first (h : t.val = 0) : out6 m c t = outFirst6 m c t h := dif_pos h
theorem out6_later (h : ¬t.val = 0) : out6 m c t = outLater6 m c t h (weight0 m c) := dif_neg h

/-- What point `t` leaves in output 1. -/
def out7 : Vec F S512x1024 .f32 := if h : t.val = 0 then outFirst7 m c t h else outLater7 m c t h (weight0 m c)
theorem out7_first (h : t.val = 0) : out7 m c t = outFirst7 m c t h := dif_pos h
theorem out7_later (h : ¬t.val = 0) : out7 m c t = outLater7 m c t h (weight0 m c) := dif_neg h

/-- What point `t` leaves in output 2. -/
def out8 : Vec F S512x1024 .f32 := if h : t.val = 0 then outFirst8 m c t h else outLater8 m c t h (weight0 m c)
theorem out8_first (h : t.val = 0) : out8 m c t = outFirst8 m c t h := dif_pos h
theorem out8_later (h : ¬t.val = 0) : out8 m c t = outLater8 m c t h (weight0 m c) := dif_neg h

/-- What point `t` leaves in output 3. -/
def out9 : Vec F S512x1 .f32 := if h : t.val = 0 then outFirst9 m c t h else outLater9 m c t h (weight0 m c)
theorem out9_first (h : t.val = 0) : out9 m c t = outFirst9 m c t h := dif_pos h
theorem out9_later (h : ¬t.val = 0) : out9 m c t = outLater9 m c t h (weight0 m c) := dif_neg h

/-- Between the points: at first what the grid starts with, afterwards the scratch at the weight. -/
def Keep : (n : ℕ) → n ≤ cfg0.N → sProp 𝕄
  | 0, _ => Pipeline.ΦD sems spec0 moved (V m) c
  | n + 1, _ => iprop(iprop(owns c.tc scr0 fullShare (weight0 m c)) ∗ (∃ r, prngReg c r) ∗ cells c ∗ iprop(held c wgt (V m c main_arg1)))
theorem Keep_zero (n : ℕ) (h : n ≤ cfg0.N) (hz : n = 0) : Keep m c n h = Pipeline.ΦD sems spec0 moved (V m) c := by
  subst hz; rfl
theorem Keep_pos (n : ℕ) (h : n ≤ cfg0.N) (hz : n ≠ 0) :
    Keep m c n h = iprop(iprop(owns c.tc scr0 fullShare (weight0 m c)) ∗ (∃ r, prngReg c r) ∗ cells c ∗ iprop(held c wgt (V m c main_arg1))) := by
  cases n with
  | zero => exact absurd rfl hz
  | succ n => rfl

/-- The proof data: inputs at their blocks, outputs at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
    | ⟨9, _⟩ => out9 m c t
  Φ t := Keep m c t.val (Nat.le_of_lt_succ t.isLt)
  q _ := fullShare
  owed _ := 0
theorem A_eq (w : Fin cfg0.W) : (dats m 0 c).A w = V m c (Pipeline.arrRef spec0 w) := by
  dsimp only [dats]
theorem Keep_castSucc :
    (dats m 0 c).Φ t.castSucc = Keep m c t.val (Nat.le_of_lt t.isLt) := by
  dsimp only [dats]; exact Pipeline.Dat.Φ_castSucc (Keep m c) t
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = out6 m c t := by dsimp only [dats]
theorem after7 : (dats m 0 c).after 7 t = out7 m c t := by dsimp only [dats]
theorem after8 : (dats m 0 c).after 8 t = out8 m c t := by dsimp only [dats]
theorem after9 : (dats m 0 c).after 9 t = out9 m c t := by dsimp only [dats]
theorem before0 (d) : (dats m 0 c).before 0 t d = iblk m c 0 t :=
  (dats m 0 c).before_in_eq_fetched 0 rfl (fun _ => rfl) (fun _ _ _ => rfl) (fun _ => rfl) t d
theorem before1 (d) : (dats m 0 c).before 1 t d = iblk m c 1 t :=
  (dats m 0 c).before_in_eq_fetched 1 rfl (fun _ => rfl) (fun _ _ _ => rfl) (fun _ => rfl) t d
theorem before2 (d) : (dats m 0 c).before 2 t d = iblk m c 2 t :=
  (dats m 0 c).before_in_eq_fetched 2 rfl (fun _ => rfl) (fun _ _ _ => rfl) (fun _ => rfl) t d
theorem before3 (d) : (dats m 0 c).before 3 t d = iblk m c 3 t :=
  (dats m 0 c).before_in_eq_fetched 3 rfl (fun _ => rfl) (fun _ _ _ => rfl) (fun _ => rfl) t d
theorem before4 (d) : (dats m 0 c).before 4 t d = iblk m c 4 t :=
  (dats m 0 c).before_in_eq_fetched 4 rfl (fun _ => rfl) (fun _ _ _ => rfl) (fun _ => rfl) t d
theorem before5 (d) : (dats m 0 c).before 5 t d = iblk m c 5 t :=
  (dats m 0 c).before_in_eq_fetched 5 rfl (fun _ => rfl) (fun _ _ _ => rfl) (fun _ => rfl) t d

def bodyPre : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d))
    ∗ (∃ d, owns c.tc (ms6 t) fullShare ((dats m 0 c).before 6 t d))
    ∗ (∃ d, owns c.tc (ms7 t) fullShare ((dats m 0 c).before 7 t d))
    ∗ (∃ d, owns c.tc (ms8 t) fullShare ((dats m 0 c).before 8 t d))
    ∗ (∃ d, owns c.tc (ms9 t) fullShare ((dats m 0 c).before 9 t d)))
def bodyPost : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t)
    ∗ owns c.tc (ms2 t) fullShare ((dats m 0 c).after 2 t)
    ∗ owns c.tc (ms3 t) fullShare ((dats m 0 c).after 3 t)
    ∗ owns c.tc (ms4 t) fullShare ((dats m 0 c).after 4 t)
    ∗ owns c.tc (ms5 t) fullShare ((dats m 0 c).after 5 t)
    ∗ owns c.tc (ms6 t) fullShare ((dats m 0 c).after 6 t)
    ∗ owns c.tc (ms7 t) fullShare ((dats m 0 c).after 7 t)
    ∗ owns c.tc (ms8 t) fullShare ((dats m 0 c).after 8 t)
    ∗ owns c.tc (ms9 t) fullShare ((dats m 0 c).after 9 t))

set_option maxHeartbeats 4000000 in
/-- The body at every point takes what holds before the point to what holds after it. -/
theorem sound :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = Keep m c (t.val + 1) t.isLt from rfl, Keep_pos m c _ _ (Nat.succ_ne_zero _),
    after0, after1, after2, after3, after4, after5, after6, after7, after8, after9]
  unfold Dat.owesAt Pipeline.owesWithin
  rw [show (dats m 0 c).owed t.castSucc = 0 from rfl, show (dats m 0 c).owed t.succ = 0 from rfl]
  by_cases h0 : t.val = 0
  · have hz := h0
    rw [Keep_castSucc m c t, Keep_zero m c _ _ h0, start_eq]
    obtain rfl : t = t0_0 := Fin.ext h0
    rw [out6_first m c t0_0 h0, out7_first m c t0_0 h0, out8_first m c t0_0 h0, out9_first m c t0_0 h0]
    unfold outFirst6 outFirst7 outFirst8 outFirst9 weight0; (try dsimp only)
    iintro ⟨⟨HS0, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst m c t0_0 h0).2.2.2.2.2 W _)
    iframe H0 H1 H2 H3 H4 H5
    isplitl [H6]; · iexists _; iexact H6
    isplitl [H7]; · iexists _; iexact H7
    isplitl [H8]; · iexists _; iexact H8
    isplitl [H9]; · iexists _; iexact H9
    iframe HS0 Hq Hh HW
    iintro ⟨H0, H1, H2, H3, H4, H5, ⟨%e6, H6⟩, ⟨%e7, H7⟩, ⟨%e8, H8⟩, ⟨%e9, H9⟩, ⟨%es0, HS0⟩, Hq, Hh, ⟨%W', HW'⟩⟩
    isplitl [HS0 Hg Hq Hh]
    · isplitl [HS0]
      · iapply (Shards.owned _ _ _ _ _ (coverScr0 m c t0_0 h0)); iexact HS0
      iframe Hg Hq Hh
    isplitl [HW']
    · iexists W'; isplitr; · ipureintro; exact fun _ _ => Or.inl trivial
      iexact HW'
    iframe H0 H1 H2 H3 H4 H5
    isplitl [H6]
    · iapply (Shards.owned _ _ _ _ _ (coverFirst6 m c _ h0)); iexact H6
    isplitl [H7]
    · iapply (Shards.owned _ _ _ _ _ (coverFirst7 m c _ h0)); iexact H7
    isplitl [H8]
    · iapply (Shards.owned _ _ _ _ _ (coverFirst8 m c _ h0)); iexact H8
    iapply (Shards.owned _ _ _ _ _ (coverFirst9 m c _ h0)); iexact H9
  · have hz := h0
    rw [Keep_castSucc m c t, Keep_pos m c _ _ h0]
    rw [out6_later m c t h0, out7_later m c t h0, out8_later m c t h0, out9_later m c t h0]
    unfold outLater6 outLater7 outLater8 outLater9; (try dsimp only)
    iintro ⟨⟨HS0, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runLater m c t h0 (weight0 m c)).2.2.2.2 W _)
    iframe H0 H1 H2 H3 H4 H5
    isplitl [H6]; · iexists _; iexact H6
    isplitl [H7]; · iexists _; iexact H7
    isplitl [H8]; · iexists _; iexact H8
    isplitl [H9]; · iexists _; iexact H9
    iframe HS0 Hq Hh HW
    iintro ⟨H0, H1, H2, H3, H4, H5, ⟨%e6, H6⟩, ⟨%e7, H7⟩, ⟨%e8, H8⟩, ⟨%e9, H9⟩, HS0, Hq, Hh, ⟨%W', HW'⟩⟩
    isplitl [HS0 Hg Hq Hh]
    · isplitl [HS0]
      · iexact HS0
      iframe Hg Hq Hh
    isplitl [HW']
    · iexists W'; isplitr; · ipureintro; exact fun _ _ => Or.inl trivial
      iexact HW'
    iframe H0 H1 H2 H3 H4 H5
    isplitl [H6]
    · iapply (Shards.owned _ _ _ _ _ (coverLater6 m c _ h0 _)); iexact H6
    isplitl [H7]
    · iapply (Shards.owned _ _ _ _ _ (coverLater7 m c _ h0 _)); iexact H7
    isplitl [H8]
    · iapply (Shards.owned _ _ _ _ _ (coverLater8 m c _ h0 _)); iexact H8
    iapply (Shards.owned _ _ _ _ _ (coverLater9 m c _ h0 _)); iexact H9

theorem defs_row :
    defs₀ (F := F) .tc cfg0.body (cfg0.bodyArgs t (cfg0.slots t)) = bodyAt0 t := by
  unfold defs₀; rw [Defs.onTc_tc]
theorem obligation : BodyObligation (dats (F := F) m 0 c) (defs₀ (F := F)) Variants.none () Set.univ := fun t => by
  rw [bigSep_W0, bigSep_W0, defs_row]
  exact triple_restated (sound m c t) rfl .rfl fun _ => .rfl
theorem hin : Pipeline.ΦD sems spec0 moved (V m) c ⊢ (dats m 0 c).Φ 0 := by
  rw [show (dats m 0 c).Φ 0 = Keep m c 0 (Nat.zero_le _) from rfl, Keep_zero m c 0 _ rfl]
  try exact Idealize.SL.BI.Entails.refl _
theorem hout : (dats m 0 c).Φ (Fin.last cfg0.N) ⊢ Pipeline.ΦD sems spec0 moved (V m) c := by
  rw [show (dats m 0 c).Φ (Fin.last cfg0.N) = Keep m c (Fin.last cfg0.N).val (Nat.le_of_lt_succ (Fin.last cfg0.N).isLt) from rfl,
    Keep_pos m c _ _ (by rw [Fin.val_last]; have : cfg0.N = 8 := N_0; omega), start_eq]
  iintro ⟨HS0, Hg, Hq, Hh⟩
  isplitl [HS0]
  · iexists _; iexact HS0
  iframe Hg Hq Hh

set_option backward.isDefEq.respectTransparency.types false in
/-- Every fair execution ends, the arrays at what the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none sems_own moved moved_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments are as launched. -/
abbrev Kept (μ : (ℓ : Loc nD τ sig) → Buf (Elt F) ℓ) : Prop :=
  μ (c.tc.loc main_arg0) = m (c.tc.loc main_arg0) ∧ μ (c.tc.loc main_arg1) = m (c.tc.loc main_arg1) ∧ μ (c.tc.loc main_arg2) = m (c.tc.loc main_arg2) ∧ μ (c.tc.loc main_arg3) = m (c.tc.loc main_arg3) ∧ μ (c.tc.loc main_arg4) = m (c.tc.loc main_arg4) ∧ μ (c.tc.loc main_arg5) = m (c.tc.loc main_arg5)

/-- The arguments end as they were. -/
theorem kept (r : PUnit × MemSt nD τ sig (Elt F)) (h : Pipeline.FramePost cfgs (dats m) 0 (V m) r) (c : Dev nD) :
    Kept m c r.2.mem :=
  ⟨((h c).1 0).trans (((dats m 0 c).arrAt_in 0 rfl _).trans ((A_eq m c 0).trans ((V_args m c).1))),
    ((h c).2 main_arg1 (Pipeline.mem_restRefs_of main_arg1 (by decide) (by decide))).trans ((V_args m c).2.1),
    ((h c).1 1).trans (((dats m 0 c).arrAt_in 1 rfl _).trans ((A_eq m c 1).trans ((V_args m c).2.2.1))),
    ((h c).1 2).trans (((dats m 0 c).arrAt_in 2 rfl _).trans ((A_eq m c 2).trans ((V_args m c).2.2.2.1))),
    ((h c).1 3).trans (((dats m 0 c).arrAt_in 3 rfl _).trans ((A_eq m c 3).trans ((V_args m c).2.2.2.2.1))),
    ((h c).1 4).trans (((dats m 0 c).arrAt_in 4 rfl _).trans ((A_eq m c 4).trans ((V_args m c).2.2.2.2.2)))⟩

/-- The program ends with its arguments unchanged and every counter at zero. -/
theorem frame : θ_run defs (onTc (τ := τ) (main (F := F))) ⟨m, fun _ => 0, ρ⟩ (fun r => (∀ c : Dev nD,
      Kept m c r.2.mem)
      ∧ r.2.sem = fun _ => 0) :=
  (θ_run defs _ _).mono (fun r h => ⟨fun c => kept m r h.1 c, h.2⟩) (run_quiescent m ρ)

/-- The program ends with each result at the blocks the points wrote. -/
theorem run_blocks : θ_run defs (onTc (τ := τ) (main (F := F))) ⟨m, fun _ => 0, ρ⟩ fun r => ∀ c : Dev nD,
      (r.2.mem (c.tc.loc main_v1_0) = (dats m 0 c).arrAt 6 cfg0.N ∧ r.2.mem (c.tc.loc main_v1_1) = (dats m 0 c).arrAt 7 cfg0.N ∧ r.2.mem (c.tc.loc main_v1_2) = (dats m 0 c).arrAt 8 cfg0.N ∧ r.2.mem (c.tc.loc main_v1_3) = (dats m 0 c).arrAt 9 cfg0.N)
      ∧ (Kept m c r.2.mem) :=
  (θ_run defs _ _).mono (fun r h c => ⟨⟨(h.1 c).1 6, (h.1 c).1 7, (h.1 c).1 8, (h.1 c).1 9⟩, kept m r h.1 c⟩) (run_quiescent m ρ)

end

section
open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- The weight in the scratch: row `k` is row `0 + k % 128` of the shard of device `k / 128`. -/
theorem weight0_apply (d : Fin 8) (r : Fin 128) (k : Fin 1024) (j : Fin 1024) (hk : k.val = d.val * 128 + (r.val - 0)) (hr : 0 ≤ r.val) (hr' : r.val < 128) :
    weight0 m c (ix2 k j) = m (c.tc.loc main_arg1) (ix3 d r j) := by
  unfold weight0 runFirst
  frame_out
  canon_tiles x h
  all_goals obtain ⟨x0, x1, rfl⟩ := Shards.pair x
  all_goals
    have e0 : ((ix2 k j : S1024x1024.Idx) 0).val = k.val := rfl
    have e1 : ((ix2 k j : S1024x1024.Idx) 1).val = j.val := rfl
    have e2 : ((ix2 x0 x1 : S128x1024.Idx) 0).val = x0.val := rfl
    have e3 : ((ix2 x0 x1 : S128x1024.Idx) 1).val = x1.val := rfl
    rw [e0, e2] at h0
    rw [e1, e3] at h1
    have := x0.isLt
    have := x1.isLt
    refine (Shards.read_block _ _ _ _ _ d x0 x1 r j ?_ ?_ ?_ rfl).trans (congrFun ((V_args m c).2.1) _)
    all_goals
      try simp only [Matrix.cons_val_zero, Matrix.cons_val_one, Matrix.cons_val]
      omega

/-- Every point leaves the projection of its block. -/
theorem out6_eq : out6 m c t = k0_pay6 (F := Ideal) (iblk m c 0 t) (weight0 m c) (iblk m c 5 t) := by
  by_cases h : t.val = 0
  · rw [out6_first m c t h]
    obtain rfl : t = t0_0 := Fin.ext h
    unfold outFirst6 weight0 runFirst
    frame_out
    try simp only [read_unread_whole]
    repeat erw [Shards.readCov_all]
    try rfl
  · rw [out6_later m c t h]
    unfold outLater6 runLater
    frame_out
    try simp only [read_unread_whole]

/-- Every point leaves the normalised, scaled and shifted rows of its block. -/
theorem out7_eq : out7 m c t = k0_pay1 (F := Ideal) (k0_pay5 (F := Ideal) (iblk m c 0 t) (weight0 m c) (iblk m c 5 t) (iblk m c 1 t) (iblk m c 2 t)) (iblk m c 3 t) (iblk m c 4 t) := by
  by_cases h : t.val = 0
  · rw [out7_first m c t h]
    obtain rfl : t = t0_0 := Fin.ext h
    unfold outFirst7 weight0 runFirst
    frame_out
    try simp only [read_unread_whole]
    repeat erw [Shards.readCov_all]
    try rfl
  · rw [out7_later m c t h]
    unfold outLater7 runLater
    frame_out
    try simp only [read_unread_whole]

/-- Every point leaves the normalised rows of its block. -/
theorem out8_eq : out8 m c t = k0_pay5 (F := Ideal) (iblk m c 0 t) (weight0 m c) (iblk m c 5 t) (iblk m c 1 t) (iblk m c 2 t) := by
  by_cases h : t.val = 0
  · rw [out8_first m c t h]
    obtain rfl : t = t0_0 := Fin.ext h
    unfold outFirst8 weight0 runFirst
    frame_out
    try simp only [read_unread_whole]
    repeat erw [Shards.readCov_all]
    try rfl
  · rw [out8_later m c t h]
    unfold outLater8 runLater
    frame_out
    try simp only [read_unread_whole]

/-- Every point leaves the reciprocal deviations of its block. -/
theorem out9_eq : out9 m c t = k0_pay4 (F := Ideal) (iblk m c 0 t) (weight0 m c) (iblk m c 5 t) (iblk m c 1 t) (iblk m c 2 t) := by
  by_cases h : t.val = 0
  · rw [out9_first m c t h]
    obtain rfl : t = t0_0 := Fin.ext h
    unfold outFirst9 weight0 runFirst
    frame_out
    try simp only [read_unread_whole]
    repeat erw [Shards.readCov_all]
    try rfl
  · rw [out9_later m c t h]
    unfold outLater9 runLater
    frame_out
    try simp only [read_unread_whole]

open Cert.Shards (dev rstd normed)
section
variable (a : Vec Ideal S512x1024 .bf16) (W : Vec Ideal S1024x1024 .bf16) (b : Vec Ideal S1x1024 .f32) (x : Vec Ideal S512x1024 .f32) (g : Vec Ideal S1x1024 .f32)

/-- A block's rows before the norm: the scaled residual plus the gated projection. -/
def mix (r : Fin 512) (k : Fin 1024) : EReal :=
  Ideal.ofBits FTy.f32 1068827891#32 * x (ix2 r k) + g (ix2 (0 : Fin 1) k) * k0_pay2 (F := Ideal) a W b (ix2 r k)

theorem pay2_apply (r : Fin 512) (j : Fin 1024) : k0_pay2 (F := Ideal) a W b (ix2 r j) = ∑ k : Fin 1024, a (ix2 r k) * W (ix2 k j) + b (ix2 (0 : Fin 1) j) := by
  pointwise [k0_pay2]
theorem pay3_apply (r : Fin 512) (j : Fin 1024) : k0_pay3 (F := Ideal) a W b x g (ix2 r j) = dev (mix a W b x g r) j := by
  unfold dev mix
  pointwise [k0_pay3]
theorem pay4_apply (r : Fin 512) : k0_pay4 (F := Ideal) a W b x g (ix2 r (0 : Fin 1)) = rstd (mix a W b x g r) := by
  unfold rstd
  simp only [← pay3_apply]
  pointwise [k0_pay4]
theorem pay5_apply (r : Fin 512) (j : Fin 1024) : k0_pay5 (F := Ideal) a W b x g (ix2 r j) = normed (mix a W b x g r) j := by
  unfold normed
  rw [← pay3_apply, ← pay4_apply]
  pointwise [k0_pay5]
theorem pay1_apply (v : Vec Ideal S512x1024 .f32) (gm bt : Vec Ideal S1x1024 .f32) (r : Fin 512) (j : Fin 1024) :
    k0_pay1 (F := Ideal) v gm bt (ix2 r j) = v (ix2 r j) * gm (ix2 (0 : Fin 1) j) + bt (ix2 (0 : Fin 1) j) := by
  pointwise [k0_pay1]
end

/-- The projection at an entry: row `r` of the activations against column `j` of the gathered weight. -/
def proj (a : S4096x1024.Idx → Elt Ideal .bf16) (w : S8x128x1024.Idx → Elt Ideal .bf16) (r : Fin 4096) (j : Fin 1024) : EReal :=
  ∑ k : Fin 1024, a (ix2 r k) * w (ix3 (⟨k.val / 128, by omega⟩ : Fin 8) (⟨0 + k.val % 128, by omega⟩ : Fin 128) j)

/-- The rows before the norm. -/
def rows (a : S4096x1024.Idx → Elt Ideal .bf16) (w : S8x128x1024.Idx → Elt Ideal .bf16) (x : S4096x1024.Idx → Elt Ideal .f32) (g : S1x1024.Idx → Elt Ideal .f32)
    (r : Fin 4096) (k : Fin 1024) : EReal :=
  Ideal.ofBits FTy.f32 1068827891#32 * x (ix2 r k) + g (ix2 (0 : Fin 1) k) * proj a w r k

theorem blk0 (x : Fin 512) (r : Fin 4096) (hr : r.val = t.val * 512 + x.val) (k : Fin 1024) :
    iblk m c 0 t (ix2 x k) = m (c.tc.loc main_arg0) (ix2 r k) := by
  have hi := (by decide +kernel : ∀ t : Fin cfg0.N, win0_0.index t (0 : Fin 2) = t.val ∧ win0_0.index t (1 : Fin 2) = 0) t
  rw [← (V_args m c).1]
  blk_point [iblk, hi.1, hi.2]
theorem blk1 (x : Fin 512) (r : Fin 4096) (hr : r.val = t.val * 512 + x.val) (k : Fin 1024) :
    iblk m c 1 t (ix2 x k) = m (c.tc.loc main_arg2) (ix2 r k) := by
  have hi := (by decide +kernel : ∀ t : Fin cfg0.N, win0_1.index t (0 : Fin 2) = t.val ∧ win0_1.index t (1 : Fin 2) = 0) t
  rw [← (V_args m c).2.2.1]
  blk_point [iblk, hi.1, hi.2]
theorem blk2 (k : Fin 1024) : iblk m c 2 t (ix2 (0 : Fin 1) k) = m (c.tc.loc main_arg3) (ix2 (0 : Fin 1) k) := by
  have hi := (by decide +kernel : ∀ t : Fin cfg0.N, win0_2.index t (0 : Fin 2) = 0 ∧ win0_2.index t (1 : Fin 2) = 0) t
  rw [← (V_args m c).2.2.2.1]
  blk_point [iblk, hi.1, hi.2]
theorem blk3 (k : Fin 1024) : iblk m c 3 t (ix2 (0 : Fin 1) k) = m (c.tc.loc main_arg4) (ix2 (0 : Fin 1) k) := by
  have hi := (by decide +kernel : ∀ t : Fin cfg0.N, win0_3.index t (0 : Fin 2) = 0 ∧ win0_3.index t (1 : Fin 2) = 0) t
  rw [← (V_args m c).2.2.2.2.1]
  blk_point [iblk, hi.1, hi.2]
theorem blk4 (k : Fin 1024) : iblk m c 4 t (ix2 (0 : Fin 1) k) = m (c.tc.loc main_arg5) (ix2 (0 : Fin 1) k) := by
  have hi := (by decide +kernel : ∀ t : Fin cfg0.N, win0_4.index t (0 : Fin 2) = 0 ∧ win0_4.index t (1 : Fin 2) = 0) t
  rw [← (V_args m c).2.2.2.2.2]
  blk_point [iblk, hi.1, hi.2]
theorem blk5 (k : Fin 1024) : iblk m c 5 t (ix2 (0 : Fin 1) k) = (0 : EReal) := by
  have hi := (by decide +kernel : ∀ t : Fin cfg0.N, win0_5.index t (0 : Fin 2) = 0 ∧ win0_5.index t (1 : Fin 2) = 0) t
  have e : V m c main_v0 (ix2 (0 : Fin 1) k) = (0 : EReal) := by
    have e : V m c main_v0 = broadcastInDim S1x1024 ![] bcast_S_S1x1024 (constant (F := Ideal) S_ .f32 0x00000000#32) := rfl
    rw [e]
    pointwise []
  rw [← e]
  blk_point [iblk, hi.1, hi.2]

/-- The product of a block is the projection of its rows. -/
theorem pay2_rows (x : Fin 512) (r : Fin 4096) (hr : r.val = t.val * 512 + x.val) (j : Fin 1024) :
    k0_pay2 (F := Ideal) (iblk m c 0 t) (weight0 m c) (iblk m c 5 t) (ix2 x j) = proj (m (c.tc.loc main_arg0)) (m (c.tc.loc main_arg1)) r j := by
  rw [pay2_apply]
  unfold proj
  have hW : ∀ k : Fin 1024, weight0 m c (ix2 k j) = m (c.tc.loc main_arg1) (ix3 (⟨k.val / 128, by omega⟩ : Fin 8) (⟨0 + k.val % 128, by omega⟩ : Fin 128) j) :=
    fun k => weight0_apply m c _ _ k j (by dsimp only; omega) (by dsimp only; omega) (by dsimp only; omega)
  simp only [← hW, ← blk0 m c t x r hr]
  exact (congrArg (HAdd.hAdd (α := EReal) (β := EReal) (γ := EReal) _) (blk5 m c t j)).trans (add_zero (M := EReal) _)

/-- The rows a block normalises. -/
theorem mix_rows (x : Fin 512) (r : Fin 4096) (hr : r.val = t.val * 512 + x.val) :
    mix (iblk m c 0 t) (weight0 m c) (iblk m c 5 t) (iblk m c 1 t) (iblk m c 2 t) x = rows (m (c.tc.loc main_arg0)) (m (c.tc.loc main_arg1)) (m (c.tc.loc main_arg2)) (m (c.tc.loc main_arg3)) r := by
  funext k
  unfold mix rows
  rw [pay2_rows m c t x r hr k, blk1 m c t x r hr k, blk2 m c t k]

/-- One block of output window 6. -/
theorem out6_apply (x : Fin 512) (j : Fin 1024) (r : Fin 4096) (hr : r.val = t.val * 512 + x.val) :
    out6 m c t (ix2 x j) = (proj (m (c.tc.loc main_arg0)) (m (c.tc.loc main_arg1)) r j : EReal) := by
  rw [out6_eq, ← pay2_rows m c t x r hr j]
  rfl

/-- One block of output window 8. -/
theorem out8_apply (x : Fin 512) (j : Fin 1024) (r : Fin 4096) (hr : r.val = t.val * 512 + x.val) :
    out8 m c t (ix2 x j) = (normed (rows (m (c.tc.loc main_arg0)) (m (c.tc.loc main_arg1)) (m (c.tc.loc main_arg2)) (m (c.tc.loc main_arg3)) r) j : EReal) := by
  rw [out8_eq, pay5_apply, mix_rows m c t x r hr]

/-- One block of output window 7. -/
theorem out7_apply (x : Fin 512) (j : Fin 1024) (r : Fin 4096) (hr : r.val = t.val * 512 + x.val) :
    out7 m c t (ix2 x j) = (normed (rows (m (c.tc.loc main_arg0)) (m (c.tc.loc main_arg1)) (m (c.tc.loc main_arg2)) (m (c.tc.loc main_arg3)) r) j * (m (c.tc.loc main_arg4)) (ix2 (0 : Fin 1) j) + (m (c.tc.loc main_arg5)) (ix2 (0 : Fin 1) j) : EReal) := by
  rw [out7_eq, pay1_apply, pay5_apply, mix_rows m c t x r hr, blk3 m c t j, blk4 m c t j]

/-- One block of output window 9. -/
theorem out9_apply (x : Fin 512) (j : Fin 1) (r : Fin 4096) (hr : r.val = t.val * 512 + x.val) :
    out9 m c t (ix2 x j) = (rstd (rows (m (c.tc.loc main_arg0)) (m (c.tc.loc main_arg1)) (m (c.tc.loc main_arg2)) (m (c.tc.loc main_arg3)) r) : EReal) := by
  obtain rfl := Subsingleton.elim j 0
  rw [out9_eq, pay4_apply, mix_rows m c t x r hr]

/-- The whole array of output window 6. -/
theorem final6 : (dats m 0 c).arrAt 6 cfg0.N = fun i : S4096x1024.Idx => (fun (r : Fin 4096) (j : Fin 1024) => (proj (m (c.tc.loc main_arg0)) (m (c.tc.loc main_arg1)) r j : EReal)) (i 0) (i 1) := by
  refine (dats m 0 c).arrAt_eq_of_covers 6 _ (by decide +kernel) fun t hf y => ?_
  rw [after6]
  obtain ⟨a, b, rfl⟩ := Shards.pair y
  have hi := (by decide +kernel : ∀ t : Fin cfg0.N, win0_6.index t (0 : Fin 2) = t.val ∧ win0_6.index t (1 : Fin 2) = 0) t
  blk_simp
  have e1 : (win0_6.blk t).view.emb (ix2 a b) 1 = b :=
    Fin.ext (Shards.at_zero hi.2)
  dsimp only
  rw [e1]
  exact out6_apply m c t a b _ (Shards.at_row hi.1)

/-- The whole array of output window 7. -/
theorem final7 : (dats m 0 c).arrAt 7 cfg0.N = fun i : S4096x1024.Idx => (fun (r : Fin 4096) (j : Fin 1024) => (normed (rows (m (c.tc.loc main_arg0)) (m (c.tc.loc main_arg1)) (m (c.tc.loc main_arg2)) (m (c.tc.loc main_arg3)) r) j * (m (c.tc.loc main_arg4)) (ix2 (0 : Fin 1) j) + (m (c.tc.loc main_arg5)) (ix2 (0 : Fin 1) j) : EReal)) (i 0) (i 1) := by
  refine (dats m 0 c).arrAt_eq_of_covers 7 _ (by decide +kernel) fun t hf y => ?_
  rw [after7]
  obtain ⟨a, b, rfl⟩ := Shards.pair y
  have hi := (by decide +kernel : ∀ t : Fin cfg0.N, win0_7.index t (0 : Fin 2) = t.val ∧ win0_7.index t (1 : Fin 2) = 0) t
  blk_simp
  have e1 : (win0_7.blk t).view.emb (ix2 a b) 1 = b :=
    Fin.ext (Shards.at_zero hi.2)
  dsimp only
  rw [e1]
  exact out7_apply m c t a b _ (Shards.at_row hi.1)

/-- The whole array of output window 8. -/
theorem final8 : (dats m 0 c).arrAt 8 cfg0.N = fun i : S4096x1024.Idx => (fun (r : Fin 4096) (j : Fin 1024) => (normed (rows (m (c.tc.loc main_arg0)) (m (c.tc.loc main_arg1)) (m (c.tc.loc main_arg2)) (m (c.tc.loc main_arg3)) r) j : EReal)) (i 0) (i 1) := by
  refine (dats m 0 c).arrAt_eq_of_covers 8 _ (by decide +kernel) fun t hf y => ?_
  rw [after8]
  obtain ⟨a, b, rfl⟩ := Shards.pair y
  have hi := (by decide +kernel : ∀ t : Fin cfg0.N, win0_8.index t (0 : Fin 2) = t.val ∧ win0_8.index t (1 : Fin 2) = 0) t
  blk_simp
  have e1 : (win0_8.blk t).view.emb (ix2 a b) 1 = b :=
    Fin.ext (Shards.at_zero hi.2)
  dsimp only
  rw [e1]
  exact out8_apply m c t a b _ (Shards.at_row hi.1)

/-- The whole array of output window 9. -/
theorem final9 : (dats m 0 c).arrAt 9 cfg0.N = fun i : S4096x1.Idx => (fun (r : Fin 4096) (j : Fin 1) => (rstd (rows (m (c.tc.loc main_arg0)) (m (c.tc.loc main_arg1)) (m (c.tc.loc main_arg2)) (m (c.tc.loc main_arg3)) r) : EReal)) (i 0) (i 1) := by
  refine (dats m 0 c).arrAt_eq_of_covers 9 _ (by decide +kernel) fun t hf y => ?_
  rw [after9]
  obtain ⟨a, b, rfl⟩ := Shards.pair y
  have hi := (by decide +kernel : ∀ t : Fin cfg0.N, win0_9.index t (0 : Fin 2) = t.val ∧ win0_9.index t (1 : Fin 2) = 0) t
  blk_simp
  have e1 : (win0_9.blk t).view.emb (ix2 a b) 1 = b :=
    Fin.ext (Shards.at_zero hi.2)
  dsimp only
  exact out9_apply m c t a b _ (Shards.at_row hi.1)

end

end Cert.Kernel9Ideal.Run

namespace Cert.Reference9Ideal.Rows

open Cert.Reference9Ideal Cert.Reference9Ideal.Gen Idealize.ShloMosaic

/-- The reference's projection. -/
def y (a : FVec Ideal S4096x1024 .bf16) (w : FVec Ideal S8x128x1024 .bf16) : FVec Ideal S4096x1024 .f32 :=
  Host.dotGeneral dot_S4096x1024_S1024x1024_S4096x1024_1_0_0_1_n_n none (extf .f32 a bitsLt_bf16_f32) (extf .f32 (shapeCast S1024x1024 w shapeCasts_S8x128x1024_S1024x1024) bitsLt_bf16_f32)

/-- The reference's residual plus gated projection. -/
def z (a : FVec Ideal S4096x1024 .bf16) (w : FVec Ideal S8x128x1024 .bf16) (x : FVec Ideal S4096x1024 .f32) (g : FVec Ideal S1x1024 .f32) : FVec Ideal S4096x1024 .f32 :=
  addf (mulf (broadcastInDim S4096x1024 ![] bcast_S_S4096x1024 (constant S_ .f32 0x3FB504F3#32)) x) (mulf (broadcastInDim S4096x1024 ![0, 1] bcast_S1x1024_S4096x1024_0_1 g) (y a w))

/-- Rows less their means. -/
def dev (Z : FVec Ideal S4096x1024 .f32) : FVec Ideal S4096x1024 .f32 :=
  subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))

/-- The rows' reciprocal deviations. -/
def scale (Z : FVec Ideal S4096x1024 .f32) : FVec Ideal S4096x1 .f32 :=
  Host.rsqrt (addf (Host.divf (broadcastInDim S4096x1 ![0] bcast_S4096_S4096x1_0 (Host.reduceAdd (mulf (dev Z) (dev Z)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))

/-- The normalised rows. -/
def norm (Z : FVec Ideal S4096x1024 .f32) : FVec Ideal S4096x1024 .f32 :=
  mulf (dev Z) (broadcastInDim S4096x1024 ![0, 1] bcast_S4096x1_S4096x1024_0_1 (scale Z))

theorem dev_apply (Z : FVec Ideal S4096x1024 .f32) (r : Fin 4096) (j : Fin 1024) : dev Z (ix2 r j) = Shards.dev (fun k => Z (ix2 r k)) j := by
  unfold Shards.dev
  pointwise [dev]
theorem scale_apply (Z : FVec Ideal S4096x1024 .f32) (r : Fin 4096) : scale Z (ix2 r (0 : Fin 1)) = Shards.rstd (fun k => Z (ix2 r k)) := by
  unfold Shards.rstd
  simp only [← dev_apply]
  unfold scale
  generalize dev Z = D
  pointwise []
theorem norm_apply (Z : FVec Ideal S4096x1024 .f32) (r : Fin 4096) (j : Fin 1024) : norm Z (ix2 r j) = Shards.normed (fun k => Z (ix2 r k)) j := by
  unfold Shards.normed
  rw [← dev_apply, ← scale_apply]
  unfold norm
  generalize dev Z = D
  generalize scale Z = C
  pointwise []

theorem y_apply (a : FVec Ideal S4096x1024 .bf16) (w : FVec Ideal S8x128x1024 .bf16) (r : Fin 4096) (j : Fin 1024) : y a w (ix2 r j) = Kernel9Ideal.Run.proj a w r j := by
  have hW : ∀ k : Fin 1024, shapeCast S1024x1024 w shapeCasts_S8x128x1024_S1024x1024 (ix2 k j) = w (ix3 (⟨k.val / 128, by omega⟩ : Fin 8) (⟨0 + k.val % 128, by omega⟩ : Fin 128) j) := by
    intro k
    refine (Shards.rows_apply _ _ k j (⟨k.val / 128, by omega⟩ : Fin 8) (⟨k.val % 128, by omega⟩ : Fin 128) (by dsimp only; omega)).trans ?_
    exact congrArg w (congrArg (fun z => ix3 _ z j) (Fin.ext (Nat.zero_add _).symm))
  unfold Kernel9Ideal.Run.proj y
  simp only [← hW]
  generalize shapeCast S1024x1024 w shapeCasts_S8x128x1024_S1024x1024 = W
  pointwise []

theorem z_rows (a : FVec Ideal S4096x1024 .bf16) (w : FVec Ideal S8x128x1024 .bf16) (x : FVec Ideal S4096x1024 .f32) (g : FVec Ideal S1x1024 .f32) (r : Fin 4096) : (fun k => z a w x g (ix2 r k)) = Kernel9Ideal.Run.rows a w x g r := by
  funext k
  unfold Kernel9Ideal.Run.rows z
  rw [← y_apply]
  generalize y a w = Y
  pointwise []

end Cert.Reference9Ideal.Rows

namespace Cert.Proof

open Idealize.ShloMosaic Idealize.SL.Sem

/-- The mixer's output projection with the gated residual and the layer norm: on memories that agree on the arguments, the kernel's result arrays are the reference's, entry by entry. -/
theorem algebraic_OutLn : algebraic_Kernel9Ideal_Reference9Ideal := by
  intro m ρ m' ρ' _ hagree
  refine ⟨fun c => (Kernel9Ideal.Run.dats m 0 c).arrAt 6 Kernel9Ideal.cfg0.N, fun c => (Kernel9Ideal.Run.dats m 0 c).arrAt 7 Kernel9Ideal.cfg0.N, fun c => (Kernel9Ideal.Run.dats m 0 c).arrAt 8 Kernel9Ideal.cfg0.N, fun c => (Kernel9Ideal.Run.dats m 0 c).arrAt 9 Kernel9Ideal.cfg0.N, (θ_run Kernel9Ideal.defs _ _).mono (fun _ h c => ?run) (Kernel9Ideal.Run.run_blocks (F := Ideal) m ρ), ?_⟩
  case run =>
    have h := h c
    exact ⟨h.1.1, h.1.2.1, h.1.2.2.1, h.1.2.2.2, h.2⟩
  refine (θ_run Reference9Ideal.defs _ _).mono (fun _ h c => ⟨?_, ?_, ?_, ?_, (h c).2.2.2.2⟩) (Reference9Ideal.Value.run (F := Ideal) m' ρ')
  · refine ((h c).1).trans (Eq.trans ?_ (Kernel9Ideal.Run.final6 m c).symm)
    simp only [hagree c]
    funext j
    obtain ⟨r, q, rfl⟩ := Shards.pair j
    show _ = (_ : EReal)
    show truncf (F := Ideal) .bf16 (Reference9Ideal.Rows.y (m (c.tc.loc Kernel9Ideal.main_arg0)) (m (c.tc.loc Kernel9Ideal.main_arg1))) _ (ix2 r q) = Kernel9Ideal.Run.proj (m (c.tc.loc Kernel9Ideal.main_arg0)) (m (c.tc.loc Kernel9Ideal.main_arg1)) r q
    rw [← Reference9Ideal.Rows.y_apply]
    rfl
  · refine ((h c).2.1).trans (Eq.trans ?_ (Kernel9Ideal.Run.final7 m c).symm)
    unfold Reference9Ideal.Value.res_main_v30
    simp only [hagree c]
    funext j
    obtain ⟨r, q, rfl⟩ := Shards.pair j
    show _ = (_ : EReal)
    show addf (F := Ideal) (mulf (Reference9Ideal.Rows.norm (Reference9Ideal.Rows.z (m (c.tc.loc Kernel9Ideal.main_arg0)) (m (c.tc.loc Kernel9Ideal.main_arg1)) (m (c.tc.loc Kernel9Ideal.main_arg2)) (m (c.tc.loc Kernel9Ideal.main_arg3)))) (broadcastInDim Reference9Ideal.S4096x1024 ![0, 1] Reference9Ideal.Gen.bcast_S1x1024_S4096x1024_0_1 (m (c.tc.loc Kernel9Ideal.main_arg4)))) (broadcastInDim Reference9Ideal.S4096x1024 ![0, 1] Reference9Ideal.Gen.bcast_S1x1024_S4096x1024_0_1 (m (c.tc.loc Kernel9Ideal.main_arg5))) (ix2 r q)
      = Shards.normed (Kernel9Ideal.Run.rows (m (c.tc.loc Kernel9Ideal.main_arg0)) (m (c.tc.loc Kernel9Ideal.main_arg1)) (m (c.tc.loc Kernel9Ideal.main_arg2)) (m (c.tc.loc Kernel9Ideal.main_arg3)) r) q * (m (c.tc.loc Kernel9Ideal.main_arg4)) (ix2 (0 : Fin 1) q) + (m (c.tc.loc Kernel9Ideal.main_arg5)) (ix2 (0 : Fin 1) q)
    rw [← Reference9Ideal.Rows.z_rows, ← Reference9Ideal.Rows.norm_apply]
    generalize Reference9Ideal.Rows.norm (Reference9Ideal.Rows.z (m (c.tc.loc Kernel9Ideal.main_arg0)) (m (c.tc.loc Kernel9Ideal.main_arg1)) (m (c.tc.loc Kernel9Ideal.main_arg2)) (m (c.tc.loc Kernel9Ideal.main_arg3))) = X
    pointwise []
  · refine ((h c).2.2.1).trans (Eq.trans ?_ (Kernel9Ideal.Run.final8 m c).symm)
    unfold Reference9Ideal.Value.res_main_v26
    simp only [hagree c]
    funext j
    obtain ⟨r, q, rfl⟩ := Shards.pair j
    show _ = (_ : EReal)
    show Reference9Ideal.Rows.norm (Reference9Ideal.Rows.z (m (c.tc.loc Kernel9Ideal.main_arg0)) (m (c.tc.loc Kernel9Ideal.main_arg1)) (m (c.tc.loc Kernel9Ideal.main_arg2)) (m (c.tc.loc Kernel9Ideal.main_arg3))) (ix2 r q) = Shards.normed (Kernel9Ideal.Run.rows (m (c.tc.loc Kernel9Ideal.main_arg0)) (m (c.tc.loc Kernel9Ideal.main_arg1)) (m (c.tc.loc Kernel9Ideal.main_arg2)) (m (c.tc.loc Kernel9Ideal.main_arg3)) r) q
    rw [← Reference9Ideal.Rows.z_rows, Reference9Ideal.Rows.norm_apply]
  · refine ((h c).2.2.2.1).trans (Eq.trans ?_ (Kernel9Ideal.Run.final9 m c).symm)
    simp only [hagree c]
    funext j
    obtain ⟨r, q, rfl⟩ := Shards.pair j
    show _ = (_ : EReal)
    obtain rfl := Subsingleton.elim q (0 : Fin 1)
    show Reference9Ideal.Rows.scale (Reference9Ideal.Rows.z (m (c.tc.loc Kernel9Ideal.main_arg0)) (m (c.tc.loc Kernel9Ideal.main_arg1)) (m (c.tc.loc Kernel9Ideal.main_arg2)) (m (c.tc.loc Kernel9Ideal.main_arg3))) (ix2 r (0 : Fin 1)) = Shards.rstd (Kernel9Ideal.Run.rows (m (c.tc.loc Kernel9Ideal.main_arg0)) (m (c.tc.loc Kernel9Ideal.main_arg1)) (m (c.tc.loc Kernel9Ideal.main_arg2)) (m (c.tc.loc Kernel9Ideal.main_arg3)) r)
    rw [← Reference9Ideal.Rows.z_rows, Reference9Ideal.Rows.scale_apply]

/-- The two printings of the program have the same bodies. -/
theorem defs_OutLn : Kernel9.defs (F := Bits) = Kernel9Ideal.defs (F := Bits) := by
  have e : Kernel9.defs₀ (F := Bits) = Kernel9Ideal.defs₀ (F := Bits) := by
    unfold Kernel9.defs₀ Kernel9Ideal.defs₀
    refine congrArg Defs.onTc (funext fun i => ?_)
    match i with
    | 0 => exact funext fun p => rfl
  exact congrArg (Pipeline.defs (Kernel9.pcfgs (F := Bits))) e

/-- As printed, on bits, it ends with its arguments unchanged and every counter at zero. -/
theorem frame_OutLn : quiescent_Kernel9 := fun m ρ _ => by
  rw [defs_OutLn]
  exact Kernel9Ideal.Run.frame (F := Bits) m ρ

end Cert.Proof

end
-- ==== Proof.Pw2Ln.lean ====
module

public import proofs.«01_k».proof.Proof.Shards.Own
public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Shards.Read
public import proofs.«01_k».proof.Proof.Shards.Norm
public import proofs.«01_k».proof.Defs
public import proofs.«01_k».proof.Proof.Gen.Reference10Ideal.Run
public import proofs.«01_k».proof.Proof.Gen.Kernel10

@[expose] public section

set_option maxRecDepth 16384

noncomputable section

namespace Cert.Kernel10Ideal.Run

section
open Cert.Kernel10Ideal Cert.Kernel10Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body copies the weight in: the grid's coordinate is zero. -/
abbrev first (i : grid0.Coords) : Prop := (Scalar.cmpi .ne (Scalar.extui (Scalar.cmpi .eq (BitVec.ofNat 32 (i 0).val) 0#32)) 0#32) = 1#1

/-- It holds at the first point of the grid and at no other. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : first (grid0.coords t) ↔ t.val % 8 = 0 := by
    simp only [first, e0]
    word_cmp
  rw [e1, Nat.mod_eq_of_lt ht]

/-- The gathered weight, left in HBM. -/
abbrev wgt : Memref sig .tc .hbm S8x512x1024 .bf16 := Memref.whole main_arg1
/-- A memref's contents on core `c`, and its buffer held whole at some. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc c.tc ↦{fullShare} f

/-- The counters of the copies' semaphores, all at zero. -/
def cells (c : Dev nD) : sProp 𝕄 :=
  iprop(semVal (c.tc, SemLoc.dma 16) 0 ∗ semVal (c.tc, SemLoc.dma 17) 0 ∗ semVal (c.tc, SemLoc.dma 18) 0 ∗ semVal (c.tc, SemLoc.dma 19) 0 ∗ semVal (c.tc, SemLoc.dma 20) 0 ∗ semVal (c.tc, SemLoc.dma 21) 0 ∗ semVal (c.tc, SemLoc.dma 22) 0 ∗ semVal (c.tc, SemLoc.dma 23) 0)

section
variable (c : Dev nD) (i : grid0.Coords) (arg1 : Memref sig .tc .vmem S512x1024 .bf16) (harg1 : arg1.IsWhole)
  (arg3 : Memref sig .tc .vmem S512x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S512x1024 .bf16) (harg8 : arg8.IsWhole)
  (arg9 : Memref sig .tc .vmem S512x1024 .f32) (harg9 : arg9.IsWhole)
  (arg10 : Memref sig .tc .vmem S512x1024 .f32) (harg10 : arg10.IsWhole)
  (arg11 : Memref sig .tc .vmem S512x1 .f32) (harg11 : arg11.IsWhole)
  (arg12 : Memref sig .tc .vmem S1024x1024 .bf16) (harg12 : arg12.IsWhole)

set_option maxHeartbeats 4000000 in
set_option sl_exec.dmaWindow true in
set_option sl_exec.dmaWindowSet true in
/-- The body at the first point copies the weight into the scratch and leaves each output and the scratch written by the pieces found here. -/
def bodyFirst (hc : first i) (x0 : Vec F S512x1024 .bf16) (x1 : Vec F S512x1024 .f32) (x2 : Vec F S1x1024 .f32) (x3 : Vec F S1x1024 .f32) (x4 : Vec F S1x1024 .f32) (x5 : Vec F S1x1024 .f32) (fh : Held (F := F) c wgt) :
    Σ' (L6 : List (View.Piece (Elt F) S512x1024 .bf16)), Σ' (L7 : List (View.Piece (Elt F) S512x1024 .f32)), Σ' (L8 : List (View.Piece (Elt F) S512x1024 .f32)), Σ' (L9 : List (View.Piece (Elt F) S512x1 .f32)), { T0 : List (View.Piece (Elt F) S1024x1024 .bf16) //
      ∀ (W : Waits sig Unit) (K : PUnit → sProp 𝕄),
        iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ (∃ d, owns c.tc arg10 fullShare d) ∗ (∃ d, owns c.tc arg11 fullShare d) ∗ (∃ d, owns c.tc arg12 fullShare d) ∗ cells c ∗ held c wgt fh ∗ owes c.tc 0 W
            ∗ (iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ (∃ f, arg8.view.loc c.tc ↦[arg8.view.set]{fullShare} arg8.view.writes (Elt F) f L6) ∗ (∃ f, arg9.view.loc c.tc ↦[arg9.view.set]{fullShare} arg9.view.writes (Elt F) f L7) ∗ (∃ f, arg10.view.loc c.tc ↦[arg10.view.set]{fullShare} arg10.view.writes (Elt F) f L8) ∗ (∃ f, arg11.view.loc c.tc ↦[arg11.view.set]{fullShare} arg11.view.writes (Elt F) f L9) ∗ (∃ f, arg12.view.loc c.tc ↦[arg12.view.set]{fullShare} arg12.view.writes (Elt F) f T0) ∗ cells c ∗ held c wgt fh ∗ (∃ W', owes c.tc 0 W')) -∗ K ⟨⟩))
          ⊢ wp frame (wpE (defs₀ (F := F)) Variants.none c none) Set.univ (cc0_b_pw2_ln_fwd i arg1 harg1 (Memref.whole main_arg1) (Memref.isWhole_whole _) arg3 harg3 arg4 harg4 arg5 harg5 arg6 harg6 arg7 harg7 arg8 harg8 arg9 harg9 arg10 harg10 arg11 harg11 arg12 harg12 cc0_scratch1) K } := by
  refine ⟨?_, ?_, ?_, ?_, ?_, fun W K => ?run⟩
  case run =>
    simp only [cc0_b_pw2_ln_fwd_eq_skeleton]; unfold cc0_b_pw2_ln_fwd_skel
    simp only [k0_part1_eq_skeleton, k0_part2_eq_skeleton, k0_part3_eq_skeleton, k0_part4_eq_skeleton]
    unfold owns cells
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨Hq0, Hq1, Hq2, Hq3, Hq4, Hq5, Hq6, Hq7⟩, Hh, HW, Hk⟩
    obtain rfl := harg1.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | sl_exact hc)
    sl_step
    iapply Hk
    isplitl [H0]; · iapply (Shards.unread harg1 _); iexact H0
    isplitl [H1]; · iapply (Shards.unread harg3 _); iexact H1
    isplitl [H2]; · iapply (Shards.unread harg4 _); iexact H2
    isplitl [H3]; · iapply (Shards.unread harg5 _); iexact H3
    isplitl [H4]; · iapply (Shards.unread harg6 _); iexact H4
    isplitl [H5]; · iapply (Shards.unread harg7 _); iexact H5
    isplitl [H6]; · iexists _; iexact H6
    isplitl [H7]; · iexists _; iexact H7
    isplitl [H8]; · iexists _; iexact H8
    isplitl [H9]; · iexists _; iexact H9
    isplitl [HS0]; · iexists _; iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

set_option maxHeartbeats 4000000 in
set_option sl_exec.dmaWindow true in
set_option sl_exec.dmaWindowSet true in
/-- The body at a later point: the scratch holds the weight already and keeps it. -/
def bodyLater (hc : ¬first i) (x0 : Vec F S512x1024 .bf16) (x1 : Vec F S512x1024 .f32) (x2 : Vec F S1x1024 .f32) (x3 : Vec F S1x1024 .f32) (x4 : Vec F S1x1024 .f32) (x5 : Vec F S1x1024 .f32) (s0 : Vec F S1024x1024 .bf16) (fh : Held (F := F) c wgt) :
    Σ' (L6 : List (View.Piece (Elt F) S512x1024 .bf16)), Σ' (L7 : List (View.Piece (Elt F) S512x1024 .f32)), Σ' (L8 : List (View.Piece (Elt F) S512x1024 .f32)), { L9 : List (View.Piece (Elt F) S512x1 .f32) //
      ∀ (W : Waits sig Unit) (K : PUnit → sProp 𝕄),
        iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ (∃ d, owns c.tc arg10 fullShare d) ∗ (∃ d, owns c.tc arg11 fullShare d) ∗ owns c.tc arg12 fullShare s0 ∗ cells c ∗ held c wgt fh ∗ owes c.tc 0 W
            ∗ (iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ (∃ f, arg8.view.loc c.tc ↦[arg8.view.set]{fullShare} arg8.view.writes (Elt F) f L6) ∗ (∃ f, arg9.view.loc c.tc ↦[arg9.view.set]{fullShare} arg9.view.writes (Elt F) f L7) ∗ (∃ f, arg10.view.loc c.tc ↦[arg10.view.set]{fullShare} arg10.view.writes (Elt F) f L8) ∗ (∃ f, arg11.view.loc c.tc ↦[arg11.view.set]{fullShare} arg11.view.writes (Elt F) f L9) ∗ owns c.tc arg12 fullShare s0 ∗ cells c ∗ held c wgt fh ∗ (∃ W', owes c.tc 0 W')) -∗ K ⟨⟩))
          ⊢ wp frame (wpE (defs₀ (F := F)) Variants.none c none) Set.univ (cc0_b_pw2_ln_fwd i arg1 harg1 (Memref.whole main_arg1) (Memref.isWhole_whole _) arg3 harg3 arg4 harg4 arg5 harg5 arg6 harg6 arg7 harg7 arg8 harg8 arg9 harg9 arg10 harg10 arg11 harg11 arg12 harg12 cc0_scratch1) K } := by
  refine ⟨?_, ?_, ?_, ?_, fun W K => ?run⟩
  case run =>
    simp only [cc0_b_pw2_ln_fwd_eq_skeleton]; unfold cc0_b_pw2_ln_fwd_skel
    simp only [k0_part1_eq_skeleton, k0_part2_eq_skeleton, k0_part3_eq_skeleton, k0_part4_eq_skeleton]
    unfold owns cells
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨Hq0, Hq1, Hq2, Hq3, Hq4, Hq5, Hq6, Hq7⟩, Hh, HW, Hk⟩
    obtain rfl := harg1.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg12.eq_unread hfs0
    sl_exec (disch := first | sl_exact hc)
    sl_step
    iapply Hk
    isplitl [H0]; · iapply (Shards.unread harg1 _); iexact H0
    isplitl [H1]; · iapply (Shards.unread harg3 _); iexact H1
    isplitl [H2]; · iapply (Shards.unread harg4 _); iexact H2
    isplitl [H3]; · iapply (Shards.unread harg5 _); iexact H3
    isplitl [H4]; · iapply (Shards.unread harg6 _); iexact H4
    isplitl [H5]; · iapply (Shards.unread harg7 _); iexact H5
    isplitl [H6]; · iexists _; iexact H6
    isplitl [H7]; · iexists _; iexact H7
    isplitl [H8]; · iexists _; iexact H8
    isplitl [H9]; · iexists _; iexact H9
    isplitl [HS0]; · iapply (Shards.unread harg12 _); iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

end

variable (m : (ℓ : Loc nD τ sig) → Buf (Elt F) ℓ) (ρ : Dev nD → PrngReg)
variable (c : Dev nD) (t : Fin cfg0.N)

/-- Core `c`'s buffers when the grid starts: as launched. -/
abbrev V (b : Ref sig .tc) : Buf (Elt F) ((c : Thread nD τ).loc b) := m ((c : Thread nD τ).loc b)

/-- The program is the grid alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 : V m c main_arg0 = m (c.tc.loc main_arg0) := rfl
theorem V_main_arg1 : V m c main_arg1 = m (c.tc.loc main_arg1) := rfl
theorem V_main_arg2 : V m c main_arg2 = m (c.tc.loc main_arg2) := rfl
theorem V_main_arg3 : V m c main_arg3 = m (c.tc.loc main_arg3) := rfl
theorem V_main_arg4 : V m c main_arg4 = m (c.tc.loc main_arg4) := rfl
theorem V_main_arg5 : V m c main_arg5 = m (c.tc.loc main_arg5) := rfl
theorem V_main_arg6 : V m c main_arg6 = m (c.tc.loc main_arg6) := rfl

/-- Window `w`'s block at point `t`. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 : Memref sig .tc .vmem S512x1024 .bf16 := win0_0.stage (cfg0.slots t 0)
abbrev hs0 : (ms0 t).IsWhole := hstage0_0 ((cfg0.slots t 0).cast nbuf0_0)
abbrev ms1 : Memref sig .tc .vmem S512x1024 .f32 := win0_1.stage (cfg0.slots t 1)
abbrev hs1 : (ms1 t).IsWhole := hstage0_1 ((cfg0.slots t 1).cast nbuf0_1)
abbrev ms2 : Memref sig .tc .vmem S1x1024 .f32 := win0_2.stage (cfg0.slots t 2)
abbrev hs2 : (ms2 t).IsWhole := hstage0_2 ((cfg0.slots t 2).cast nbuf0_2)
abbrev ms3 : Memref sig .tc .vmem S1x1024 .f32 := win0_3.stage (cfg0.slots t 3)
abbrev hs3 : (ms3 t).IsWhole := hstage0_3 ((cfg0.slots t 3).cast nbuf0_3)
abbrev ms4 : Memref sig .tc .vmem S1x1024 .f32 := win0_4.stage (cfg0.slots t 4)
abbrev hs4 : (ms4 t).IsWhole := hstage0_4 ((cfg0.slots t 4).cast nbuf0_4)
abbrev ms5 : Memref sig .tc .vmem S1x1024 .f32 := win0_5.stage (cfg0.slots t 5)
abbrev hs5 : (ms5 t).IsWhole := hstage0_5 ((cfg0.slots t 5).cast nbuf0_5)
abbrev ms6 : Memref sig .tc .vmem S512x1024 .bf16 := win0_6.stage (cfg0.slots t 6)
abbrev hs6 : (ms6 t).IsWhole := hstage0_6 ((cfg0.slots t 6).cast nbuf0_6)
abbrev ms7 : Memref sig .tc .vmem S512x1024 .f32 := win0_7.stage (cfg0.slots t 7)
abbrev hs7 : (ms7 t).IsWhole := hstage0_7 ((cfg0.slots t 7).cast nbuf0_7)
abbrev ms8 : Memref sig .tc .vmem S512x1024 .f32 := win0_8.stage (cfg0.slots t 8)
abbrev hs8 : (ms8 t).IsWhole := hstage0_8 ((cfg0.slots t 8).cast nbuf0_8)
abbrev ms9 : Memref sig .tc .vmem S512x1 .f32 := win0_9.stage (cfg0.slots t 9)
abbrev hs9 : (ms9 t).IsWhole := hstage0_9 ((cfg0.slots t 9).cast nbuf0_9)
/-- The scratch that keeps the weight. -/
abbrev scr0 : Memref sig .tc .vmem S1024x1024 .bf16 := Memref.whole cc0_scratch0
abbrev VO6 : View sig .tc .vmem S512x1024 .bf16 := (Memref.whole cc0_stg6_0 : Memref sig .tc .vmem S512x1024 .bf16).view
abbrev VO7 : View sig .tc .vmem S512x1024 .f32 := (Memref.whole cc0_stg7_0 : Memref sig .tc .vmem S512x1024 .f32).view
abbrev VO8 : View sig .tc .vmem S512x1024 .f32 := (Memref.whole cc0_stg8_0 : Memref sig .tc .vmem S512x1024 .f32).view
abbrev VO9 : View sig .tc .vmem S512x1 .f32 := (Memref.whole cc0_stg9_0 : Memref sig .tc .vmem S512x1 .f32).view

/-- The copies' semaphores. -/
abbrev sems : Fin 8 → SemLoc sig := fun j => (![SemLoc.dma 16, SemLoc.dma 17, SemLoc.dma 18, SemLoc.dma 19, SemLoc.dma 20, SemLoc.dma 21, SemLoc.dma 22, SemLoc.dma 23] : Fin 8 → SemLoc sig) j
theorem sems_own : Pipeline.OwnSemFacts spec0 sems := by decide
theorem sems_eq :
    (Pipeline.ownSems0 (Ix := Unit) (Name := ℕ) (U := Pipeline.UD sig nD τ) (Lvl := ℕ) (Val := Elt F) (τ := τ) sems c : sProp 𝕄) = cells c := by
  rw [Pipeline.ownSems0_eq_of_list c sems [0, 1, 2, 3, 4, 5, 6, 7] (by decide) (by decide)]; rfl
/-- The operand the body copies itself. -/
def moved : Finset (Ref sig .tc) := {main_arg1}
theorem moved_sub : moved ⊆ Pipeline.restRefs sig spec0 := by decide
theorem moved_eq :
    (bigSep moved (fun b => (c.tc.loc b) ↦{fullShare} V m c b) : sProp 𝕄) = iprop(held c wgt (V m c main_arg1)) := by
  rw [BI.bigSep_eq_bigSepL_of_eq [main_arg1] (by decide) (by decide)]; rfl

/-- What the grid starts with, conjunct by conjunct. -/
theorem start_eq :
    (Pipeline.ΦD sems spec0 moved (V m) c : sProp 𝕄)
      = iprop(iprop((∃ d, owns c.tc scr0 fullShare d)) ∗ (∃ r, prngReg c r) ∗ cells c ∗ iprop(held c wgt (V m c main_arg1))) := by
  rw [Pipeline.ΦD_eq, scopedRest0_eq, sems_eq, moved_eq]; simp only [scr0, owns_whole]; try rfl

/-- The body's run at the first point, on that point's buffers and blocks. -/
def runFirst (h : t.val = 0) :=
  bodyFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr0 (Memref.isWhole_whole _) ((first_iff t).mpr h) (iblk m c 0 t) (iblk m c 1 t) (iblk m c 2 t) (iblk m c 3 t) (iblk m c 4 t) (iblk m c 5 t) (V m c main_arg1)
/-- The body's run at a later point. -/
def runLater (h : ¬t.val = 0) (s0 : Vec F S1024x1024 .bf16) :=
  bodyLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr0 (Memref.isWhole_whole _) (fun e => h ((first_iff t).mp e)) (iblk m c 0 t) (iblk m c 1 t) (iblk m c 2 t) (iblk m c 3 t) (iblk m c 4 t) (iblk m c 5 t) s0 (V m c main_arg1)

theorem coverFirst6 (h : t.val = 0) (y : S512x1024.Idx) : ∃ pc ∈ (runFirst m c t h).1, y ∈ pc.1.set :=
  View.cover_of_tiledL _ S512x1024.size (by sl_kernel_rfl) y
/-- What the first point leaves in output 0. -/
def outFirst6 (h : t.val = 0) : Vec F S512x1024 .bf16 := VO6.read (Elt F) (VO6.writes (Elt F) VO6.junk (runFirst m c t h).1)
theorem coverFirst7 (h : t.val = 0) (y : S512x1024.Idx) : ∃ pc ∈ (runFirst m c t h).2.1, y ∈ pc.1.set :=
  View.cover_of_tiledL _ S512x1024.size (by sl_kernel_rfl) y
/-- What the first point leaves in output 1. -/
def outFirst7 (h : t.val = 0) : Vec F S512x1024 .f32 := VO7.read (Elt F) (VO7.writes (Elt F) VO7.junk (runFirst m c t h).2.1)
theorem coverFirst8 (h : t.val = 0) (y : S512x1024.Idx) : ∃ pc ∈ (runFirst m c t h).2.2.1, y ∈ pc.1.set :=
  View.cover_of_tiledL _ S512x1024.size (by sl_kernel_rfl) y
/-- What the first point leaves in output 2. -/
def outFirst8 (h : t.val = 0) : Vec F S512x1024 .f32 := VO8.read (Elt F) (VO8.writes (Elt F) VO8.junk (runFirst m c t h).2.2.1)
theorem coverFirst9 (h : t.val = 0) (y : S512x1.Idx) : ∃ pc ∈ (runFirst m c t h).2.2.2.1, y ∈ pc.1.set :=
  View.cover_of_tiledL _ S512x1.size (by sl_kernel_rfl) y
/-- What the first point leaves in output 3. -/
def outFirst9 (h : t.val = 0) : Vec F S512x1 .f32 := VO9.read (Elt F) (VO9.writes (Elt F) VO9.junk (runFirst m c t h).2.2.2.1)
theorem coverLater6 (h : ¬t.val = 0) (s0 : Vec F S1024x1024 .bf16) (y : S512x1024.Idx) : ∃ pc ∈ (runLater m c t h s0).1, y ∈ pc.1.set :=
  View.cover_of_tiledL _ S512x1024.size (by sl_kernel_rfl) y
/-- What a later point leaves in output 0, the scratch holding `s0`. -/
def outLater6 (h : ¬t.val = 0) (s0 : Vec F S1024x1024 .bf16) : Vec F S512x1024 .bf16 := VO6.read (Elt F) (VO6.writes (Elt F) VO6.junk (runLater m c t h s0).1)
theorem coverLater7 (h : ¬t.val = 0) (s0 : Vec F S1024x1024 .bf16) (y : S512x1024.Idx) : ∃ pc ∈ (runLater m c t h s0).2.1, y ∈ pc.1.set :=
  View.cover_of_tiledL _ S512x1024.size (by sl_kernel_rfl) y
/-- What a later point leaves in output 1, the scratch holding `s0`. -/
def outLater7 (h : ¬t.val = 0) (s0 : Vec F S1024x1024 .bf16) : Vec F S512x1024 .f32 := VO7.read (Elt F) (VO7.writes (Elt F) VO7.junk (runLater m c t h s0).2.1)
theorem coverLater8 (h : ¬t.val = 0) (s0 : Vec F S1024x1024 .bf16) (y : S512x1024.Idx) : ∃ pc ∈ (runLater m c t h s0).2.2.1, y ∈ pc.1.set :=
  View.cover_of_tiledL _ S512x1024.size (by sl_kernel_rfl) y
/-- What a later point leaves in output 2, the scratch holding `s0`. -/
def outLater8 (h : ¬t.val = 0) (s0 : Vec F S1024x1024 .bf16) : Vec F S512x1024 .f32 := VO8.read (Elt F) (VO8.writes (Elt F) VO8.junk (runLater m c t h s0).2.2.1)
theorem coverLater9 (h : ¬t.val = 0) (s0 : Vec F S1024x1024 .bf16) (y : S512x1.Idx) : ∃ pc ∈ (runLater m c t h s0).2.2.2.1, y ∈ pc.1.set :=
  View.cover_of_tiledL _ S512x1.size (by sl_kernel_rfl) y
/-- What a later point leaves in output 3, the scratch holding `s0`. -/
def outLater9 (h : ¬t.val = 0) (s0 : Vec F S1024x1024 .bf16) : Vec F S512x1 .f32 := VO9.read (Elt F) (VO9.writes (Elt F) VO9.junk (runLater m c t h s0).2.2.2.1)
theorem coverScr0 (h : t.val = 0) (y : S1024x1024.Idx) : ∃ pc ∈ (runFirst m c t h).2.2.2.2.1, y ∈ pc.1.set :=
  View.cover_of_tiledL _ ![128,1024] (by sl_kernel_rfl) y
/-- The weight as the first point leaves it in the scratch. -/
def weight0 : Vec F S1024x1024 .bf16 :=
  scr0.view.read (Elt F) (scr0.view.writes (Elt F) scr0.view.junk (runFirst m c t0_0 (show t0_0.val = 0 from rfl)).2.2.2.2.1)

/-- What point `t` leaves in output 0. -/
def out6 : Vec F S512x1024 .bf16 := if h : t.val = 0 then outFirst6 m c t h else outLater6 m c t h (weight0 m c)
theorem out6_first (h : t.val = 0) : out6 m c t = outFirst6 m c t h := dif_pos h
theorem out6_later (h : ¬t.val = 0) : out6 m c t = outLater6 m c t h (weight0 m c) := dif_neg h

/-- What point `t` leaves in output 1. -/
def out7 : Vec F S512x1024 .f32 := if h : t.val = 0 then outFirst7 m c t h else outLater7 m c t h (weight0 m c)
theorem out7_first (h : t.val = 0) : out7 m c t = outFirst7 m c t h := dif_pos h
theorem out7_later (h : ¬t.val = 0) : out7 m c t = outLater7 m c t h (weight0 m c) := dif_neg h

/-- What point `t` leaves in output 2. -/
def out8 : Vec F S512x1024 .f32 := if h : t.val = 0 then outFirst8 m c t h else outLater8 m c t h (weight0 m c)
theorem out8_first (h : t.val = 0) : out8 m c t = outFirst8 m c t h := dif_pos h
theorem out8_later (h : ¬t.val = 0) : out8 m c t = outLater8 m c t h (weight0 m c) := dif_neg h

/-- What point `t` leaves in output 3. -/
def out9 : Vec F S512x1 .f32 := if h : t.val = 0 then outFirst9 m c t h else outLater9 m c t h (weight0 m c)
theorem out9_first (h : t.val = 0) : out9 m c t = outFirst9 m c t h := dif_pos h
theorem out9_later (h : ¬t.val = 0) : out9 m c t = outLater9 m c t h (weight0 m c) := dif_neg h

/-- Between the points: at first what the grid starts with, afterwards the scratch at the weight. -/
def Keep : (n : ℕ) → n ≤ cfg0.N → sProp 𝕄
  | 0, _ => Pipeline.ΦD sems spec0 moved (V m) c
  | n + 1, _ => iprop(iprop(owns c.tc scr0 fullShare (weight0 m c)) ∗ (∃ r, prngReg c r) ∗ cells c ∗ iprop(held c wgt (V m c main_arg1)))
theorem Keep_zero (n : ℕ) (h : n ≤ cfg0.N) (hz : n = 0) : Keep m c n h = Pipeline.ΦD sems spec0 moved (V m) c := by
  subst hz; rfl
theorem Keep_pos (n : ℕ) (h : n ≤ cfg0.N) (hz : n ≠ 0) :
    Keep m c n h = iprop(iprop(owns c.tc scr0 fullShare (weight0 m c)) ∗ (∃ r, prngReg c r) ∗ cells c ∗ iprop(held c wgt (V m c main_arg1))) := by
  cases n with
  | zero => exact absurd rfl hz
  | succ n => rfl

/-- The proof data: inputs at their blocks, outputs at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
    | ⟨9, _⟩ => out9 m c t
  Φ t := Keep m c t.val (Nat.le_of_lt_succ t.isLt)
  q _ := fullShare
  owed _ := 0
theorem A_eq (w : Fin cfg0.W) : (dats m 0 c).A w = V m c (Pipeline.arrRef spec0 w) := by
  dsimp only [dats]
theorem Keep_castSucc :
    (dats m 0 c).Φ t.castSucc = Keep m c t.val (Nat.le_of_lt t.isLt) := by
  dsimp only [dats]; exact Pipeline.Dat.Φ_castSucc (Keep m c) t
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = out6 m c t := by dsimp only [dats]
theorem after7 : (dats m 0 c).after 7 t = out7 m c t := by dsimp only [dats]
theorem after8 : (dats m 0 c).after 8 t = out8 m c t := by dsimp only [dats]
theorem after9 : (dats m 0 c).after 9 t = out9 m c t := by dsimp only [dats]
theorem before0 (d) : (dats m 0 c).before 0 t d = iblk m c 0 t :=
  (dats m 0 c).before_in_eq_fetched 0 rfl (fun _ => rfl) (fun _ _ _ => rfl) (fun _ => rfl) t d
theorem before1 (d) : (dats m 0 c).before 1 t d = iblk m c 1 t :=
  (dats m 0 c).before_in_eq_fetched 1 rfl (fun _ => rfl) (fun _ _ _ => rfl) (fun _ => rfl) t d
theorem before2 (d) : (dats m 0 c).before 2 t d = iblk m c 2 t :=
  (dats m 0 c).before_in_eq_fetched 2 rfl (fun _ => rfl) (fun _ _ _ => rfl) (fun _ => rfl) t d
theorem before3 (d) : (dats m 0 c).before 3 t d = iblk m c 3 t :=
  (dats m 0 c).before_in_eq_fetched 3 rfl (fun _ => rfl) (fun _ _ _ => rfl) (fun _ => rfl) t d
theorem before4 (d) : (dats m 0 c).before 4 t d = iblk m c 4 t :=
  (dats m 0 c).before_in_eq_fetched 4 rfl (fun _ => rfl) (fun _ _ _ => rfl) (fun _ => rfl) t d
theorem before5 (d) : (dats m 0 c).before 5 t d = iblk m c 5 t :=
  (dats m 0 c).before_in_eq_fetched 5 rfl (fun _ => rfl) (fun _ _ _ => rfl) (fun _ => rfl) t d

def bodyPre : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d))
    ∗ (∃ d, owns c.tc (ms6 t) fullShare ((dats m 0 c).before 6 t d))
    ∗ (∃ d, owns c.tc (ms7 t) fullShare ((dats m 0 c).before 7 t d))
    ∗ (∃ d, owns c.tc (ms8 t) fullShare ((dats m 0 c).before 8 t d))
    ∗ (∃ d, owns c.tc (ms9 t) fullShare ((dats m 0 c).before 9 t d)))
def bodyPost : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t)
    ∗ owns c.tc (ms2 t) fullShare ((dats m 0 c).after 2 t)
    ∗ owns c.tc (ms3 t) fullShare ((dats m 0 c).after 3 t)
    ∗ owns c.tc (ms4 t) fullShare ((dats m 0 c).after 4 t)
    ∗ owns c.tc (ms5 t) fullShare ((dats m 0 c).after 5 t)
    ∗ owns c.tc (ms6 t) fullShare ((dats m 0 c).after 6 t)
    ∗ owns c.tc (ms7 t) fullShare ((dats m 0 c).after 7 t)
    ∗ owns c.tc (ms8 t) fullShare ((dats m 0 c).after 8 t)
    ∗ owns c.tc (ms9 t) fullShare ((dats m 0 c).after 9 t))

set_option maxHeartbeats 4000000 in
/-- The body at every point takes what holds before the point to what holds after it. -/
theorem sound :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = Keep m c (t.val + 1) t.isLt from rfl, Keep_pos m c _ _ (Nat.succ_ne_zero _),
    after0, after1, after2, after3, after4, after5, after6, after7, after8, after9]
  unfold Dat.owesAt Pipeline.owesWithin
  rw [show (dats m 0 c).owed t.castSucc = 0 from rfl, show (dats m 0 c).owed t.succ = 0 from rfl]
  by_cases h0 : t.val = 0
  · have hz := h0
    rw [Keep_castSucc m c t, Keep_zero m c _ _ h0, start_eq]
    obtain rfl : t = t0_0 := Fin.ext h0
    rw [out6_first m c t0_0 h0, out7_first m c t0_0 h0, out8_first m c t0_0 h0, out9_first m c t0_0 h0]
    unfold outFirst6 outFirst7 outFirst8 outFirst9 weight0; (try dsimp only)
    iintro ⟨⟨HS0, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst m c t0_0 h0).2.2.2.2.2 W _)
    iframe H0 H1 H2 H3 H4 H5
    isplitl [H6]; · iexists _; iexact H6
    isplitl [H7]; · iexists _; iexact H7
    isplitl [H8]; · iexists _; iexact H8
    isplitl [H9]; · iexists _; iexact H9
    iframe HS0 Hq Hh HW
    iintro ⟨H0, H1, H2, H3, H4, H5, ⟨%e6, H6⟩, ⟨%e7, H7⟩, ⟨%e8, H8⟩, ⟨%e9, H9⟩, ⟨%es0, HS0⟩, Hq, Hh, ⟨%W', HW'⟩⟩
    isplitl [HS0 Hg Hq Hh]
    · isplitl [HS0]
      · iapply (Shards.owned _ _ _ _ _ (coverScr0 m c t0_0 h0)); iexact HS0
      iframe Hg Hq Hh
    isplitl [HW']
    · iexists W'; isplitr; · ipureintro; exact fun _ _ => Or.inl trivial
      iexact HW'
    iframe H0 H1 H2 H3 H4 H5
    isplitl [H6]
    · iapply (Shards.owned _ _ _ _ _ (coverFirst6 m c _ h0)); iexact H6
    isplitl [H7]
    · iapply (Shards.owned _ _ _ _ _ (coverFirst7 m c _ h0)); iexact H7
    isplitl [H8]
    · iapply (Shards.owned _ _ _ _ _ (coverFirst8 m c _ h0)); iexact H8
    iapply (Shards.owned _ _ _ _ _ (coverFirst9 m c _ h0)); iexact H9
  · have hz := h0
    rw [Keep_castSucc m c t, Keep_pos m c _ _ h0]
    rw [out6_later m c t h0, out7_later m c t h0, out8_later m c t h0, out9_later m c t h0]
    unfold outLater6 outLater7 outLater8 outLater9; (try dsimp only)
    iintro ⟨⟨HS0, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runLater m c t h0 (weight0 m c)).2.2.2.2 W _)
    iframe H0 H1 H2 H3 H4 H5
    isplitl [H6]; · iexists _; iexact H6
    isplitl [H7]; · iexists _; iexact H7
    isplitl [H8]; · iexists _; iexact H8
    isplitl [H9]; · iexists _; iexact H9
    iframe HS0 Hq Hh HW
    iintro ⟨H0, H1, H2, H3, H4, H5, ⟨%e6, H6⟩, ⟨%e7, H7⟩, ⟨%e8, H8⟩, ⟨%e9, H9⟩, HS0, Hq, Hh, ⟨%W', HW'⟩⟩
    isplitl [HS0 Hg Hq Hh]
    · isplitl [HS0]
      · iexact HS0
      iframe Hg Hq Hh
    isplitl [HW']
    · iexists W'; isplitr; · ipureintro; exact fun _ _ => Or.inl trivial
      iexact HW'
    iframe H0 H1 H2 H3 H4 H5
    isplitl [H6]
    · iapply (Shards.owned _ _ _ _ _ (coverLater6 m c _ h0 _)); iexact H6
    isplitl [H7]
    · iapply (Shards.owned _ _ _ _ _ (coverLater7 m c _ h0 _)); iexact H7
    isplitl [H8]
    · iapply (Shards.owned _ _ _ _ _ (coverLater8 m c _ h0 _)); iexact H8
    iapply (Shards.owned _ _ _ _ _ (coverLater9 m c _ h0 _)); iexact H9

theorem defs_row :
    defs₀ (F := F) .tc cfg0.body (cfg0.bodyArgs t (cfg0.slots t)) = bodyAt0 t := by
  unfold defs₀; rw [Defs.onTc_tc]
theorem obligation : BodyObligation (dats (F := F) m 0 c) (defs₀ (F := F)) Variants.none () Set.univ := fun t => by
  rw [bigSep_W0, bigSep_W0, defs_row]
  exact triple_restated (sound m c t) rfl .rfl fun _ => .rfl
theorem hin : Pipeline.ΦD sems spec0 moved (V m) c ⊢ (dats m 0 c).Φ 0 := by
  rw [show (dats m 0 c).Φ 0 = Keep m c 0 (Nat.zero_le _) from rfl, Keep_zero m c 0 _ rfl]
  try exact Idealize.SL.BI.Entails.refl _
theorem hout : (dats m 0 c).Φ (Fin.last cfg0.N) ⊢ Pipeline.ΦD sems spec0 moved (V m) c := by
  rw [show (dats m 0 c).Φ (Fin.last cfg0.N) = Keep m c (Fin.last cfg0.N).val (Nat.le_of_lt_succ (Fin.last cfg0.N).isLt) from rfl,
    Keep_pos m c _ _ (by rw [Fin.val_last]; have : cfg0.N = 8 := N_0; omega), start_eq]
  iintro ⟨HS0, Hg, Hq, Hh⟩
  isplitl [HS0]
  · iexists _; iexact HS0
  iframe Hg Hq Hh

set_option backward.isDefEq.respectTransparency.types false in
/-- Every fair execution ends, the arrays at what the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none sems_own moved moved_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments are as launched. -/
abbrev Kept (μ : (ℓ : Loc nD τ sig) → Buf (Elt F) ℓ) : Prop :=
  μ (c.tc.loc main_arg0) = m (c.tc.loc main_arg0) ∧ μ (c.tc.loc main_arg1) = m (c.tc.loc main_arg1) ∧ μ (c.tc.loc main_arg2) = m (c.tc.loc main_arg2) ∧ μ (c.tc.loc main_arg3) = m (c.tc.loc main_arg3) ∧ μ (c.tc.loc main_arg4) = m (c.tc.loc main_arg4) ∧ μ (c.tc.loc main_arg5) = m (c.tc.loc main_arg5) ∧ μ (c.tc.loc main_arg6) = m (c.tc.loc main_arg6)

/-- The arguments end as they were. -/
theorem kept (r : PUnit × MemSt nD τ sig (Elt F)) (h : Pipeline.FramePost cfgs (dats m) 0 (V m) r) (c : Dev nD) :
    Kept m c r.2.mem :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c))),
    ((h c).1 4).trans (((dats m 0 c).arrAt_in 4 rfl _).trans ((A_eq m c 4).trans (V_main_arg5 m c))),
    ((h c).1 5).trans (((dats m 0 c).arrAt_in 5 rfl _).trans ((A_eq m c 5).trans (V_main_arg6 m c)))⟩

/-- The program ends with its arguments unchanged and every counter at zero. -/
theorem frame : θ_run defs (onTc (τ := τ) (main (F := F))) ⟨m, fun _ => 0, ρ⟩ (fun r => (∀ c : Dev nD,
      Kept m c r.2.mem)
      ∧ r.2.sem = fun _ => 0) :=
  (θ_run defs _ _).mono (fun r h => ⟨fun c => kept m r h.1 c, h.2⟩) (run_quiescent m ρ)

/-- The program ends with each result at the blocks the points wrote. -/
theorem run_blocks : θ_run defs (onTc (τ := τ) (main (F := F))) ⟨m, fun _ => 0, ρ⟩ fun r => ∀ c : Dev nD,
      (r.2.mem (c.tc.loc main_v0_0) = (dats m 0 c).arrAt 6 cfg0.N ∧ r.2.mem (c.tc.loc main_v0_1) = (dats m 0 c).arrAt 7 cfg0.N ∧ r.2.mem (c.tc.loc main_v0_2) = (dats m 0 c).arrAt 8 cfg0.N ∧ r.2.mem (c.tc.loc main_v0_3) = (dats m 0 c).arrAt 9 cfg0.N)
      ∧ (Kept m c r.2.mem) :=
  (θ_run defs _ _).mono (fun r h c => ⟨⟨(h.1 c).1 6, (h.1 c).1 7, (h.1 c).1 8, (h.1 c).1 9⟩, kept m r h.1 c⟩) (run_quiescent m ρ)

end

section
open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- The weight in the scratch: row `k` is row `384 + k % 128` of the shard of device `k / 128`. -/
theorem weight0_apply (d : Fin 8) (r : Fin 512) (k : Fin 1024) (j : Fin 1024) (hk : k.val = d.val * 128 + (r.val - 384)) (hr : 384 ≤ r.val) (hr' : r.val < 512) :
    weight0 m c (ix2 k j) = m (c.tc.loc main_arg1) (ix3 d r j) := by
  unfold weight0 runFirst
  frame_out
  canon_tiles x h
  all_goals obtain ⟨x0, x1, rfl⟩ := Shards.pair x
  all_goals
    have e0 : ((ix2 k j : S1024x1024.Idx) 0).val = k.val := rfl
    have e1 : ((ix2 k j : S1024x1024.Idx) 1).val = j.val := rfl
    have e2 : ((ix2 x0 x1 : S128x1024.Idx) 0).val = x0.val := rfl
    have e3 : ((ix2 x0 x1 : S128x1024.Idx) 1).val = x1.val := rfl
    rw [e0, e2] at h0
    rw [e1, e3] at h1
    have := x0.isLt
    have := x1.isLt
    refine (Shards.read_block _ _ _ _ _ d x0 x1 r j ?_ ?_ ?_ rfl).trans (congrFun (V_main_arg1 m c) _)
    all_goals
      try simp only [Matrix.cons_val_zero, Matrix.cons_val_one, Matrix.cons_val]
      omega

/-- Every point leaves the projection of its block. -/
theorem out6_eq : out6 m c t = k0_pay6 (F := Ideal) (iblk m c 0 t) (weight0 m c) (iblk m c 5 t) := by
  by_cases h : t.val = 0
  · rw [out6_first m c t h]
    obtain rfl : t = t0_0 := Fin.ext h
    unfold outFirst6 weight0 runFirst
    frame_out
    try simp only [read_unread_whole]
    repeat erw [Shards.readCov_all]
    try rfl
  · rw [out6_later m c t h]
    unfold outLater6 runLater
    frame_out
    try simp only [read_unread_whole]

/-- Every point leaves the normalised, scaled and shifted rows of its block. -/
theorem out7_eq : out7 m c t = k0_pay1 (F := Ideal) (k0_pay5 (F := Ideal) (iblk m c 0 t) (weight0 m c) (iblk m c 5 t) (iblk m c 1 t) (iblk m c 2 t)) (iblk m c 3 t) (iblk m c 4 t) := by
  by_cases h : t.val = 0
  · rw [out7_first m c t h]
    obtain rfl : t = t0_0 := Fin.ext h
    unfold outFirst7 weight0 runFirst
    frame_out
    try simp only [read_unread_whole]
    repeat erw [Shards.readCov_all]
    try rfl
  · rw [out7_later m c t h]
    unfold outLater7 runLater
    frame_out
    try simp only [read_unread_whole]

/-- Every point leaves the normalised rows of its block. -/
theorem out8_eq : out8 m c t = k0_pay5 (F := Ideal) (iblk m c 0 t) (weight0 m c) (iblk m c 5 t) (iblk m c 1 t) (iblk m c 2 t) := by
  by_cases h : t.val = 0
  · rw [out8_first m c t h]
    obtain rfl : t = t0_0 := Fin.ext h
    unfold outFirst8 weight0 runFirst
    frame_out
    try simp only [read_unread_whole]
    repeat erw [Shards.readCov_all]
    try rfl
  · rw [out8_later m c t h]
    unfold outLater8 runLater
    frame_out
    try simp only [read_unread_whole]

/-- Every point leaves the reciprocal deviations of its block. -/
theorem out9_eq : out9 m c t = k0_pay4 (F := Ideal) (iblk m c 0 t) (weight0 m c) (iblk m c 5 t) (iblk m c 1 t) (iblk m c 2 t) := by
  by_cases h : t.val = 0
  · rw [out9_first m c t h]
    obtain rfl : t = t0_0 := Fin.ext h
    unfold outFirst9 weight0 runFirst
    frame_out
    try simp only [read_unread_whole]
    repeat erw [Shards.readCov_all]
    try rfl
  · rw [out9_later m c t h]
    unfold outLater9 runLater
    frame_out
    try simp only [read_unread_whole]

open Cert.Shards (dev rstd normed)
section
variable (a : Vec Ideal S512x1024 .bf16) (W : Vec Ideal S1024x1024 .bf16) (b : Vec Ideal S1x1024 .f32) (x : Vec Ideal S512x1024 .f32) (g : Vec Ideal S1x1024 .f32)

/-- A block's rows before the norm: the scaled residual plus the gated projection. -/
def mix (r : Fin 512) (k : Fin 1024) : EReal :=
  Ideal.ofBits FTy.f32 1068827891#32 * x (ix2 r k) + g (ix2 (0 : Fin 1) k) * k0_pay2 (F := Ideal) a W b (ix2 r k)

theorem pay2_apply (r : Fin 512) (j : Fin 1024) : k0_pay2 (F := Ideal) a W b (ix2 r j) = ∑ k : Fin 1024, a (ix2 r k) * W (ix2 k j) + b (ix2 (0 : Fin 1) j) := by
  pointwise [k0_pay2]
theorem pay3_apply (r : Fin 512) (j : Fin 1024) : k0_pay3 (F := Ideal) a W b x g (ix2 r j) = dev (mix a W b x g r) j := by
  unfold dev mix
  pointwise [k0_pay3]
theorem pay4_apply (r : Fin 512) : k0_pay4 (F := Ideal) a W b x g (ix2 r (0 : Fin 1)) = rstd (mix a W b x g r) := by
  unfold rstd
  simp only [← pay3_apply]
  pointwise [k0_pay4]
theorem pay5_apply (r : Fin 512) (j : Fin 1024) : k0_pay5 (F := Ideal) a W b x g (ix2 r j) = normed (mix a W b x g r) j := by
  unfold normed
  rw [← pay3_apply, ← pay4_apply]
  pointwise [k0_pay5]
theorem pay1_apply (v : Vec Ideal S512x1024 .f32) (gm bt : Vec Ideal S1x1024 .f32) (r : Fin 512) (j : Fin 1024) :
    k0_pay1 (F := Ideal) v gm bt (ix2 r j) = v (ix2 r j) * gm (ix2 (0 : Fin 1) j) + bt (ix2 (0 : Fin 1) j) := by
  pointwise [k0_pay1]
end

/-- The projection at an entry: row `r` of the activations against column `j` of the gathered weight, plus the bias. -/
def proj (a : S4096x1024.Idx → Elt Ideal .bf16) (w : S8x512x1024.Idx → Elt Ideal .bf16) (b : S1x1024.Idx → Elt Ideal .f32) (r : Fin 4096) (j : Fin 1024) : EReal :=
  ∑ k : Fin 1024, a (ix2 r k) * w (ix3 (⟨k.val / 128, by omega⟩ : Fin 8) (⟨384 + k.val % 128, by omega⟩ : Fin 512) j) + b (ix2 (0 : Fin 1) j)

/-- The rows before the norm. -/
def rows (a : S4096x1024.Idx → Elt Ideal .bf16) (w : S8x512x1024.Idx → Elt Ideal .bf16) (x : S4096x1024.Idx → Elt Ideal .f32) (g : S1x1024.Idx → Elt Ideal .f32) (b : S1x1024.Idx → Elt Ideal .f32)
    (r : Fin 4096) (k : Fin 1024) : EReal :=
  Ideal.ofBits FTy.f32 1068827891#32 * x (ix2 r k) + g (ix2 (0 : Fin 1) k) * proj a w b r k

theorem blk0 (x : Fin 512) (r : Fin 4096) (hr : r.val = t.val * 512 + x.val) (k : Fin 1024) :
    iblk m c 0 t (ix2 x k) = m (c.tc.loc main_arg0) (ix2 r k) := by
  have hi := (by decide +kernel : ∀ t : Fin cfg0.N, win0_0.index t (0 : Fin 2) = t.val ∧ win0_0.index t (1 : Fin 2) = 0) t
  rw [← V_main_arg0 m c]
  blk_point [iblk, hi.1, hi.2]
theorem blk1 (x : Fin 512) (r : Fin 4096) (hr : r.val = t.val * 512 + x.val) (k : Fin 1024) :
    iblk m c 1 t (ix2 x k) = m (c.tc.loc main_arg2) (ix2 r k) := by
  have hi := (by decide +kernel : ∀ t : Fin cfg0.N, win0_1.index t (0 : Fin 2) = t.val ∧ win0_1.index t (1 : Fin 2) = 0) t
  rw [← V_main_arg2 m c]
  blk_point [iblk, hi.1, hi.2]
theorem blk2 (k : Fin 1024) : iblk m c 2 t (ix2 (0 : Fin 1) k) = m (c.tc.loc main_arg3) (ix2 (0 : Fin 1) k) := by
  have hi := (by decide +kernel : ∀ t : Fin cfg0.N, win0_2.index t (0 : Fin 2) = 0 ∧ win0_2.index t (1 : Fin 2) = 0) t
  rw [← V_main_arg3 m c]
  blk_point [iblk, hi.1, hi.2]
theorem blk3 (k : Fin 1024) : iblk m c 3 t (ix2 (0 : Fin 1) k) = m (c.tc.loc main_arg4) (ix2 (0 : Fin 1) k) := by
  have hi := (by decide +kernel : ∀ t : Fin cfg0.N, win0_3.index t (0 : Fin 2) = 0 ∧ win0_3.index t (1 : Fin 2) = 0) t
  rw [← V_main_arg4 m c]
  blk_point [iblk, hi.1, hi.2]
theorem blk4 (k : Fin 1024) : iblk m c 4 t (ix2 (0 : Fin 1) k) = m (c.tc.loc main_arg5) (ix2 (0 : Fin 1) k) := by
  have hi := (by decide +kernel : ∀ t : Fin cfg0.N, win0_4.index t (0 : Fin 2) = 0 ∧ win0_4.index t (1 : Fin 2) = 0) t
  rw [← V_main_arg5 m c]
  blk_point [iblk, hi.1, hi.2]
theorem blk5 (k : Fin 1024) : iblk m c 5 t (ix2 (0 : Fin 1) k) = m (c.tc.loc main_arg6) (ix2 (0 : Fin 1) k) := by
  have hi := (by decide +kernel : ∀ t : Fin cfg0.N, win0_5.index t (0 : Fin 2) = 0 ∧ win0_5.index t (1 : Fin 2) = 0) t
  rw [← V_main_arg6 m c]
  blk_point [iblk, hi.1, hi.2]

/-- The product of a block is the projection of its rows. -/
theorem pay2_rows (x : Fin 512) (r : Fin 4096) (hr : r.val = t.val * 512 + x.val) (j : Fin 1024) :
    k0_pay2 (F := Ideal) (iblk m c 0 t) (weight0 m c) (iblk m c 5 t) (ix2 x j) = proj (m (c.tc.loc main_arg0)) (m (c.tc.loc main_arg1)) (m (c.tc.loc main_arg6)) r j := by
  rw [pay2_apply]
  unfold proj
  have hW : ∀ k : Fin 1024, weight0 m c (ix2 k j) = m (c.tc.loc main_arg1) (ix3 (⟨k.val / 128, by omega⟩ : Fin 8) (⟨384 + k.val % 128, by omega⟩ : Fin 512) j) :=
    fun k => weight0_apply m c _ _ k j (by dsimp only; omega) (by dsimp only; omega) (by dsimp only; omega)
  simp only [← hW, ← blk0 m c t x r hr, ← blk5 m c t]

/-- The rows a block normalises. -/
theorem mix_rows (x : Fin 512) (r : Fin 4096) (hr : r.val = t.val * 512 + x.val) :
    mix (iblk m c 0 t) (weight0 m c) (iblk m c 5 t) (iblk m c 1 t) (iblk m c 2 t) x = rows (m (c.tc.loc main_arg0)) (m (c.tc.loc main_arg1)) (m (c.tc.loc main_arg2)) (m (c.tc.loc main_arg3)) (m (c.tc.loc main_arg6)) r := by
  funext k
  unfold mix rows
  rw [pay2_rows m c t x r hr k, blk1 m c t x r hr k, blk2 m c t k]

/-- One block of output window 6. -/
theorem out6_apply (x : Fin 512) (j : Fin 1024) (r : Fin 4096) (hr : r.val = t.val * 512 + x.val) :
    out6 m c t (ix2 x j) = (proj (m (c.tc.loc main_arg0)) (m (c.tc.loc main_arg1)) (m (c.tc.loc main_arg6)) r j : EReal) := by
  rw [out6_eq, ← pay2_rows m c t x r hr j]
  rfl

/-- One block of output window 8. -/
theorem out8_apply (x : Fin 512) (j : Fin 1024) (r : Fin 4096) (hr : r.val = t.val * 512 + x.val) :
    out8 m c t (ix2 x j) = (normed (rows (m (c.tc.loc main_arg0)) (m (c.tc.loc main_arg1)) (m (c.tc.loc main_arg2)) (m (c.tc.loc main_arg3)) (m (c.tc.loc main_arg6)) r) j : EReal) := by
  rw [out8_eq, pay5_apply, mix_rows m c t x r hr]

/-- One block of output window 7. -/
theorem out7_apply (x : Fin 512) (j : Fin 1024) (r : Fin 4096) (hr : r.val = t.val * 512 + x.val) :
    out7 m c t (ix2 x j) = (normed (rows (m (c.tc.loc main_arg0)) (m (c.tc.loc main_arg1)) (m (c.tc.loc main_arg2)) (m (c.tc.loc main_arg3)) (m (c.tc.loc main_arg6)) r) j * (m (c.tc.loc main_arg4)) (ix2 (0 : Fin 1) j) + (m (c.tc.loc main_arg5)) (ix2 (0 : Fin 1) j) : EReal) := by
  rw [out7_eq, pay1_apply, pay5_apply, mix_rows m c t x r hr, blk3 m c t j, blk4 m c t j]

/-- One block of output window 9. -/
theorem out9_apply (x : Fin 512) (j : Fin 1) (r : Fin 4096) (hr : r.val = t.val * 512 + x.val) :
    out9 m c t (ix2 x j) = (rstd (rows (m (c.tc.loc main_arg0)) (m (c.tc.loc main_arg1)) (m (c.tc.loc main_arg2)) (m (c.tc.loc main_arg3)) (m (c.tc.loc main_arg6)) r) : EReal) := by
  obtain rfl := Subsingleton.elim j 0
  rw [out9_eq, pay4_apply, mix_rows m c t x r hr]

/-- The whole array of output window 6. -/
theorem final6 : (dats m 0 c).arrAt 6 cfg0.N = fun i : S4096x1024.Idx => (fun (r : Fin 4096) (j : Fin 1024) => (proj (m (c.tc.loc main_arg0)) (m (c.tc.loc main_arg1)) (m (c.tc.loc main_arg6)) r j : EReal)) (i 0) (i 1) := by
  refine (dats m 0 c).arrAt_eq_of_covers 6 _ (by decide +kernel) fun t hf y => ?_
  rw [after6]
  obtain ⟨a, b, rfl⟩ := Shards.pair y
  have hi := (by decide +kernel : ∀ t : Fin cfg0.N, win0_6.index t (0 : Fin 2) = t.val ∧ win0_6.index t (1 : Fin 2) = 0) t
  blk_simp
  have e1 : (win0_6.blk t).view.emb (ix2 a b) 1 = b :=
    Fin.ext (Shards.at_zero hi.2)
  dsimp only
  rw [e1]
  exact out6_apply m c t a b _ (Shards.at_row hi.1)

/-- The whole array of output window 7. -/
theorem final7 : (dats m 0 c).arrAt 7 cfg0.N = fun i : S4096x1024.Idx => (fun (r : Fin 4096) (j : Fin 1024) => (normed (rows (m (c.tc.loc main_arg0)) (m (c.tc.loc main_arg1)) (m (c.tc.loc main_arg2)) (m (c.tc.loc main_arg3)) (m (c.tc.loc main_arg6)) r) j * (m (c.tc.loc main_arg4)) (ix2 (0 : Fin 1) j) + (m (c.tc.loc main_arg5)) (ix2 (0 : Fin 1) j) : EReal)) (i 0) (i 1) := by
  refine (dats m 0 c).arrAt_eq_of_covers 7 _ (by decide +kernel) fun t hf y => ?_
  rw [after7]
  obtain ⟨a, b, rfl⟩ := Shards.pair y
  have hi := (by decide +kernel : ∀ t : Fin cfg0.N, win0_7.index t (0 : Fin 2) = t.val ∧ win0_7.index t (1 : Fin 2) = 0) t
  blk_simp
  have e1 : (win0_7.blk t).view.emb (ix2 a b) 1 = b :=
    Fin.ext (Shards.at_zero hi.2)
  dsimp only
  rw [e1]
  exact out7_apply m c t a b _ (Shards.at_row hi.1)

/-- The whole array of output window 8. -/
theorem final8 : (dats m 0 c).arrAt 8 cfg0.N = fun i : S4096x1024.Idx => (fun (r : Fin 4096) (j : Fin 1024) => (normed (rows (m (c.tc.loc main_arg0)) (m (c.tc.loc main_arg1)) (m (c.tc.loc main_arg2)) (m (c.tc.loc main_arg3)) (m (c.tc.loc main_arg6)) r) j : EReal)) (i 0) (i 1) := by
  refine (dats m 0 c).arrAt_eq_of_covers 8 _ (by decide +kernel) fun t hf y => ?_
  rw [after8]
  obtain ⟨a, b, rfl⟩ := Shards.pair y
  have hi := (by decide +kernel : ∀ t : Fin cfg0.N, win0_8.index t (0 : Fin 2) = t.val ∧ win0_8.index t (1 : Fin 2) = 0) t
  blk_simp
  have e1 : (win0_8.blk t).view.emb (ix2 a b) 1 = b :=
    Fin.ext (Shards.at_zero hi.2)
  dsimp only
  rw [e1]
  exact out8_apply m c t a b _ (Shards.at_row hi.1)

/-- The whole array of output window 9. -/
theorem final9 : (dats m 0 c).arrAt 9 cfg0.N = fun i : S4096x1.Idx => (fun (r : Fin 4096) (j : Fin 1) => (rstd (rows (m (c.tc.loc main_arg0)) (m (c.tc.loc main_arg1)) (m (c.tc.loc main_arg2)) (m (c.tc.loc main_arg3)) (m (c.tc.loc main_arg6)) r) : EReal)) (i 0) (i 1) := by
  refine (dats m 0 c).arrAt_eq_of_covers 9 _ (by decide +kernel) fun t hf y => ?_
  rw [after9]
  obtain ⟨a, b, rfl⟩ := Shards.pair y
  have hi := (by decide +kernel : ∀ t : Fin cfg0.N, win0_9.index t (0 : Fin 2) = t.val ∧ win0_9.index t (1 : Fin 2) = 0) t
  blk_simp
  have e1 : (win0_9.blk t).view.emb (ix2 a b) 1 = b :=
    Fin.ext (Shards.at_zero hi.2)
  dsimp only
  exact out9_apply m c t a b _ (Shards.at_row hi.1)

end

end Cert.Kernel10Ideal.Run

namespace Cert.Reference10Ideal.Rows

open Cert.Reference10Ideal Cert.Reference10Ideal.Gen Idealize.ShloMosaic

/-- The reference's projection. -/
def y (a : FVec Ideal S4096x1024 .bf16) (w : FVec Ideal S8x512x1024 .bf16) (b : FVec Ideal S1x1024 .f32) : FVec Ideal S4096x1024 .f32 :=
  addf (Host.dotGeneral dot_S4096x1024_S1024x1024_S4096x1024_1_0_0_1_n_n none (extf .f32 a bitsLt_bf16_f32) (extf .f32 (shapeCast S1024x1024 (extractStridedSlice S8x128x1024 ![0, 384, 0] w slices_S8x512x1024_S8x128x1024_0_384_0) shapeCasts_S8x128x1024_S1024x1024) bitsLt_bf16_f32)) (broadcastInDim S4096x1024 ![0, 1] bcast_S1x1024_S4096x1024_0_1 b)

/-- The reference's residual plus gated projection. -/
def z (a : FVec Ideal S4096x1024 .bf16) (w : FVec Ideal S8x512x1024 .bf16) (x : FVec Ideal S4096x1024 .f32) (g : FVec Ideal S1x1024 .f32) (b : FVec Ideal S1x1024 .f32) : FVec Ideal S4096x1024 .f32 :=
  addf (mulf (broadcastInDim S4096x1024 ![] bcast_S_S4096x1024 (constant S_ .f32 0x3FB504F3#32)) x) (mulf (broadcastInDim S4096x1024 ![0, 1] bcast_S1x1024_S4096x1024_0_1 g) (y a w b))

/-- Rows less their means. -/
def dev (Z : FVec Ideal S4096x1024 .f32) : FVec Ideal S4096x1024 .f32 :=
  subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))

/-- The rows' reciprocal deviations. -/
def scale (Z : FVec Ideal S4096x1024 .f32) : FVec Ideal S4096x1 .f32 :=
  Host.rsqrt (addf (Host.divf (broadcastInDim S4096x1 ![0] bcast_S4096_S4096x1_0 (Host.reduceAdd (mulf (dev Z) (dev Z)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))

/-- The normalised rows. -/
def norm (Z : FVec Ideal S4096x1024 .f32) : FVec Ideal S4096x1024 .f32 :=
  mulf (dev Z) (broadcastInDim S4096x1024 ![0, 1] bcast_S4096x1_S4096x1024_0_1 (scale Z))

theorem dev_apply (Z : FVec Ideal S4096x1024 .f32) (r : Fin 4096) (j : Fin 1024) : dev Z (ix2 r j) = Shards.dev (fun k => Z (ix2 r k)) j := by
  unfold Shards.dev
  pointwise [dev]
theorem scale_apply (Z : FVec Ideal S4096x1024 .f32) (r : Fin 4096) : scale Z (ix2 r (0 : Fin 1)) = Shards.rstd (fun k => Z (ix2 r k)) := by
  unfold Shards.rstd
  simp only [← dev_apply]
  unfold scale
  generalize dev Z = D
  pointwise []
theorem norm_apply (Z : FVec Ideal S4096x1024 .f32) (r : Fin 4096) (j : Fin 1024) : norm Z (ix2 r j) = Shards.normed (fun k => Z (ix2 r k)) j := by
  unfold Shards.normed
  rw [← dev_apply, ← scale_apply]
  unfold norm
  generalize dev Z = D
  generalize scale Z = C
  pointwise []

theorem y_apply (a : FVec Ideal S4096x1024 .bf16) (w : FVec Ideal S8x512x1024 .bf16) (b : FVec Ideal S1x1024 .f32) (r : Fin 4096) (j : Fin 1024) : y a w b (ix2 r j) = Kernel10Ideal.Run.proj a w b r j := by
  have hW : ∀ k : Fin 1024, shapeCast S1024x1024 (extractStridedSlice S8x128x1024 ![0, 384, 0] w slices_S8x512x1024_S8x128x1024_0_384_0) shapeCasts_S8x128x1024_S1024x1024 (ix2 k j) = w (ix3 (⟨k.val / 128, by omega⟩ : Fin 8) (⟨384 + k.val % 128, by omega⟩ : Fin 512) j) := by
    intro k
    refine (Shards.rows_apply _ _ k j (⟨k.val / 128, by omega⟩ : Fin 8) (⟨k.val % 128, by omega⟩ : Fin 128) (by dsimp only; omega)).trans ?_
    pointwise []
  unfold Kernel10Ideal.Run.proj y
  simp only [← hW]
  generalize shapeCast S1024x1024 (extractStridedSlice S8x128x1024 ![0, 384, 0] w slices_S8x512x1024_S8x128x1024_0_384_0) shapeCasts_S8x128x1024_S1024x1024 = W
  pointwise []

theorem z_rows (a : FVec Ideal S4096x1024 .bf16) (w : FVec Ideal S8x512x1024 .bf16) (x : FVec Ideal S4096x1024 .f32) (g : FVec Ideal S1x1024 .f32) (b : FVec Ideal S1x1024 .f32) (r : Fin 4096) : (fun k => z a w x g b (ix2 r k)) = Kernel10Ideal.Run.rows a w x g b r := by
  funext k
  unfold Kernel10Ideal.Run.rows z
  rw [← y_apply]
  generalize y a w b = Y
  pointwise []

end Cert.Reference10Ideal.Rows

namespace Cert.Proof

open Idealize.ShloMosaic Idealize.SL.Sem

/-- The second pointwise projection with the gated residual and the layer norm: on memories that agree on the arguments, the kernel's result arrays are the reference's, entry by entry. -/
theorem algebraic_Pw2Ln : algebraic_Kernel10Ideal_Reference10Ideal := by
  intro m ρ m' ρ' _ hagree
  refine ⟨fun c => (Kernel10Ideal.Run.dats m 0 c).arrAt 6 Kernel10Ideal.cfg0.N, fun c => (Kernel10Ideal.Run.dats m 0 c).arrAt 7 Kernel10Ideal.cfg0.N, fun c => (Kernel10Ideal.Run.dats m 0 c).arrAt 8 Kernel10Ideal.cfg0.N, fun c => (Kernel10Ideal.Run.dats m 0 c).arrAt 9 Kernel10Ideal.cfg0.N, (θ_run Kernel10Ideal.defs _ _).mono (fun _ h c => ?run) (Kernel10Ideal.Run.run_blocks (F := Ideal) m ρ), ?_⟩
  case run =>
    have h := h c
    exact ⟨h.1.1, h.1.2.1, h.1.2.2.1, h.1.2.2.2, h.2⟩
  refine (θ_run Reference10Ideal.defs _ _).mono (fun _ h c => ⟨?_, ?_, ?_, ?_, (h c).2.2.2.2⟩) (Reference10Ideal.Value.run (F := Ideal) m' ρ')
  · refine ((h c).1).trans (Eq.trans ?_ (Kernel10Ideal.Run.final6 m c).symm)
    simp only [hagree c]
    funext j
    obtain ⟨r, q, rfl⟩ := Shards.pair j
    show _ = (_ : EReal)
    show truncf (F := Ideal) .bf16 (Reference10Ideal.Rows.y (m (c.tc.loc Kernel10Ideal.main_arg0)) (m (c.tc.loc Kernel10Ideal.main_arg1)) (m (c.tc.loc Kernel10Ideal.main_arg6))) _ (ix2 r q) = Kernel10Ideal.Run.proj (m (c.tc.loc Kernel10Ideal.main_arg0)) (m (c.tc.loc Kernel10Ideal.main_arg1)) (m (c.tc.loc Kernel10Ideal.main_arg6)) r q
    rw [← Reference10Ideal.Rows.y_apply]
    rfl
  · refine ((h c).2.1).trans (Eq.trans ?_ (Kernel10Ideal.Run.final7 m c).symm)
    unfold Reference10Ideal.Value.res_main_v33
    simp only [hagree c]
    funext j
    obtain ⟨r, q, rfl⟩ := Shards.pair j
    show _ = (_ : EReal)
    show addf (F := Ideal) (mulf (Reference10Ideal.Rows.norm (Reference10Ideal.Rows.z (m (c.tc.loc Kernel10Ideal.main_arg0)) (m (c.tc.loc Kernel10Ideal.main_arg1)) (m (c.tc.loc Kernel10Ideal.main_arg2)) (m (c.tc.loc Kernel10Ideal.main_arg3)) (m (c.tc.loc Kernel10Ideal.main_arg6)))) (broadcastInDim Reference10Ideal.S4096x1024 ![0, 1] Reference10Ideal.Gen.bcast_S1x1024_S4096x1024_0_1 (m (c.tc.loc Kernel10Ideal.main_arg4)))) (broadcastInDim Reference10Ideal.S4096x1024 ![0, 1] Reference10Ideal.Gen.bcast_S1x1024_S4096x1024_0_1 (m (c.tc.loc Kernel10Ideal.main_arg5))) (ix2 r q)
      = Shards.normed (Kernel10Ideal.Run.rows (m (c.tc.loc Kernel10Ideal.main_arg0)) (m (c.tc.loc Kernel10Ideal.main_arg1)) (m (c.tc.loc Kernel10Ideal.main_arg2)) (m (c.tc.loc Kernel10Ideal.main_arg3)) (m (c.tc.loc Kernel10Ideal.main_arg6)) r) q * (m (c.tc.loc Kernel10Ideal.main_arg4)) (ix2 (0 : Fin 1) q) + (m (c.tc.loc Kernel10Ideal.main_arg5)) (ix2 (0 : Fin 1) q)
    rw [← Reference10Ideal.Rows.z_rows, ← Reference10Ideal.Rows.norm_apply]
    generalize Reference10Ideal.Rows.norm (Reference10Ideal.Rows.z (m (c.tc.loc Kernel10Ideal.main_arg0)) (m (c.tc.loc Kernel10Ideal.main_arg1)) (m (c.tc.loc Kernel10Ideal.main_arg2)) (m (c.tc.loc Kernel10Ideal.main_arg3)) (m (c.tc.loc Kernel10Ideal.main_arg6))) = X
    pointwise []
  · refine ((h c).2.2.1).trans (Eq.trans ?_ (Kernel10Ideal.Run.final8 m c).symm)
    unfold Reference10Ideal.Value.res_main_v29
    simp only [hagree c]
    funext j
    obtain ⟨r, q, rfl⟩ := Shards.pair j
    show _ = (_ : EReal)
    show Reference10Ideal.Rows.norm (Reference10Ideal.Rows.z (m (c.tc.loc Kernel10Ideal.main_arg0)) (m (c.tc.loc Kernel10Ideal.main_arg1)) (m (c.tc.loc Kernel10Ideal.main_arg2)) (m (c.tc.loc Kernel10Ideal.main_arg3)) (m (c.tc.loc Kernel10Ideal.main_arg6))) (ix2 r q) = Shards.normed (Kernel10Ideal.Run.rows (m (c.tc.loc Kernel10Ideal.main_arg0)) (m (c.tc.loc Kernel10Ideal.main_arg1)) (m (c.tc.loc Kernel10Ideal.main_arg2)) (m (c.tc.loc Kernel10Ideal.main_arg3)) (m (c.tc.loc Kernel10Ideal.main_arg6)) r) q
    rw [← Reference10Ideal.Rows.z_rows, Reference10Ideal.Rows.norm_apply]
  · refine ((h c).2.2.2.1).trans (Eq.trans ?_ (Kernel10Ideal.Run.final9 m c).symm)
    simp only [hagree c]
    funext j
    obtain ⟨r, q, rfl⟩ := Shards.pair j
    show _ = (_ : EReal)
    obtain rfl := Subsingleton.elim q (0 : Fin 1)
    show Reference10Ideal.Rows.scale (Reference10Ideal.Rows.z (m (c.tc.loc Kernel10Ideal.main_arg0)) (m (c.tc.loc Kernel10Ideal.main_arg1)) (m (c.tc.loc Kernel10Ideal.main_arg2)) (m (c.tc.loc Kernel10Ideal.main_arg3)) (m (c.tc.loc Kernel10Ideal.main_arg6))) (ix2 r (0 : Fin 1)) = Shards.rstd (Kernel10Ideal.Run.rows (m (c.tc.loc Kernel10Ideal.main_arg0)) (m (c.tc.loc Kernel10Ideal.main_arg1)) (m (c.tc.loc Kernel10Ideal.main_arg2)) (m (c.tc.loc Kernel10Ideal.main_arg3)) (m (c.tc.loc Kernel10Ideal.main_arg6)) r)
    rw [← Reference10Ideal.Rows.z_rows, Reference10Ideal.Rows.scale_apply]

/-- The two printings of the program have the same bodies. -/
theorem defs_Pw2Ln : Kernel10.defs (F := Bits) = Kernel10Ideal.defs (F := Bits) := by
  have e : Kernel10.defs₀ (F := Bits) = Kernel10Ideal.defs₀ (F := Bits) := by
    unfold Kernel10.defs₀ Kernel10Ideal.defs₀
    refine congrArg Defs.onTc (funext fun i => ?_)
    match i with
    | 0 => exact funext fun p => rfl
  exact congrArg (Pipeline.defs (Kernel10.pcfgs (F := Bits))) e

/-- As printed, on bits, it ends with its arguments unchanged and every counter at zero. -/
theorem frame_Pw2Ln : quiescent_Kernel10 := fun m ρ _ => by
  rw [defs_Pw2Ln]
  exact Kernel10Ideal.Run.frame (F := Bits) m ρ

end Cert.Proof

end
-- ==== Proof.Tail.Cells.lean ====
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel11Ideal.Run

open Cert.Kernel11Ideal Cert.Kernel11Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body copies the weight in: the grid's coordinate is zero. -/
abbrev first (i : grid0.Coords) : Prop := (Scalar.cmpi .ne (Scalar.extui (Scalar.cmpi .eq (BitVec.ofNat 32 (i 0).val) 0#32)) 0#32) = 1#1

/-- It holds at the first point of the grid and at no other. -/
theorem first_iff (t : Fin cfg0.N) : first (grid0.coords t) ↔ t.val = 0 := by
  have ht : t.val < 16 := Nat.lt_of_lt_of_eq t.isLt N_0
  have e0 : (grid0.coords t 0).val = t.val / 1 % 16 := Pipeline.Grid.coords_val t 0 (by decide) rfl
  have e1 : first (grid0.coords t) ↔ t.val % 16 = 0 := by
    simp only [first, e0]
    word_cmp
  rw [e1, Nat.mod_eq_of_lt ht]

/-- The gathered weight, left in HBM. -/
abbrev wgt : Memref sig .tc .hbm S8x384x1024 .bf16 := Memref.whole main_arg4
/-- A memref's contents on core `c`, and its buffer held whole at some. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc c.tc ↦{fullShare} f

/-- The counters of the copies' semaphores, all at zero. -/
def cells (c : Dev nD) : sProp 𝕄 :=
  iprop(semVal (c.tc, SemLoc.dma 25) 0 ∗ semVal (c.tc, SemLoc.dma 26) 0 ∗ semVal (c.tc, SemLoc.dma 27) 0 ∗ semVal (c.tc, SemLoc.dma 28) 0 ∗ semVal (c.tc, SemLoc.dma 29) 0 ∗ semVal (c.tc, SemLoc.dma 30) 0 ∗ semVal (c.tc, SemLoc.dma 31) 0 ∗ semVal (c.tc, SemLoc.dma 32) 0)

end Cert.Kernel11Ideal.Run

end
-- ==== Proof.Tail.First.lean ====
module

public import proofs.«01_k».proof.Proof.Shards.Own
public import proofs.«01_k».proof.Proof.Tail.Cells

@[expose] public section

set_option maxRecDepth 16384

noncomputable section

namespace Cert.Kernel11Ideal.Run

open Cert.Kernel11Ideal Cert.Kernel11Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (i : grid0.Coords) (arg1 : Memref sig .tc .vmem S256x3072 .bf16) (harg1 : arg1.IsWhole)
  (arg2 : Memref sig .tc .vmem S16x3072 .bf16) (harg2 : arg2.IsWhole)
  (arg3 : Memref sig .tc .vmem S256x3072 .bf16) (harg3 : arg3.IsWhole)
  (arg4 : Memref sig .tc .vmem S3x3072 .f32) (harg4 : arg4.IsWhole)
  (arg5 : Memref sig .tc .vmem S1x3072 .f32) (harg5 : arg5.IsWhole)
  (arg7 : Memref sig .tc .vmem S256x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S256x3072 .bf16) (harg11 : arg11.IsWhole)
  (arg12 : Memref sig .tc .vmem S256x3072 .bf16) (harg12 : arg12.IsWhole)
  (arg13 : Memref sig .tc .vmem S256x1024 .bf16) (harg13 : arg13.IsWhole)
  (arg14 : Memref sig .tc .vmem S256x1024 .f32) (harg14 : arg14.IsWhole)
  (arg15 : Memref sig .tc .vmem S256x1024 .f32) (harg15 : arg15.IsWhole)
  (arg16 : Memref sig .tc .vmem S256x1 .f32) (harg16 : arg16.IsWhole)
  (arg17 : Memref sig .tc .vmem S272x3072 .f32) (harg17 : arg17.IsWhole)
  (arg18 : Memref sig .tc .vmem S3072x1024 .bf16) (harg18 : arg18.IsWhole)

set_option maxHeartbeats 40000000 in
set_option sl_exec.dmaWindow true in
set_option sl_exec.dmaWindowSet true in
/-- The body at the first point copies the weight into the scratch and leaves each output and the scratch written by the pieces found here. -/
def bodyFirst (hc : first i) (x0 : Vec F S256x3072 .bf16) (x1 : Vec F S16x3072 .bf16) (x2 : Vec F S256x3072 .bf16) (x3 : Vec F S3x3072 .f32) (x4 : Vec F S1x3072 .f32) (x5 : Vec F S256x1024 .f32) (x6 : Vec F S1x1024 .f32) (x7 : Vec F S1x1024 .f32) (x8 : Vec F S1x1024 .f32) (fh : Held (F := F) c wgt) :
    Σ' (L9 : List (View.Piece (Elt F) S256x3072 .bf16)), Σ' (L10 : List (View.Piece (Elt F) S256x3072 .bf16)), Σ' (L11 : List (View.Piece (Elt F) S256x1024 .bf16)), Σ' (L12 : List (View.Piece (Elt F) S256x1024 .f32)), Σ' (L13 : List (View.Piece (Elt F) S256x1024 .f32)), Σ' (L14 : List (View.Piece (Elt F) S256x1 .f32)), { T1 : List (View.Piece (Elt F) S3072x1024 .bf16) //
      ∀ (W : Waits sig Unit) (K : PUnit → sProp 𝕄),
        iprop(owns c.tc arg1 fullShare x0 ∗ owns c.tc arg2 fullShare x1 ∗ owns c.tc arg3 fullShare x2 ∗ owns c.tc arg4 fullShare x3 ∗ owns c.tc arg5 fullShare x4 ∗ owns c.tc arg7 fullShare x5 ∗ owns c.tc arg8 fullShare x6 ∗ owns c.tc arg9 fullShare x7 ∗ owns c.tc arg10 fullShare x8 ∗ (∃ d, owns c.tc arg11 fullShare d) ∗ (∃ d, owns c.tc arg12 fullShare d) ∗ (∃ d, owns c.tc arg13 fullShare d) ∗ (∃ d, owns c.tc arg14 fullShare d) ∗ (∃ d, owns c.tc arg15 fullShare d) ∗ (∃ d, owns c.tc arg16 fullShare d) ∗ (∃ d, owns c.tc arg17 fullShare d) ∗ (∃ d, owns c.tc arg18 fullShare d) ∗ cells c ∗ held c wgt fh ∗ owes c.tc 0 W
            ∗ (iprop(owns c.tc arg1 fullShare x0 ∗ owns c.tc arg2 fullShare x1 ∗ owns c.tc arg3 fullShare x2 ∗ owns c.tc arg4 fullShare x3 ∗ owns c.tc arg5 fullShare x4 ∗ owns c.tc arg7 fullShare x5 ∗ owns c.tc arg8 fullShare x6 ∗ owns c.tc arg9 fullShare x7 ∗ owns c.tc arg10 fullShare x8 ∗ (∃ f, arg11.view.loc c.tc ↦[arg11.view.set]{fullShare} arg11.view.writes (Elt F) f L9) ∗ (∃ f, arg12.view.loc c.tc ↦[arg12.view.set]{fullShare} arg12.view.writes (Elt F) f L10) ∗ (∃ f, arg13.view.loc c.tc ↦[arg13.view.set]{fullShare} arg13.view.writes (Elt F) f L11) ∗ (∃ f, arg14.view.loc c.tc ↦[arg14.view.set]{fullShare} arg14.view.writes (Elt F) f L12) ∗ (∃ f, arg15.view.loc c.tc ↦[arg15.view.set]{fullShare} arg15.view.writes (Elt F) f L13) ∗ (∃ f, arg16.view.loc c.tc ↦[arg16.view.set]{fullShare} arg16.view.writes (Elt F) f L14) ∗ (∃ f, arg17.view.loc c.tc ↦[arg17.view.set]{fullShare} (f : Held (F := F) c arg17)) ∗ (∃ f, arg18.view.loc c.tc ↦[arg18.view.set]{fullShare} arg18.view.writes (Elt F) f T1) ∗ cells c ∗ held c wgt fh ∗ (∃ W', owes c.tc 0 W')) -∗ K ⟨⟩))
          ⊢ wp frame (wpE (defs₀ (F := F)) Variants.none c none) Set.univ (cc0_f_tail_fwd0 i arg1 harg1 arg2 harg2 arg3 harg3 arg4 harg4 arg5 harg5 (Memref.whole main_arg4) (Memref.isWhole_whole _) arg7 harg7 arg8 harg8 arg9 harg9 arg10 harg10 arg11 harg11 arg12 harg12 arg13 harg13 arg14 harg14 arg15 harg15 arg16 harg16 arg17 harg17 arg18 harg18 cc0_scratch2) K } := by
  refine ⟨?_, ?_, ?_, ?_, ?_, ?_, ?_, fun W K => ?run⟩
  case run =>
    simp only [cc0_f_tail_fwd0_eq_skeleton]; unfold cc0_f_tail_fwd0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns cells
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨Hq0, Hq1, Hq2, Hq3, Hq4, Hq5, Hq6, Hq7⟩, Hh, HW, Hk⟩
    obtain rfl := harg1.eq_unread hf0
    obtain rfl := harg2.eq_unread hf1
    obtain rfl := harg3.eq_unread hf2
    obtain rfl := harg4.eq_unread hf3
    obtain rfl := harg5.eq_unread hf4
    obtain rfl := harg7.eq_unread hf5
    obtain rfl := harg8.eq_unread hf6
    obtain rfl := harg9.eq_unread hf7
    obtain rfl := harg10.eq_unread hf8
    sl_exec (disch := first | sl_exact hc)
    sl_step
    iapply Hk
    isplitl [H0]; · iapply (Shards.unread harg1 _); iexact H0
    isplitl [H1]; · iapply (Shards.unread harg2 _); iexact H1
    isplitl [H2]; · iapply (Shards.unread harg3 _); iexact H2
    isplitl [H3]; · iapply (Shards.unread harg4 _); iexact H3
    isplitl [H4]; · iapply (Shards.unread harg5 _); iexact H4
    isplitl [H5]; · iapply (Shards.unread harg7 _); iexact H5
    isplitl [H6]; · iapply (Shards.unread harg8 _); iexact H6
    isplitl [H7]; · iapply (Shards.unread harg9 _); iexact H7
    isplitl [H8]; · iapply (Shards.unread harg10 _); iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    isplitl [HS1]; · iexists _; iexact HS1
    isplitl [Hq0 Hq1 Hq2 Hq3 Hq4 Hq5 Hq6 Hq7]
    · iframe Hq0 Hq1 Hq2 Hq3 Hq4 Hq5 Hq6 Hq7
    isplitl [Hh]; · iexact Hh
    iexists _; iexact HW

end

end Cert.Kernel11Ideal.Run

end
-- ==== Proof.Tail.Later.lean ====
module

public import proofs.«01_k».proof.Proof.Shards.Own
public import proofs.«01_k».proof.Proof.Tail.Cells

@[expose] public section

set_option maxRecDepth 16384

noncomputable section

namespace Cert.Kernel11Ideal.Run

open Cert.Kernel11Ideal Cert.Kernel11Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (i : grid0.Coords) (arg1 : Memref sig .tc .vmem S256x3072 .bf16) (harg1 : arg1.IsWhole)
  (arg2 : Memref sig .tc .vmem S16x3072 .bf16) (harg2 : arg2.IsWhole)
  (arg3 : Memref sig .tc .vmem S256x3072 .bf16) (harg3 : arg3.IsWhole)
  (arg4 : Memref sig .tc .vmem S3x3072 .f32) (harg4 : arg4.IsWhole)
  (arg5 : Memref sig .tc .vmem S1x3072 .f32) (harg5 : arg5.IsWhole)
  (arg7 : Memref sig .tc .vmem S256x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S256x3072 .bf16) (harg11 : arg11.IsWhole)
  (arg12 : Memref sig .tc .vmem S256x3072 .bf16) (harg12 : arg12.IsWhole)
  (arg13 : Memref sig .tc .vmem S256x1024 .bf16) (harg13 : arg13.IsWhole)
  (arg14 : Memref sig .tc .vmem S256x1024 .f32) (harg14 : arg14.IsWhole)
  (arg15 : Memref sig .tc .vmem S256x1024 .f32) (harg15 : arg15.IsWhole)
  (arg16 : Memref sig .tc .vmem S256x1 .f32) (harg16 : arg16.IsWhole)
  (arg17 : Memref sig .tc .vmem S272x3072 .f32) (harg17 : arg17.IsWhole)
  (arg18 : Memref sig .tc .vmem S3072x1024 .bf16) (harg18 : arg18.IsWhole)

set_option maxHeartbeats 40000000 in
set_option sl_exec.dmaWindow true in
set_option sl_exec.dmaWindowSet true in
/-- The body at a later point: the scratch holds the weight already and keeps it. -/
def bodyLater (hc : ¬first i) (x0 : Vec F S256x3072 .bf16) (x1 : Vec F S16x3072 .bf16) (x2 : Vec F S256x3072 .bf16) (x3 : Vec F S3x3072 .f32) (x4 : Vec F S1x3072 .f32) (x5 : Vec F S256x1024 .f32) (x6 : Vec F S1x1024 .f32) (x7 : Vec F S1x1024 .f32) (x8 : Vec F S1x1024 .f32) (s1 : Vec F S3072x1024 .bf16) (fh : Held (F := F) c wgt) :
    Σ' (L9 : List (View.Piece (Elt F) S256x3072 .bf16)), Σ' (L10 : List (View.Piece (Elt F) S256x3072 .bf16)), Σ' (L11 : List (View.Piece (Elt F) S256x1024 .bf16)), Σ' (L12 : List (View.Piece (Elt F) S256x1024 .f32)), Σ' (L13 : List (View.Piece (Elt F) S256x1024 .f32)), { L14 : List (View.Piece (Elt F) S256x1 .f32) //
      ∀ (W : Waits sig Unit) (K : PUnit → sProp 𝕄),
        iprop(owns c.tc arg1 fullShare x0 ∗ owns c.tc arg2 fullShare x1 ∗ owns c.tc arg3 fullShare x2 ∗ owns c.tc arg4 fullShare x3 ∗ owns c.tc arg5 fullShare x4 ∗ owns c.tc arg7 fullShare x5 ∗ owns c.tc arg8 fullShare x6 ∗ owns c.tc arg9 fullShare x7 ∗ owns c.tc arg10 fullShare x8 ∗ (∃ d, owns c.tc arg11 fullShare d) ∗ (∃ d, owns c.tc arg12 fullShare d) ∗ (∃ d, owns c.tc arg13 fullShare d) ∗ (∃ d, owns c.tc arg14 fullShare d) ∗ (∃ d, owns c.tc arg15 fullShare d) ∗ (∃ d, owns c.tc arg16 fullShare d) ∗ (∃ d, owns c.tc arg17 fullShare d) ∗ owns c.tc arg18 fullShare s1 ∗ cells c ∗ held c wgt fh ∗ owes c.tc 0 W
            ∗ (iprop(owns c.tc arg1 fullShare x0 ∗ owns c.tc arg2 fullShare x1 ∗ owns c.tc arg3 fullShare x2 ∗ owns c.tc arg4 fullShare x3 ∗ owns c.tc arg5 fullShare x4 ∗ owns c.tc arg7 fullShare x5 ∗ owns c.tc arg8 fullShare x6 ∗ owns c.tc arg9 fullShare x7 ∗ owns c.tc arg10 fullShare x8 ∗ (∃ f, arg11.view.loc c.tc ↦[arg11.view.set]{fullShare} arg11.view.writes (Elt F) f L9) ∗ (∃ f, arg12.view.loc c.tc ↦[arg12.view.set]{fullShare} arg12.view.writes (Elt F) f L10) ∗ (∃ f, arg13.view.loc c.tc ↦[arg13.view.set]{fullShare} arg13.view.writes (Elt F) f L11) ∗ (∃ f, arg14.view.loc c.tc ↦[arg14.view.set]{fullShare} arg14.view.writes (Elt F) f L12) ∗ (∃ f, arg15.view.loc c.tc ↦[arg15.view.set]{fullShare} arg15.view.writes (Elt F) f L13) ∗ (∃ f, arg16.view.loc c.tc ↦[arg16.view.set]{fullShare} arg16.view.writes (Elt F) f L14) ∗ (∃ f, arg17.view.loc c.tc ↦[arg17.view.set]{fullShare} (f : Held (F := F) c arg17)) ∗ owns c.tc arg18 fullShare s1 ∗ cells c ∗ held c wgt fh ∗ (∃ W', owes c.tc 0 W')) -∗ K ⟨⟩))
          ⊢ wp frame (wpE (defs₀ (F := F)) Variants.none c none) Set.univ (cc0_f_tail_fwd0 i arg1 harg1 arg2 harg2 arg3 harg3 arg4 harg4 arg5 harg5 (Memref.whole main_arg4) (Memref.isWhole_whole _) arg7 harg7 arg8 harg8 arg9 harg9 arg10 harg10 arg11 harg11 arg12 harg12 arg13 harg13 arg14 harg14 arg15 harg15 arg16 harg16 arg17 harg17 arg18 harg18 cc0_scratch2) K } := by
  refine ⟨?_, ?_, ?_, ?_, ?_, ?_, fun W K => ?run⟩
  case run =>
    simp only [cc0_f_tail_fwd0_eq_skeleton]; unfold cc0_f_tail_fwd0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns cells
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%fs1, %hfs1, HS1⟩, ⟨Hq0, Hq1, Hq2, Hq3, Hq4, Hq5, Hq6, Hq7⟩, Hh, HW, Hk⟩
    obtain rfl := harg1.eq_unread hf0
    obtain rfl := harg2.eq_unread hf1
    obtain rfl := harg3.eq_unread hf2
    obtain rfl := harg4.eq_unread hf3
    obtain rfl := harg5.eq_unread hf4
    obtain rfl := harg7.eq_unread hf5
    obtain rfl := harg8.eq_unread hf6
    obtain rfl := harg9.eq_unread hf7
    obtain rfl := harg10.eq_unread hf8
    obtain rfl := harg18.eq_unread hfs1
    sl_exec (disch := first | sl_exact hc)
    sl_step
    iapply Hk
    isplitl [H0]; · iapply (Shards.unread harg1 _); iexact H0
    isplitl [H1]; · iapply (Shards.unread harg2 _); iexact H1
    isplitl [H2]; · iapply (Shards.unread harg3 _); iexact H2
    isplitl [H3]; · iapply (Shards.unread harg4 _); iexact H3
    isplitl [H4]; · iapply (Shards.unread harg5 _); iexact H4
    isplitl [H5]; · iapply (Shards.unread harg7 _); iexact H5
    isplitl [H6]; · iapply (Shards.unread harg8 _); iexact H6
    isplitl [H7]; · iapply (Shards.unread harg9 _); iexact H7
    isplitl [H8]; · iapply (Shards.unread harg10 _); iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    isplitl [HS1]; · iapply (Shards.unread harg18 _); iexact HS1
    isplitl [Hq0 Hq1 Hq2 Hq3 Hq4 Hq5 Hq6 Hq7]
    · iframe Hq0 Hq1 Hq2 Hq3 Hq4 Hq5 Hq6 Hq7
    isplitl [Hh]; · iexact Hh
    iexists _; iexact HW

end

end Cert.Kernel11Ideal.Run

end
-- ==== Proof.Tail.Frame.lean ====
module

public import proofs.«01_k».proof.Proof.Tail.First
public import proofs.«01_k».proof.Proof.Tail.Later
public import Idealize.ShloMosaic.Lib.Claim
public import Idealize.ShloMosaic.Lib.Pipeline.Value

@[expose] public section

set_option maxRecDepth 16384

noncomputable section

namespace Cert.Kernel11Ideal.Run

open Cert.Kernel11Ideal Cert.Kernel11Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (c : Dev nD) (t : Fin cfg0.N)

/-- Core `c`'s buffers when the grid starts: as launched. -/
abbrev V (b : Ref sig .tc) : Buf (Elt F) ((c : Thread nD τ).loc b) := m ((c : Thread nD τ).loc b)

/-- The program is the grid alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 : V m c main_arg0 = m (c.tc.loc main_arg0) := rfl
theorem V_main_arg1 : V m c main_arg1 = m (c.tc.loc main_arg1) := rfl
theorem V_main_arg2 : V m c main_arg2 = m (c.tc.loc main_arg2) := rfl
theorem V_main_arg3 : V m c main_arg3 = m (c.tc.loc main_arg3) := rfl
theorem V_main_arg4 : V m c main_arg4 = m (c.tc.loc main_arg4) := rfl
theorem V_main_arg5 : V m c main_arg5 = m (c.tc.loc main_arg5) := rfl
theorem V_main_arg6 : V m c main_arg6 = m (c.tc.loc main_arg6) := rfl
theorem V_main_arg7 : V m c main_arg7 = m (c.tc.loc main_arg7) := rfl
theorem V_main_arg8 : V m c main_arg8 = m (c.tc.loc main_arg8) := rfl

/-- Window `w`'s block at point `t`. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 : Memref sig .tc .vmem S256x3072 .bf16 := win0_0.stage (cfg0.slots t 0)
abbrev hs0 : (ms0 t).IsWhole := hstage0_0 ((cfg0.slots t 0).cast nbuf0_0)
abbrev ms1 : Memref sig .tc .vmem S16x3072 .bf16 := win0_1.stage (cfg0.slots t 1)
abbrev hs1 : (ms1 t).IsWhole := hstage0_1 ((cfg0.slots t 1).cast nbuf0_1)
abbrev ms2 : Memref sig .tc .vmem S256x3072 .bf16 := win0_2.stage (cfg0.slots t 2)
abbrev hs2 : (ms2 t).IsWhole := hstage0_2 ((cfg0.slots t 2).cast nbuf0_2)
abbrev ms3 : Memref sig .tc .vmem S3x3072 .f32 := win0_3.stage (cfg0.slots t 3)
abbrev hs3 : (ms3 t).IsWhole := hstage0_3 ((cfg0.slots t 3).cast nbuf0_3)
abbrev ms4 : Memref sig .tc .vmem S1x3072 .f32 := win0_4.stage (cfg0.slots t 4)
abbrev hs4 : (ms4 t).IsWhole := hstage0_4 ((cfg0.slots t 4).cast nbuf0_4)
abbrev ms5 : Memref sig .tc .vmem S256x1024 .f32 := win0_5.stage (cfg0.slots t 5)
abbrev hs5 : (ms5 t).IsWhole := hstage0_5 ((cfg0.slots t 5).cast nbuf0_5)
abbrev ms6 : Memref sig .tc .vmem S1x1024 .f32 := win0_6.stage (cfg0.slots t 6)
abbrev hs6 : (ms6 t).IsWhole := hstage0_6 ((cfg0.slots t 6).cast nbuf0_6)
abbrev ms7 : Memref sig .tc .vmem S1x1024 .f32 := win0_7.stage (cfg0.slots t 7)
abbrev hs7 : (ms7 t).IsWhole := hstage0_7 ((cfg0.slots t 7).cast nbuf0_7)
abbrev ms8 : Memref sig .tc .vmem S1x1024 .f32 := win0_8.stage (cfg0.slots t 8)
abbrev hs8 : (ms8 t).IsWhole := hstage0_8 ((cfg0.slots t 8).cast nbuf0_8)
abbrev ms9 : Memref sig .tc .vmem S256x3072 .bf16 := win0_9.stage (cfg0.slots t 9)
abbrev hs9 : (ms9 t).IsWhole := hstage0_9 ((cfg0.slots t 9).cast nbuf0_9)
abbrev ms10 : Memref sig .tc .vmem S256x3072 .bf16 := win0_10.stage (cfg0.slots t 10)
abbrev hs10 : (ms10 t).IsWhole := hstage0_10 ((cfg0.slots t 10).cast nbuf0_10)
abbrev ms11 : Memref sig .tc .vmem S256x1024 .bf16 := win0_11.stage (cfg0.slots t 11)
abbrev hs11 : (ms11 t).IsWhole := hstage0_11 ((cfg0.slots t 11).cast nbuf0_11)
abbrev ms12 : Memref sig .tc .vmem S256x1024 .f32 := win0_12.stage (cfg0.slots t 12)
abbrev hs12 : (ms12 t).IsWhole := hstage0_12 ((cfg0.slots t 12).cast nbuf0_12)
abbrev ms13 : Memref sig .tc .vmem S256x1024 .f32 := win0_13.stage (cfg0.slots t 13)
abbrev hs13 : (ms13 t).IsWhole := hstage0_13 ((cfg0.slots t 13).cast nbuf0_13)
abbrev ms14 : Memref sig .tc .vmem S256x1 .f32 := win0_14.stage (cfg0.slots t 14)
abbrev hs14 : (ms14 t).IsWhole := hstage0_14 ((cfg0.slots t 14).cast nbuf0_14)
/-- The scratch that keeps the weight. -/
abbrev scr0 : Memref sig .tc .vmem S272x3072 .f32 := Memref.whole cc0_scratch0
/-- The scratch that keeps the weight. -/
abbrev scr1 : Memref sig .tc .vmem S3072x1024 .bf16 := Memref.whole cc0_scratch1
abbrev VO9 : View sig .tc .vmem S256x3072 .bf16 := (Memref.whole cc0_stg9_0 : Memref sig .tc .vmem S256x3072 .bf16).view
abbrev VO10 : View sig .tc .vmem S256x3072 .bf16 := (Memref.whole cc0_stg10_0 : Memref sig .tc .vmem S256x3072 .bf16).view
abbrev VO11 : View sig .tc .vmem S256x1024 .bf16 := (Memref.whole cc0_stg11_0 : Memref sig .tc .vmem S256x1024 .bf16).view
abbrev VO12 : View sig .tc .vmem S256x1024 .f32 := (Memref.whole cc0_stg12_0 : Memref sig .tc .vmem S256x1024 .f32).view
abbrev VO13 : View sig .tc .vmem S256x1024 .f32 := (Memref.whole cc0_stg13_0 : Memref sig .tc .vmem S256x1024 .f32).view
abbrev VO14 : View sig .tc .vmem S256x1 .f32 := (Memref.whole cc0_stg14_0 : Memref sig .tc .vmem S256x1 .f32).view

/-- The copies' semaphores. -/
abbrev sems : Fin 8 → SemLoc sig := fun j => (![SemLoc.dma 25, SemLoc.dma 26, SemLoc.dma 27, SemLoc.dma 28, SemLoc.dma 29, SemLoc.dma 30, SemLoc.dma 31, SemLoc.dma 32] : Fin 8 → SemLoc sig) j
theorem sems_own : Pipeline.OwnSemFacts spec0 sems := by decide
theorem sems_eq :
    (Pipeline.ownSems0 (Ix := Unit) (Name := ℕ) (U := Pipeline.UD sig nD τ) (Lvl := ℕ) (Val := Elt F) (τ := τ) sems c : sProp 𝕄) = cells c := by
  rw [Pipeline.ownSems0_eq_of_list c sems [0, 1, 2, 3, 4, 5, 6, 7] (by decide) (by decide)]; rfl
/-- The operand the body copies itself. -/
def moved : Finset (Ref sig .tc) := {main_arg4}
theorem moved_sub : moved ⊆ Pipeline.restRefs sig spec0 := by decide
theorem moved_eq :
    (bigSep moved (fun b => (c.tc.loc b) ↦{fullShare} V m c b) : sProp 𝕄) = iprop(held c wgt (V m c main_arg4)) := by
  rw [BI.bigSep_eq_bigSepL_of_eq [main_arg4] (by decide) (by decide)]; rfl

/-- What the grid starts with, conjunct by conjunct. -/
theorem start_eq :
    (Pipeline.ΦD sems spec0 moved (V m) c : sProp 𝕄)
      = iprop(iprop((∃ d, owns c.tc scr0 fullShare d) ∗ (∃ d, owns c.tc scr1 fullShare d)) ∗ (∃ r, prngReg c r) ∗ cells c ∗ iprop(held c wgt (V m c main_arg4))) := by
  rw [Pipeline.ΦD_eq, scopedRest0_eq, sems_eq, moved_eq]; simp only [scr0, scr1, owns_whole]; try rfl

/-- The body's run at the first point, on that point's buffers and blocks. -/
def runFirst (h : t.val = 0) :=
  bodyFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scr0 (Memref.isWhole_whole _) scr1 (Memref.isWhole_whole _) ((first_iff t).mpr h) (iblk m c 0 t) (iblk m c 1 t) (iblk m c 2 t) (iblk m c 3 t) (iblk m c 4 t) (iblk m c 5 t) (iblk m c 6 t) (iblk m c 7 t) (iblk m c 8 t) (V m c main_arg4)
/-- The body's run at a later point. -/
def runLater (h : ¬t.val = 0) (s1 : Vec F S3072x1024 .bf16) :=
  bodyLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scr0 (Memref.isWhole_whole _) scr1 (Memref.isWhole_whole _) (fun e => h ((first_iff t).mp e)) (iblk m c 0 t) (iblk m c 1 t) (iblk m c 2 t) (iblk m c 3 t) (iblk m c 4 t) (iblk m c 5 t) (iblk m c 6 t) (iblk m c 7 t) (iblk m c 8 t) s1 (V m c main_arg4)

theorem coverFirst9 (h : t.val = 0) (y : S256x3072.Idx) : ∃ pc ∈ (runFirst m c t h).1, y ∈ pc.1.set :=
  View.cover_of_tiledL _ ![16, 1024] (by sl_kernel_rfl) y
/-- What the first point leaves in output 0. -/
def outFirst9 (h : t.val = 0) : Vec F S256x3072 .bf16 := VO9.read (Elt F) (VO9.writes (Elt F) VO9.junk (runFirst m c t h).1)
theorem coverFirst10 (h : t.val = 0) (y : S256x3072.Idx) : ∃ pc ∈ (runFirst m c t h).2.1, y ∈ pc.1.set :=
  View.cover_of_tiledL _ ![16, 1024] (by sl_kernel_rfl) y
/-- What the first point leaves in output 1. -/
def outFirst10 (h : t.val = 0) : Vec F S256x3072 .bf16 := VO10.read (Elt F) (VO10.writes (Elt F) VO10.junk (runFirst m c t h).2.1)
theorem coverFirst11 (h : t.val = 0) (y : S256x1024.Idx) : ∃ pc ∈ (runFirst m c t h).2.2.1, y ∈ pc.1.set :=
  View.cover_of_tiledL _ S256x1024.size (by sl_kernel_rfl) y
/-- What the first point leaves in output 2. -/
def outFirst11 (h : t.val = 0) : Vec F S256x1024 .bf16 := VO11.read (Elt F) (VO11.writes (Elt F) VO11.junk (runFirst m c t h).2.2.1)
theorem coverFirst12 (h : t.val = 0) (y : S256x1024.Idx) : ∃ pc ∈ (runFirst m c t h).2.2.2.1, y ∈ pc.1.set :=
  View.cover_of_tiledL _ S256x1024.size (by sl_kernel_rfl) y
/-- What the first point leaves in output 3. -/
def outFirst12 (h : t.val = 0) : Vec F S256x1024 .f32 := VO12.read (Elt F) (VO12.writes (Elt F) VO12.junk (runFirst m c t h).2.2.2.1)
theorem coverFirst13 (h : t.val = 0) (y : S256x1024.Idx) : ∃ pc ∈ (runFirst m c t h).2.2.2.2.1, y ∈ pc.1.set :=
  View.cover_of_tiledL _ S256x1024.size (by sl_kernel_rfl) y
/-- What the first point leaves in output 4. -/
def outFirst13 (h : t.val = 0) : Vec F S256x1024 .f32 := VO13.read (Elt F) (VO13.writes (Elt F) VO13.junk (runFirst m c t h).2.2.2.2.1)
theorem coverFirst14 (h : t.val = 0) (y : S256x1.Idx) : ∃ pc ∈ (runFirst m c t h).2.2.2.2.2.1, y ∈ pc.1.set :=
  View.cover_of_tiledL _ S256x1.size (by sl_kernel_rfl) y
/-- What the first point leaves in output 5. -/
def outFirst14 (h : t.val = 0) : Vec F S256x1 .f32 := VO14.read (Elt F) (VO14.writes (Elt F) VO14.junk (runFirst m c t h).2.2.2.2.2.1)
theorem coverLater9 (h : ¬t.val = 0) (s1 : Vec F S3072x1024 .bf16) (y : S256x3072.Idx) : ∃ pc ∈ (runLater m c t h s1).1, y ∈ pc.1.set :=
  View.cover_of_tiledL _ ![16, 1024] (by sl_kernel_rfl) y
/-- What a later point leaves in output 0, the scratch holding `s0`. -/
def outLater9 (h : ¬t.val = 0) (s1 : Vec F S3072x1024 .bf16) : Vec F S256x3072 .bf16 := VO9.read (Elt F) (VO9.writes (Elt F) VO9.junk (runLater m c t h s1).1)
theorem coverLater10 (h : ¬t.val = 0) (s1 : Vec F S3072x1024 .bf16) (y : S256x3072.Idx) : ∃ pc ∈ (runLater m c t h s1).2.1, y ∈ pc.1.set :=
  View.cover_of_tiledL _ ![16, 1024] (by sl_kernel_rfl) y
/-- What a later point leaves in output 1, the scratch holding `s0`. -/
def outLater10 (h : ¬t.val = 0) (s1 : Vec F S3072x1024 .bf16) : Vec F S256x3072 .bf16 := VO10.read (Elt F) (VO10.writes (Elt F) VO10.junk (runLater m c t h s1).2.1)
theorem coverLater11 (h : ¬t.val = 0) (s1 : Vec F S3072x1024 .bf16) (y : S256x1024.Idx) : ∃ pc ∈ (runLater m c t h s1).2.2.1, y ∈ pc.1.set :=
  View.cover_of_tiledL _ S256x1024.size (by sl_kernel_rfl) y
/-- What a later point leaves in output 2, the scratch holding `s0`. -/
def outLater11 (h : ¬t.val = 0) (s1 : Vec F S3072x1024 .bf16) : Vec F S256x1024 .bf16 := VO11.read (Elt F) (VO11.writes (Elt F) VO11.junk (runLater m c t h s1).2.2.1)
theorem coverLater12 (h : ¬t.val = 0) (s1 : Vec F S3072x1024 .bf16) (y : S256x1024.Idx) : ∃ pc ∈ (runLater m c t h s1).2.2.2.1, y ∈ pc.1.set :=
  View.cover_of_tiledL _ S256x1024.size (by sl_kernel_rfl) y
/-- What a later point leaves in output 3, the scratch holding `s0`. -/
def outLater12 (h : ¬t.val = 0) (s1 : Vec F S3072x1024 .bf16) : Vec F S256x1024 .f32 := VO12.read (Elt F) (VO12.writes (Elt F) VO12.junk (runLater m c t h s1).2.2.2.1)
theorem coverLater13 (h : ¬t.val = 0) (s1 : Vec F S3072x1024 .bf16) (y : S256x1024.Idx) : ∃ pc ∈ (runLater m c t h s1).2.2.2.2.1, y ∈ pc.1.set :=
  View.cover_of_tiledL _ S256x1024.size (by sl_kernel_rfl) y
/-- What a later point leaves in output 4, the scratch holding `s0`. -/
def outLater13 (h : ¬t.val = 0) (s1 : Vec F S3072x1024 .bf16) : Vec F S256x1024 .f32 := VO13.read (Elt F) (VO13.writes (Elt F) VO13.junk (runLater m c t h s1).2.2.2.2.1)
theorem coverLater14 (h : ¬t.val = 0) (s1 : Vec F S3072x1024 .bf16) (y : S256x1.Idx) : ∃ pc ∈ (runLater m c t h s1).2.2.2.2.2.1, y ∈ pc.1.set :=
  View.cover_of_tiledL _ S256x1.size (by sl_kernel_rfl) y
/-- What a later point leaves in output 5, the scratch holding `s0`. -/
def outLater14 (h : ¬t.val = 0) (s1 : Vec F S3072x1024 .bf16) : Vec F S256x1 .f32 := VO14.read (Elt F) (VO14.writes (Elt F) VO14.junk (runLater m c t h s1).2.2.2.2.2.1)
theorem coverScr1 (h : t.val = 0) (y : S3072x1024.Idx) : ∃ pc ∈ (runFirst m c t h).2.2.2.2.2.2.1, y ∈ pc.1.set :=
  View.cover_of_tiledL _ ![384,1024] (by sl_kernel_rfl) y
/-- The weight as the first point leaves it in the scratch. -/
def weight1 : Vec F S3072x1024 .bf16 :=
  scr1.view.read (Elt F) (scr1.view.writes (Elt F) scr1.view.junk (runFirst m c t0_0 (show t0_0.val = 0 from rfl)).2.2.2.2.2.2.1)

/-- What point `t` leaves in output 0. -/
def out9 : Vec F S256x3072 .bf16 := if h : t.val = 0 then outFirst9 m c t h else outLater9 m c t h (weight1 m c)
theorem out9_first (h : t.val = 0) : out9 m c t = outFirst9 m c t h := dif_pos h
theorem out9_later (h : ¬t.val = 0) : out9 m c t = outLater9 m c t h (weight1 m c) := dif_neg h

/-- What point `t` leaves in output 1. -/
def out10 : Vec F S256x3072 .bf16 := if h : t.val = 0 then outFirst10 m c t h else outLater10 m c t h (weight1 m c)
theorem out10_first (h : t.val = 0) : out10 m c t = outFirst10 m c t h := dif_pos h
theorem out10_later (h : ¬t.val = 0) : out10 m c t = outLater10 m c t h (weight1 m c) := dif_neg h

/-- What point `t` leaves in output 2. -/
def out11 : Vec F S256x1024 .bf16 := if h : t.val = 0 then outFirst11 m c t h else outLater11 m c t h (weight1 m c)
theorem out11_first (h : t.val = 0) : out11 m c t = outFirst11 m c t h := dif_pos h
theorem out11_later (h : ¬t.val = 0) : out11 m c t = outLater11 m c t h (weight1 m c) := dif_neg h

/-- What point `t` leaves in output 3. -/
def out12 : Vec F S256x1024 .f32 := if h : t.val = 0 then outFirst12 m c t h else outLater12 m c t h (weight1 m c)
theorem out12_first (h : t.val = 0) : out12 m c t = outFirst12 m c t h := dif_pos h
theorem out12_later (h : ¬t.val = 0) : out12 m c t = outLater12 m c t h (weight1 m c) := dif_neg h

/-- What point `t` leaves in output 4. -/
def out13 : Vec F S256x1024 .f32 := if h : t.val = 0 then outFirst13 m c t h else outLater13 m c t h (weight1 m c)
theorem out13_first (h : t.val = 0) : out13 m c t = outFirst13 m c t h := dif_pos h
theorem out13_later (h : ¬t.val = 0) : out13 m c t = outLater13 m c t h (weight1 m c) := dif_neg h

/-- What point `t` leaves in output 5. -/
def out14 : Vec F S256x1 .f32 := if h : t.val = 0 then outFirst14 m c t h else outLater14 m c t h (weight1 m c)
theorem out14_first (h : t.val = 0) : out14 m c t = outFirst14 m c t h := dif_pos h
theorem out14_later (h : ¬t.val = 0) : out14 m c t = outLater14 m c t h (weight1 m c) := dif_neg h

/-- Between the points: at first what the grid starts with, afterwards the scratch at the weight. -/
def Keep : (n : ℕ) → n ≤ cfg0.N → sProp 𝕄
  | 0, _ => Pipeline.ΦD sems spec0 moved (V m) c
  | n + 1, _ => iprop(iprop((∃ d, owns c.tc scr0 fullShare d) ∗ owns c.tc scr1 fullShare (weight1 m c)) ∗ (∃ r, prngReg c r) ∗ cells c ∗ iprop(held c wgt (V m c main_arg4)))
theorem Keep_zero (n : ℕ) (h : n ≤ cfg0.N) (hz : n = 0) : Keep m c n h = Pipeline.ΦD sems spec0 moved (V m) c := by
  subst hz; rfl
theorem Keep_pos (n : ℕ) (h : n ≤ cfg0.N) (hz : n ≠ 0) :
    Keep m c n h = iprop(iprop((∃ d, owns c.tc scr0 fullShare d) ∗ owns c.tc scr1 fullShare (weight1 m c)) ∗ (∃ r, prngReg c r) ∗ cells c ∗ iprop(held c wgt (V m c main_arg4))) := by
  cases n with
  | zero => exact absurd rfl hz
  | succ n => rfl

/-- The proof data: inputs at their blocks, outputs at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => out10 m c t
    | ⟨11, _⟩ => out11 m c t
    | ⟨12, _⟩ => out12 m c t
    | ⟨13, _⟩ => out13 m c t
    | ⟨14, _⟩ => out14 m c t
  Φ t := Keep m c t.val (Nat.le_of_lt_succ t.isLt)
  q := Pipeline.shareOf spec0
  owed _ := 0
theorem A_eq (w : Fin cfg0.W) : (dats m 0 c).A w = V m c (Pipeline.arrRef spec0 w) := by
  dsimp only [dats]
theorem Keep_castSucc :
    (dats m 0 c).Φ t.castSucc = Keep m c t.val (Nat.le_of_lt t.isLt) := by
  dsimp only [dats]; exact Pipeline.Dat.Φ_castSucc (Keep m c) t
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = out9 m c t := by dsimp only [dats]
theorem after10 : (dats m 0 c).after 10 t = out10 m c t := by dsimp only [dats]
theorem after11 : (dats m 0 c).after 11 t = out11 m c t := by dsimp only [dats]
theorem after12 : (dats m 0 c).after 12 t = out12 m c t := by dsimp only [dats]
theorem after13 : (dats m 0 c).after 13 t = out13 m c t := by dsimp only [dats]
theorem after14 : (dats m 0 c).after 14 t = out14 m c t := by dsimp only [dats]
theorem before0 (d) : (dats m 0 c).before 0 t d = iblk m c 0 t :=
  (dats m 0 c).before_in_eq_fetched 0 rfl (fun _ => rfl) (fun _ _ _ => rfl) (fun _ => rfl) t d
theorem before1 (d) : (dats m 0 c).before 1 t d = iblk m c 1 t :=
  (dats m 0 c).before_in_eq_fetched 1 rfl (fun _ => rfl) (fun _ _ _ => rfl) (fun _ => rfl) t d
theorem before2 (d) : (dats m 0 c).before 2 t d = iblk m c 2 t :=
  (dats m 0 c).before_in_eq_fetched 2 rfl (fun _ => rfl) (fun _ _ _ => rfl) (fun _ => rfl) t d
theorem before3 (d) : (dats m 0 c).before 3 t d = iblk m c 3 t :=
  (dats m 0 c).before_in_eq_fetched 3 rfl (fun _ => rfl) (fun _ _ _ => rfl) (fun _ => rfl) t d
theorem before4 (d) : (dats m 0 c).before 4 t d = iblk m c 4 t :=
  (dats m 0 c).before_in_eq_fetched 4 rfl (fun _ => rfl) (fun _ _ _ => rfl) (fun _ => rfl) t d
theorem before5 (d) : (dats m 0 c).before 5 t d = iblk m c 5 t :=
  (dats m 0 c).before_in_eq_fetched 5 rfl (fun _ => rfl) (fun _ _ _ => rfl) (fun _ => rfl) t d
theorem before6 (d) : (dats m 0 c).before 6 t d = iblk m c 6 t :=
  (dats m 0 c).before_in_eq_fetched 6 rfl (fun _ => rfl) (fun _ _ _ => rfl) (fun _ => rfl) t d
theorem before7 (d) : (dats m 0 c).before 7 t d = iblk m c 7 t :=
  (dats m 0 c).before_in_eq_fetched 7 rfl (fun _ => rfl) (fun _ _ _ => rfl) (fun _ => rfl) t d
theorem before8 (d) : (dats m 0 c).before 8 t d = iblk m c 8 t :=
  (dats m 0 c).before_in_eq_fetched 8 rfl (fun _ => rfl) (fun _ _ _ => rfl) (fun _ => rfl) t d

def bodyPre : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d))
    ∗ (∃ d, owns c.tc (ms6 t) fullShare ((dats m 0 c).before 6 t d))
    ∗ (∃ d, owns c.tc (ms7 t) fullShare ((dats m 0 c).before 7 t d))
    ∗ (∃ d, owns c.tc (ms8 t) fullShare ((dats m 0 c).before 8 t d))
    ∗ (∃ d, owns c.tc (ms9 t) fullShare ((dats m 0 c).before 9 t d))
    ∗ (∃ d, owns c.tc (ms10 t) fullShare ((dats m 0 c).before 10 t d))
    ∗ (∃ d, owns c.tc (ms11 t) fullShare ((dats m 0 c).before 11 t d))
    ∗ (∃ d, owns c.tc (ms12 t) fullShare ((dats m 0 c).before 12 t d))
    ∗ (∃ d, owns c.tc (ms13 t) fullShare ((dats m 0 c).before 13 t d))
    ∗ (∃ d, owns c.tc (ms14 t) fullShare ((dats m 0 c).before 14 t d)))
def bodyPost : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t)
    ∗ owns c.tc (ms2 t) fullShare ((dats m 0 c).after 2 t)
    ∗ owns c.tc (ms3 t) fullShare ((dats m 0 c).after 3 t)
    ∗ owns c.tc (ms4 t) fullShare ((dats m 0 c).after 4 t)
    ∗ owns c.tc (ms5 t) fullShare ((dats m 0 c).after 5 t)
    ∗ owns c.tc (ms6 t) fullShare ((dats m 0 c).after 6 t)
    ∗ owns c.tc (ms7 t) fullShare ((dats m 0 c).after 7 t)
    ∗ owns c.tc (ms8 t) fullShare ((dats m 0 c).after 8 t)
    ∗ owns c.tc (ms9 t) fullShare ((dats m 0 c).after 9 t)
    ∗ owns c.tc (ms10 t) fullShare ((dats m 0 c).after 10 t)
    ∗ owns c.tc (ms11 t) fullShare ((dats m 0 c).after 11 t)
    ∗ owns c.tc (ms12 t) fullShare ((dats m 0 c).after 12 t)
    ∗ owns c.tc (ms13 t) fullShare ((dats m 0 c).after 13 t)
    ∗ owns c.tc (ms14 t) fullShare ((dats m 0 c).after 14 t))

set_option maxHeartbeats 4000000 in
/-- The body at every point takes what holds before the point to what holds after it. -/
theorem sound :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = Keep m c (t.val + 1) t.isLt from rfl, Keep_pos m c _ _ (Nat.succ_ne_zero _),
    after0, after1, after2, after3, after4, after5, after6, after7, after8, after9, after10, after11, after12, after13, after14]
  unfold Dat.owesAt Pipeline.owesWithin
  rw [show (dats m 0 c).owed t.castSucc = 0 from rfl, show (dats m 0 c).owed t.succ = 0 from rfl]
  by_cases h0 : t.val = 0
  · have hz := h0
    rw [Keep_castSucc m c t, Keep_zero m c _ _ h0, start_eq]
    obtain rfl : t = t0_0 := Fin.ext h0
    rw [out9_first m c t0_0 h0, out10_first m c t0_0 h0, out11_first m c t0_0 h0, out12_first m c t0_0 h0, out13_first m c t0_0 h0, out14_first m c t0_0 h0]
    unfold outFirst9 outFirst10 outFirst11 outFirst12 outFirst13 outFirst14 weight1; (try dsimp only)
    iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runFirst m c t0_0 h0).2.2.2.2.2.2.2 W _)
    iframe H0 H1 H2 H3 H4 H5 H6 H7 H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iframe HS0 HS1 Hq Hh HW
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%es0, HS0⟩, ⟨%es1, HS1⟩, Hq, Hh, ⟨%W', HW'⟩⟩
    isplitl [HS0 HS1 Hg Hq Hh]
    · isplitl [HS0 HS1]
      · isplitl [HS0]
        · iexists _; unfold owns; iexists _; isplitr
          swap; · iexact HS0
          ipureintro; rfl
        iapply (Shards.owned _ _ _ _ _ (coverScr1 m c t0_0 h0)); iexact HS1
      iframe Hg Hq Hh
    isplitl [HW']
    · iexists W'; isplitr; · ipureintro; exact fun _ _ => Or.inl trivial
      iexact HW'
    iframe H0 H1 H2 H3 H4 H5 H6 H7 H8
    isplitl [H9]
    · iapply (Shards.owned _ _ _ _ _ (coverFirst9 m c _ h0)); iexact H9
    isplitl [H10]
    · iapply (Shards.owned _ _ _ _ _ (coverFirst10 m c _ h0)); iexact H10
    isplitl [H11]
    · iapply (Shards.owned _ _ _ _ _ (coverFirst11 m c _ h0)); iexact H11
    isplitl [H12]
    · iapply (Shards.owned _ _ _ _ _ (coverFirst12 m c _ h0)); iexact H12
    isplitl [H13]
    · iapply (Shards.owned _ _ _ _ _ (coverFirst13 m c _ h0)); iexact H13
    iapply (Shards.owned _ _ _ _ _ (coverFirst14 m c _ h0)); iexact H14
  · have hz := h0
    rw [Keep_castSucc m c t, Keep_pos m c _ _ h0]
    rw [out9_later m c t h0, out10_later m c t h0, out11_later m c t h0, out12_later m c t h0, out13_later m c t h0, out14_later m c t h0]
    unfold outLater9 outLater10 outLater11 outLater12 outLater13 outLater14; (try dsimp only)
    iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runLater m c t h0 (weight1 m c)).2.2.2.2.2.2 W _)
    iframe H0 H1 H2 H3 H4 H5 H6 H7 H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iframe HS0 HS1 Hq Hh HW
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%es0, HS0⟩, HS1, Hq, Hh, ⟨%W', HW'⟩⟩
    isplitl [HS0 HS1 Hg Hq Hh]
    · isplitl [HS0 HS1]
      · isplitl [HS0]
        · iexists _; unfold owns; iexists _; isplitr
          swap; · iexact HS0
          ipureintro; rfl
        iexact HS1
      iframe Hg Hq Hh
    isplitl [HW']
    · iexists W'; isplitr; · ipureintro; exact fun _ _ => Or.inl trivial
      iexact HW'
    iframe H0 H1 H2 H3 H4 H5 H6 H7 H8
    isplitl [H9]
    · iapply (Shards.owned _ _ _ _ _ (coverLater9 m c _ h0 _)); iexact H9
    isplitl [H10]
    · iapply (Shards.owned _ _ _ _ _ (coverLater10 m c _ h0 _)); iexact H10
    isplitl [H11]
    · iapply (Shards.owned _ _ _ _ _ (coverLater11 m c _ h0 _)); iexact H11
    isplitl [H12]
    · iapply (Shards.owned _ _ _ _ _ (coverLater12 m c _ h0 _)); iexact H12
    isplitl [H13]
    · iapply (Shards.owned _ _ _ _ _ (coverLater13 m c _ h0 _)); iexact H13
    iapply (Shards.owned _ _ _ _ _ (coverLater14 m c _ h0 _)); iexact H14

theorem defs_row :
    defs₀ (F := F) .tc cfg0.body (cfg0.bodyArgs t (cfg0.slots t)) = bodyAt0 t := by
  unfold defs₀; rw [Defs.onTc_tc]
theorem obligation : BodyObligation (dats (F := F) m 0 c) (defs₀ (F := F)) Variants.none () Set.univ := fun t => by
  rw [bigSep_W0, bigSep_W0, defs_row]
  exact triple_restated (sound m c t) rfl .rfl fun _ => .rfl
theorem hin : Pipeline.ΦD sems spec0 moved (V m) c ⊢ (dats m 0 c).Φ 0 := by
  rw [show (dats m 0 c).Φ 0 = Keep m c 0 (Nat.zero_le _) from rfl, Keep_zero m c 0 _ rfl]
  try exact Idealize.SL.BI.Entails.refl _
theorem hout : (dats m 0 c).Φ (Fin.last cfg0.N) ⊢ Pipeline.ΦD sems spec0 moved (V m) c := by
  rw [show (dats m 0 c).Φ (Fin.last cfg0.N) = Keep m c (Fin.last cfg0.N).val (Nat.le_of_lt_succ (Fin.last cfg0.N).isLt) from rfl,
    Keep_pos m c _ _ (by rw [Fin.val_last]; have : cfg0.N = 16 := N_0; omega), start_eq]
  iintro ⟨⟨HS0, HS1⟩, Hg, Hq, Hh⟩
  isplitl [HS0 HS1]
  · isplitl [HS0]; · iexact HS0
    iexists _; iexact HS1
  iframe Hg Hq Hh

set_option backward.isDefEq.respectTransparency.types false in
/-- Every fair execution ends, the arrays at what the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 sems defs₀ Variants.none sems_own moved moved_sub m ρ main
    (hbody := fun c => (obligation m c).loose) (hq := fun _ _ _ => rfl)
    (howed := fun _ _ => rfl) (V := V m) (hmain := hmain m Variants.none) (hA := A_eq m)
    (hin := hin m) (hout := hout m)

/-- The arguments are as launched. -/
abbrev Kept (μ : (ℓ : Loc nD τ sig) → Buf (Elt F) ℓ) : Prop :=
  μ (c.tc.loc main_arg0) = m (c.tc.loc main_arg0) ∧ μ (c.tc.loc main_arg1) = m (c.tc.loc main_arg1) ∧ μ (c.tc.loc main_arg2) = m (c.tc.loc main_arg2) ∧ μ (c.tc.loc main_arg3) = m (c.tc.loc main_arg3) ∧ μ (c.tc.loc main_arg4) = m (c.tc.loc main_arg4) ∧ μ (c.tc.loc main_arg5) = m (c.tc.loc main_arg5) ∧ μ (c.tc.loc main_arg6) = m (c.tc.loc main_arg6) ∧ μ (c.tc.loc main_arg7) = m (c.tc.loc main_arg7) ∧ μ (c.tc.loc main_arg8) = m (c.tc.loc main_arg8)

/-- The arguments end as they were. -/
theorem kept (r : PUnit × MemSt nD τ sig (Elt F)) (h : Pipeline.FramePost cfgs (dats m) 0 (V m) r) (c : Dev nD) :
    Kept m c r.2.mem :=
  ⟨((h c).1 1).trans (((dats m 0 c).arrAt_in 1 rfl _).trans ((A_eq m c 1).trans (V_main_arg0 m c))),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).2 main_arg4 (Pipeline.mem_restRefs_of main_arg4 (by decide) (by decide))).trans (V_main_arg4 m c),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c)))⟩

/-- The program ends with its arguments unchanged and every counter at zero. -/
theorem frame : θ_run defs (onTc (τ := τ) (main (F := F))) ⟨m, fun _ => 0, ρ⟩ (fun r => (∀ c : Dev nD,
      Kept m c r.2.mem)
      ∧ r.2.sem = fun _ => 0) :=
  (θ_run defs _ _).mono (fun r h => ⟨fun c => kept m r h.1 c, h.2⟩) (run_quiescent m ρ)

/-- The program ends with each result at the blocks the points wrote. -/
theorem run_blocks : θ_run defs (onTc (τ := τ) (main (F := F))) ⟨m, fun _ => 0, ρ⟩ fun r => ∀ c : Dev nD,
      (r.2.mem (c.tc.loc main_v0_0) = (dats m 0 c).arrAt 9 cfg0.N ∧ r.2.mem (c.tc.loc main_v0_1) = (dats m 0 c).arrAt 10 cfg0.N ∧ r.2.mem (c.tc.loc main_v0_2) = (dats m 0 c).arrAt 11 cfg0.N ∧ r.2.mem (c.tc.loc main_v0_3) = (dats m 0 c).arrAt 12 cfg0.N ∧ r.2.mem (c.tc.loc main_v0_4) = (dats m 0 c).arrAt 13 cfg0.N ∧ r.2.mem (c.tc.loc main_v0_5) = (dats m 0 c).arrAt 14 cfg0.N)
      ∧ (Kept m c r.2.mem) :=
  (θ_run defs _ _).mono (fun r h c => ⟨⟨(h.1 c).1 9, (h.1 c).1 10, (h.1 c).1 11, (h.1 c).1 12, (h.1 c).1 13, (h.1 c).1 14⟩, kept m r h.1 c⟩) (run_quiescent m ρ)

end Cert.Kernel11Ideal.Run

end
-- ==== Proof.Tail.Tiles.lean ====
module

public import proofs.«01_k».proof.Proof.Tail.Frame
public import proofs.«01_k».proof.Proof.Shards.Read
public import proofs.«01_k».proof.Proof.Shards.Own

@[expose] public section

set_option maxRecDepth 16384

noncomputable section

namespace Cert.Kernel11Ideal.Run

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

theorem blk0 (x : Fin 256) (r : Fin 4096) (hr : r.val = t.val * 256 + x.val) (k : Fin 3072) :
    iblk m c 0 t (ix2 x k) = m (c.tc.loc main_arg0) (ix2 r k) := by
  have hi := (by decide +kernel : ∀ t : Fin cfg0.N, win0_0.index t (0 : Fin 2) = t.val ∧ win0_0.index t (1 : Fin 2) = 0) t
  rw [← V_main_arg0 m c]
  blk_point [iblk, hi.1, hi.2]
theorem blk2 (x : Fin 256) (r : Fin 4096) (hr : r.val = t.val * 256 + x.val) (k : Fin 3072) :
    iblk m c 2 t (ix2 x k) = m (c.tc.loc main_arg1) (ix2 r k) := by
  have hi := (by decide +kernel : ∀ t : Fin cfg0.N, win0_2.index t (0 : Fin 2) = t.val ∧ win0_2.index t (1 : Fin 2) = 0) t
  rw [← V_main_arg1 m c]
  blk_point [iblk, hi.1, hi.2]
theorem blk3 (r : Fin 3) (k : Fin 3072) : iblk m c 3 t (ix2 r k) = m (c.tc.loc main_arg2) (ix2 r k) := by
  have hi := (by decide +kernel : ∀ t : Fin cfg0.N, win0_3.index t (0 : Fin 2) = 0 ∧ win0_3.index t (1 : Fin 2) = 0) t
  rw [← V_main_arg2 m c]
  blk_point [iblk, hi.1, hi.2]
theorem blk4 (r : Fin 1) (k : Fin 3072) : iblk m c 4 t (ix2 r k) = m (c.tc.loc main_arg3) (ix2 r k) := by
  have hi := (by decide +kernel : ∀ t : Fin cfg0.N, win0_4.index t (0 : Fin 2) = 0 ∧ win0_4.index t (1 : Fin 2) = 0) t
  rw [← V_main_arg3 m c]
  blk_point [iblk, hi.1, hi.2]
theorem blk5 (x : Fin 256) (r : Fin 4096) (hr : r.val = t.val * 256 + x.val) (k : Fin 1024) :
    iblk m c 5 t (ix2 x k) = m (c.tc.loc main_arg5) (ix2 r k) := by
  have hi := (by decide +kernel : ∀ t : Fin cfg0.N, win0_5.index t (0 : Fin 2) = t.val ∧ win0_5.index t (1 : Fin 2) = 0) t
  rw [← V_main_arg5 m c]
  blk_point [iblk, hi.1, hi.2]
theorem blk6 (r : Fin 1) (k : Fin 1024) : iblk m c 6 t (ix2 r k) = m (c.tc.loc main_arg6) (ix2 r k) := by
  have hi := (by decide +kernel : ∀ t : Fin cfg0.N, win0_6.index t (0 : Fin 2) = 0 ∧ win0_6.index t (1 : Fin 2) = 0) t
  rw [← V_main_arg6 m c]
  blk_point [iblk, hi.1, hi.2]
theorem blk7 (r : Fin 1) (k : Fin 1024) : iblk m c 7 t (ix2 r k) = m (c.tc.loc main_arg7) (ix2 r k) := by
  have hi := (by decide +kernel : ∀ t : Fin cfg0.N, win0_7.index t (0 : Fin 2) = 0 ∧ win0_7.index t (1 : Fin 2) = 0) t
  rw [← V_main_arg7 m c]
  blk_point [iblk, hi.1, hi.2]
theorem blk8 (r : Fin 1) (k : Fin 1024) : iblk m c 8 t (ix2 r k) = m (c.tc.loc main_arg8) (ix2 r k) := by
  have hi := (by decide +kernel : ∀ t : Fin cfg0.N, win0_8.index t (0 : Fin 2) = 0 ∧ win0_8.index t (1 : Fin 2) = 0) t
  rw [← V_main_arg8 m c]
  blk_point [iblk, hi.1, hi.2]
theorem blk1 (ht : ¬t.val = 0) (x : Fin 16) (r : Fin 4096) (hr : r.val + 16 = t.val * 256 + x.val) (k : Fin 3072) :
    iblk m c 1 t (ix2 x k) = m (c.tc.loc main_arg0) (ix2 r k) := by
  have hi := (by decide +kernel : ∀ t : Fin cfg0.N, win0_1.index t (0 : Fin 2) = 16 * t.val - 1 ∧ win0_1.index t (1 : Fin 2) = 0) t
  rw [← V_main_arg0 m c]
  blk_point [iblk, hi.1, hi.2]

/-- The rows under sixteen rows of zeros: row `n` of it, `0` outside. -/
def pad (X : S4096x3072.Idx → Elt Ideal .bf16) (n j : ℕ) : EReal :=
  if h : 16 ≤ n ∧ n < 4112 ∧ j < 3072 then X (ix2 (⟨n - 16, by omega⟩ : Fin 4096) (⟨j, by omega⟩ : Fin 3072)) else 0

theorem pad_zero (X : S4096x3072.Idx → Elt Ideal .bf16) (n j : ℕ) (h : n < 16) : pad X n j = 0 := dif_neg (by omega)
theorem pad_row (X : S4096x3072.Idx → Elt Ideal .bf16) (n j : ℕ) (r : Fin 4096) (k : Fin 3072) (hn : n = r.val + 16) (hj : j = k.val) : pad X n j = X (ix2 r k) := by
  subst hn hj
  rw [pad, dif_pos (by omega)]
  rfl

/-- An entry of a matrix at natural coordinates, `0` outside. -/
def ent {R C : ℕ} (X : (⟨2, ![R, C]⟩ : Shape).Idx → EReal) (r j : ℕ) : EReal :=
  if h : r < R ∧ j < C then X (ix2 (⟨r, h.1⟩ : Fin R) (⟨j, h.2⟩ : Fin C)) else 0

theorem ent_eq {R C : ℕ} (X : (⟨2, ![R, C]⟩ : Shape).Idx → EReal) (r : Fin R) (j : Fin C) : ent X r.val j.val = X (ix2 r j) :=
  dif_pos ⟨r.isLt, j.isLt⟩

/-- What the body leaves above the block's rows: the sixteen rows before them, zeros at the first point. -/
theorem pay5_apply (x : Fin 16) (k : Fin 3072) :
    k0_pay5 (F := Ideal) (grid0.coords t) (iblk m c 1 t) (ix2 x k) = pad (m (c.tc.loc main_arg0)) (t.val * 256 + x.val) k.val := by
  have hc := (by decide +kernel : ∀ t : Fin cfg0.N, Scalar.cmpi .sgt (BitVec.ofNat 32 ((grid0.coords t) 0).val) 0#32 = if t.val = 0 then 0#1 else 1#1) t
  by_cases ht : t.val = 0
  · rw [pad_zero _ _ _ (by omega)]
    rw [if_pos ht] at hc
    unfold k0_pay5
    simp only [hc]
    pointwise []
  · rw [if_neg ht] at hc
    have hN : t.val < 16 := Nat.lt_of_lt_of_eq t.isLt N_0
    rw [pad_row _ _ _ (⟨t.val * 256 + x.val - 16, by omega⟩ : Fin 4096) k (by dsimp only; omega) rfl,
      ← blk1 m c t ht x _ (by dsimp only; omega) k]
    unfold k0_pay5
    simp only [hc]
    pointwise []

/-- The block's own rows. -/
theorem pay6_apply (x : Fin 256) (k : Fin 3072) :
    k0_pay6 (F := Ideal) (iblk m c 0 t) (ix2 x k) = pad (m (c.tc.loc main_arg0)) (t.val * 256 + 16 + x.val) k.val := by
  have hN : t.val < 16 := Nat.lt_of_lt_of_eq t.isLt N_0
  rw [pad_row _ _ _ (⟨t.val * 256 + x.val, by omega⟩ : Fin 4096) k (by dsimp only; omega) rfl, ← blk0 m c t x _ rfl k]
  pointwise [k0_pay6]

/-- The row buffer, read at sixteen rows and a third of the columns. -/
theorem buf_apply (h1) (h2) (o b : ℕ) (h3) (x : Fin 16) (y : Fin 1024) :
    (View.whole cc0_scratch0).readCov (Val := Elt Ideal) [⟨Rect.unit (s := S272x3072) ![16, 0] ![256, 3072] h1, k0_pay6 (F := Ideal) (iblk m c 0 t)⟩,
      ⟨Rect.unit (s := S272x3072) ![0, 0] ![16, 3072] h2, k0_pay5 (F := Ideal) (grid0.coords t) (iblk m c 1 t)⟩]
      (Rect.unit (s := S272x3072) ![o, b] ![16, 1024] h3).toLoadRect (ix2 x y) = pad (m (c.tc.loc main_arg0)) (t.val * 256 + (o + x.val)) (b + y.val) := by
  rw [View.readCov_eq_canon']
  have g0 : o + 16 ≤ 272 := h3 0
  have g1 : b + 1024 ≤ 3072 := h3 1
  by_cases hr : 16 ≤ o + x.val
  · have e : (Rect.unit (s := S272x3072) ![o, b] ![16, 1024] h3).toLoadRect.idx (ix2 x y)
        = (Rect.unit (s := S272x3072) ![16, 0] ![256, 3072] h1).emb (ix2 (⟨o + x.val - 16, by omega⟩ : Fin 256) (⟨b + y.val, by omega⟩ : Fin 3072)) := by
      funext a
      apply Fin.ext
      fin_cases a
      · show o + 1 * x.val = 16 + 1 * (o + x.val - 16); omega
      · show b + 1 * y.val = 0 + 1 * (b + y.val); omega
    refine (congrArg (View.canon _) e).trans ((View.canon_cons_emb _ _ _ _).trans ((pay6_apply m c t _ _).trans ?_))
    dsimp only
    congr 1
    omega
  · have e : (Rect.unit (s := S272x3072) ![o, b] ![16, 1024] h3).toLoadRect.idx (ix2 x y)
        = (Rect.unit (s := S272x3072) ![0, 0] ![16, 3072] h2).emb (ix2 (⟨o + x.val, by omega⟩ : Fin 16) (⟨b + y.val, by omega⟩ : Fin 3072)) := by
      funext a
      apply Fin.ext
      fin_cases a
      · show o + 1 * x.val = 0 + 1 * (o + x.val); omega
      · show b + 1 * y.val = 0 + 1 * (b + y.val); omega
    refine (congrArg (View.canon _) e).trans ((View.canon_cons_of_not_mem _ _ ?_).trans ((View.canon_cons_emb _ _ _ _).trans (pay5_apply m c t _ _)))
    rw [Rect.mem_set_unit]
    intro hm
    have h0 : 16 ≤ 0 + 1 * (o + x.val) := (hm 0).1
    omega

/-- A row of the convolution's weights at a third of the columns. -/
theorem tap_apply (k b : ℕ) (h) (y : Fin 1024) :
    View.ld (Val := Elt Ideal) (iblk m c 3 t) (Rect.unit (s := S3x3072) ![k, b] ![1, 1024] h) (ix2 (0 : Fin 1) y) = ent (m (c.tc.loc main_arg2)) k (b + y.val) := by
  have g0 : k + 1 ≤ 3 := h 0
  have g1 : b + 1024 ≤ 3072 := h 1
  have e : (Rect.unit (s := S3x3072) ![k, b] ![1, 1024] h).idx (ix2 (0 : Fin 1) y) = ix2 (⟨k, by omega⟩ : Fin 3) (⟨b + y.val, by omega⟩ : Fin 3072) := by
    funext a
    apply Fin.ext
    fin_cases a
    · show k + 1 * 0 = k; omega
    · show b + 1 * y.val = b + y.val; omega
  refine (View.ld_apply _ _ _).trans ((congrArg (iblk m c 3 t) e).trans ((blk3 m c t _ _).trans ?_))
  exact (ent_eq (R := 3) (C := 3072) (m (c.tc.loc main_arg2)) (⟨k, by omega⟩ : Fin 3) (⟨b + y.val, by omega⟩ : Fin 3072)).symm

/-- The convolution's bias at a third of the columns. -/
theorem bias_apply (b : ℕ) (h) (y : Fin 1024) :
    View.ld (Val := Elt Ideal) (iblk m c 4 t) (Rect.unit (s := S1x3072) ![0, b] ![1, 1024] h) (ix2 (0 : Fin 1) y) = ent (m (c.tc.loc main_arg3)) 0 (b + y.val) := by
  have g1 : b + 1024 ≤ 3072 := h 1
  have e : (Rect.unit (s := S1x3072) ![0, b] ![1, 1024] h).idx (ix2 (0 : Fin 1) y) = ix2 (0 : Fin 1) (⟨b + y.val, by omega⟩ : Fin 3072) := by
    funext a
    apply Fin.ext
    fin_cases a
    · rfl
    · show b + 1 * y.val = b + y.val; omega
  refine (View.ld_apply _ _ _).trans ((congrArg (iblk m c 4 t) e).trans ((blk4 m c t _ _).trans ?_))
  exact (ent_eq (R := 1) (C := 3072) (m (c.tc.loc main_arg3)) (0 : Fin 1) (⟨b + y.val, by omega⟩ : Fin 3072)).symm

/-- The gate's other factor at sixteen rows and a third of the columns. -/
theorem side_apply (o b : ℕ) (h) (x : Fin 16) (y : Fin 1024) :
    View.ld (Val := Elt Ideal) (iblk m c 2 t) (Rect.unit (s := S256x3072) ![o, b] ![16, 1024] h) (ix2 x y) = ent (m (c.tc.loc main_arg1)) (t.val * 256 + (o + x.val)) (b + y.val) := by
  have g0 : o + 16 ≤ 256 := h 0
  have g1 : b + 1024 ≤ 3072 := h 1
  have hN : t.val < 16 := Nat.lt_of_lt_of_eq t.isLt N_0
  have e : (Rect.unit (s := S256x3072) ![o, b] ![16, 1024] h).idx (ix2 x y) = ix2 (⟨o + x.val, by omega⟩ : Fin 256) (⟨b + y.val, by omega⟩ : Fin 3072) := by
    funext a
    apply Fin.ext
    fin_cases a
    · show o + 1 * x.val = o + x.val; omega
    · show b + 1 * y.val = b + y.val; omega
  refine (View.ld_apply _ _ _).trans ((congrArg (iblk m c 2 t) e).trans ((blk2 m c t _ (⟨t.val * 256 + (o + x.val), by omega⟩ : Fin 4096) rfl _).trans ?_))
  exact (ent_eq (R := 4096) (C := 3072) (m (c.tc.loc main_arg1)) (⟨t.val * 256 + (o + x.val), by omega⟩ : Fin 4096) (⟨b + y.val, by omega⟩ : Fin 3072)).symm

/-- The convolution over the rows at row `n`, column `j`, the last tap first. -/
def conv (X : S4096x3072.Idx → Elt Ideal .bf16) (w : S3x3072.Idx → Elt Ideal .f32) (b : S1x3072.Idx → Elt Ideal .f32) (n j : ℕ) : EReal :=
  ent (R := 3) (C := 3072) w 2 j * pad X (n + 16) j + ent (R := 3) (C := 3072) w 1 j * pad X (n + 15) j + ent (R := 3) (C := 3072) w 0 j * pad X (n + 14) j
    + ent (R := 1) (C := 3072) b 0 j

/-- The gate: `u` times its sigmoid times the other factor. -/
def gated (u v : EReal) : EReal := u * Ideal.div 1 (1 + Ideal.exp (0 - u)) * v

theorem conv_eq (X : S4096x3072.Idx → Elt Ideal .bf16) (w : S3x3072.Idx → Elt Ideal .f32) (b : S1x3072.Idx → Elt Ideal .f32) (n j n2 n1 n0 j' : ℕ)
    (h2 : n2 = n + 16) (h1 : n1 = n + 15) (h0 : n0 = n + 14) (hj : j' = j) :
    ent (R := 3) (C := 3072) w 2 j' * pad X n2 j' + ent (R := 3) (C := 3072) w 1 j' * pad X n1 j' + ent (R := 3) (C := 3072) w 0 j' * pad X n0 j'
      + ent (R := 1) (C := 3072) b 0 j' = conv X w b n j := by
  subst h2 h1 h0 hj
  rfl

section
variable (c : Dev nD) (t : Fin cfg0.N)

theorem tap_at (k : Fin 3) (j : Fin 3072) : iblk m c 3 t (ix2 k j) = ent (m (c.tc.loc main_arg2)) k.val j.val :=
  (blk3 m c t k j).trans (ent_eq (R := 3) (C := 3072) (m (c.tc.loc main_arg2)) k j).symm
theorem bias_at (j : Fin 3072) : iblk m c 4 t (ix2 (0 : Fin 1) j) = ent (m (c.tc.loc main_arg3)) 0 j.val :=
  (blk4 m c t 0 j).trans (ent_eq (R := 1) (C := 3072) (m (c.tc.loc main_arg3)) 0 j).symm
theorem side_at (x : Fin 256) (j : Fin 3072) : iblk m c 2 t (ix2 x j) = ent (m (c.tc.loc main_arg1)) (t.val * 256 + x.val) j.val := by
  have hN : t.val < 16 := Nat.lt_of_lt_of_eq t.isLt N_0
  exact (blk2 m c t x (⟨t.val * 256 + x.val, by omega⟩ : Fin 4096) rfl j).trans
    (ent_eq (R := 4096) (C := 3072) (m (c.tc.loc main_arg1)) (⟨t.val * 256 + x.val, by omega⟩ : Fin 4096) j).symm
end

theorem conv_close (X : S4096x3072.Idx → Elt Ideal .bf16) (w : S3x3072.Idx → Elt Ideal .f32) (b : S1x3072.Idx → Elt Ideal .f32) (n j n2 n1 n0 a2 a1 a0 c2 c1 c0 c3 : ℕ)
    (h2 : n2 = n + 16) (h1 : n1 = n + 15) (h0 : n0 = n + 14) (ha2 : a2 = j) (ha1 : a1 = j) (ha0 : a0 = j) (hc2 : c2 = j) (hc1 : c1 = j) (hc0 : c0 = j) (hc3 : c3 = j) :
    ent (R := 3) (C := 3072) w 2 c2 * pad X n2 a2 + ent (R := 3) (C := 3072) w 1 c1 * pad X n1 a1 + ent (R := 3) (C := 3072) w 0 c0 * pad X n0 a0
      + ent (R := 1) (C := 3072) b 0 c3 = conv X w b n j := by
  subst h2 h1 h0 ha2 ha1 ha0 hc2 hc1 hc0 hc3
  rfl

/-- A block's gate at an entry. -/
def gate (X V : S4096x3072.Idx → Elt Ideal .bf16) (w : S3x3072.Idx → Elt Ideal .f32) (b : S1x3072.Idx → Elt Ideal .f32) (n j : ℕ) : EReal :=
  gated (conv X w b n j) (ent (R := 4096) (C := 3072) V n j)

theorem gate_close (X V : S4096x3072.Idx → Elt Ideal .bf16) (w : S3x3072.Idx → Elt Ideal .f32) (b : S1x3072.Idx → Elt Ideal .f32) (n j n' j' : ℕ) (u u' : EReal)
    (hu : u = conv X w b n j) (hu' : u' = conv X w b n j) (hn : n' = n) (hj : j' = j) :
    u * Ideal.div 1 (1 + Ideal.exp (0 - u')) * ent (R := 4096) (C := 3072) V n' j' = gate X V w b n j := by
  subst hu hu' hn hj
  rfl

set_option maxHeartbeats 8000000 in
/-- The first point and every later one leave the gate and the convolution of their rows. -/
theorem tiles_apply (s1 : Vec Ideal S3072x1024 .bf16) (y0 : Fin 256) (y1 : Fin 3072) :
    (∀ h : t.val = 0, outFirst9 m c t h (ix2 y0 y1) = gate (m (c.tc.loc main_arg0)) (m (c.tc.loc main_arg1)) (m (c.tc.loc main_arg2)) (m (c.tc.loc main_arg3)) (t.val * 256 + y0.val) y1.val) ∧
    (∀ h : t.val = 0, outFirst10 m c t h (ix2 y0 y1) = conv (m (c.tc.loc main_arg0)) (m (c.tc.loc main_arg2)) (m (c.tc.loc main_arg3)) (t.val * 256 + y0.val) y1.val) ∧
    (∀ h : ¬t.val = 0, outLater9 m c t h s1 (ix2 y0 y1) = gate (m (c.tc.loc main_arg0)) (m (c.tc.loc main_arg1)) (m (c.tc.loc main_arg2)) (m (c.tc.loc main_arg3)) (t.val * 256 + y0.val) y1.val) ∧
    (∀ h : ¬t.val = 0, outLater10 m c t h s1 (ix2 y0 y1) = conv (m (c.tc.loc main_arg0)) (m (c.tc.loc main_arg2)) (m (c.tc.loc main_arg3)) (t.val * 256 + y0.val) y1.val) := by
  refine ⟨fun h => ?_, fun h => ?_, fun h => ?_, fun h => ?_⟩
  all_goals first | unfold outFirst9 runFirst | unfold outFirst10 runFirst | unfold outLater9 runLater | unfold outLater10 runLater
  all_goals frame_out
  all_goals canon_tiles x h
  all_goals
    obtain ⟨x0, x1, rfl⟩ := Shards.pair x
    have e0 : ((ix2 y0 y1 : S256x3072.Idx) 0).val = y0.val := rfl
    have e1 : ((ix2 y0 y1 : S256x3072.Idx) 1).val = y1.val := rfl
    have e2 : ((ix2 x0 x1 : S16x1024.Idx) 0).val = x0.val := rfl
    have e3 : ((ix2 x0 x1 : S16x1024.Idx) 1).val = x1.val := rfl
    rw [e0, e2] at h0
    rw [e1, e3] at h1
    clear e0 e1 e2 e3 x0_lt x1_lt
    pointwise [
    k0_pay7, k0_pay8, k0_pay9, k0_pay10, k0_pay11, k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46, k0_pay47, k0_pay48, k0_pay49,
      k0_pay50, k0_pay51, k0_pay52, k0_pay53, k0_pay54, k0_pay55, k0_pay56, k0_pay57, k0_pay58, k0_pay59, k0_pay60, k0_pay61, k0_pay62, k0_pay63,
      k0_pay64, k0_pay65, k0_pay66, k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129, k0_pay130, k0_pay131,
      k0_pay132, k0_pay133, k0_pay135, k0_pay136, k0_pay137, k0_pay138, k0_pay139, k0_pay140, k0_pay141, k0_pay142, k0_pay143, k0_pay144, k0_pay145,
      k0_pay146, k0_pay147, k0_pay148, k0_pay149, k0_pay150, k0_pay151, k0_pay152, k0_pay153, k0_pay154, k0_pay155, k0_pay156, k0_pay157, k0_pay158,
      k0_pay159, k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183, k0_pay184,
      k0_pay185, k0_pay186, k0_pay187, k0_pay188, k0_pay189, k0_pay190, k0_pay191, k0_pay192, k0_pay193]
    simp only [buf_apply m c t, tap_at m c t, bias_at m c t, side_at m c t]
    first | refine conv_close _ _ _ _ _ _ _ _ _ _ _ _ _ _ _ ?_ ?_ ?_ ?_ ?_ ?_ ?_ ?_ ?_ ?_ | refine gate_close _ _ _ _ _ _ _ _ _ _ (conv_close _ _ _ _ _ _ _ _ _ _ _ _ _ _ _ ?_ ?_ ?_ ?_ ?_ ?_ ?_ ?_ ?_ ?_) (conv_close _ _ _ _ _ _ _ _ _ _ _ _ _ _ _ ?_ ?_ ?_ ?_ ?_ ?_ ?_ ?_ ?_ ?_) ?_ ?_
    all_goals first | omega | (dsimp only; omega)

end Cert.Kernel11Ideal.Run

end
-- ==== Proof.Tail.Out.lean ====
module

public import proofs.«01_k».proof.Proof.Tail.Frame
public import proofs.«01_k».proof.Proof.Shards.Read
public import proofs.«01_k».proof.Proof.Shards.Norm
public import proofs.«01_k».proof.Proof.Shards.Own

@[expose] public section

set_option maxRecDepth 16384

noncomputable section

namespace Cert.Kernel11Ideal.Run

open Cert.Kernel11Ideal Cert.Kernel11Ideal.Gen Idealize.ShloMosaic Idealize.ShloMosaic.TcCoe Idealize.SL.Sem
open Idealize.ShloMosaic.Pipeline (Dat)

open Cert.Shards (dev rstd normed)

section
variable (A0 A1 A2 : Vec Ideal S256x1024 .bf16) (W0 W1 W2 : Vec Ideal S1024x1024 .bf16)

theorem pay67_apply (r : Fin 256) (j : Fin 1024) : k0_pay67 (F := Ideal) A0 W0 (ix2 r j) = ∑ k : Fin 1024, A0 (ix2 r k) * W0 (ix2 k j) := by
  pointwise [k0_pay67]
theorem pay134_apply (P : FVec Ideal S256x1024 .f32) (r : Fin 256) (j : Fin 1024) : k0_pay134 (F := Ideal) P A1 W1 (ix2 r j) = P (ix2 r j) + ∑ k : Fin 1024, A1 (ix2 r k) * W1 (ix2 k j) := by
  pointwise [k0_pay134]
theorem pay194_apply (P : FVec Ideal S256x1024 .f32) (r : Fin 256) (j : Fin 1024) : k0_pay194 (F := Ideal) P A2 W2 (ix2 r j) = P (ix2 r j) + ∑ k : Fin 1024, A2 (ix2 r k) * W2 (ix2 k j) := by
  pointwise [k0_pay194]

/-- The three partial products together are the product over all 3072 columns. -/
theorem sum_apply (G : Fin 256 → Fin 3072 → EReal) (W : Fin 3072 → Fin 1024 → EReal)
    (hA0 : ∀ r k, A0 (ix2 r k) = G r (⟨0 + k.val, by omega⟩ : Fin 3072)) (hA1 : ∀ r k, A1 (ix2 r k) = G r (⟨1024 + k.val, by omega⟩ : Fin 3072)) (hA2 : ∀ r k, A2 (ix2 r k) = G r (⟨2048 + k.val, by omega⟩ : Fin 3072))
    (hW0 : ∀ k j, W0 (ix2 k j) = W (⟨0 + k.val, by omega⟩ : Fin 3072) j) (hW1 : ∀ k j, W1 (ix2 k j) = W (⟨1024 + k.val, by omega⟩ : Fin 3072) j) (hW2 : ∀ k j, W2 (ix2 k j) = W (⟨2048 + k.val, by omega⟩ : Fin 3072) j)
    (r : Fin 256) (j : Fin 1024) :
    k0_pay194 (F := Ideal) (k0_pay134 (F := Ideal) (k0_pay67 (F := Ideal) A0 W0) A1 W1) A2 W2 (ix2 r j) = ∑ k : Fin 3072, G r k * W k j := by
  rw [pay194_apply, pay134_apply, pay67_apply]
  simp only [hA0, hA1, hA2, hW0, hW1, hW2]
  have e := Fin.sum_univ_add (M := EReal) (a := 2048) (b := 1024) (fun k : Fin (2048 + 1024) => G r k * W k j)
  have e' := Fin.sum_univ_add (M := EReal) (a := 1024) (b := 1024) (fun k : Fin (1024 + 1024) => G r (Fin.castAdd 1024 k) * W (Fin.castAdd 1024 k) j)
  refine Eq.trans ?_ e.symm
  refine Eq.trans ?_ (congrArg (· + ∑ i : Fin 1024, G r (Fin.natAdd 2048 i) * W (Fin.natAdd 2048 i) j) e'.symm)
  simp only [Nat.zero_add]
  rfl

/-- The same of the rounded product the body stores. -/
theorem stored_apply (G : Fin 256 → Fin 3072 → EReal) (W : Fin 3072 → Fin 1024 → EReal)
    (hA0 : ∀ r k, A0 (ix2 r k) = G r (⟨0 + k.val, by omega⟩ : Fin 3072)) (hA1 : ∀ r k, A1 (ix2 r k) = G r (⟨1024 + k.val, by omega⟩ : Fin 3072)) (hA2 : ∀ r k, A2 (ix2 r k) = G r (⟨2048 + k.val, by omega⟩ : Fin 3072))
    (hW0 : ∀ k j, W0 (ix2 k j) = W (⟨0 + k.val, by omega⟩ : Fin 3072) j) (hW1 : ∀ k j, W1 (ix2 k j) = W (⟨1024 + k.val, by omega⟩ : Fin 3072) j) (hW2 : ∀ k j, W2 (ix2 k j) = W (⟨2048 + k.val, by omega⟩ : Fin 3072) j)
    (r : Fin 256) (j : Fin 1024) :
    k0_pay3 (F := Ideal) (k0_pay194 (F := Ideal) (k0_pay134 (F := Ideal) (k0_pay67 (F := Ideal) A0 W0) A1 W1) A2 W2) (ix2 r j) = ∑ k : Fin 3072, G r k * W k j :=
  sum_apply A0 A1 A2 W0 W1 W2 G W hA0 hA1 hA2 hW0 hW1 hW2 r j
end

section
variable (P : FVec Ideal S256x1024 .f32) (A : Vec Ideal S256x1024 .bf16) (W : Vec Ideal S1024x1024 .bf16) (x : Vec Ideal S256x1024 .f32) (g : Vec Ideal S1x1024 .f32)

/-- A block's rows before the norm: the scaled residual plus the gated projection. -/
def mix (r : Fin 256) (k : Fin 1024) : EReal :=
  Ideal.ofBits FTy.f32 1068827891#32 * x (ix2 r k) + g (ix2 (0 : Fin 1) k) * k0_pay194 (F := Ideal) P A W (ix2 r k)

/-- The block's rows less their means, as the body computes them. -/
abbrev devs : FVec Ideal S256x1024 .f32 := k0_pay198 (F := Ideal) (k0_pay195 (F := Ideal) P A W x g) (k0_pay196 (F := Ideal) P A W x g) (k0_pay197 (F := Ideal))
/-- The block's variances plus the norm's small constant. -/
abbrev vars : FVec Ideal S256x1 .f32 := k0_pay199 (F := Ideal) (k0_pay195 (F := Ideal) P A W x g) (k0_pay196 (F := Ideal) P A W x g) (k0_pay197 (F := Ideal))

theorem pay195_apply (r : Fin 256) (k : Fin 1024) : k0_pay195 (F := Ideal) P A W x g (ix2 r k) = mix P A W x g r k := by
  unfold mix k0_pay195
  generalize k0_pay194 (F := Ideal) P A W = Y
  pointwise []
theorem devs_apply (r : Fin 256) (j : Fin 1024) : devs P A W x g (ix2 r j) = dev (mix P A W x g r) j := by
  unfold devs dev
  simp only [← pay195_apply]
  unfold k0_pay196
  generalize k0_pay195 (F := Ideal) P A W x g = Z
  pointwise [k0_pay198, k0_pay197]
theorem vars_apply (r : Fin 256) : k0_pay1 (F := Ideal) (vars P A W x g) (ix2 r (0 : Fin 1)) = rstd (mix P A W x g r) := by
  unfold rstd vars
  simp only [← devs_apply]
  unfold devs k0_pay199
  generalize k0_pay198 (F := Ideal) (k0_pay195 (F := Ideal) P A W x g) (k0_pay196 (F := Ideal) P A W x g) (k0_pay197 (F := Ideal)) = D
  pointwise [k0_pay1]
theorem pay2_apply (r : Fin 256) (j : Fin 1024) : k0_pay2 (F := Ideal) (devs P A W x g) (vars P A W x g) (ix2 r j) = normed (mix P A W x g r) j := by
  unfold normed
  rw [← devs_apply, ← vars_apply]
  unfold k0_pay2
  generalize devs P A W x g = D
  generalize k0_pay1 (F := Ideal) (vars P A W x g) = V
  pointwise []
theorem pay4_apply (gm bt : Vec Ideal S1x1024 .f32) (r : Fin 256) (j : Fin 1024) :
    k0_pay4 (F := Ideal) (devs P A W x g) (vars P A W x g) gm bt (ix2 r j) = normed (mix P A W x g r) j * gm (ix2 (0 : Fin 1) j) + bt (ix2 (0 : Fin 1) j) := by
  rw [← pay2_apply]
  unfold k0_pay4
  generalize k0_pay2 (F := Ideal) (devs P A W x g) (vars P A W x g) = D
  pointwise []
end

section
variable [∀ e, Nonempty (Elt Ideal e)]

/-- A piece of the columns from `b` on says nothing of the columns before. -/
theorem skip (o b : ℕ) (h) (w : (⟨2, ![16, 1024]⟩ : Shape).Idx → Elt Ideal .bf16) (L : List (View.Piece (Elt Ideal) S256x3072 .bf16)) (y : S256x3072.Idx) (hy : (y 1).val < b) :
    View.canon (⟨Rect.unit (s := S256x3072) ![o, b] ![16, 1024] h, w⟩ :: L) y = View.canon L y := by
  refine View.canon_cons_of_not_mem _ _ ?_
  rw [Rect.mem_set_unit]
  intro hm
  have h1 : b ≤ (y 1).val := (hm 1).1
  omega

/-- A third of the columns, read of what the pieces leave. -/
theorem third_apply {sp} (v : View sig .tc sp S256x3072 .bf16) (L : List (View.Piece (Elt Ideal) S256x3072 .bf16)) (b : ℕ) (h) (x : Fin 256) (k : Fin 1024) (j : Fin 3072) (hj : j.val = b + k.val) :
    v.readCov (Val := Elt Ideal) L (Rect.unit (s := S256x3072) ![0, b] ![256, 1024] h).toLoadRect (ix2 x k) = View.canon L (ix2 x j) := by
  rw [View.readCov_eq_canon']
  refine congrArg (View.canon L) ?_
  funext a
  apply Fin.ext
  fin_cases a
  · show 0 + 1 * x.val = x.val; omega
  · show b + 1 * k.val = j.val; omega

/-- A third of the weight's rows, read of what the pieces leave. -/
theorem rows_cov {sp} (v : View sig .tc sp S3072x1024 .bf16) (L : List (View.Piece (Elt Ideal) S3072x1024 .bf16)) (b : ℕ) (h) (k : Fin 1024) (j : Fin 1024) (i : Fin 3072) (hi : i.val = b + k.val) :
    v.readCov (Val := Elt Ideal) L (Rect.unit (s := S3072x1024) ![b, 0] ![1024, 1024] h).toLoadRect (ix2 k j) = View.canon L (ix2 i j) := by
  rw [View.readCov_eq_canon']
  refine congrArg (View.canon L) ?_
  funext a
  apply Fin.ext
  fin_cases a
  · show b + 1 * k.val = i.val; omega
  · show 0 + 1 * j.val = j.val; omega

/-- A third of the rows of a kept weight. -/
theorem rows_ld (s : Vec Ideal S3072x1024 .bf16) (b : ℕ) (h) (k : Fin 1024) (j : Fin 1024) (i : Fin 3072) (hi : i.val = b + k.val) :
    View.ld (Val := Elt Ideal) s (Rect.unit (s := S3072x1024) ![b, 0] ![1024, 1024] h) (ix2 k j) = s (ix2 i j) := by
  refine (View.ld_apply _ _ _).trans (congrArg s ?_)
  funext a
  apply Fin.ext
  fin_cases a
  · show b + 1 * k.val = i.val; omega
  · show 0 + 1 * j.val = j.val; omega
end

variable (m : (ℓ : Loc nD τ sig) → Buf (Elt Ideal) ℓ)
variable (c : Dev nD) (t : Fin cfg0.N)

set_option maxHeartbeats 1000000 in
/-- The first point's product: its gated rows against the kept weight. -/
theorem outFirst11_apply (h : t0_0.val = 0) (x : Fin 256) (j : Fin 1024) :
    outFirst11 m c t0_0 h (ix2 x j) = ∑ k : Fin 3072, outFirst9 m c t0_0 h (ix2 x k) * weight1 m c (ix2 k j) := by
  generalize hG : outFirst9 m c t0_0 h = G
  generalize hW : weight1 m c = W
  unfold outFirst11
  rw [runFirst]
  frame_out
  try simp only [read_unread_whole]
  refine stored_apply _ _ _ _ _ _ (fun x k => G (ix2 x k)) (fun k j => W (ix2 k j)) ?_ ?_ ?_ ?_ ?_ ?_ x j
  · intro r k
    refine (third_apply _ _ _ _ r k (⟨0 + k.val, by omega⟩ : Fin 3072) rfl).trans ?_
    have hy2 : ((ix2 r (⟨0 + k.val, by omega⟩ : Fin 3072) : S256x3072.Idx) 1).val < 2048 := by show 0 + k.val < 2048; omega
    have hy1 : ((ix2 r (⟨0 + k.val, by omega⟩ : Fin 3072) : S256x3072.Idx) 1).val < 1024 := by show 0 + k.val < 1024; omega
    rw [← hG]
    unfold outFirst9 runFirst
    frame_out
    iterate 16 rw [skip _ _ _ _ _ _ hy2]
    iterate 16 rw [skip _ _ _ _ _ _ hy1]
  · intro r k
    refine (third_apply _ _ _ _ r k (⟨1024 + k.val, by omega⟩ : Fin 3072) rfl).trans ?_
    have hy2 : ((ix2 r (⟨1024 + k.val, by omega⟩ : Fin 3072) : S256x3072.Idx) 1).val < 2048 := by show 1024 + k.val < 2048; omega
    rw [← hG]
    unfold outFirst9 runFirst
    frame_out
    iterate 16 rw [skip _ _ _ _ _ _ hy2]
  · intro r k
    refine (third_apply _ _ _ _ r k (⟨2048 + k.val, by omega⟩ : Fin 3072) rfl).trans ?_
    rw [← hG]
    unfold outFirst9 runFirst
    frame_out
  · intro k j
    refine (rows_cov _ _ _ _ k j (⟨0 + k.val, by omega⟩ : Fin 3072) rfl).trans ?_
    rw [← hW]
    unfold weight1 runFirst
    frame_out
  · intro k j
    refine (rows_cov _ _ _ _ k j (⟨1024 + k.val, by omega⟩ : Fin 3072) rfl).trans ?_
    rw [← hW]
    unfold weight1 runFirst
    frame_out
  · intro k j
    refine (rows_cov _ _ _ _ k j (⟨2048 + k.val, by omega⟩ : Fin 3072) rfl).trans ?_
    rw [← hW]
    unfold weight1 runFirst
    frame_out

set_option maxHeartbeats 1000000 in
/-- The first point's other results, from the same product. -/
theorem outsFirst (h : t0_0.val = 0) :
    ∃ P A W, outFirst11 m c t0_0 h = k0_pay3 (F := Ideal) (k0_pay194 (F := Ideal) P A W)
      ∧ outFirst12 m c t0_0 h = k0_pay4 (F := Ideal) (devs P A W (iblk m c 5 t0_0) (iblk m c 6 t0_0)) (vars P A W (iblk m c 5 t0_0) (iblk m c 6 t0_0)) (iblk m c 7 t0_0) (iblk m c 8 t0_0)
      ∧ outFirst13 m c t0_0 h = k0_pay2 (F := Ideal) (devs P A W (iblk m c 5 t0_0) (iblk m c 6 t0_0)) (vars P A W (iblk m c 5 t0_0) (iblk m c 6 t0_0))
      ∧ outFirst14 m c t0_0 h = k0_pay1 (F := Ideal) (vars P A W (iblk m c 5 t0_0) (iblk m c 6 t0_0)) := by
  unfold outFirst11 outFirst12 outFirst13 outFirst14 runFirst
  frame_out
  exact ⟨_, _, _, rfl, rfl, rfl, rfl⟩

set_option maxHeartbeats 1000000 in
/-- A later point's product: its gated rows against the kept weight. -/
theorem outLater11_apply (h : ¬t.val = 0) (s1 : Vec Ideal S3072x1024 .bf16) (x : Fin 256) (j : Fin 1024) :
    outLater11 m c t h s1 (ix2 x j) = ∑ k : Fin 3072, outLater9 m c t h s1 (ix2 x k) * s1 (ix2 k j) := by
  generalize hG : outLater9 m c t h s1 = G
  unfold outLater11
  rw [runLater]
  frame_out
  try simp only [read_unread_whole]
  refine stored_apply _ _ _ _ _ _ (fun x k => G (ix2 x k)) (fun k j => s1 (ix2 k j)) ?_ ?_ ?_ ?_ ?_ ?_ x j
  · intro r k
    refine (third_apply _ _ _ _ r k (⟨0 + k.val, by omega⟩ : Fin 3072) rfl).trans ?_
    have hy2 : ((ix2 r (⟨0 + k.val, by omega⟩ : Fin 3072) : S256x3072.Idx) 1).val < 2048 := by show 0 + k.val < 2048; omega
    have hy1 : ((ix2 r (⟨0 + k.val, by omega⟩ : Fin 3072) : S256x3072.Idx) 1).val < 1024 := by show 0 + k.val < 1024; omega
    rw [← hG]
    unfold outLater9 runLater
    frame_out
    iterate 16 rw [skip _ _ _ _ _ _ hy2]
    iterate 16 rw [skip _ _ _ _ _ _ hy1]
  · intro r k
    refine (third_apply _ _ _ _ r k (⟨1024 + k.val, by omega⟩ : Fin 3072) rfl).trans ?_
    have hy2 : ((ix2 r (⟨1024 + k.val, by omega⟩ : Fin 3072) : S256x3072.Idx) 1).val < 2048 := by show 1024 + k.val < 2048; omega
    rw [← hG]
    unfold outLater9 runLater
    frame_out
    iterate 16 rw [skip _ _ _ _ _ _ hy2]
  · intro r k
    refine (third_apply _ _ _ _ r k (⟨2048 + k.val, by omega⟩ : Fin 3072) rfl).trans ?_
    rw [← hG]
    unfold outLater9 runLater
    frame_out
  · exact fun k j => rows_ld s1 _ _ k j (⟨0 + k.val, by omega⟩ : Fin 3072) rfl
  · exact fun k j => rows_ld s1 _ _ k j (⟨1024 + k.val, by omega⟩ : Fin 3072) rfl
  · exact fun k j => rows_ld s1 _ _ k j (⟨2048 + k.val, by omega⟩ : Fin 3072) rfl

set_option maxHeartbeats 1000000 in
/-- A later point's other results, from the same product. -/
theorem outsLater (h : ¬t.val = 0) (s1 : Vec Ideal S3072x1024 .bf16) :
    ∃ P A W, outLater11 m c t h s1 = k0_pay3 (F := Ideal) (k0_pay194 (F := Ideal) P A W)
      ∧ outLater12 m c t h s1 = k0_pay4 (F := Ideal) (devs P A W (iblk m c 5 t) (iblk m c 6 t)) (vars P A W (iblk m c 5 t) (iblk m c 6 t)) (iblk m c 7 t) (iblk m c 8 t)
      ∧ outLater13 m c t h s1 = k0_pay2 (F := Ideal) (devs P A W (iblk m c 5 t) (iblk m c 6 t)) (vars P A W (iblk m c 5 t) (iblk m c 6 t))
      ∧ outLater14 m c t h s1 = k0_pay1 (F := Ideal) (vars P A W (iblk m c 5 t) (iblk m c 6 t)) := by
  unfold outLater11 outLater12 outLater13 outLater14 runLater
  frame_out
  exact ⟨_, _, _, rfl, rfl, rfl, rfl⟩

end Cert.Kernel11Ideal.Run

end
-- ==== Proof.Tail.Points.lean ====
module

public import proofs.«01_k».proof.Proof.Tail.Frame
public import proofs.«01_k».proof.Proof.Shards.Read
public import proofs.«01_k».proof.Proof.Tail.Tiles
public import proofs.«01_k».proof.Proof.Tail.Out
public import proofs.«01_k».proof.Proof.Shards.Norm
public import proofs.«01_k».proof.Proof.Gen.Reference11Ideal
public import proofs.«01_k».proof.Defs
public import proofs.«01_k».proof.Proof.Gen.Reference11Ideal.Run
public import proofs.«01_k».proof.Proof.Gen.Kernel11
public import proofs.«01_k».proof.Proof.Shards.Own

@[expose] public section

set_option maxRecDepth 16384

noncomputable section

namespace Cert.Kernel11Ideal.Run

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- The weight in the scratch: row `k` is row `k % 384` of the shard of device `k / 384`. -/
theorem weight1_apply (d : Fin 8) (r : Fin 384) (k : Fin 3072) (j : Fin 1024) (hk : k.val = d.val * 384 + (r.val - 0)) (hr : 0 ≤ r.val) (hr' : r.val < 384) :
    weight1 m c (ix2 k j) = m (c.tc.loc main_arg4) (ix3 d r j) := by
  unfold weight1 runFirst
  frame_out
  canon_tiles x h
  all_goals obtain ⟨x0, x1, rfl⟩ := Shards.pair x
  all_goals
    have e0 : ((ix2 k j : S3072x1024.Idx) 0).val = k.val := rfl
    have e1 : ((ix2 k j : S3072x1024.Idx) 1).val = j.val := rfl
    have e2 : ((ix2 x0 x1 : S384x1024.Idx) 0).val = x0.val := rfl
    have e3 : ((ix2 x0 x1 : S384x1024.Idx) 1).val = x1.val := rfl
    rw [e0, e2] at h0
    rw [e1, e3] at h1
    have := x0.isLt
    have := x1.isLt
    refine (Shards.read_block _ _ _ _ _ d x0 x1 r j ?_ ?_ ?_ rfl).trans (congrFun (V_main_arg4 m c) _)
    all_goals
      try simp only [Matrix.cons_val_zero, Matrix.cons_val_one, Matrix.cons_val]
      omega

open Cert.Shards (dev rstd normed)

/-- The down projection at an entry: row `r` of the gate against column `j` of the gathered weight. -/
def proj (X V : S4096x3072.Idx → Elt Ideal .bf16) (w : S3x3072.Idx → Elt Ideal .f32) (b : S1x3072.Idx → Elt Ideal .f32) (wg : S8x384x1024.Idx → Elt Ideal .bf16) (r : Fin 4096) (j : Fin 1024) : EReal :=
  ∑ k : Fin 3072, gate X V w b r.val k.val * wg (ix3 (⟨k.val / 384, by omega⟩ : Fin 8) (⟨k.val % 384, by omega⟩ : Fin 384) j)

/-- The rows before the norm. -/
def rows (X V : S4096x3072.Idx → Elt Ideal .bf16) (w : S3x3072.Idx → Elt Ideal .f32) (b : S1x3072.Idx → Elt Ideal .f32) (wg : S8x384x1024.Idx → Elt Ideal .bf16) (x : S4096x1024.Idx → Elt Ideal .f32) (g : S1x1024.Idx → Elt Ideal .f32)
    (r : Fin 4096) (k : Fin 1024) : EReal :=
  Ideal.ofBits FTy.f32 1068827891#32 * x (ix2 r k) + g (ix2 (0 : Fin 1) k) * proj X V w b wg r k

/-- One block of output window 9: the gate. -/
theorem out9_apply (x : Fin 256) (j : Fin 3072) : out9 m c t (ix2 x j) = gate (m (c.tc.loc main_arg0)) (m (c.tc.loc main_arg1)) (m (c.tc.loc main_arg2)) (m (c.tc.loc main_arg3)) (t.val * 256 + x.val) j.val := by
  by_cases h : t.val = 0
  · rw [out9_first m c t h]
    exact (tiles_apply m c t (weight1 m c) x j).1 h
  · rw [out9_later m c t h]
    exact (tiles_apply m c t _ x j).2.2.1 h

/-- One block of output window 10: the convolution. -/
theorem out10_apply (x : Fin 256) (j : Fin 3072) : out10 m c t (ix2 x j) = conv (m (c.tc.loc main_arg0)) (m (c.tc.loc main_arg2)) (m (c.tc.loc main_arg3)) (t.val * 256 + x.val) j.val := by
  by_cases h : t.val = 0
  · rw [out10_first m c t h]
    exact (tiles_apply m c t (weight1 m c) x j).2.1 h
  · rw [out10_later m c t h]
    exact (tiles_apply m c t _ x j).2.2.2 h

/-- A block's product, on the block's gate. -/
theorem out11_sum (x : Fin 256) (j : Fin 1024) : out11 m c t (ix2 x j) = ∑ k : Fin 3072, out9 m c t (ix2 x k) * weight1 m c (ix2 k j) := by
  by_cases h : t.val = 0
  · simp only [out11_first m c t h, out9_first m c t h]
    obtain rfl : t = t0_0 := Fin.ext h
    exact outFirst11_apply m c h x j
  · simp only [out11_later m c t h, out9_later m c t h]
    exact outLater11_apply m c t h _ x j

/-- One block of output window 11: the down projection. -/
theorem out11_apply (x : Fin 256) (j : Fin 1024) (r : Fin 4096) (hr : r.val = t.val * 256 + x.val) :
    out11 m c t (ix2 x j) = proj (m (c.tc.loc main_arg0)) (m (c.tc.loc main_arg1)) (m (c.tc.loc main_arg2)) (m (c.tc.loc main_arg3)) (m (c.tc.loc main_arg4)) r j := by
  rw [out11_sum]
  unfold proj
  have hW : ∀ k : Fin 3072, weight1 m c (ix2 k j) = m (c.tc.loc main_arg4) (ix3 (⟨k.val / 384, by omega⟩ : Fin 8) (⟨k.val % 384, by omega⟩ : Fin 384) j) :=
    fun k => weight1_apply m c _ _ k j (by dsimp only; omega) (by dsimp only; omega) (by dsimp only; omega)
  simp only [← hW, out9_apply, hr]

/-- A block's other results, from its product. -/
theorem outs :
    ∃ P A W, out11 m c t = k0_pay3 (F := Ideal) (k0_pay194 (F := Ideal) P A W)
      ∧ out12 m c t = k0_pay4 (F := Ideal) (devs P A W (iblk m c 5 t) (iblk m c 6 t)) (vars P A W (iblk m c 5 t) (iblk m c 6 t)) (iblk m c 7 t) (iblk m c 8 t)
      ∧ out13 m c t = k0_pay2 (F := Ideal) (devs P A W (iblk m c 5 t) (iblk m c 6 t)) (vars P A W (iblk m c 5 t) (iblk m c 6 t))
      ∧ out14 m c t = k0_pay1 (F := Ideal) (vars P A W (iblk m c 5 t) (iblk m c 6 t)) := by
  by_cases h : t.val = 0
  · rw [out11_first m c t h, out12_first m c t h, out13_first m c t h, out14_first m c t h]
    obtain rfl : t = t0_0 := Fin.ext h
    exact outsFirst m c h
  · rw [out11_later m c t h, out12_later m c t h, out13_later m c t h, out14_later m c t h]
    exact outsLater m c t h _

/-- The rows a block normalises. -/
theorem mix_rows (P A W) (hy : out11 m c t = k0_pay3 (F := Ideal) (k0_pay194 (F := Ideal) P A W)) (x : Fin 256) (r : Fin 4096) (hr : r.val = t.val * 256 + x.val) :
    mix P A W (iblk m c 5 t) (iblk m c 6 t) x = rows (m (c.tc.loc main_arg0)) (m (c.tc.loc main_arg1)) (m (c.tc.loc main_arg2)) (m (c.tc.loc main_arg3)) (m (c.tc.loc main_arg4)) (m (c.tc.loc main_arg5)) (m (c.tc.loc main_arg6)) r := by
  funext k
  have e : k0_pay194 (F := Ideal) P A W (ix2 x k) = proj (m (c.tc.loc main_arg0)) (m (c.tc.loc main_arg1)) (m (c.tc.loc main_arg2)) (m (c.tc.loc main_arg3)) (m (c.tc.loc main_arg4)) r k := by
    rw [← out11_apply m c t x k r hr, hy]
    rfl
  unfold mix rows
  rw [e, blk5 m c t x r hr k, blk6 m c t 0 k]

/-- One block of output window 12. -/
theorem out12_apply (x : Fin 256) (j : Fin 1024) (r : Fin 4096) (hr : r.val = t.val * 256 + x.val) :
    out12 m c t (ix2 x j) = (normed (rows (m (c.tc.loc main_arg0)) (m (c.tc.loc main_arg1)) (m (c.tc.loc main_arg2)) (m (c.tc.loc main_arg3)) (m (c.tc.loc main_arg4)) (m (c.tc.loc main_arg5)) (m (c.tc.loc main_arg6)) r) j * (m (c.tc.loc main_arg7)) (ix2 (0 : Fin 1) j) + (m (c.tc.loc main_arg8)) (ix2 (0 : Fin 1) j) : EReal) := by
  obtain ⟨P, A, W, h11, h12, h13, h14⟩ := outs m c t
  rw [h12, pay4_apply, mix_rows m c t P A W h11 x r hr, blk7 m c t 0 j, blk8 m c t 0 j]

/-- One block of output window 13. -/
theorem out13_apply (x : Fin 256) (j : Fin 1024) (r : Fin 4096) (hr : r.val = t.val * 256 + x.val) :
    out13 m c t (ix2 x j) = (normed (rows (m (c.tc.loc main_arg0)) (m (c.tc.loc main_arg1)) (m (c.tc.loc main_arg2)) (m (c.tc.loc main_arg3)) (m (c.tc.loc main_arg4)) (m (c.tc.loc main_arg5)) (m (c.tc.loc main_arg6)) r) j : EReal) := by
  obtain ⟨P, A, W, h11, h12, h13, h14⟩ := outs m c t
  rw [h13, pay2_apply, mix_rows m c t P A W h11 x r hr]

/-- One block of output window 14. -/
theorem out14_apply (x : Fin 256) (j : Fin 1) (r : Fin 4096) (hr : r.val = t.val * 256 + x.val) :
    out14 m c t (ix2 x j) = (rstd (rows (m (c.tc.loc main_arg0)) (m (c.tc.loc main_arg1)) (m (c.tc.loc main_arg2)) (m (c.tc.loc main_arg3)) (m (c.tc.loc main_arg4)) (m (c.tc.loc main_arg5)) (m (c.tc.loc main_arg6)) r) : EReal) := by
  obtain rfl := Subsingleton.elim j 0
  obtain ⟨P, A, W, h11, h12, h13, h14⟩ := outs m c t
  rw [h14, vars_apply, mix_rows m c t P A W h11 x r hr]

/-- The whole array of output window 9. -/
theorem final9 : (dats m 0 c).arrAt 9 cfg0.N = fun i : S4096x3072.Idx => (fun (r : Fin 4096) (j : Fin 3072) => (gate (m (c.tc.loc main_arg0)) (m (c.tc.loc main_arg1)) (m (c.tc.loc main_arg2)) (m (c.tc.loc main_arg3)) r.val j.val : EReal)) (i 0) (i 1) := by
  refine (dats m 0 c).arrAt_eq_of_covers 9 _ (by decide +kernel) fun t hf y => ?_
  rw [after9]
  obtain ⟨a, b, rfl⟩ := Shards.pair y
  have hi := (by decide +kernel : ∀ t : Fin cfg0.N, win0_9.index t (0 : Fin 2) = t.val ∧ win0_9.index t (1 : Fin 2) = 0) t
  blk_simp
  dsimp only
  refine (out9_apply m c t a b).trans ?_
  rw [hi.1, hi.2, Nat.zero_mul, Nat.zero_add]

/-- The whole array of output window 10. -/
theorem final10 : (dats m 0 c).arrAt 10 cfg0.N = fun i : S4096x3072.Idx => (fun (r : Fin 4096) (j : Fin 3072) => (conv (m (c.tc.loc main_arg0)) (m (c.tc.loc main_arg2)) (m (c.tc.loc main_arg3)) r.val j.val : EReal)) (i 0) (i 1) := by
  refine (dats m 0 c).arrAt_eq_of_covers 10 _ (by decide +kernel) fun t hf y => ?_
  rw [after10]
  obtain ⟨a, b, rfl⟩ := Shards.pair y
  have hi := (by decide +kernel : ∀ t : Fin cfg0.N, win0_10.index t (0 : Fin 2) = t.val ∧ win0_10.index t (1 : Fin 2) = 0) t
  blk_simp
  dsimp only
  refine (out10_apply m c t a b).trans ?_
  rw [hi.1, hi.2, Nat.zero_mul, Nat.zero_add]

/-- The whole array of output window 11. -/
theorem final11 : (dats m 0 c).arrAt 11 cfg0.N = fun i : S4096x1024.Idx => (fun (r : Fin 4096) (j : Fin 1024) => (proj (m (c.tc.loc main_arg0)) (m (c.tc.loc main_arg1)) (m (c.tc.loc main_arg2)) (m (c.tc.loc main_arg3)) (m (c.tc.loc main_arg4)) r j : EReal)) (i 0) (i 1) := by
  refine (dats m 0 c).arrAt_eq_of_covers 11 _ (by decide +kernel) fun t hf y => ?_
  rw [after11]
  obtain ⟨a, b, rfl⟩ := Shards.pair y
  have hi := (by decide +kernel : ∀ t : Fin cfg0.N, win0_11.index t (0 : Fin 2) = t.val ∧ win0_11.index t (1 : Fin 2) = 0) t
  blk_simp
  have e1 : (win0_11.blk t).view.emb (ix2 a b) 1 = b :=
    Fin.ext (Shards.at_zero hi.2)
  dsimp only
  rw [e1]
  exact out11_apply m c t a b _ (Shards.at_row hi.1)

/-- The whole array of output window 12. -/
theorem final12 : (dats m 0 c).arrAt 12 cfg0.N = fun i : S4096x1024.Idx => (fun (r : Fin 4096) (j : Fin 1024) => (normed (rows (m (c.tc.loc main_arg0)) (m (c.tc.loc main_arg1)) (m (c.tc.loc main_arg2)) (m (c.tc.loc main_arg3)) (m (c.tc.loc main_arg4)) (m (c.tc.loc main_arg5)) (m (c.tc.loc main_arg6)) r) j * (m (c.tc.loc main_arg7)) (ix2 (0 : Fin 1) j) + (m (c.tc.loc main_arg8)) (ix2 (0 : Fin 1) j) : EReal)) (i 0) (i 1) := by
  refine (dats m 0 c).arrAt_eq_of_covers 12 _ (by decide +kernel) fun t hf y => ?_
  rw [after12]
  obtain ⟨a, b, rfl⟩ := Shards.pair y
  have hi := (by decide +kernel : ∀ t : Fin cfg0.N, win0_12.index t (0 : Fin 2) = t.val ∧ win0_12.index t (1 : Fin 2) = 0) t
  blk_simp
  have e1 : (win0_12.blk t).view.emb (ix2 a b) 1 = b :=
    Fin.ext (Shards.at_zero hi.2)
  dsimp only
  rw [e1]
  exact out12_apply m c t a b _ (Shards.at_row hi.1)

/-- The whole array of output window 13. -/
theorem final13 : (dats m 0 c).arrAt 13 cfg0.N = fun i : S4096x1024.Idx => (fun (r : Fin 4096) (j : Fin 1024) => (normed (rows (m (c.tc.loc main_arg0)) (m (c.tc.loc main_arg1)) (m (c.tc.loc main_arg2)) (m (c.tc.loc main_arg3)) (m (c.tc.loc main_arg4)) (m (c.tc.loc main_arg5)) (m (c.tc.loc main_arg6)) r) j : EReal)) (i 0) (i 1) := by
  refine (dats m 0 c).arrAt_eq_of_covers 13 _ (by decide +kernel) fun t hf y => ?_
  rw [after13]
  obtain ⟨a, b, rfl⟩ := Shards.pair y
  have hi := (by decide +kernel : ∀ t : Fin cfg0.N, win0_13.index t (0 : Fin 2) = t.val ∧ win0_13.index t (1 : Fin 2) = 0) t
  blk_simp
  have e1 : (win0_13.blk t).view.emb (ix2 a b) 1 = b :=
    Fin.ext (Shards.at_zero hi.2)
  dsimp only
  rw [e1]
  exact out13_apply m c t a b _ (Shards.at_row hi.1)

/-- The whole array of output window 14. -/
theorem final14 : (dats m 0 c).arrAt 14 cfg0.N = fun i : S4096x1.Idx => (fun (r : Fin 4096) (j : Fin 1) => (rstd (rows (m (c.tc.loc main_arg0)) (m (c.tc.loc main_arg1)) (m (c.tc.loc main_arg2)) (m (c.tc.loc main_arg3)) (m (c.tc.loc main_arg4)) (m (c.tc.loc main_arg5)) (m (c.tc.loc main_arg6)) r) : EReal)) (i 0) (i 1) := by
  refine (dats m 0 c).arrAt_eq_of_covers 14 _ (by decide +kernel) fun t hf y => ?_
  rw [after14]
  obtain ⟨a, b, rfl⟩ := Shards.pair y
  have hi := (by decide +kernel : ∀ t : Fin cfg0.N, win0_14.index t (0 : Fin 2) = t.val ∧ win0_14.index t (1 : Fin 2) = 0) t
  blk_simp
  dsimp only
  exact out14_apply m c t a b _ (Shards.at_row hi.1)

end Cert.Kernel11Ideal.Run

namespace Cert.Reference11Ideal.Rows

open Cert.Reference11Ideal Cert.Reference11Ideal.Gen Idealize.ShloMosaic
open Cert.Kernel11Ideal.Run (pad pad_zero pad_row ent ent_eq conv gate gated)

/-- Two rows of zeros above the reference's rows. -/
def tall (X : FVec Ideal S4096x3072 .bf16) : FVec Ideal S4098x3072 .f32 :=
  concatenate S4098x3072 0 [⟨S2x3072, (broadcastInDim S2x3072 ![] bcast_S_S2x3072 (constant (F := Ideal) S_ .f32 0x00000000#32))⟩, ⟨S4096x3072, (extf .f32 X bitsLt_bf16_f32)⟩] concatenates_S2x3072_S4096x3072_S4098x3072_d0

/-- The reference's convolution. -/
def u (X : FVec Ideal S4096x3072 .bf16) (cw : FVec Ideal S3x3072 .f32) (cb : FVec Ideal S1x3072 .f32) : FVec Ideal S4096x3072 .f32 :=
  addf (addf (addf (addf (broadcastInDim S4096x3072 ![] bcast_S_S4096x3072 (constant S_ .f32 0x00000000#32)) (mulf (broadcastInDim S4096x3072 ![0, 1] bcast_S1x3072_S4096x3072_0_1 (broadcastInDim S1x3072 ![1] bcast_S3072_S1x3072_1 (shapeCast S3072 (extractStridedSlice S1x3072 ![0, 0] cw slices_S3x3072_S1x3072_0_0) shapeCasts_S1x3072_S3072))) (extractStridedSlice S4096x3072 ![0, 0] (tall X) slices_S4098x3072_S4096x3072_0_0))) (mulf (broadcastInDim S4096x3072 ![0, 1] bcast_S1x3072_S4096x3072_0_1 (broadcastInDim S1x3072 ![1] bcast_S3072_S1x3072_1 (shapeCast S3072 (extractStridedSlice S1x3072 ![1, 0] cw slices_S3x3072_S1x3072_1_0) shapeCasts_S1x3072_S3072))) (extractStridedSlice S4096x3072 ![1, 0] (tall X) slices_S4098x3072_S4096x3072_1_0))) (mulf (broadcastInDim S4096x3072 ![0, 1] bcast_S1x3072_S4096x3072_0_1 (broadcastInDim S1x3072 ![1] bcast_S3072_S1x3072_1 (shapeCast S3072 (extractStridedSlice S1x3072 ![2, 0] cw slices_S3x3072_S1x3072_2_0) shapeCasts_S1x3072_S3072))) (extractStridedSlice S4096x3072 ![2, 0] (tall X) slices_S4098x3072_S4096x3072_2_0)))
    (broadcastInDim S4096x3072 ![0, 1] bcast_S1x3072_S4096x3072_0_1 cb)

/-- The reference's gate, from the convolution. -/
def act (U : FVec Ideal S4096x3072 .f32) (V : FVec Ideal S4096x3072 .bf16) : FVec Ideal S4096x3072 .f32 :=
  mulf (mulf U (Host.divf (broadcastInDim S4096x3072 ![] bcast_S_S4096x3072 (constant S_ .f32 0x3F800000#32)) (addf (broadcastInDim S4096x3072 ![] bcast_S_S4096x3072 (constant S_ .f32 0x3F800000#32)) (Host.exp (Host.negf U))))) (extf .f32 V bitsLt_bf16_f32)

/-- The reference's gate. -/
def t (X V : FVec Ideal S4096x3072 .bf16) (cw : FVec Ideal S3x3072 .f32) (cb : FVec Ideal S1x3072 .f32) : FVec Ideal S4096x3072 .f32 := act (u X cw cb) V

/-- The reference's down projection. -/
def y (X V : FVec Ideal S4096x3072 .bf16) (cw : FVec Ideal S3x3072 .f32) (cb : FVec Ideal S1x3072 .f32) (wg : FVec Ideal S8x384x1024 .bf16) : FVec Ideal S4096x1024 .f32 :=
  Host.dotGeneral dot_S4096x3072_S3072x1024_S4096x1024_1_0_0_1_n_n none (extf .f32 (truncf .bf16 (t X V cw cb) bitsLt_bf16_f32) bitsLt_bf16_f32) (extf .f32 (shapeCast S3072x1024 wg shapeCasts_S8x384x1024_S3072x1024) bitsLt_bf16_f32)

/-- The reference's residual plus gated projection. -/
def z (X V : FVec Ideal S4096x3072 .bf16) (cw : FVec Ideal S3x3072 .f32) (cb : FVec Ideal S1x3072 .f32) (wg : FVec Ideal S8x384x1024 .bf16) (x : FVec Ideal S4096x1024 .f32) (g : FVec Ideal S1x1024 .f32) : FVec Ideal S4096x1024 .f32 :=
  addf (mulf (broadcastInDim S4096x1024 ![] bcast_S_S4096x1024 (constant S_ .f32 0x3FB504F3#32)) x) (mulf (broadcastInDim S4096x1024 ![0, 1] bcast_S1x1024_S4096x1024_0_1 g) (y X V cw cb wg))

/-- Rows less their means. -/
def dev (Z : FVec Ideal S4096x1024 .f32) : FVec Ideal S4096x1024 .f32 :=
  subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))

/-- The rows' reciprocal deviations. -/
def scale (Z : FVec Ideal S4096x1024 .f32) : FVec Ideal S4096x1 .f32 :=
  Host.rsqrt (addf (Host.divf (broadcastInDim S4096x1 ![0] bcast_S4096_S4096x1_0 (Host.reduceAdd (mulf (dev Z) (dev Z)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))

/-- The normalised rows. -/
def norm (Z : FVec Ideal S4096x1024 .f32) : FVec Ideal S4096x1024 .f32 :=
  mulf (dev Z) (broadcastInDim S4096x1024 ![0, 1] bcast_S4096x1_S4096x1024_0_1 (scale Z))

theorem dev_apply (Z : FVec Ideal S4096x1024 .f32) (r : Fin 4096) (j : Fin 1024) : dev Z (ix2 r j) = Shards.dev (fun k => Z (ix2 r k)) j := by
  unfold Shards.dev
  pointwise [dev]
theorem scale_apply (Z : FVec Ideal S4096x1024 .f32) (r : Fin 4096) : scale Z (ix2 r (0 : Fin 1)) = Shards.rstd (fun k => Z (ix2 r k)) := by
  unfold Shards.rstd
  simp only [← dev_apply]
  unfold scale
  generalize dev Z = D
  pointwise []
theorem norm_apply (Z : FVec Ideal S4096x1024 .f32) (r : Fin 4096) (j : Fin 1024) : norm Z (ix2 r j) = Shards.normed (fun k => Z (ix2 r k)) j := by
  unfold Shards.normed
  rw [← dev_apply, ← scale_apply]
  unfold norm
  generalize dev Z = D
  generalize scale Z = C
  pointwise []

/-- The padded rows at an entry. -/
theorem tall_apply (X : FVec Ideal S4096x3072 .bf16) (n : Fin 4098) (j : Fin 3072) (k : ℕ) (hk : k = n.val + 14) : tall X (ix2 n j) = pad X k j.val := by
  subst hk
  unfold tall
  generalize hz : (broadcastInDim S2x3072 ![] bcast_S_S2x3072 (constant (F := Ideal) S_ .f32 0x00000000#32) : FVec Ideal S2x3072 .f32) = Z
  generalize hx : (extf .f32 X bitsLt_bf16_f32 : FVec Ideal S4096x3072 .f32) = E
  by_cases h : n.val < 2
  · rw [pad_zero _ _ _ (by omega)]
    refine (concatenate_apply_piece (t := S4098x3072) 0 [⟨S2x3072, Z⟩, ⟨S4096x3072, E⟩] _ _ 0 (by show 0 < 2; decide) S2x3072 Z rfl rfl 0 rfl (ix2 (⟨n.val, h⟩ : Fin 2) j) ?_ ?_).trans ?_
    · intro b hb; fin_cases b
      · exact absurd rfl hb
      · rfl
    · show 0 + n.val = n.val; omega
    · rw [← hz]
      pointwise []
  · rw [pad_row X _ _ (⟨n.val - 2, by omega⟩ : Fin 4096) j (by dsimp only; omega) rfl]
    refine (concatenate_apply_piece (t := S4098x3072) 0 [⟨S2x3072, Z⟩, ⟨S4096x3072, E⟩] _ _ 1 (by show 1 < 2; decide) S4096x3072 E rfl rfl 2 rfl (ix2 (⟨n.val - 2, by omega⟩ : Fin 4096) j) ?_ ?_).trans ?_
    · intro b hb; fin_cases b
      · exact absurd rfl hb
      · rfl
    · show 2 + (n.val - 2) = n.val; omega
    · rw [← hx]
      rfl

/-- The reference's tap 0 at an entry. -/
theorem tap0_apply (cw : FVec Ideal S3x3072 .f32) (r : Fin 4096) (j : Fin 3072) : (broadcastInDim S4096x3072 ![0, 1] bcast_S1x3072_S4096x3072_0_1 (broadcastInDim S1x3072 ![1] bcast_S3072_S1x3072_1 (shapeCast S3072 (extractStridedSlice S1x3072 ![0, 0] cw slices_S3x3072_S1x3072_0_0) shapeCasts_S1x3072_S3072))) (ix2 r j) = ent (R := 3) (C := 3072) cw 0 j.val := by
  refine Eq.trans ?_ (ent_eq (R := 3) (C := 3072) cw (0 : Fin 3) j).symm
  pointwise []
/-- The rows tap 0 meets. -/
theorem slice0_apply (X : FVec Ideal S4096x3072 .bf16) (r : Fin 4096) (j : Fin 3072) : (extractStridedSlice S4096x3072 ![0, 0] (tall X) slices_S4098x3072_S4096x3072_0_0) (ix2 r j) = pad X (r.val + 14) j.val := by
  rw [← tall_apply X (⟨r.val + 0, by omega⟩ : Fin 4098) j (r.val + 14) (by first | rfl | (dsimp only; omega))]
  generalize tall X = T
  pointwise []
/-- The reference's tap 1 at an entry. -/
theorem tap1_apply (cw : FVec Ideal S3x3072 .f32) (r : Fin 4096) (j : Fin 3072) : (broadcastInDim S4096x3072 ![0, 1] bcast_S1x3072_S4096x3072_0_1 (broadcastInDim S1x3072 ![1] bcast_S3072_S1x3072_1 (shapeCast S3072 (extractStridedSlice S1x3072 ![1, 0] cw slices_S3x3072_S1x3072_1_0) shapeCasts_S1x3072_S3072))) (ix2 r j) = ent (R := 3) (C := 3072) cw 1 j.val := by
  refine Eq.trans ?_ (ent_eq (R := 3) (C := 3072) cw (1 : Fin 3) j).symm
  pointwise []
/-- The rows tap 1 meets. -/
theorem slice1_apply (X : FVec Ideal S4096x3072 .bf16) (r : Fin 4096) (j : Fin 3072) : (extractStridedSlice S4096x3072 ![1, 0] (tall X) slices_S4098x3072_S4096x3072_1_0) (ix2 r j) = pad X (r.val + 15) j.val := by
  rw [← tall_apply X (⟨1 + r.val, by omega⟩ : Fin 4098) j (r.val + 15) (by first | rfl | (dsimp only; omega))]
  generalize tall X = T
  pointwise []
/-- The reference's tap 2 at an entry. -/
theorem tap2_apply (cw : FVec Ideal S3x3072 .f32) (r : Fin 4096) (j : Fin 3072) : (broadcastInDim S4096x3072 ![0, 1] bcast_S1x3072_S4096x3072_0_1 (broadcastInDim S1x3072 ![1] bcast_S3072_S1x3072_1 (shapeCast S3072 (extractStridedSlice S1x3072 ![2, 0] cw slices_S3x3072_S1x3072_2_0) shapeCasts_S1x3072_S3072))) (ix2 r j) = ent (R := 3) (C := 3072) cw 2 j.val := by
  refine Eq.trans ?_ (ent_eq (R := 3) (C := 3072) cw (2 : Fin 3) j).symm
  pointwise []
/-- The rows tap 2 meets. -/
theorem slice2_apply (X : FVec Ideal S4096x3072 .bf16) (r : Fin 4096) (j : Fin 3072) : (extractStridedSlice S4096x3072 ![2, 0] (tall X) slices_S4098x3072_S4096x3072_2_0) (ix2 r j) = pad X (r.val + 16) j.val := by
  rw [← tall_apply X (⟨2 + r.val, by omega⟩ : Fin 4098) j (r.val + 16) (by first | rfl | (dsimp only; omega))]
  generalize tall X = T
  pointwise []

theorem sum3 (a b c d : EReal) : 0 + a + b + c + d = c + b + a + d := by
  rw [zero_add, add_comm (a + b) c, add_comm a b, ← add_assoc]

theorem u_apply (X : FVec Ideal S4096x3072 .bf16) (cw : FVec Ideal S3x3072 .f32) (cb : FVec Ideal S1x3072 .f32) (r : Fin 4096) (j : Fin 3072) : u X cw cb (ix2 r j) = conv X cw cb r.val j.val := by
  unfold conv
  have hb : (broadcastInDim S4096x3072 ![0, 1] bcast_S1x3072_S4096x3072_0_1 cb : FVec Ideal S4096x3072 .f32) (ix2 r j) = ent (R := 1) (C := 3072) cb 0 j.val := by
    refine Eq.trans ?_ (ent_eq (R := 1) (C := 3072) cb (0 : Fin 1) j).symm
    pointwise []
  have hz : (broadcastInDim S4096x3072 ![] bcast_S_S4096x3072 (constant (F := Ideal) S_ .f32 0x00000000#32) : FVec Ideal S4096x3072 .f32) (ix2 r j) = (0 : EReal) := by
    pointwise []
  rw [← sum3, ← hb, ← tap0_apply cw r j, ← tap1_apply cw r j, ← tap2_apply cw r j, ← slice0_apply X r j, ← slice1_apply X r j, ← slice2_apply X r j, ← hz]
  rfl

theorem act_apply (U : FVec Ideal S4096x3072 .f32) (V : FVec Ideal S4096x3072 .bf16) (r : Fin 4096) (j : Fin 3072) : act U V (ix2 r j) = gated (U (ix2 r j)) (V (ix2 r j)) := by
  unfold gated
  rw [zero_sub]
  have h1 : ((broadcastInDim S4096x3072 ![] bcast_S_S4096x3072 (constant S_ .f32 0x3F800000#32)) : FVec Ideal S4096x3072 .f32) (ix2 r j) = (1 : EReal) := by
    pointwise []
  rw [← h1]
  rfl

theorem t_apply (X V : FVec Ideal S4096x3072 .bf16) (cw : FVec Ideal S3x3072 .f32) (cb : FVec Ideal S1x3072 .f32) (r : Fin 4096) (j : Fin 3072) : t X V cw cb (ix2 r j) = gate X V cw cb r.val j.val := by
  unfold t gate
  rw [act_apply, u_apply, ent_eq (R := 4096) (C := 3072) V r j]

theorem y_apply (X V : FVec Ideal S4096x3072 .bf16) (cw : FVec Ideal S3x3072 .f32) (cb : FVec Ideal S1x3072 .f32) (wg : FVec Ideal S8x384x1024 .bf16) (r : Fin 4096) (j : Fin 1024) : y X V cw cb wg (ix2 r j) = Kernel11Ideal.Run.proj X V cw cb wg r j := by
  have hW : ∀ k : Fin 3072, shapeCast S3072x1024 wg shapeCasts_S8x384x1024_S3072x1024 (ix2 k j) = wg (ix3 (⟨k.val / 384, by omega⟩ : Fin 8) (⟨k.val % 384, by omega⟩ : Fin 384) j) :=
    fun k => Shards.rows_apply _ _ k j (⟨k.val / 384, by omega⟩ : Fin 8) (⟨k.val % 384, by omega⟩ : Fin 384) (by dsimp only; omega)
  unfold Kernel11Ideal.Run.proj y
  simp only [← hW, ← t_apply]
  generalize shapeCast S3072x1024 wg shapeCasts_S8x384x1024_S3072x1024 = W
  generalize t X V cw cb = T
  pointwise []

theorem z_rows (X V : FVec Ideal S4096x3072 .bf16) (cw : FVec Ideal S3x3072 .f32) (cb : FVec Ideal S1x3072 .f32) (wg : FVec Ideal S8x384x1024 .bf16) (x : FVec Ideal S4096x1024 .f32) (g : FVec Ideal S1x1024 .f32) (r : Fin 4096) : (fun k => z X V cw cb wg x g (ix2 r k)) = Kernel11Ideal.Run.rows X V cw cb wg x g r := by
  funext k
  unfold Kernel11Ideal.Run.rows z
  rw [← y_apply]
  generalize y X V cw cb wg = Y
  pointwise []

end Cert.Reference11Ideal.Rows

namespace Cert.Proof

open Idealize.ShloMosaic Idealize.SL.Sem

set_option maxHeartbeats 1000000 in
/-- The gated convolution with the down projection, the gated residual and the layer norm: on memories that agree on the arguments, the kernel's result arrays are the reference's, entry by entry. -/
theorem algebraic_Tail : algebraic_Kernel11Ideal_Reference11Ideal := by
  intro m ρ m' ρ' _ hagree
  refine ⟨fun c => (Kernel11Ideal.Run.dats m 0 c).arrAt 9 Kernel11Ideal.cfg0.N, fun c => (Kernel11Ideal.Run.dats m 0 c).arrAt 10 Kernel11Ideal.cfg0.N, fun c => (Kernel11Ideal.Run.dats m 0 c).arrAt 11 Kernel11Ideal.cfg0.N, fun c => (Kernel11Ideal.Run.dats m 0 c).arrAt 12 Kernel11Ideal.cfg0.N, fun c => (Kernel11Ideal.Run.dats m 0 c).arrAt 13 Kernel11Ideal.cfg0.N, fun c => (Kernel11Ideal.Run.dats m 0 c).arrAt 14 Kernel11Ideal.cfg0.N, (θ_run Kernel11Ideal.defs _ _).mono (fun _ h c => ?run) (Kernel11Ideal.Run.run_blocks (F := Ideal) m ρ), ?_⟩
  case run =>
    have h := h c
    exact ⟨h.1.1, h.1.2.1, h.1.2.2.1, h.1.2.2.2.1, h.1.2.2.2.2.1, h.1.2.2.2.2.2, h.2⟩
  refine (θ_run Reference11Ideal.defs _ _).mono (fun _ h c => ⟨?_, ?_, ?_, ?_, ?_, ?_, (h c).2.2.2.2.2.2⟩) (Reference11Ideal.Value.run (F := Ideal) m' ρ')
  · refine ((h c).1).trans (Eq.trans ?_ (Kernel11Ideal.Run.final9 m c).symm)
    unfold Reference11Ideal.Value.res_main_v30
    show truncf (F := Ideal) .bf16 (Reference11Ideal.Rows.t (m' (c.tc.loc Reference11Ideal.main_arg0)) (m' (c.tc.loc Reference11Ideal.main_arg1)) (m' (c.tc.loc Reference11Ideal.main_arg2)) (m' (c.tc.loc Reference11Ideal.main_arg3))) Reference11Ideal.Gen.bitsLt_bf16_f32 = _
    simp only [hagree c]
    funext j
    obtain ⟨r, q, rfl⟩ := Shards.pair j
    show truncf (F := Ideal) .bf16 (Reference11Ideal.Rows.t (m (c.tc.loc Kernel11Ideal.main_arg0)) (m (c.tc.loc Kernel11Ideal.main_arg1)) (m (c.tc.loc Kernel11Ideal.main_arg2)) (m (c.tc.loc Kernel11Ideal.main_arg3))) _ (ix2 r q) = Kernel11Ideal.Run.gate (m (c.tc.loc Kernel11Ideal.main_arg0)) (m (c.tc.loc Kernel11Ideal.main_arg1)) (m (c.tc.loc Kernel11Ideal.main_arg2)) (m (c.tc.loc Kernel11Ideal.main_arg3)) r.val q.val
    rw [← Reference11Ideal.Rows.t_apply]
    rfl
  · refine ((h c).2.1).trans (Eq.trans ?_ (Kernel11Ideal.Run.final10 m c).symm)
    show truncf (F := Ideal) .bf16 (Reference11Ideal.Rows.u (m' (c.tc.loc Reference11Ideal.main_arg0)) (m' (c.tc.loc Reference11Ideal.main_arg2)) (m' (c.tc.loc Reference11Ideal.main_arg3))) Reference11Ideal.Gen.bitsLt_bf16_f32 = _
    simp only [hagree c]
    funext j
    obtain ⟨r, q, rfl⟩ := Shards.pair j
    show truncf (F := Ideal) .bf16 (Reference11Ideal.Rows.u (m (c.tc.loc Kernel11Ideal.main_arg0)) (m (c.tc.loc Kernel11Ideal.main_arg2)) (m (c.tc.loc Kernel11Ideal.main_arg3))) _ (ix2 r q) = Kernel11Ideal.Run.conv (m (c.tc.loc Kernel11Ideal.main_arg0)) (m (c.tc.loc Kernel11Ideal.main_arg2)) (m (c.tc.loc Kernel11Ideal.main_arg3)) r.val q.val
    rw [← Reference11Ideal.Rows.u_apply]
    rfl
  · refine ((h c).2.2.1).trans (Eq.trans ?_ (Kernel11Ideal.Run.final11 m c).symm)
    unfold Reference11Ideal.Value.res_main_v63
    show truncf (F := Ideal) .bf16 (Reference11Ideal.Rows.y (m' (c.tc.loc Reference11Ideal.main_arg0)) (m' (c.tc.loc Reference11Ideal.main_arg1)) (m' (c.tc.loc Reference11Ideal.main_arg2)) (m' (c.tc.loc Reference11Ideal.main_arg3)) (m' (c.tc.loc Reference11Ideal.main_arg4))) Reference11Ideal.Gen.bitsLt_bf16_f32 = _
    simp only [hagree c]
    funext j
    obtain ⟨r, q, rfl⟩ := Shards.pair j
    show truncf (F := Ideal) .bf16 (Reference11Ideal.Rows.y (m (c.tc.loc Kernel11Ideal.main_arg0)) (m (c.tc.loc Kernel11Ideal.main_arg1)) (m (c.tc.loc Kernel11Ideal.main_arg2)) (m (c.tc.loc Kernel11Ideal.main_arg3)) (m (c.tc.loc Kernel11Ideal.main_arg4))) _ (ix2 r q) = Kernel11Ideal.Run.proj (m (c.tc.loc Kernel11Ideal.main_arg0)) (m (c.tc.loc Kernel11Ideal.main_arg1)) (m (c.tc.loc Kernel11Ideal.main_arg2)) (m (c.tc.loc Kernel11Ideal.main_arg3)) (m (c.tc.loc Kernel11Ideal.main_arg4)) r q
    rw [← Reference11Ideal.Rows.y_apply]
    rfl
  · refine ((h c).2.2.2.1).trans (Eq.trans ?_ (Kernel11Ideal.Run.final12 m c).symm)
    unfold Reference11Ideal.Value.res_main_v61
    show addf (F := Ideal) (mulf (Reference11Ideal.Rows.norm (Reference11Ideal.Rows.z (m' (c.tc.loc Reference11Ideal.main_arg0)) (m' (c.tc.loc Reference11Ideal.main_arg1)) (m' (c.tc.loc Reference11Ideal.main_arg2)) (m' (c.tc.loc Reference11Ideal.main_arg3)) (m' (c.tc.loc Reference11Ideal.main_arg4)) (m' (c.tc.loc Reference11Ideal.main_arg5)) (m' (c.tc.loc Reference11Ideal.main_arg6)))) (broadcastInDim Reference11Ideal.S4096x1024 ![0, 1] Reference11Ideal.Gen.bcast_S1x1024_S4096x1024_0_1 (m' (c.tc.loc Reference11Ideal.main_arg7)))) (broadcastInDim Reference11Ideal.S4096x1024 ![0, 1] Reference11Ideal.Gen.bcast_S1x1024_S4096x1024_0_1 (m' (c.tc.loc Reference11Ideal.main_arg8))) = _
    simp only [hagree c]
    funext j
    obtain ⟨r, q, rfl⟩ := Shards.pair j
    show addf (F := Ideal) (mulf (Reference11Ideal.Rows.norm (Reference11Ideal.Rows.z (m (c.tc.loc Kernel11Ideal.main_arg0)) (m (c.tc.loc Kernel11Ideal.main_arg1)) (m (c.tc.loc Kernel11Ideal.main_arg2)) (m (c.tc.loc Kernel11Ideal.main_arg3)) (m (c.tc.loc Kernel11Ideal.main_arg4)) (m (c.tc.loc Kernel11Ideal.main_arg5)) (m (c.tc.loc Kernel11Ideal.main_arg6)))) (broadcastInDim Reference11Ideal.S4096x1024 ![0, 1] Reference11Ideal.Gen.bcast_S1x1024_S4096x1024_0_1 (m (c.tc.loc Kernel11Ideal.main_arg7)))) (broadcastInDim Reference11Ideal.S4096x1024 ![0, 1] Reference11Ideal.Gen.bcast_S1x1024_S4096x1024_0_1 (m (c.tc.loc Kernel11Ideal.main_arg8))) (ix2 r q)
      = Shards.normed (Kernel11Ideal.Run.rows (m (c.tc.loc Kernel11Ideal.main_arg0)) (m (c.tc.loc Kernel11Ideal.main_arg1)) (m (c.tc.loc Kernel11Ideal.main_arg2)) (m (c.tc.loc Kernel11Ideal.main_arg3)) (m (c.tc.loc Kernel11Ideal.main_arg4)) (m (c.tc.loc Kernel11Ideal.main_arg5)) (m (c.tc.loc Kernel11Ideal.main_arg6)) r) q * (m (c.tc.loc Kernel11Ideal.main_arg7)) (ix2 (0 : Fin 1) q) + (m (c.tc.loc Kernel11Ideal.main_arg8)) (ix2 (0 : Fin 1) q)
    rw [← Reference11Ideal.Rows.z_rows, ← Reference11Ideal.Rows.norm_apply]
    generalize Reference11Ideal.Rows.norm (Reference11Ideal.Rows.z (m (c.tc.loc Kernel11Ideal.main_arg0)) (m (c.tc.loc Kernel11Ideal.main_arg1)) (m (c.tc.loc Kernel11Ideal.main_arg2)) (m (c.tc.loc Kernel11Ideal.main_arg3)) (m (c.tc.loc Kernel11Ideal.main_arg4)) (m (c.tc.loc Kernel11Ideal.main_arg5)) (m (c.tc.loc Kernel11Ideal.main_arg6))) = X
    pointwise []
  · refine ((h c).2.2.2.2.1).trans (Eq.trans ?_ (Kernel11Ideal.Run.final13 m c).symm)
    unfold Reference11Ideal.Value.res_main_v57
    show Reference11Ideal.Rows.norm (Reference11Ideal.Rows.z (m' (c.tc.loc Reference11Ideal.main_arg0)) (m' (c.tc.loc Reference11Ideal.main_arg1)) (m' (c.tc.loc Reference11Ideal.main_arg2)) (m' (c.tc.loc Reference11Ideal.main_arg3)) (m' (c.tc.loc Reference11Ideal.main_arg4)) (m' (c.tc.loc Reference11Ideal.main_arg5)) (m' (c.tc.loc Reference11Ideal.main_arg6))) = _
    simp only [hagree c]
    funext j
    obtain ⟨r, q, rfl⟩ := Shards.pair j
    show Reference11Ideal.Rows.norm (Reference11Ideal.Rows.z (m (c.tc.loc Kernel11Ideal.main_arg0)) (m (c.tc.loc Kernel11Ideal.main_arg1)) (m (c.tc.loc Kernel11Ideal.main_arg2)) (m (c.tc.loc Kernel11Ideal.main_arg3)) (m (c.tc.loc Kernel11Ideal.main_arg4)) (m (c.tc.loc Kernel11Ideal.main_arg5)) (m (c.tc.loc Kernel11Ideal.main_arg6))) (ix2 r q) = Shards.normed (Kernel11Ideal.Run.rows (m (c.tc.loc Kernel11Ideal.main_arg0)) (m (c.tc.loc Kernel11Ideal.main_arg1)) (m (c.tc.loc Kernel11Ideal.main_arg2)) (m (c.tc.loc Kernel11Ideal.main_arg3)) (m (c.tc.loc Kernel11Ideal.main_arg4)) (m (c.tc.loc Kernel11Ideal.main_arg5)) (m (c.tc.loc Kernel11Ideal.main_arg6)) r) q
    rw [← Reference11Ideal.Rows.z_rows, Reference11Ideal.Rows.norm_apply]
  · refine ((h c).2.2.2.2.2.1).trans (Eq.trans ?_ (Kernel11Ideal.Run.final14 m c).symm)
    unfold Reference11Ideal.Value.res_main_v53
    show Reference11Ideal.Rows.scale (Reference11Ideal.Rows.z (m' (c.tc.loc Reference11Ideal.main_arg0)) (m' (c.tc.loc Reference11Ideal.main_arg1)) (m' (c.tc.loc Reference11Ideal.main_arg2)) (m' (c.tc.loc Reference11Ideal.main_arg3)) (m' (c.tc.loc Reference11Ideal.main_arg4)) (m' (c.tc.loc Reference11Ideal.main_arg5)) (m' (c.tc.loc Reference11Ideal.main_arg6))) = _
    simp only [hagree c]
    funext j
    obtain ⟨r, q, rfl⟩ := Shards.pair j
    obtain rfl := Subsingleton.elim q (0 : Fin 1)
    show Reference11Ideal.Rows.scale (Reference11Ideal.Rows.z (m (c.tc.loc Kernel11Ideal.main_arg0)) (m (c.tc.loc Kernel11Ideal.main_arg1)) (m (c.tc.loc Kernel11Ideal.main_arg2)) (m (c.tc.loc Kernel11Ideal.main_arg3)) (m (c.tc.loc Kernel11Ideal.main_arg4)) (m (c.tc.loc Kernel11Ideal.main_arg5)) (m (c.tc.loc Kernel11Ideal.main_arg6))) (ix2 r (0 : Fin 1)) = Shards.rstd (Kernel11Ideal.Run.rows (m (c.tc.loc Kernel11Ideal.main_arg0)) (m (c.tc.loc Kernel11Ideal.main_arg1)) (m (c.tc.loc Kernel11Ideal.main_arg2)) (m (c.tc.loc Kernel11Ideal.main_arg3)) (m (c.tc.loc Kernel11Ideal.main_arg4)) (m (c.tc.loc Kernel11Ideal.main_arg5)) (m (c.tc.loc Kernel11Ideal.main_arg6)) r)
    rw [← Reference11Ideal.Rows.z_rows, Reference11Ideal.Rows.scale_apply]

set_option maxHeartbeats 20000000 in
/-- The two printings of the program have the same bodies. -/
theorem defs_Tail : Kernel11.defs (F := Bits) = Kernel11Ideal.defs (F := Bits) := by
  have e : Kernel11.defs₀ (F := Bits) = Kernel11Ideal.defs₀ (F := Bits) := by
    unfold Kernel11.defs₀ Kernel11Ideal.defs₀
    refine congrArg Defs.onTc (funext fun i => ?_)
    match i with
    | 0 => exact funext fun p => rfl
  exact congrArg (Pipeline.defs (Kernel11.pcfgs (F := Bits))) e

/-- As printed, on bits, it ends with its arguments unchanged and every counter at zero. -/
theorem frame_Tail : quiescent_Kernel11 := fun m ρ _ => by
  rw [defs_Tail]
  exact Kernel11Ideal.Run.frame (F := Bits) m ρ

end Cert.Proof

end
-- ==== Proof.Shards.Rows.lean ====
module

public import Idealize.ShloMosaic.Lib.Pipeline.ValueKit
public import Idealize.ShloMosaic.Lib.Pipeline.ReadBack
public import Idealize.ShloMosaic.Lib.WritesUnit

@[expose] public section

noncomputable section

namespace Cert.Shards

open Idealize.ShloMosaic Idealize.ShloMosaic.TcCoe Idealize.SL.Sem

variable {Val : EltTy → Type} {e : EltTy} {R C : ℕ} [∀ e, Nonempty (Val e)]

/-- Row `o` of a two-dimensional array, as a rectangle: where its entries lie. -/
theorem row_emb {o : ℕ} (inb : ∀ a : Fin 2, (![o, 0] : Fin 2 → ℕ) a + (![1, C] : Fin 2 → ℕ) a ≤ (![R, C] : Fin 2 → ℕ) a) (i : Fin R) (j : Fin C) (hi : i.val = o) :
    (Rect.unit (s := ⟨2, ![R, C]⟩) ![o, 0] ![1, C] inb).emb (ix2 (0 : Fin 1) j) = (ix2 i j : (⟨2, ![R, C]⟩ : Shape).Idx) := by
  funext a
  refine Fin.ext ((Rect.idx_unit_val _ _ inb _ a).trans ?_)
  fin_cases a
  · show o + 0 = i.val
    omega
  · show 0 + j.val = j.val
    omega

/-- After a row was stored last, that row reads as stored. -/
theorem canon_row {o : ℕ} (inb : ∀ a : Fin 2, (![o, 0] : Fin 2 → ℕ) a + (![1, C] : Fin 2 → ℕ) a ≤ (![R, C] : Fin 2 → ℕ) a)
    (w : (⟨2, ![1, C]⟩ : Shape).Idx → Val e) (L : List (View.Piece Val (⟨2, ![R, C]⟩ : Shape) e)) (i : Fin R) (j : Fin C) (hi : i.val = o) :
    View.canon ((⟨Rect.unit (s := ⟨2, ![R, C]⟩) ![o, 0] ![1, C] inb, w⟩ : View.Piece Val (⟨2, ![R, C]⟩ : Shape) e) :: L) (ix2 i j) = w (ix2 (0 : Fin 1) j) := by
  rw [← row_emb inb i j hi]
  exact View.canon_cons_emb (s := ⟨2, _⟩) (Rect.unit _ _ inb) w L _

/-- After a row was stored last, another row reads as it was before. -/
theorem canon_row_ne {o : ℕ} (inb : ∀ a : Fin 2, (![o, 0] : Fin 2 → ℕ) a + (![1, C] : Fin 2 → ℕ) a ≤ (![R, C] : Fin 2 → ℕ) a)
    (w : (⟨2, ![1, C]⟩ : Shape).Idx → Val e) (L : List (View.Piece Val (⟨2, ![R, C]⟩ : Shape) e)) (i : Fin R) (j : Fin C) (hi : i.val ≠ o) :
    View.canon ((⟨Rect.unit (s := ⟨2, ![R, C]⟩) ![o, 0] ![1, C] inb, w⟩ : View.Piece Val (⟨2, ![R, C]⟩ : Shape) e) :: L) (ix2 i j) = View.canon L (ix2 i j) := by
  refine View.canon_cons_of_not_mem _ L fun hm => hi ?_
  obtain ⟨x, hx⟩ := (Rect.unit (s := ⟨2, ![R, C]⟩) ![o, 0] ![1, C] inb).exists_idx_of_mem hm
  have h := congrArg (fun y : (⟨2, ![R, C]⟩ : Shape).Idx => (y (0 : Fin 2)).val) hx
  have h1 := Rect.idx_unit_val (s := ⟨2, ![R, C]⟩) ![o, 0] ![1, C] inb x (0 : Fin 2)
  have h2 : (x (0 : Fin 2)).val < 1 := (x (0 : Fin 2)).isLt
  have h3 : ((ix2 i j : (⟨2, ![R, C]⟩ : Shape).Idx) (0 : Fin 2)).val = i.val := rfl
  have h4 : (![o, 0] : Fin 2 → ℕ) 0 = o := rfl
  simp only at h
  omega

variable {sig : RefSig} {κ : Kind} {sp : Space} (v : View sig κ sp (⟨2, ![R, C]⟩ : Shape) e)

/-- The same, of a view's contents. -/
theorem read_row {o : ℕ} (f : v.ty.Contents Val) (inb : ∀ a : Fin 2, (![o, 0] : Fin 2 → ℕ) a + (![1, C] : Fin 2 → ℕ) a ≤ (![R, C] : Fin 2 → ℕ) a)
    (w : (⟨2, ![1, C]⟩ : Shape).Idx → Val e) (L : List (View.Piece Val (⟨2, ![R, C]⟩ : Shape) e)) (i : Fin R) (j : Fin C) (hi : i.val = o) :
    v.read Val (v.writes Val f ((⟨Rect.unit (s := ⟨2, ![R, C]⟩) ![o, 0] ![1, C] inb, w⟩ : View.Piece Val (⟨2, ![R, C]⟩ : Shape) e) :: L)) (ix2 i j) = w (ix2 (0 : Fin 1) j) :=
  View.read_writes_cons_rows_of_mem v f inb w L (ix2 i j) (ix2 (0 : Fin 1) j) rfl (hi.trans (Nat.add_zero o).symm) rfl

theorem read_row_ne {o : ℕ} (f : v.ty.Contents Val) (inb : ∀ a : Fin 2, (![o, 0] : Fin 2 → ℕ) a + (![1, C] : Fin 2 → ℕ) a ≤ (![R, C] : Fin 2 → ℕ) a)
    (w : (⟨2, ![1, C]⟩ : Shape).Idx → Val e) (L : List (View.Piece Val (⟨2, ![R, C]⟩ : Shape) e)) (i : Fin R) (j : Fin C) (hi : i.val ≠ o) :
    v.read Val (v.writes Val f ((⟨Rect.unit (s := ⟨2, ![R, C]⟩) ![o, 0] ![1, C] inb, w⟩ : View.Piece Val (⟨2, ![R, C]⟩ : Shape) e) :: L)) (ix2 i j)
      = v.read Val (v.writes Val f L) (ix2 i j) :=
  View.read_writes_cons_rows_of_not_mem v f inb w L (ix2 i j) rfl (W := 1) rfl (by
    rcases Nat.lt_or_gt_of_ne hi with h | h
    · exact Or.inl h
    · exact Or.inr h)

/-- A row read back through the stores before it reads what they leave there. -/
theorem readCov_row {o : ℕ} (inb : ∀ a : Fin 2, (![o, 0] : Fin 2 → ℕ) a + (![1, C] : Fin 2 → ℕ) a ≤ (![R, C] : Fin 2 → ℕ) a)
    (L : List (View.Piece Val (⟨2, ![R, C]⟩ : Shape) e)) (i : Fin R) (j : Fin C) (hi : i.val = o) :
    v.readCov L (Rect.unit (s := ⟨2, ![R, C]⟩) ![o, 0] ![1, C] inb).toLoadRect (ix2 (0 : Fin 1) j) = v.read Val (v.writes Val v.junk L) (ix2 i j) :=
  congrArg (v.read Val (v.writes Val v.junk L)) (row_emb inb i j hi)

/-- A row loaded from an array. -/
theorem ld_row {o : ℕ} (inb : ∀ a : Fin 2, (![o, 0] : Fin 2 → ℕ) a + (![1, C] : Fin 2 → ℕ) a ≤ (![R, C] : Fin 2 → ℕ) a)
    (X : (⟨2, ![R, C]⟩ : Shape).Idx → Val e) (i : Fin R) (j : Fin C) (hi : i.val = o) :
    View.ld X (Rect.unit (s := ⟨2, ![R, C]⟩) ![o, 0] ![1, C] inb) (ix2 (0 : Fin 1) j) = X (ix2 i j) :=
  congrArg X (row_emb inb i j hi)

/-- After the whole array was stored, every entry reads as stored. -/
theorem canon_fill (inb : ∀ a : Fin 2, (![0, 0] : Fin 2 → ℕ) a + (![R, C] : Fin 2 → ℕ) a ≤ (![R, C] : Fin 2 → ℕ) a)
    (w : (⟨2, ![R, C]⟩ : Shape).Idx → Val e) (L : List (View.Piece Val (⟨2, ![R, C]⟩ : Shape) e)) (y : (⟨2, ![R, C]⟩ : Shape).Idx) :
    View.canon ((⟨Rect.unit (s := ⟨2, ![R, C]⟩) ![0, 0] ![R, C] inb, w⟩ : View.Piece Val (⟨2, ![R, C]⟩ : Shape) e) :: L) y = w y := by
  have h : (Rect.unit (s := ⟨2, ![R, C]⟩) ![0, 0] ![R, C] inb).emb y = y := by
    funext a
    refine Fin.ext ((Rect.idx_unit_val _ _ inb _ a).trans ?_)
    fin_cases a <;> exact Nat.zero_add _
  conv_lhs => rw [← h]
  exact View.canon_cons_emb (s := ⟨2, _⟩) (Rect.unit _ _ inb) w L _

theorem read_fill (f : v.ty.Contents Val) (inb : ∀ a : Fin 2, (![0, 0] : Fin 2 → ℕ) a + (![R, C] : Fin 2 → ℕ) a ≤ (![R, C] : Fin 2 → ℕ) a)
    (w : (⟨2, ![R, C]⟩ : Shape).Idx → Val e) (L : List (View.Piece Val (⟨2, ![R, C]⟩ : Shape) e)) (y : (⟨2, ![R, C]⟩ : Shape).Idx) :
    v.read Val (v.writes Val f ((⟨Rect.unit (s := ⟨2, ![R, C]⟩) ![0, 0] ![R, C] inb, w⟩ : View.Piece Val (⟨2, ![R, C]⟩ : Shape) e) :: L)) y = w y :=
  View.read_writes_cons_rows_of_mem v f inb w L y y rfl (Nat.zero_add _).symm rfl

end Cert.Shards

end
-- ==== Proof.Shards.Sums.lean ====
module

public import proofs.«01_k».proof.Proof.Shards.Rows

@[expose] public section

noncomputable section

namespace Cert.Shards

open Idealize.ShloMosaic Idealize.ShloMosaic.TcCoe Idealize.SL.Sem

variable {R C k n : ℕ} {sig : RefSig} {κ : Kind} {sp : Space}

/-- An array of `R` rows, and a row of it. -/
abbrev Arr (R C : ℕ) := (⟨2, ![R, C]⟩ : Shape).Idx → Elt Ideal .f32
/-- A store into such an array. -/
abbrev Pc (R C : ℕ) := View.Piece (Elt Ideal) (⟨2, ![R, C]⟩ : Shape) .f32
/-- The rows from `k` to `k + n` lie in the array, and the rectangle they are. -/
abbrev Fits (k n R C : ℕ) : Prop := ∀ a : Fin 2, (![k, 0] : Fin 2 → ℕ) a + (![n, C] : Fin 2 → ℕ) a ≤ (![R, C] : Fin 2 → ℕ) a
abbrev rows (h : Fits k n R C) : Rect (⟨2, ![R, C]⟩ : Shape) := Rect.unit (s := ⟨2, ![R, C]⟩) ![k, 0] ![n, C] h
/-- The whole array stored as `z`. -/
abbrev fill (h : Fits 0 R R C) (z : Arr R C) : List (Pc R C) := [(⟨rows h, z⟩ : Pc R C)]
/-- Row `k` read back after the stores `L`, changed by `f` and stored. -/
abbrev add (v : View sig κ sp (⟨2, ![R, C]⟩ : Shape) .f32) (h : Fits k 1 R C) (f : Arr 1 C → Arr 1 C) (L : List (Pc R C)) : List (Pc R C) :=
  (⟨rows h, f (v.readCov L (rows h).toLoadRect)⟩ : Pc R C) :: L
/-- Row `k` read from an array `y`, changed by `f` and stored. -/
abbrev upd (y : Arr R C) (h : Fits k 1 R C) (f : Arr 1 C → Arr 1 C) : Pc R C := ⟨rows h, f (View.ld y (rows h))⟩
/-- The change `f` adds `s` to a row. -/
abbrev Adds (f : Arr 1 C → Arr 1 C) (s : Fin C → EReal) : Prop := ∀ a j, f a (ix2 (0 : Fin 1) j) = a (ix2 (0 : Fin 1) j) + s j

variable (v : View sig κ sp (⟨2, ![R, C]⟩ : Shape) .f32) (f : v.ty.Contents (Elt Ideal)) (y : Arr R C)
  (i0 : Fits 0 1 R C) (i1 : Fits 1 1 R C) (i2 : Fits 2 1 R C) (i3 : Fits 3 1 R C) (ib : Fits 0 R R C) (z : Arr R C)
  {f0 f1 f2 f3 : Arr 1 C → Arr 1 C} {s0 s1 s2 s3 : Fin C → EReal} (i : Fin R) (j : Fin C)

/-- A change that adds `s`, of a row holding `x`. -/
theorem Adds.to {g : Arr 1 C → Arr 1 C} {s : Fin C → EReal} (h : Adds g s) {a : Arr 1 C} {j : Fin C} {x : EReal} (e : a (ix2 (0 : Fin 1) j) = x) :
    g a (ix2 (0 : Fin 1) j) = x + s j := (h a j).trans (congrArg (· + s j) e)

/-- An array filled with `z`, then its first two rows each read back, added to and stored: the entries at the end. -/
theorem rows2_first (h0 : Adds f0 s0) (h1 : Adds f1 s1) :
    View.canon (add v i1 f1 (add v i0 f0 (fill ib z))) (ix2 i j) = z (ix2 i j) + (if i.val = 0 then s0 j else if i.val = 1 then s1 j else 0 : EReal) := by
  by_cases e0 : i.val = 0
  · rw [if_pos e0]
    exact (canon_row_ne _ _ _ i j (by omega)).trans ((canon_row _ _ _ i j e0).trans (h0.to ((readCov_row _ _ _ i j e0).trans (read_fill _ _ _ _ _ _))))
  rw [if_neg e0]
  by_cases e1 : i.val = 1
  · rw [if_pos e1]
    exact (canon_row _ _ _ i j e1).trans (h1.to ((readCov_row _ _ _ i j e1).trans ((read_row_ne _ _ _ _ _ i j (by omega)).trans (read_fill _ _ _ _ _ _))))
  rw [if_neg e1]
  rw [add_zero]
  exact (canon_row_ne _ _ _ i j e1).trans ((canon_row_ne _ _ _ i j e0).trans (canon_fill _ _ _ _))

/-- An array holding `y`, its first two rows each read, added to and stored: the entries at the end. -/
theorem rows2_step (hy : v.read (Elt Ideal) f = y) (h0 : Adds f0 s0) (h1 : Adds f1 s1) :
    v.read (Elt Ideal) (v.writes (Elt Ideal) f [upd y i1 f1, upd y i0 f0]) (ix2 i j) = y (ix2 i j) + (if i.val = 0 then s0 j else if i.val = 1 then s1 j else 0 : EReal) := by
  by_cases e0 : i.val = 0
  · rw [if_pos e0]
    exact (read_row_ne _ _ _ _ _ i j (by omega)).trans ((read_row _ _ _ _ _ i j e0).trans (h0.to (ld_row _ _ i j e0)))
  rw [if_neg e0]
  by_cases e1 : i.val = 1
  · rw [if_pos e1]
    exact (read_row _ _ _ _ _ i j e1).trans (h1.to (ld_row _ _ i j e1))
  rw [if_neg e1]
  rw [add_zero]
  refine (read_row_ne _ _ _ _ _ i j e1).trans ((read_row_ne _ _ _ _ _ i j e0).trans (?_))
  rw [View.writes_nil]
  exact congrFun hy _

/-- An array filled with `z`, then its first four rows each read back, added to and stored: the entries at the end. -/
theorem rows4_first (h0 : Adds f0 s0) (h1 : Adds f1 s1) (h2 : Adds f2 s2) (h3 : Adds f3 s3) :
    View.canon (add v i3 f3 (add v i2 f2 (add v i1 f1 (add v i0 f0 (fill ib z))))) (ix2 i j)
      = z (ix2 i j) + (if i.val = 0 then s0 j else if i.val = 1 then s1 j else if i.val = 2 then s2 j else if i.val = 3 then s3 j else 0 : EReal) := by
  by_cases e0 : i.val = 0
  · rw [if_pos e0]
    exact (canon_row_ne _ _ _ i j (by omega)).trans ((canon_row_ne _ _ _ i j (by omega)).trans ((canon_row_ne _ _ _ i j (by omega)).trans ((canon_row _ _ _ i j e0).trans (h0.to ((readCov_row _ _ _ i j e0).trans (read_fill _ _ _ _ _ _))))))
  rw [if_neg e0]
  by_cases e1 : i.val = 1
  · rw [if_pos e1]
    exact (canon_row_ne _ _ _ i j (by omega)).trans ((canon_row_ne _ _ _ i j (by omega)).trans ((canon_row _ _ _ i j e1).trans (h1.to ((readCov_row _ _ _ i j e1).trans ((read_row_ne _ _ _ _ _ i j (by omega)).trans (read_fill _ _ _ _ _ _))))))
  rw [if_neg e1]
  by_cases e2 : i.val = 2
  · rw [if_pos e2]
    exact (canon_row_ne _ _ _ i j (by omega)).trans ((canon_row _ _ _ i j e2).trans (h2.to ((readCov_row _ _ _ i j e2).trans ((read_row_ne _ _ _ _ _ i j (by omega)).trans ((read_row_ne _ _ _ _ _ i j (by omega)).trans (read_fill _ _ _ _ _ _))))))
  rw [if_neg e2]
  by_cases e3 : i.val = 3
  · rw [if_pos e3]
    exact (canon_row _ _ _ i j e3).trans (h3.to ((readCov_row _ _ _ i j e3).trans ((read_row_ne _ _ _ _ _ i j (by omega)).trans ((read_row_ne _ _ _ _ _ i j (by omega)).trans ((read_row_ne _ _ _ _ _ i j (by omega)).trans (read_fill _ _ _ _ _ _))))))
  rw [if_neg e3]
  rw [add_zero]
  exact (canon_row_ne _ _ _ i j e3).trans ((canon_row_ne _ _ _ i j e2).trans ((canon_row_ne _ _ _ i j e1).trans ((canon_row_ne _ _ _ i j e0).trans (canon_fill _ _ _ _))))

/-- An array holding `y`, its first four rows each read, added to and stored: the entries at the end. -/
theorem rows4_step (hy : v.read (Elt Ideal) f = y) (h0 : Adds f0 s0) (h1 : Adds f1 s1) (h2 : Adds f2 s2) (h3 : Adds f3 s3) :
    v.read (Elt Ideal) (v.writes (Elt Ideal) f [upd y i3 f3, upd y i2 f2, upd y i1 f1, upd y i0 f0]) (ix2 i j)
      = y (ix2 i j) + (if i.val = 0 then s0 j else if i.val = 1 then s1 j else if i.val = 2 then s2 j else if i.val = 3 then s3 j else 0 : EReal) := by
  by_cases e0 : i.val = 0
  · rw [if_pos e0]
    exact (read_row_ne _ _ _ _ _ i j (by omega)).trans ((read_row_ne _ _ _ _ _ i j (by omega)).trans ((read_row_ne _ _ _ _ _ i j (by omega)).trans ((read_row _ _ _ _ _ i j e0).trans (h0.to (ld_row _ _ i j e0)))))
  rw [if_neg e0]
  by_cases e1 : i.val = 1
  · rw [if_pos e1]
    exact (read_row_ne _ _ _ _ _ i j (by omega)).trans ((read_row_ne _ _ _ _ _ i j (by omega)).trans ((read_row _ _ _ _ _ i j e1).trans (h1.to (ld_row _ _ i j e1))))
  rw [if_neg e1]
  by_cases e2 : i.val = 2
  · rw [if_pos e2]
    exact (read_row_ne _ _ _ _ _ i j (by omega)).trans ((read_row _ _ _ _ _ i j e2).trans (h2.to (ld_row _ _ i j e2)))
  rw [if_neg e2]
  by_cases e3 : i.val = 3
  · rw [if_pos e3]
    exact (read_row _ _ _ _ _ i j e3).trans (h3.to (ld_row _ _ i j e3))
  rw [if_neg e3]
  rw [add_zero]
  refine (read_row_ne _ _ _ _ _ i j e3).trans ((read_row_ne _ _ _ _ _ i j e2).trans ((read_row_ne _ _ _ _ _ i j e1).trans ((read_row_ne _ _ _ _ _ i j e0).trans (?_))))
  rw [View.writes_nil]
  exact congrFun hy _

end Cert.Shards

end
-- ==== Proof.Pw1Dx.lean ====
module

public import proofs.«01_k».proof.Proof.Shards.Own
public import proofs.«01_k».proof.Proof.Gen.Kernel12Ideal.Launch
public import proofs.«01_k».proof.Proof.Gen.Kernel12Ideal.Skeleton
public import proofs.«01_k».proof.Proof.Gen.Kernel12Ideal.Points
public import proofs.«01_k».proof.Proof.Shards.Read
public import proofs.«01_k».proof.Proof.Shards.Cols
public import proofs.«01_k».proof.Proof.Shards.Sums
public import proofs.«01_k».proof.Defs
public import proofs.«01_k».proof.Proof.Gen.Reference12Ideal.Run
public import proofs.«01_k».proof.Proof.Gen.Kernel12

@[expose] public section

set_option maxRecDepth 16384

noncomputable section

namespace Cert.Kernel12Ideal.Run

section
open Cert.Kernel12Ideal Cert.Kernel12Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body copies the weight in: the grid's coordinate is zero. -/
abbrev first (i : grid0.Coords) : Prop := (Scalar.cmpi .ne (Scalar.extui (Scalar.cmpi .eq (BitVec.ofNat 32 (i 0).val) 0#32)) 0#32) = 1#1

/-- It holds at the first point of the grid and at no other. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : first (grid0.coords t) ↔ t.val % 8 = 0 := by
    simp only [first, e0]
    word_cmp
  rw [e1, Nat.mod_eq_of_lt ht]

/-- The gathered weight, left in HBM. -/
abbrev wgt : Memref sig .tc .hbm S8x1x1024x256 .bf16 := Memref.whole main_arg1
/-- A memref's contents on core `c`, and its buffer held whole at some. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc c.tc ↦{fullShare} f

/-- The counters of the copies' semaphores, all at zero. -/
def cells (c : Dev nD) : sProp 𝕄 :=
  iprop(semVal (c.tc, SemLoc.dma 21) 0 ∗ semVal (c.tc, SemLoc.dma 22) 0 ∗ semVal (c.tc, SemLoc.dma 23) 0 ∗ semVal (c.tc, SemLoc.dma 24) 0 ∗ semVal (c.tc, SemLoc.dma 25) 0 ∗ semVal (c.tc, SemLoc.dma 26) 0 ∗ semVal (c.tc, SemLoc.dma 27) 0 ∗ semVal (c.tc, SemLoc.dma 28) 0)

section
variable (c : Dev nD) (i : grid0.Coords) (arg1 : Memref sig .tc .vmem S512x2048 .bf16) (harg1 : arg1.IsWhole)
  (arg3 : Memref sig .tc .vmem S512x1024 .f32) (harg3 : arg3.IsWhole)
  (arg4 : Memref sig .tc .vmem S1x1024 .f32) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S512x1 .f32) (harg7 : arg7.IsWhole)
  (arg8 : Memref sig .tc .vmem S1x1024 .f32) (harg8 : arg8.IsWhole)
  (arg9 : Memref sig .tc .vmem S512x1024 .bf16) (harg9 : arg9.IsWhole)
  (arg10 : Memref sig .tc .vmem S1x1024 .f32) (harg10 : arg10.IsWhole)
  (arg11 : Memref sig .tc .vmem S512x1024 .bf16) (harg11 : arg11.IsWhole)
  (arg12 : Memref sig .tc .vmem S512x1024 .f32) (harg12 : arg12.IsWhole)
  (arg13 : Memref sig .tc .vmem S8x1024 .f32) (harg13 : arg13.IsWhole)
  (arg14 : Memref sig .tc .vmem S8x1024 .f32) (harg14 : arg14.IsWhole)
  (arg15 : Memref sig .tc .vmem S1024x2048 .bf16) (harg15 : arg15.IsWhole)

set_option maxHeartbeats 4000000 in
set_option sl_exec.dmaWindow true in
set_option sl_exec.dmaWindowSet true in
/-- The body at the first point copies the weight into the scratch and leaves each output and the scratch written by the pieces found here. -/
def bodyFirst (hc : first i) (x0 : Vec F S512x2048 .bf16) (x1 : Vec F S512x1024 .f32) (x2 : Vec F S1x1024 .f32) (x3 : Vec F S512x1024 .f32) (x4 : Vec F S512x1024 .f32) (x5 : Vec F S512x1 .f32) (x6 : Vec F S1x1024 .f32) (x7 : Vec F S512x1024 .bf16) (x8 : Vec F S1x1024 .f32) (fh : Held (F := F) c wgt) :
    Σ' (L9 : List (View.Piece (Elt F) S512x1024 .bf16)), Σ' (L10 : List (View.Piece (Elt F) S512x1024 .f32)), Σ' (L11 : List (View.Piece (Elt F) S8x1024 .f32)), Σ' (L12 : List (View.Piece (Elt F) S8x1024 .f32)), { T0 : List (View.Piece (Elt F) S1024x2048 .bf16) //
      ∀ (W : Waits sig Unit) (K : PUnit → sProp 𝕄),
        iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ (∃ d, owns c.tc arg11 fullShare d) ∗ (∃ d, owns c.tc arg12 fullShare d) ∗ (∃ d, owns c.tc arg13 fullShare d) ∗ (∃ d, owns c.tc arg14 fullShare d) ∗ (∃ d, owns c.tc arg15 fullShare d) ∗ cells c ∗ held c wgt fh ∗ owes c.tc 0 W
            ∗ (iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ (∃ f, arg11.view.loc c.tc ↦[arg11.view.set]{fullShare} arg11.view.writes (Elt F) f L9) ∗ (∃ f, arg12.view.loc c.tc ↦[arg12.view.set]{fullShare} arg12.view.writes (Elt F) f L10) ∗ (∃ f, arg13.view.loc c.tc ↦[arg13.view.set]{fullShare} arg13.view.writes (Elt F) f L11) ∗ (∃ f, arg14.view.loc c.tc ↦[arg14.view.set]{fullShare} arg14.view.writes (Elt F) f L12) ∗ (∃ f, arg15.view.loc c.tc ↦[arg15.view.set]{fullShare} arg15.view.writes (Elt F) f T0) ∗ cells c ∗ held c wgt fh ∗ (∃ W', owes c.tc 0 W')) -∗ K ⟨⟩))
          ⊢ wp frame (wpE (defs₀ (F := F)) Variants.none c none) Set.univ (cc0_b_pw1_dx i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 cc0_scratch1) K } := by
  refine ⟨?_, ?_, ?_, ?_, ?_, fun W K => ?run⟩
  case run =>
    simp only [cc0_b_pw1_dx_eq_skeleton]; unfold cc0_b_pw1_dx_skel
    simp only [k0_part1_eq_skeleton, k0_part2_eq_skeleton, k0_part3_eq_skeleton, k0_part4_eq_skeleton, k0_part5_eq_skeleton, k0_part6_eq_skeleton]
    unfold owns cells
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨Hq0, Hq1, Hq2, Hq3, Hq4, Hq5, Hq6, Hq7⟩, Hh, HW, Hk⟩
    obtain rfl := harg1.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | sl_exact hc)
    sl_step
    iapply Hk
    isplitl [H0]; · iapply (Shards.unread harg1 _); iexact H0
    isplitl [H1]; · iapply (Shards.unread harg3 _); iexact H1
    isplitl [H2]; · iapply (Shards.unread harg4 _); iexact H2
    isplitl [H3]; · iapply (Shards.unread harg5 _); iexact H3
    isplitl [H4]; · iapply (Shards.unread harg6 _); iexact H4
    isplitl [H5]; · iapply (Shards.unread harg7 _); iexact H5
    isplitl [H6]; · iapply (Shards.unread harg8 _); iexact H6
    isplitl [H7]; · iapply (Shards.unread harg9 _); iexact H7
    isplitl [H8]; · iapply (Shards.unread harg10 _); iexact H8
    isplitl [H9]; · iexists _; iexact H9
    isplitl [H10]; · iexists _; iexact H10
    isplitl [H11]; · iexists _; iexact H11
    isplitl [H12]; · iexists _; iexact H12
    isplitl [HS0]; · iexists _; iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

set_option maxHeartbeats 4000000 in
set_option sl_exec.dmaWindow true in
set_option sl_exec.dmaWindowSet true in
/-- The body at a later point: the scratch holds the weight already and keeps it. The accumulated outputs are
    read at what the point before left. -/
def bodyLater (hc : ¬first i) (x0 : Vec F S512x2048 .bf16) (x1 : Vec F S512x1024 .f32) (x2 : Vec F S1x1024 .f32) (x3 : Vec F S512x1024 .f32) (x4 : Vec F S512x1024 .f32) (x5 : Vec F S512x1 .f32) (x6 : Vec F S1x1024 .f32) (x7 : Vec F S512x1024 .bf16) (x8 : Vec F S1x1024 .f32) (s0 : Vec F S1024x2048 .bf16) (y11 : Vec F S8x1024 .f32) (y12 : Vec F S8x1024 .f32) (fh : Held (F := F) c wgt) :
    Σ' (L9 : List (View.Piece (Elt F) S512x1024 .bf16)), Σ' (L10 : List (View.Piece (Elt F) S512x1024 .f32)), Σ' (L11 : List (View.Piece (Elt F) S8x1024 .f32)), { L12 : List (View.Piece (Elt F) S8x1024 .f32) //
      ∀ (W : Waits sig Unit) (K : PUnit → sProp 𝕄),
        iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ (∃ d, owns c.tc arg11 fullShare d) ∗ (∃ d, owns c.tc arg12 fullShare d) ∗ owns c.tc arg13 fullShare y11 ∗ owns c.tc arg14 fullShare y12 ∗ owns c.tc arg15 fullShare s0 ∗ cells c ∗ held c wgt fh ∗ owes c.tc 0 W
            ∗ (iprop(owns c.tc arg1 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ (∃ f, arg11.view.loc c.tc ↦[arg11.view.set]{fullShare} arg11.view.writes (Elt F) f L9) ∗ (∃ f, arg12.view.loc c.tc ↦[arg12.view.set]{fullShare} arg12.view.writes (Elt F) f L10) ∗ (arg13.view.loc c.tc ↦[arg13.view.set]{fullShare} arg13.view.writes (Elt F) (harg13.unread y11) L11) ∗ (arg14.view.loc c.tc ↦[arg14.view.set]{fullShare} arg14.view.writes (Elt F) (harg14.unread y12) L12) ∗ owns c.tc arg15 fullShare s0 ∗ cells c ∗ held c wgt fh ∗ (∃ W', owes c.tc 0 W')) -∗ K ⟨⟩))
          ⊢ wp frame (wpE (defs₀ (F := F)) Variants.none c none) Set.univ (cc0_b_pw1_dx i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 cc0_scratch1) K } := by
  refine ⟨?_, ?_, ?_, ?_, fun W K => ?run⟩
  case run =>
    simp only [cc0_b_pw1_dx_eq_skeleton]; unfold cc0_b_pw1_dx_skel
    simp only [k0_part1_eq_skeleton, k0_part2_eq_skeleton, k0_part3_eq_skeleton, k0_part4_eq_skeleton, k0_part5_eq_skeleton, k0_part6_eq_skeleton]
    unfold owns cells
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%fs0, %hfs0, HS0⟩, ⟨Hq0, Hq1, Hq2, Hq3, Hq4, Hq5, Hq6, Hq7⟩, Hh, HW, Hk⟩
    obtain rfl := harg1.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg13.eq_unread hf11
    obtain rfl := harg14.eq_unread hf12
    obtain rfl := harg15.eq_unread hfs0
    sl_exec (disch := first | sl_exact hc)
    sl_step
    iapply Hk
    isplitl [H0]; · iapply (Shards.unread harg1 _); iexact H0
    isplitl [H1]; · iapply (Shards.unread harg3 _); iexact H1
    isplitl [H2]; · iapply (Shards.unread harg4 _); iexact H2
    isplitl [H3]; · iapply (Shards.unread harg5 _); iexact H3
    isplitl [H4]; · iapply (Shards.unread harg6 _); iexact H4
    isplitl [H5]; · iapply (Shards.unread harg7 _); iexact H5
    isplitl [H6]; · iapply (Shards.unread harg8 _); iexact H6
    isplitl [H7]; · iapply (Shards.unread harg9 _); iexact H7
    isplitl [H8]; · iapply (Shards.unread harg10 _); iexact H8
    isplitl [H9]; · iexists _; iexact H9
    isplitl [H10]; · iexists _; iexact H10
    iframe H11 H12
    isplitl [HS0]; · iapply (Shards.unread harg15 _); iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

end

variable (m : (ℓ : Loc nD τ sig) → Buf (Elt F) ℓ) (ρ : Dev nD → PrngReg)
variable (c : Dev nD) (t : Fin cfg0.N)

/-- Core `c`'s buffers when the grid starts: as launched. -/
abbrev V (b : Ref sig .tc) : Buf (Elt F) ((c : Thread nD τ).loc b) := m ((c : Thread nD τ).loc b)

/-- The program is the grid alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 : V m c main_arg0 = m (c.tc.loc main_arg0) := rfl
theorem V_main_arg1 : V m c main_arg1 = m (c.tc.loc main_arg1) := rfl
theorem V_main_arg2 : V m c main_arg2 = m (c.tc.loc main_arg2) := rfl
theorem V_main_arg3 : V m c main_arg3 = m (c.tc.loc main_arg3) := rfl
theorem V_main_arg4 : V m c main_arg4 = m (c.tc.loc main_arg4) := rfl
theorem V_main_arg5 : V m c main_arg5 = m (c.tc.loc main_arg5) := rfl
theorem V_main_arg6 : V m c main_arg6 = m (c.tc.loc main_arg6) := rfl
theorem V_main_arg7 : V m c main_arg7 = m (c.tc.loc main_arg7) := rfl
theorem V_main_arg8 : V m c main_arg8 = m (c.tc.loc main_arg8) := rfl
theorem V_main_arg9 : V m c main_arg9 = m (c.tc.loc main_arg9) := rfl

/-- Window `w`'s block at point `t`. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 : Memref sig .tc .vmem S512x2048 .bf16 := win0_0.stage (cfg0.slots t 0)
abbrev hs0 : (ms0 t).IsWhole := hstage0_0 ((cfg0.slots t 0).cast nbuf0_0)
abbrev ms1 : Memref sig .tc .vmem S512x1024 .f32 := win0_1.stage (cfg0.slots t 1)
abbrev hs1 : (ms1 t).IsWhole := hstage0_1 ((cfg0.slots t 1).cast nbuf0_1)
abbrev ms2 : Memref sig .tc .vmem S1x1024 .f32 := win0_2.stage (cfg0.slots t 2)
abbrev hs2 : (ms2 t).IsWhole := hstage0_2 ((cfg0.slots t 2).cast nbuf0_2)
abbrev ms3 : Memref sig .tc .vmem S512x1024 .f32 := win0_3.stage (cfg0.slots t 3)
abbrev hs3 : (ms3 t).IsWhole := hstage0_3 ((cfg0.slots t 3).cast nbuf0_3)
abbrev ms4 : Memref sig .tc .vmem S512x1024 .f32 := win0_4.stage (cfg0.slots t 4)
abbrev hs4 : (ms4 t).IsWhole := hstage0_4 ((cfg0.slots t 4).cast nbuf0_4)
abbrev ms5 : Memref sig .tc .vmem S512x1 .f32 := win0_5.stage (cfg0.slots t 5)
abbrev hs5 : (ms5 t).IsWhole := hstage0_5 ((cfg0.slots t 5).cast nbuf0_5)
abbrev ms6 : Memref sig .tc .vmem S1x1024 .f32 := win0_6.stage (cfg0.slots t 6)
abbrev hs6 : (ms6 t).IsWhole := hstage0_6 ((cfg0.slots t 6).cast nbuf0_6)
abbrev ms7 : Memref sig .tc .vmem S512x1024 .bf16 := win0_7.stage (cfg0.slots t 7)
abbrev hs7 : (ms7 t).IsWhole := hstage0_7 ((cfg0.slots t 7).cast nbuf0_7)
abbrev ms8 : Memref sig .tc .vmem S1x1024 .f32 := win0_8.stage (cfg0.slots t 8)
abbrev hs8 : (ms8 t).IsWhole := hstage0_8 ((cfg0.slots t 8).cast nbuf0_8)
abbrev ms9 : Memref sig .tc .vmem S512x1024 .bf16 := win0_9.stage (cfg0.slots t 9)
abbrev hs9 : (ms9 t).IsWhole := hstage0_9 ((cfg0.slots t 9).cast nbuf0_9)
abbrev ms10 : Memref sig .tc .vmem S512x1024 .f32 := win0_10.stage (cfg0.slots t 10)
abbrev hs10 : (ms10 t).IsWhole := hstage0_10 ((cfg0.slots t 10).cast nbuf0_10)
abbrev ms11 : Memref sig .tc .vmem S8x1024 .f32 := win0_11.stage (cfg0.slots t 11)
abbrev hs11 : (ms11 t).IsWhole := hstage0_11 ((cfg0.slots t 11).cast nbuf0_11)
abbrev ms12 : Memref sig .tc .vmem S8x1024 .f32 := win0_12.stage (cfg0.slots t 12)
abbrev hs12 : (ms12 t).IsWhole := hstage0_12 ((cfg0.slots t 12).cast nbuf0_12)
/-- The scratch that keeps the weight. -/
abbrev scr0 : Memref sig .tc .vmem S1024x2048 .bf16 := Memref.whole cc0_scratch0
abbrev VO9 : View sig .tc .vmem S512x1024 .bf16 := (Memref.whole cc0_stg9_0 : Memref sig .tc .vmem S512x1024 .bf16).view
abbrev VO10 : View sig .tc .vmem S512x1024 .f32 := (Memref.whole cc0_stg10_0 : Memref sig .tc .vmem S512x1024 .f32).view
abbrev VO11 : View sig .tc .vmem S8x1024 .f32 := (Memref.whole cc0_stg11_0 : Memref sig .tc .vmem S8x1024 .f32).view
abbrev VO12 : View sig .tc .vmem S8x1024 .f32 := (Memref.whole cc0_stg12_0 : Memref sig .tc .vmem S8x1024 .f32).view

/-- The copies' semaphores. -/
abbrev sems : Fin 8 → SemLoc sig := fun j => (![SemLoc.dma 21, SemLoc.dma 22, SemLoc.dma 23, SemLoc.dma 24, SemLoc.dma 25, SemLoc.dma 26, SemLoc.dma 27, SemLoc.dma 28] : Fin 8 → SemLoc sig) j
theorem sems_own : Pipeline.OwnSemFacts spec0 sems := by decide
theorem sems_eq :
    (Pipeline.ownSems0 (Ix := Unit) (Name := ℕ) (U := Pipeline.UD sig nD τ) (Lvl := ℕ) (Val := Elt F) (τ := τ) sems c : sProp 𝕄) = cells c := by
  rw [Pipeline.ownSems0_eq_of_list c sems [0, 1, 2, 3, 4, 5, 6, 7] (by decide) (by decide)]; rfl
/-- The operand the body copies itself. -/
def moved : Finset (Ref sig .tc) := {main_arg1}
theorem moved_sub : moved ⊆ Pipeline.restRefs sig spec0 := by decide
theorem moved_eq :
    (bigSep moved (fun b => (c.tc.loc b) ↦{fullShare} V m c b) : sProp 𝕄) = iprop(held c wgt (V m c main_arg1)) := by
  rw [BI.bigSep_eq_bigSepL_of_eq [main_arg1] (by decide) (by decide)]; rfl

/-- What the grid starts with, conjunct by conjunct. -/
theorem start_eq :
    (Pipeline.ΦD sems spec0 moved (V m) c : sProp 𝕄)
      = iprop(iprop((∃ d, owns c.tc scr0 fullShare d)) ∗ (∃ r, prngReg c r) ∗ cells c ∗ iprop(held c wgt (V m c main_arg1))) := by
  rw [Pipeline.ΦD_eq, scopedRest0_eq, sems_eq, moved_eq]; simp only [scr0, owns_whole]; try rfl

/-- The body's run at the first point, on that point's buffers and blocks. -/
def runFirst (h : t.val = 0) :=
  bodyFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scr0 (Memref.isWhole_whole _) ((first_iff t).mpr h) (iblk m c 0 t) (iblk m c 1 t) (iblk m c 2 t) (iblk m c 3 t) (iblk m c 4 t) (iblk m c 5 t) (iblk m c 6 t) (iblk m c 7 t) (iblk m c 8 t) (V m c main_arg1)
/-- The body's run at a later point. -/
def runLater (h : ¬t.val = 0) (s0 : Vec F S1024x2048 .bf16) (y11 : Vec F S8x1024 .f32) (y12 : Vec F S8x1024 .f32) :=
  bodyLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scr0 (Memref.isWhole_whole _) (fun e => h ((first_iff t).mp e)) (iblk m c 0 t) (iblk m c 1 t) (iblk m c 2 t) (iblk m c 3 t) (iblk m c 4 t) (iblk m c 5 t) (iblk m c 6 t) (iblk m c 7 t) (iblk m c 8 t) s0 y11 y12 (V m c main_arg1)

theorem coverFirst9 (h : t.val = 0) (y : S512x1024.Idx) : ∃ pc ∈ (runFirst m c t h).1, y ∈ pc.1.set :=
  View.cover_of_tiledL _ S512x1024.size (by sl_kernel_rfl) y
/-- What the first point leaves in output 0. -/
def outFirst9 (h : t.val = 0) : Vec F S512x1024 .bf16 := VO9.read (Elt F) (VO9.writes (Elt F) VO9.junk (runFirst m c t h).1)
theorem coverFirst10 (h : t.val = 0) (y : S512x1024.Idx) : ∃ pc ∈ (runFirst m c t h).2.1, y ∈ pc.1.set :=
  View.cover_of_tiledL _ S512x1024.size (by sl_kernel_rfl) y
/-- What the first point leaves in output 1. -/
def outFirst10 (h : t.val = 0) : Vec F S512x1024 .f32 := VO10.read (Elt F) (VO10.writes (Elt F) VO10.junk (runFirst m c t h).2.1)
theorem coverFirst11 (h : t.val = 0) (y : S8x1024.Idx) : ∃ pc ∈ (runFirst m c t h).2.2.1, y ∈ pc.1.set :=
  View.cover_of_wholeMem _ (by sl_whole_mem) y
/-- What the first point leaves in output 2. -/
def outFirst11 (h : t.val = 0) : Vec F S8x1024 .f32 := VO11.read (Elt F) (VO11.writes (Elt F) VO11.junk (runFirst m c t h).2.2.1)
theorem coverFirst12 (h : t.val = 0) (y : S8x1024.Idx) : ∃ pc ∈ (runFirst m c t h).2.2.2.1, y ∈ pc.1.set :=
  View.cover_of_wholeMem _ (by sl_whole_mem) y
/-- What the first point leaves in output 3. -/
def outFirst12 (h : t.val = 0) : Vec F S8x1024 .f32 := VO12.read (Elt F) (VO12.writes (Elt F) VO12.junk (runFirst m c t h).2.2.2.1)
theorem coverLater9 (h : ¬t.val = 0) (s0 : Vec F S1024x2048 .bf16) (y11 : Vec F S8x1024 .f32) (y12 : Vec F S8x1024 .f32) (y : S512x1024.Idx) : ∃ pc ∈ (runLater m c t h s0 y11 y12).1, y ∈ pc.1.set :=
  View.cover_of_tiledL _ S512x1024.size (by sl_kernel_rfl) y
/-- What a later point leaves in output 0, the scratch holding `s0`. -/
def outLater9 (h : ¬t.val = 0) (s0 : Vec F S1024x2048 .bf16) (y11 : Vec F S8x1024 .f32) (y12 : Vec F S8x1024 .f32) : Vec F S512x1024 .bf16 := VO9.read (Elt F) (VO9.writes (Elt F) VO9.junk (runLater m c t h s0 y11 y12).1)
theorem coverLater10 (h : ¬t.val = 0) (s0 : Vec F S1024x2048 .bf16) (y11 : Vec F S8x1024 .f32) (y12 : Vec F S8x1024 .f32) (y : S512x1024.Idx) : ∃ pc ∈ (runLater m c t h s0 y11 y12).2.1, y ∈ pc.1.set :=
  View.cover_of_tiledL _ S512x1024.size (by sl_kernel_rfl) y
/-- What a later point leaves in output 1, the scratch holding `s0`. -/
def outLater10 (h : ¬t.val = 0) (s0 : Vec F S1024x2048 .bf16) (y11 : Vec F S8x1024 .f32) (y12 : Vec F S8x1024 .f32) : Vec F S512x1024 .f32 := VO10.read (Elt F) (VO10.writes (Elt F) VO10.junk (runLater m c t h s0 y11 y12).2.1)
/-- What a later point leaves in output 2, which held `y11`. -/
def outLater11 (h : ¬t.val = 0) (s0 : Vec F S1024x2048 .bf16) (y11 : Vec F S8x1024 .f32) (y12 : Vec F S8x1024 .f32) : Vec F S8x1024 .f32 :=
  (ms11 t).view.read (Elt F) ((ms11 t).view.writes (Elt F) ((hs11 t).unread y11) (runLater m c t h s0 y11 y12).2.2.1)
/-- What a later point leaves in output 3, which held `y12`. -/
def outLater12 (h : ¬t.val = 0) (s0 : Vec F S1024x2048 .bf16) (y11 : Vec F S8x1024 .f32) (y12 : Vec F S8x1024 .f32) : Vec F S8x1024 .f32 :=
  (ms12 t).view.read (Elt F) ((ms12 t).view.writes (Elt F) ((hs12 t).unread y12) (runLater m c t h s0 y11 y12).2.2.2.1)
theorem coverScr0 (h : t.val = 0) (y : S1024x2048.Idx) : ∃ pc ∈ (runFirst m c t h).2.2.2.2.1, y ∈ pc.1.set :=
  View.cover_of_tiledL _ ![1024,256] (by sl_kernel_rfl) y
/-- The weight as the first point leaves it in the scratch. -/
def weight0 : Vec F S1024x2048 .bf16 :=
  scr0.view.read (Elt F) (scr0.view.writes (Elt F) scr0.view.junk (runFirst m c t0_0 (show t0_0.val = 0 from rfl)).2.2.2.2.1)

/-- The accumulated outputs after point `n`. -/
def accAt (c : Dev nD) : (n : ℕ) → n < cfg0.N → Vec F S8x1024 .f32 × Vec F S8x1024 .f32
  | 0, hn => (outFirst11 m c ⟨0, hn⟩ rfl, outFirst12 m c ⟨0, hn⟩ rfl)
  | n + 1, hn => (outLater11 m c ⟨n + 1, hn⟩ (Nat.succ_ne_zero n) (weight0 m c) (accAt c n (Nat.lt_of_succ_lt hn)).1 (accAt c n (Nat.lt_of_succ_lt hn)).2, outLater12 m c ⟨n + 1, hn⟩ (Nat.succ_ne_zero n) (weight0 m c) (accAt c n (Nat.lt_of_succ_lt hn)).1 (accAt c n (Nat.lt_of_succ_lt hn)).2)

/-- The accumulated outputs before point `t`. -/
abbrev accPrev := accAt m c (t.val - 1) (Nat.lt_of_le_of_lt (Nat.sub_le _ _) t.isLt)

theorem accAt_first (h : t.val = 0) : accAt m c t.val t.isLt = (outFirst11 m c t h, outFirst12 m c t h) := by
  obtain ⟨n, hn⟩ := t
  cases n with
  | zero => rfl
  | succ n => exact absurd h (Nat.succ_ne_zero n)
theorem accAt_later (h : ¬t.val = 0) :
    accAt m c t.val t.isLt = (outLater11 m c t h (weight0 m c) (accPrev m c t).1 (accPrev m c t).2, outLater12 m c t h (weight0 m c) (accPrev m c t).1 (accPrev m c t).2) := by
  obtain ⟨n, hn⟩ := t
  cases n with
  | zero => exact absurd rfl h
  | succ n => rfl

/-- What point `t` leaves in output 0. -/
def out9 : Vec F S512x1024 .bf16 := if h : t.val = 0 then outFirst9 m c t h else outLater9 m c t h (weight0 m c) (accPrev m c t).1 (accPrev m c t).2
theorem out9_first (h : t.val = 0) : out9 m c t = outFirst9 m c t h := dif_pos h
theorem out9_later (h : ¬t.val = 0) : out9 m c t = outLater9 m c t h (weight0 m c) (accPrev m c t).1 (accPrev m c t).2 := dif_neg h

/-- What point `t` leaves in output 1. -/
def out10 : Vec F S512x1024 .f32 := if h : t.val = 0 then outFirst10 m c t h else outLater10 m c t h (weight0 m c) (accPrev m c t).1 (accPrev m c t).2
theorem out10_first (h : t.val = 0) : out10 m c t = outFirst10 m c t h := dif_pos h
theorem out10_later (h : ¬t.val = 0) : out10 m c t = outLater10 m c t h (weight0 m c) (accPrev m c t).1 (accPrev m c t).2 := dif_neg h

/-- Between the points: at first what the grid starts with, afterwards the scratch at the weight. -/
def Keep : (n : ℕ) → n ≤ cfg0.N → sProp 𝕄
  | 0, _ => Pipeline.ΦD sems spec0 moved (V m) c
  | n + 1, _ => iprop(iprop(owns c.tc scr0 fullShare (weight0 m c)) ∗ (∃ r, prngReg c r) ∗ cells c ∗ iprop(held c wgt (V m c main_arg1)))
theorem Keep_zero (n : ℕ) (h : n ≤ cfg0.N) (hz : n = 0) : Keep m c n h = Pipeline.ΦD sems spec0 moved (V m) c := by
  subst hz; rfl
theorem Keep_pos (n : ℕ) (h : n ≤ cfg0.N) (hz : n ≠ 0) :
    Keep m c n h = iprop(iprop(owns c.tc scr0 fullShare (weight0 m c)) ∗ (∃ r, prngReg c r) ∗ cells c ∗ iprop(held c wgt (V m c main_arg1))) := by
  cases n with
  | zero => exact absurd rfl hz
  | succ n => rfl

/-- The proof data: inputs at their blocks, outputs at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => out10 m c t
    | ⟨11, _⟩ => (accAt m c t.val t.isLt).1
    | ⟨12, _⟩ => (accAt m c t.val t.isLt).2
  Φ t := Keep m c t.val (Nat.le_of_lt_succ t.isLt)
  q _ := fullShare
  owed _ := 0
theorem A_eq (w : Fin cfg0.W) : (dats m 0 c).A w = V m c (Pipeline.arrRef spec0 w) := by
  dsimp only [dats]
theorem Keep_castSucc :
    (dats m 0 c).Φ t.castSucc = Keep m c t.val (Nat.le_of_lt t.isLt) := by
  dsimp only [dats]; exact Pipeline.Dat.Φ_castSucc (Keep m c) t
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = out9 m c t := by dsimp only [dats]
theorem after10 : (dats m 0 c).after 10 t = out10 m c t := by dsimp only [dats]
theorem after11 : (dats m 0 c).after 11 t = (accAt m c t.val t.isLt).1 := by dsimp only [dats]
theorem after12 : (dats m 0 c).after 12 t = (accAt m c t.val t.isLt).2 := by dsimp only [dats]
theorem before0 (d) : (dats m 0 c).before 0 t d = iblk m c 0 t :=
  (dats m 0 c).before_in_eq_fetched 0 rfl (fun _ => rfl) (fun _ _ _ => rfl) (fun _ => rfl) t d
theorem before1 (d) : (dats m 0 c).before 1 t d = iblk m c 1 t :=
  (dats m 0 c).before_in_eq_fetched 1 rfl (fun _ => rfl) (fun _ _ _ => rfl) (fun _ => rfl) t d
theorem before2 (d) : (dats m 0 c).before 2 t d = iblk m c 2 t :=
  (dats m 0 c).before_in_eq_fetched 2 rfl (fun _ => rfl) (fun _ _ _ => rfl) (fun _ => rfl) t d
theorem before3 (d) : (dats m 0 c).before 3 t d = iblk m c 3 t :=
  (dats m 0 c).before_in_eq_fetched 3 rfl (fun _ => rfl) (fun _ _ _ => rfl) (fun _ => rfl) t d
theorem before4 (d) : (dats m 0 c).before 4 t d = iblk m c 4 t :=
  (dats m 0 c).before_in_eq_fetched 4 rfl (fun _ => rfl) (fun _ _ _ => rfl) (fun _ => rfl) t d
theorem before5 (d) : (dats m 0 c).before 5 t d = iblk m c 5 t :=
  (dats m 0 c).before_in_eq_fetched 5 rfl (fun _ => rfl) (fun _ _ _ => rfl) (fun _ => rfl) t d
theorem before6 (d) : (dats m 0 c).before 6 t d = iblk m c 6 t :=
  (dats m 0 c).before_in_eq_fetched 6 rfl (fun _ => rfl) (fun _ _ _ => rfl) (fun _ => rfl) t d
theorem before7 (d) : (dats m 0 c).before 7 t d = iblk m c 7 t :=
  (dats m 0 c).before_in_eq_fetched 7 rfl (fun _ => rfl) (fun _ _ _ => rfl) (fun _ => rfl) t d
theorem before8 (d) : (dats m 0 c).before 8 t d = iblk m c 8 t :=
  (dats m 0 c).before_in_eq_fetched 8 rfl (fun _ => rfl) (fun _ _ _ => rfl) (fun _ => rfl) t d
theorem before11 (h : ¬t.val = 0) (d) :
    (dats m 0 c).before 11 t d = (accPrev m c t).1 := by
  have hN : t.val < 8 := lt_of_lt_of_eq t.isLt (show cfg0.N = 8 from N_0)
  rw [Dat.before_out_kept _ 11 rfl t (by omega) (Bool.eq_false_iff.mpr fun h => by have := (flush0_11 _).mp h; dsimp only at this; omega)
    (fun _ => rfl) (fun _ _ => rfl)]
  dsimp only [dats]
theorem before12 (h : ¬t.val = 0) (d) :
    (dats m 0 c).before 12 t d = (accPrev m c t).2 := by
  have hN : t.val < 8 := lt_of_lt_of_eq t.isLt (show cfg0.N = 8 from N_0)
  rw [Dat.before_out_kept _ 12 rfl t (by omega) (Bool.eq_false_iff.mpr fun h => by have := (flush0_12 _).mp h; dsimp only at this; omega)
    (fun _ => rfl) (fun _ _ => rfl)]
  dsimp only [dats]

def bodyPre : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d))
    ∗ (∃ d, owns c.tc (ms6 t) fullShare ((dats m 0 c).before 6 t d))
    ∗ (∃ d, owns c.tc (ms7 t) fullShare ((dats m 0 c).before 7 t d))
    ∗ (∃ d, owns c.tc (ms8 t) fullShare ((dats m 0 c).before 8 t d))
    ∗ (∃ d, owns c.tc (ms9 t) fullShare ((dats m 0 c).before 9 t d))
    ∗ (∃ d, owns c.tc (ms10 t) fullShare ((dats m 0 c).before 10 t d))
    ∗ (∃ d, owns c.tc (ms11 t) fullShare ((dats m 0 c).before 11 t d))
    ∗ (∃ d, owns c.tc (ms12 t) fullShare ((dats m 0 c).before 12 t d)))
def bodyPost : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t)
    ∗ owns c.tc (ms2 t) fullShare ((dats m 0 c).after 2 t)
    ∗ owns c.tc (ms3 t) fullShare ((dats m 0 c).after 3 t)
    ∗ owns c.tc (ms4 t) fullShare ((dats m 0 c).after 4 t)
    ∗ owns c.tc (ms5 t) fullShare ((dats m 0 c).after 5 t)
    ∗ owns c.tc (ms6 t) fullShare ((dats m 0 c).after 6 t)
    ∗ owns c.tc (ms7 t) fullShare ((dats m 0 c).after 7 t)
    ∗ owns c.tc (ms8 t) fullShare ((dats m 0 c).after 8 t)
    ∗ owns c.tc (ms9 t) fullShare ((dats m 0 c).after 9 t)
    ∗ owns c.tc (ms10 t) fullShare ((dats m 0 c).after 10 t)
    ∗ owns c.tc (ms11 t) fullShare ((dats m 0 c).after 11 t)
    ∗ owns c.tc (ms12 t) fullShare ((dats m 0 c).after 12 t))

set_option maxHeartbeats 4000000 in
/-- The body at every point takes what holds before the point to what holds after it. -/
theorem sound :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = Keep m c (t.val + 1) t.isLt from rfl, Keep_pos m c _ _ (Nat.succ_ne_zero _),
    after0, after1, after2, after3, after4, after5, after6, after7, after8, after9, after10, after11, after12]
  unfold Dat.owesAt Pipeline.owesWithin
  rw [show (dats m 0 c).owed t.castSucc = 0 from rfl, show (dats m 0 c).owed t.succ = 0 from rfl]
  by_cases h0 : t.val = 0
  · have hz := h0
    rw [Keep_castSucc m c t, Keep_zero m c _ _ h0, start_eq]
    obtain rfl : t = t0_0 := Fin.ext h0
    rw [out9_first m c t0_0 h0, out10_first m c t0_0 h0, accAt_first m c t0_0 h0]
    unfold outFirst9 outFirst10 outFirst11 outFirst12 weight0; (try dsimp only)
    iintro ⟨⟨HS0, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst m c t0_0 h0).2.2.2.2.2 W _)
    iframe H0 H1 H2 H3 H4 H5 H6 H7 H8
    isplitl [H9]; · iexists _; iexact H9
    isplitl [H10]; · iexists _; iexact H10
    isplitl [H11]; · iexists _; iexact H11
    isplitl [H12]; · iexists _; iexact H12
    iframe HS0 Hq Hh HW
    iintro ⟨H0, H1, H2, H3, H4, H5, H6, H7, H8, ⟨%e9, H9⟩, ⟨%e10, H10⟩, ⟨%e11, H11⟩, ⟨%e12, H12⟩, ⟨%es0, HS0⟩, Hq, Hh, ⟨%W', HW'⟩⟩
    isplitl [HS0 Hg Hq Hh]
    · isplitl [HS0]
      · iapply (Shards.owned _ _ _ _ _ (coverScr0 m c t0_0 h0)); iexact HS0
      iframe Hg Hq Hh
    isplitl [HW']
    · iexists W'; isplitr; · ipureintro; exact fun _ _ => Or.inl trivial
      iexact HW'
    iframe H0 H1 H2 H3 H4 H5 H6 H7 H8
    isplitl [H9]
    · iapply (Shards.owned _ _ _ _ _ (coverFirst9 m c _ h0)); iexact H9
    isplitl [H10]
    · iapply (Shards.owned _ _ _ _ _ (coverFirst10 m c _ h0)); iexact H10
    isplitl [H11]
    · iapply (Shards.owned _ _ _ _ _ (coverFirst11 m c _ h0)); iexact H11
    iapply (Shards.owned _ _ _ _ _ (coverFirst12 m c _ h0)); iexact H12
  · have hz := h0
    rw [Keep_castSucc m c t, Keep_pos m c _ _ h0]
    rw [out9_later m c t h0, out10_later m c t h0, accAt_later m c t h0]
    simp only [before11 m c t h0, before12 m c t h0]
    unfold outLater9 outLater10 outLater11 outLater12; (try dsimp only)
    iintro ⟨⟨HS0, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLater m c t h0 (weight0 m c) (accPrev m c t).1 (accPrev m c t).2).2.2.2.2 W _)
    iframe H0 H1 H2 H3 H4 H5 H6 H7 H8
    isplitl [H9]; · iexists _; iexact H9
    isplitl [H10]; · iexists _; iexact H10
    iframe H11 H12 HS0 Hq Hh HW
    iintro ⟨H0, H1, H2, H3, H4, H5, H6, H7, H8, ⟨%e9, H9⟩, ⟨%e10, H10⟩, H11, H12, HS0, Hq, Hh, ⟨%W', HW'⟩⟩
    isplitl [HS0 Hg Hq Hh]
    · isplitl [HS0]
      · iexact HS0
      iframe Hg Hq Hh
    isplitl [HW']
    · iexists W'; isplitr; · ipureintro; exact fun _ _ => Or.inl trivial
      iexact HW'
    iframe H0 H1 H2 H3 H4 H5 H6 H7 H8
    isplitl [H9]
    · iapply (Shards.owned _ _ _ _ _ (coverLater9 m c _ h0 _ _ _)); iexact H9
    isplitl [H10]
    · iapply (Shards.owned _ _ _ _ _ (coverLater10 m c _ h0 _ _ _)); iexact H10
    isplitl [H11]
    · unfold owns; iexists _; isplitr
      swap; · iexact H11
      ipureintro; rfl
    unfold owns; iexists _; isplitr
    swap; · iexact H12
    ipureintro; rfl

theorem defs_row :
    defs₀ (F := F) .tc cfg0.body (cfg0.bodyArgs t (cfg0.slots t)) = bodyAt0 t := by
  unfold defs₀; rw [Defs.onTc_tc]
theorem obligation : BodyObligation (dats (F := F) m 0 c) (defs₀ (F := F)) Variants.none () Set.univ := fun t => by
  rw [bigSep_W0, bigSep_W0, defs_row]
  exact triple_restated (sound m c t) rfl .rfl fun _ => .rfl
theorem hin : Pipeline.ΦD sems spec0 moved (V m) c ⊢ (dats m 0 c).Φ 0 := by
  rw [show (dats m 0 c).Φ 0 = Keep m c 0 (Nat.zero_le _) from rfl, Keep_zero m c 0 _ rfl]
  try exact Idealize.SL.BI.Entails.refl _
theorem hout : (dats m 0 c).Φ (Fin.last cfg0.N) ⊢ Pipeline.ΦD sems spec0 moved (V m) c := by
  rw [show (dats m 0 c).Φ (Fin.last cfg0.N) = Keep m c (Fin.last cfg0.N).val (Nat.le_of_lt_succ (Fin.last cfg0.N).isLt) from rfl,
    Keep_pos m c _ _ (by rw [Fin.val_last]; have : cfg0.N = 8 := N_0; omega), start_eq]
  iintro ⟨HS0, Hg, Hq, Hh⟩
  isplitl [HS0]
  · iexists _; iexact HS0
  iframe Hg Hq Hh

set_option backward.isDefEq.respectTransparency.types false in
/-- Every fair execution ends, the arrays at what the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none sems_own moved moved_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments are as launched. -/
abbrev Kept (μ : (ℓ : Loc nD τ sig) → Buf (Elt F) ℓ) : Prop :=
  μ (c.tc.loc main_arg0) = m (c.tc.loc main_arg0) ∧ μ (c.tc.loc main_arg1) = m (c.tc.loc main_arg1) ∧ μ (c.tc.loc main_arg2) = m (c.tc.loc main_arg2) ∧ μ (c.tc.loc main_arg3) = m (c.tc.loc main_arg3) ∧ μ (c.tc.loc main_arg4) = m (c.tc.loc main_arg4) ∧ μ (c.tc.loc main_arg5) = m (c.tc.loc main_arg5) ∧ μ (c.tc.loc main_arg6) = m (c.tc.loc main_arg6) ∧ μ (c.tc.loc main_arg7) = m (c.tc.loc main_arg7) ∧ μ (c.tc.loc main_arg8) = m (c.tc.loc main_arg8) ∧ μ (c.tc.loc main_arg9) = m (c.tc.loc main_arg9)

/-- The arguments end as they were. -/
theorem kept (r : PUnit × MemSt nD τ sig (Elt F)) (h : Pipeline.FramePost cfgs (dats m) 0 (V m) r) (c : Dev nD) :
    Kept m c r.2.mem :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c))),
    ((h c).1 4).trans (((dats m 0 c).arrAt_in 4 rfl _).trans ((A_eq m c 4).trans (V_main_arg5 m c))),
    ((h c).1 5).trans (((dats m 0 c).arrAt_in 5 rfl _).trans ((A_eq m c 5).trans (V_main_arg6 m c))),
    ((h c).1 6).trans (((dats m 0 c).arrAt_in 6 rfl _).trans ((A_eq m c 6).trans (V_main_arg7 m c))),
    ((h c).1 7).trans (((dats m 0 c).arrAt_in 7 rfl _).trans ((A_eq m c 7).trans (V_main_arg8 m c))),
    ((h c).1 8).trans (((dats m 0 c).arrAt_in 8 rfl _).trans ((A_eq m c 8).trans (V_main_arg9 m c)))⟩

/-- The program ends with its arguments unchanged and every counter at zero. -/
theorem frame : θ_run defs (onTc (τ := τ) (main (F := F))) ⟨m, fun _ => 0, ρ⟩ (fun r => (∀ c : Dev nD,
      Kept m c r.2.mem)
      ∧ r.2.sem = fun _ => 0) :=
  (θ_run defs _ _).mono (fun r h => ⟨fun c => kept m r h.1 c, h.2⟩) (run_quiescent m ρ)

/-- The program ends with each result at the blocks the points wrote. -/
theorem run_blocks : θ_run defs (onTc (τ := τ) (main (F := F))) ⟨m, fun _ => 0, ρ⟩ fun r => ∀ c : Dev nD,
      (r.2.mem (c.tc.loc main_v0_0) = (dats m 0 c).arrAt 9 cfg0.N ∧ r.2.mem (c.tc.loc main_v0_1) = (dats m 0 c).arrAt 10 cfg0.N ∧ r.2.mem (c.tc.loc main_v0_2) = (dats m 0 c).arrAt 11 cfg0.N ∧ r.2.mem (c.tc.loc main_v0_3) = (dats m 0 c).arrAt 12 cfg0.N)
      ∧ (Kept m c r.2.mem) :=
  (θ_run defs _ _).mono (fun r h c => ⟨⟨(h.1 c).1 9, (h.1 c).1 10, (h.1 c).1 11, (h.1 c).1 12⟩, kept m r h.1 c⟩) (run_quiescent m ρ)

end

section
open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- The weight in the scratch: column `k` is column `k % 256` of the shard of device `k / 256`. -/
theorem weight0_apply (d : Fin 8) (r : Fin 256) (k : Fin 1024) (j : Fin 2048) (hj : j.val = d.val * 256 + r.val) :
    weight0 m c (ix2 k j) = m (c.tc.loc main_arg1) (ix4 d (⟨0, by decide⟩ : Fin 1) k r) := by
  unfold weight0 runFirst
  frame_out
  canon_tiles x h
  all_goals obtain ⟨x0, x1, rfl⟩ := Shards.pair x
  all_goals
    have e0 : ((ix2 k j : S1024x2048.Idx) 0).val = k.val := rfl
    have e1 : ((ix2 k j : S1024x2048.Idx) 1).val = j.val := rfl
    have e2 : ((ix2 x0 x1 : S1024x256.Idx) 0).val = x0.val := rfl
    have e3 : ((ix2 x0 x1 : S1024x256.Idx) 1).val = x1.val := rfl
    rw [e0, e2] at h0
    rw [e1, e3] at h1
    have := x0.isLt
    have := x1.isLt
    refine (Shards.read_block4 _ _ _ _ _ d (⟨0, by decide⟩ : Fin 1) x0 x1 k r ?_ rfl ?_ ?_).trans (congrFun (V_main_arg1 m c) _)
    all_goals
      try simp only [Matrix.cons_val_zero, Matrix.cons_val_one, Matrix.cons_val]
      omega

/-- Every point leaves the gradient of the gated branch of its block. -/
theorem out9_eq : out9 m c t = k0_pay10 (F := Ideal) (k0_pay8 (F := Ideal) (iblk m c 0 t) (weight0 m c) (iblk m c 2 t) (iblk m c 3 t) (iblk m c 4 t) (iblk m c 6 t) (iblk m c 5 t)) (iblk m c 8 t) := by
  by_cases h : t.val = 0
  · rw [out9_first m c t h]
    obtain rfl : t = t0_0 := Fin.ext h
    unfold outFirst9 weight0 runFirst
    frame_out
    try simp only [read_unread_whole]
    repeat erw [Shards.readCov_all]
    try rfl
  · rw [out9_later m c t h]
    unfold outLater9 runLater
    frame_out
    try simp only [read_unread_whole]

/-- Every point leaves the gradient of the residual of its block. -/
theorem out10_eq : out10 m c t = k0_pay11 (F := Ideal) (k0_pay8 (F := Ideal) (iblk m c 0 t) (weight0 m c) (iblk m c 2 t) (iblk m c 3 t) (iblk m c 4 t) (iblk m c 6 t) (iblk m c 5 t)) := by
  by_cases h : t.val = 0
  · rw [out10_first m c t h]
    obtain rfl : t = t0_0 := Fin.ext h
    unfold outFirst10 weight0 runFirst
    frame_out
    try simp only [read_unread_whole]
    repeat erw [Shards.readCov_all]
    try rfl
  · rw [out10_later m c t h]
    unfold outLater10 runLater
    frame_out
    try simp only [read_unread_whole]

/-- The product with the transposed weight at an entry: row `r` of the cotangent against row `j` of the gathered weight. -/
def dot (d : S4096x2048.Idx → Elt Ideal .bf16) (w : S8x1x1024x256.Idx → Elt Ideal .bf16) (r : Fin 4096) (j : Fin 1024) : EReal :=
  ∑ k : Fin 2048, d (ix2 r k) * w (ix4 (⟨k.val / 256, by omega⟩ : Fin 8) (⟨0, by decide⟩ : Fin 1) j (⟨k.val % 256, by omega⟩ : Fin 256))

/-- The cotangent of the modulation's input: the product scaled, plus the residual's. -/
def dxo (d : S4096x2048.Idx → Elt Ideal .bf16) (w : S8x1x1024x256.Idx → Elt Ideal .bf16) (sc : S1x1024.Idx → Elt Ideal .f32) (dr : S4096x1024.Idx → Elt Ideal .f32) (r : Fin 4096) (j : Fin 1024) : EReal :=
  dot d w r j * (1 + sc (ix2 (0 : Fin 1) j)) + dr (ix2 r j)

/-- The layer norm's gradient of a row: `d` the row's cotangent times the scale, `xh` the normalised row, `s` its reciprocal deviation. -/
def normGrad (d xh : Fin 1024 → EReal) (s : EReal) (j : Fin 1024) : EReal :=
  s * (d j - Ideal.div (∑ k, d k) (Ideal.ofBits FTy.f32 0x44800000#32) - xh j * Ideal.div (∑ k, d k * xh k) (Ideal.ofBits FTy.f32 0x44800000#32))

/-- The cotangent of the layer norm's input. -/
def dz (d : S4096x2048.Idx → Elt Ideal .bf16) (w : S8x1x1024x256.Idx → Elt Ideal .bf16) (sc : S1x1024.Idx → Elt Ideal .f32) (dr : S4096x1024.Idx → Elt Ideal .f32) (xh : S4096x1024.Idx → Elt Ideal .f32) (rs : S4096x1.Idx → Elt Ideal .f32) (gam : S1x1024.Idx → Elt Ideal .f32) (r : Fin 4096) (j : Fin 1024) : EReal :=
  normGrad (fun k => dxo d w sc dr r k * gam (ix2 (0 : Fin 1) k)) (fun k => xh (ix2 r k)) (rs (ix2 r (0 : Fin 1))) j

/-- The cotangent of the gated branch. -/
def dy (d : S4096x2048.Idx → Elt Ideal .bf16) (w : S8x1x1024x256.Idx → Elt Ideal .bf16) (sc : S1x1024.Idx → Elt Ideal .f32) (dr : S4096x1024.Idx → Elt Ideal .f32) (xh : S4096x1024.Idx → Elt Ideal .f32) (rs : S4096x1.Idx → Elt Ideal .f32) (gam : S1x1024.Idx → Elt Ideal .f32) (g : S1x1024.Idx → Elt Ideal .f32) (r : Fin 4096) (j : Fin 1024) : EReal := g (ix2 (0 : Fin 1) j) * dz d w sc dr xh rs gam r j

/-- The layer norm's four sums over the rows, and zeros. -/
def normSums (d : S4096x2048.Idx → Elt Ideal .bf16) (w : S8x1x1024x256.Idx → Elt Ideal .bf16) (sc : S1x1024.Idx → Elt Ideal .f32) (dr : S4096x1024.Idx → Elt Ideal .f32) (xh : S4096x1024.Idx → Elt Ideal .f32) (rs : S4096x1.Idx → Elt Ideal .f32) (gam : S1x1024.Idx → Elt Ideal .f32) (y : S4096x1024.Idx → Elt Ideal .bf16) (g : S1x1024.Idx → Elt Ideal .f32) (i : Fin 8) (j : Fin 1024) : EReal :=
  if i.val = 0 then ∑ r : Fin 4096, dxo d w sc dr r j * xh (ix2 r j) else if i.val = 1 then ∑ r : Fin 4096, dxo d w sc dr r j
  else if i.val = 2 then ∑ r : Fin 4096, dz d w sc dr xh rs gam r j * y (ix2 r j)
  else if i.val = 3 then ∑ r : Fin 4096, dy d w sc dr xh rs gam g r j else 0

/-- The modulation's two sums over the rows, and zeros. -/
def modSums (d : S4096x2048.Idx → Elt Ideal .bf16) (w : S8x1x1024x256.Idx → Elt Ideal .bf16) (x : S4096x1024.Idx → Elt Ideal .f32) (i : Fin 8) (j : Fin 1024) : EReal :=
  if i.val = 0 then ∑ r : Fin 4096, dot d w r j * x (ix2 r j) else if i.val = 1 then ∑ r : Fin 4096, dot d w r j else 0

theorem blk0 (x : Fin 512) (r : Fin 4096) (hr : r.val = t.val * 512 + x.val) (k : Fin 2048) :
    iblk m c 0 t (ix2 x k) = m (c.tc.loc main_arg0) (ix2 r k) := by
  have hi := (by decide +kernel : ∀ t : Fin cfg0.N, win0_0.index t (0 : Fin 2) = t.val ∧ win0_0.index t (1 : Fin 2) = 0) t
  rw [← V_main_arg0 m c]
  blk_point [iblk, hi.1, hi.2]
theorem blk1 (x : Fin 512) (r : Fin 4096) (hr : r.val = t.val * 512 + x.val) (k : Fin 1024) :
    iblk m c 1 t (ix2 x k) = m (c.tc.loc main_arg2) (ix2 r k) := by
  have hi := (by decide +kernel : ∀ t : Fin cfg0.N, win0_1.index t (0 : Fin 2) = t.val ∧ win0_1.index t (1 : Fin 2) = 0) t
  rw [← V_main_arg2 m c]
  blk_point [iblk, hi.1, hi.2]
theorem blk2 (k : Fin 1024) : iblk m c 2 t (ix2 (0 : Fin 1) k) = m (c.tc.loc main_arg3) (ix2 (0 : Fin 1) k) := by
  have hi := (by decide +kernel : ∀ t : Fin cfg0.N, win0_2.index t (0 : Fin 2) = 0 ∧ win0_2.index t (1 : Fin 2) = 0) t
  rw [← V_main_arg3 m c]
  blk_point [iblk, hi.1, hi.2]
theorem blk3 (x : Fin 512) (r : Fin 4096) (hr : r.val = t.val * 512 + x.val) (k : Fin 1024) :
    iblk m c 3 t (ix2 x k) = m (c.tc.loc main_arg4) (ix2 r k) := by
  have hi := (by decide +kernel : ∀ t : Fin cfg0.N, win0_3.index t (0 : Fin 2) = t.val ∧ win0_3.index t (1 : Fin 2) = 0) t
  rw [← V_main_arg4 m c]
  blk_point [iblk, hi.1, hi.2]
theorem blk4 (x : Fin 512) (r : Fin 4096) (hr : r.val = t.val * 512 + x.val) (k : Fin 1024) :
    iblk m c 4 t (ix2 x k) = m (c.tc.loc main_arg5) (ix2 r k) := by
  have hi := (by decide +kernel : ∀ t : Fin cfg0.N, win0_4.index t (0 : Fin 2) = t.val ∧ win0_4.index t (1 : Fin 2) = 0) t
  rw [← V_main_arg5 m c]
  blk_point [iblk, hi.1, hi.2]
theorem blk5 (x : Fin 512) (r : Fin 4096) (hr : r.val = t.val * 512 + x.val) (k : Fin 1) :
    iblk m c 5 t (ix2 x k) = m (c.tc.loc main_arg6) (ix2 r k) := by
  have hi := (by decide +kernel : ∀ t : Fin cfg0.N, win0_5.index t (0 : Fin 2) = t.val ∧ win0_5.index t (1 : Fin 2) = 0) t
  rw [← V_main_arg6 m c]
  blk_point [iblk, hi.1, hi.2]
theorem blk6 (k : Fin 1024) : iblk m c 6 t (ix2 (0 : Fin 1) k) = m (c.tc.loc main_arg7) (ix2 (0 : Fin 1) k) := by
  have hi := (by decide +kernel : ∀ t : Fin cfg0.N, win0_6.index t (0 : Fin 2) = 0 ∧ win0_6.index t (1 : Fin 2) = 0) t
  rw [← V_main_arg7 m c]
  blk_point [iblk, hi.1, hi.2]
theorem blk7 (x : Fin 512) (r : Fin 4096) (hr : r.val = t.val * 512 + x.val) (k : Fin 1024) :
    iblk m c 7 t (ix2 x k) = m (c.tc.loc main_arg8) (ix2 r k) := by
  have hi := (by decide +kernel : ∀ t : Fin cfg0.N, win0_7.index t (0 : Fin 2) = t.val ∧ win0_7.index t (1 : Fin 2) = 0) t
  rw [← V_main_arg8 m c]
  blk_point [iblk, hi.1, hi.2]
theorem blk8 (k : Fin 1024) : iblk m c 8 t (ix2 (0 : Fin 1) k) = m (c.tc.loc main_arg9) (ix2 (0 : Fin 1) k) := by
  have hi := (by decide +kernel : ∀ t : Fin cfg0.N, win0_8.index t (0 : Fin 2) = 0 ∧ win0_8.index t (1 : Fin 2) = 0) t
  rw [← V_main_arg9 m c]
  blk_point [iblk, hi.1, hi.2]

section
variable (D : Vec Ideal S512x2048 .bf16) (W : Vec Ideal S1024x2048 .bf16) (SC GAM G : Vec Ideal S1x1024 .f32) (DR XH X : Vec Ideal S512x1024 .f32) (RS : Vec Ideal S512x1 .f32)
  (Y : Vec Ideal S512x1024 .bf16) (P6 P7 P8 P9 : Vec Ideal S512x1024 .f32)

/-- A block's product at an entry. -/
theorem pay6_apply (x : Fin 512) (j : Fin 1024) : k0_pay6 (F := Ideal) D W (ix2 x j) = ∑ k : Fin 2048, D (ix2 x k) * W (ix2 j k) := by
  pointwise [k0_pay6]
theorem pay7_apply (x : Fin 512) (j : Fin 1024) :
    k0_pay7 (F := Ideal) D W SC DR (ix2 x j) = k0_pay6 (F := Ideal) D W (ix2 x j) * (1 + SC (ix2 (0 : Fin 1) j)) + DR (ix2 x j) := by
  unfold k0_pay7
  generalize k0_pay6 (F := Ideal) D W = P
  pointwise []
theorem pay8_apply (x : Fin 512) (j : Fin 1024) :
    k0_pay8 (F := Ideal) D W SC DR XH GAM RS (ix2 x j)
      = normGrad (fun k => k0_pay7 (F := Ideal) D W SC DR (ix2 x k) * GAM (ix2 (0 : Fin 1) k)) (fun k => XH (ix2 x k)) (RS (ix2 x (0 : Fin 1))) j := by
  unfold k0_pay8 normGrad
  generalize k0_pay7 (F := Ideal) D W SC DR = P
  pointwise []
theorem pay9_apply (x : Fin 512) (j : Fin 1024) : k0_pay9 (F := Ideal) P8 G (ix2 x j) = G (ix2 (0 : Fin 1) j) * P8 (ix2 x j) := by
  pointwise [k0_pay9]
theorem pay11_apply (x : Fin 512) (j : Fin 1024) : k0_pay11 (F := Ideal) P8 (ix2 x j) = Ideal.ofBits FTy.f32 1068827891#32 * P8 (ix2 x j) := by
  pointwise [k0_pay11]
theorem pay4_apply (y : S8x1024.Idx) : k0_pay4 (F := Ideal) y = 0 := by
  pointwise [k0_pay4]
theorem pay5_apply (y : S8x1024.Idx) : k0_pay5 (F := Ideal) y = 0 := by
  pointwise [k0_pay5]
theorem k0_pay12_apply (a : Vec Ideal S1x1024 .f32) (j : Fin 1024) : k0_pay12 (F := Ideal) P7 XH a (ix2 (0 : Fin 1) j) = a (ix2 (0 : Fin 1) j) + ∑ x : Fin 512, P7 (ix2 x j) * XH (ix2 x j) := by
  pointwise [k0_pay12]
theorem k0_pay13_apply (a : Vec Ideal S1x1024 .f32) (j : Fin 1024) : k0_pay13 (F := Ideal) P7 a (ix2 (0 : Fin 1) j) = a (ix2 (0 : Fin 1) j) + ∑ x : Fin 512, P7 (ix2 x j) := by
  pointwise [k0_pay13]
theorem k0_pay14_apply (a : Vec Ideal S1x1024 .f32) (j : Fin 1024) : k0_pay14 (F := Ideal) P8 a Y (ix2 (0 : Fin 1) j) = a (ix2 (0 : Fin 1) j) + ∑ x : Fin 512, P8 (ix2 x j) * Y (ix2 x j) := by
  pointwise [k0_pay14]
theorem k0_pay1_apply (a : Vec Ideal S1x1024 .f32) (j : Fin 1024) : k0_pay1 (F := Ideal) P9 a (ix2 (0 : Fin 1) j) = a (ix2 (0 : Fin 1) j) + ∑ x : Fin 512, P9 (ix2 x j) := by
  pointwise [k0_pay1]
theorem k0_pay2_apply (a : Vec Ideal S1x1024 .f32) (j : Fin 1024) : k0_pay2 (F := Ideal) P6 a X (ix2 (0 : Fin 1) j) = a (ix2 (0 : Fin 1) j) + ∑ x : Fin 512, P6 (ix2 x j) * X (ix2 x j) := by
  pointwise [k0_pay2]
theorem k0_pay3_apply (a : Vec Ideal S1x1024 .f32) (j : Fin 1024) : k0_pay3 (F := Ideal) P6 a (ix2 (0 : Fin 1) j) = a (ix2 (0 : Fin 1) j) + ∑ x : Fin 512, P6 (ix2 x j) := by
  pointwise [k0_pay3]

/-- What a block adds to the layer norm's array of eight rows. -/
def normAdd (i : Fin 8) (j : Fin 1024) : EReal :=
  if i.val = 0 then ∑ x : Fin 512, P7 (ix2 x j) * XH (ix2 x j) else if i.val = 1 then ∑ x : Fin 512, P7 (ix2 x j) else if i.val = 2 then ∑ x : Fin 512, P8 (ix2 x j) * Y (ix2 x j) else if i.val = 3 then ∑ x : Fin 512, P9 (ix2 x j) else 0
/-- What a block adds to the modulation's array of eight rows. -/
def modAdd (i : Fin 8) (j : Fin 1024) : EReal :=
  if i.val = 0 then ∑ x : Fin 512, P6 (ix2 x j) * X (ix2 x j) else if i.val = 1 then ∑ x : Fin 512, P6 (ix2 x j) else 0

/-- The eight rows after the first point: cleared, then its sums added to the first 4. -/
theorem norm_first {κ : Kind} {sp : Space} (v : View sig κ sp S8x1024 .f32) (i0 : Shards.Fits 0 1 8 1024) (i1 : Shards.Fits 1 1 8 1024) (i2 : Shards.Fits 2 1 8 1024) (i3 : Shards.Fits 3 1 8 1024) (i8 : Shards.Fits 0 8 8 1024) (i : Fin 8) (j : Fin 1024) :
    View.canon (Shards.add v i3 (k0_pay1 (F := Ideal) P9) (Shards.add v i2 (fun a => k0_pay14 (F := Ideal) P8 a Y) (Shards.add v i1 (k0_pay13 (F := Ideal) P7) (Shards.add v i0 (k0_pay12 (F := Ideal) P7 XH) (Shards.fill i8 (k0_pay4 (F := Ideal))))))) (ix2 i j)
      = 0 + normAdd XH Y P7 P8 P9 i j := by
  refine (Shards.rows4_first v i0 i1 i2 i3 i8 (k0_pay4 (F := Ideal)) i j (k0_pay12_apply XH P7) (k0_pay13_apply P7) (k0_pay14_apply Y P8) (k0_pay1_apply P9)).trans ?_
  rw [pay4_apply]
  rfl
theorem norm_step {κ : Kind} {sp : Space} (v : View sig κ sp S8x1024 .f32) (f : v.ty.Contents (Elt Ideal)) (y : Vec Ideal S8x1024 .f32) (hy : v.read (Elt Ideal) f = y) (i0 : Shards.Fits 0 1 8 1024) (i1 : Shards.Fits 1 1 8 1024) (i2 : Shards.Fits 2 1 8 1024) (i3 : Shards.Fits 3 1 8 1024) (i : Fin 8) (j : Fin 1024) :
    v.read (Elt Ideal) (v.writes (Elt Ideal) f [Shards.upd y i3 (k0_pay1 (F := Ideal) P9), Shards.upd y i2 (fun a => k0_pay14 (F := Ideal) P8 a Y), Shards.upd y i1 (k0_pay13 (F := Ideal) P7), Shards.upd y i0 (k0_pay12 (F := Ideal) P7 XH)]) (ix2 i j)
      = y (ix2 i j) + normAdd XH Y P7 P8 P9 i j :=
  Shards.rows4_step v f y i0 i1 i2 i3 i j hy (k0_pay12_apply XH P7) (k0_pay13_apply P7) (k0_pay14_apply Y P8) (k0_pay1_apply P9)

/-- The eight rows after the first point: cleared, then its sums added to the first 2. -/
theorem mod_first {κ : Kind} {sp : Space} (v : View sig κ sp S8x1024 .f32) (i0 : Shards.Fits 0 1 8 1024) (i1 : Shards.Fits 1 1 8 1024) (i8 : Shards.Fits 0 8 8 1024) (i : Fin 8) (j : Fin 1024) :
    View.canon (Shards.add v i1 (k0_pay3 (F := Ideal) P6) (Shards.add v i0 (fun a => k0_pay2 (F := Ideal) P6 a X) (Shards.fill i8 (k0_pay5 (F := Ideal))))) (ix2 i j) = 0 + modAdd X P6 i j := by
  refine (Shards.rows2_first v i0 i1 i8 (k0_pay5 (F := Ideal)) i j (k0_pay2_apply X P6) (k0_pay3_apply P6)).trans ?_
  rw [pay5_apply]
  rfl
theorem mod_step {κ : Kind} {sp : Space} (v : View sig κ sp S8x1024 .f32) (f : v.ty.Contents (Elt Ideal)) (y : Vec Ideal S8x1024 .f32) (hy : v.read (Elt Ideal) f = y) (i0 : Shards.Fits 0 1 8 1024) (i1 : Shards.Fits 1 1 8 1024) (i : Fin 8) (j : Fin 1024) :
    v.read (Elt Ideal) (v.writes (Elt Ideal) f [Shards.upd y i1 (k0_pay3 (F := Ideal) P6), Shards.upd y i0 (fun a => k0_pay2 (F := Ideal) P6 a X)]) (ix2 i j) = y (ix2 i j) + modAdd X P6 i j :=
  Shards.rows2_step v f y i0 i1 i j hy (k0_pay2_apply X P6) (k0_pay3_apply P6)

end

/-- The product of a block is the product of its rows. -/
theorem pay6_dot (x : Fin 512) (r : Fin 4096) (hr : r.val = t.val * 512 + x.val) (j : Fin 1024) :
    (k0_pay6 (F := Ideal) (iblk m c 0 t) (weight0 m c)) (ix2 x j) = dot (m (c.tc.loc main_arg0)) (m (c.tc.loc main_arg1)) r j := by
  rw [pay6_apply]
  unfold dot
  have hW : ∀ k : Fin 2048, weight0 m c (ix2 j k) = m (c.tc.loc main_arg1) (ix4 (⟨k.val / 256, by omega⟩ : Fin 8) (⟨0, by decide⟩ : Fin 1) j (⟨k.val % 256, by omega⟩ : Fin 256)) :=
    fun k => weight0_apply m c _ _ j k (by dsimp only; omega)
  simp only [← hW, ← blk0 m c t x r hr]
theorem pay7_dxo (x : Fin 512) (r : Fin 4096) (hr : r.val = t.val * 512 + x.val) (j : Fin 1024) :
    (k0_pay7 (F := Ideal) (iblk m c 0 t) (weight0 m c) (iblk m c 2 t) (iblk m c 3 t)) (ix2 x j) = dxo (m (c.tc.loc main_arg0)) (m (c.tc.loc main_arg1)) (m (c.tc.loc main_arg3)) (m (c.tc.loc main_arg4)) r j := by
  rw [pay7_apply, pay6_dot m c t x r hr j, blk2 m c t j, blk3 m c t x r hr j]
  rfl
theorem pay8_dz (x : Fin 512) (r : Fin 4096) (hr : r.val = t.val * 512 + x.val) (j : Fin 1024) :
    (k0_pay8 (F := Ideal) (iblk m c 0 t) (weight0 m c) (iblk m c 2 t) (iblk m c 3 t) (iblk m c 4 t) (iblk m c 6 t) (iblk m c 5 t)) (ix2 x j) = dz (m (c.tc.loc main_arg0)) (m (c.tc.loc main_arg1)) (m (c.tc.loc main_arg3)) (m (c.tc.loc main_arg4)) (m (c.tc.loc main_arg5)) (m (c.tc.loc main_arg6)) (m (c.tc.loc main_arg7)) r j := by
  rw [pay8_apply]
  unfold dz
  simp only [pay7_dxo m c t x r hr, blk4 m c t x r hr, blk5 m c t x r hr, blk6 m c t]
theorem pay9_dy (x : Fin 512) (r : Fin 4096) (hr : r.val = t.val * 512 + x.val) (j : Fin 1024) :
    (k0_pay9 (F := Ideal) (k0_pay8 (F := Ideal) (iblk m c 0 t) (weight0 m c) (iblk m c 2 t) (iblk m c 3 t) (iblk m c 4 t) (iblk m c 6 t) (iblk m c 5 t)) (iblk m c 8 t)) (ix2 x j) = dy (m (c.tc.loc main_arg0)) (m (c.tc.loc main_arg1)) (m (c.tc.loc main_arg3)) (m (c.tc.loc main_arg4)) (m (c.tc.loc main_arg5)) (m (c.tc.loc main_arg6)) (m (c.tc.loc main_arg7)) (m (c.tc.loc main_arg9)) r j := by
  rw [pay9_apply, pay8_dz m c t x r hr j, blk8 m c t j]
  rfl

/-- What block `t` adds to the two arrays of sums. -/
abbrev normAt := normAdd (iblk m c 4 t) (iblk m c 7 t) (k0_pay7 (F := Ideal) (iblk m c 0 t) (weight0 m c) (iblk m c 2 t) (iblk m c 3 t)) (k0_pay8 (F := Ideal) (iblk m c 0 t) (weight0 m c) (iblk m c 2 t) (iblk m c 3 t) (iblk m c 4 t) (iblk m c 6 t) (iblk m c 5 t)) (k0_pay9 (F := Ideal) (k0_pay8 (F := Ideal) (iblk m c 0 t) (weight0 m c) (iblk m c 2 t) (iblk m c 3 t) (iblk m c 4 t) (iblk m c 6 t) (iblk m c 5 t)) (iblk m c 8 t))
abbrev modAt := modAdd (iblk m c 1 t) (k0_pay6 (F := Ideal) (iblk m c 0 t) (weight0 m c))

/-- The first point clears the eight rows and adds its block's sums to the first 4. -/
theorem normAt_first (h : t.val = 0) (i : Fin 8) (j : Fin 1024) :
    (accAt m c t.val t.isLt).1 (ix2 i j) = 0 + normAt m c t i j := by
  unfold normAt
  rw [accAt_first m c t h]
  obtain rfl : t = t0_0 := Fin.ext h
  generalize hw : weight0 m c = W
  dsimp only
  unfold outFirst11 runFirst
  frame_out
  try simp only [read_unread_whole]
  refine (norm_first _ _ _ _ _ _ _ _ _ _ _ i j).trans ?_
  refine congrArg (fun W => 0 + normAdd (iblk m c 4 t0_0) (iblk m c 7 t0_0) (k0_pay7 (F := Ideal) (iblk m c 0 t0_0) W (iblk m c 2 t0_0) (iblk m c 3 t0_0)) (k0_pay8 (F := Ideal) (iblk m c 0 t0_0) W (iblk m c 2 t0_0) (iblk m c 3 t0_0) (iblk m c 4 t0_0) (iblk m c 6 t0_0) (iblk m c 5 t0_0)) (k0_pay9 (F := Ideal) (k0_pay8 (F := Ideal) (iblk m c 0 t0_0) W (iblk m c 2 t0_0) (iblk m c 3 t0_0) (iblk m c 4 t0_0) (iblk m c 6 t0_0) (iblk m c 5 t0_0)) (iblk m c 8 t0_0)) i j) (Eq.trans ?_ hw)
  erw [Shards.readCov_all]
  unfold weight0 runFirst
  frame_out

/-- Every later point adds its block's sums to what the point before left. -/
theorem normAt_step (h : ¬t.val = 0) (i : Fin 8) (j : Fin 1024) :
    (accAt m c t.val t.isLt).1 (ix2 i j) = (accAt m c (t.val - 1) (Nat.lt_of_le_of_lt (Nat.sub_le _ _) t.isLt)).1 (ix2 i j) + normAt m c t i j := by
  unfold normAt
  rw [accAt_later m c t h]
  generalize weight0 m c = W
  generalize (accAt m c (t.val - 1) _).1 = y11
  generalize (accAt m c (t.val - 1) _).2 = y12
  dsimp only
  unfold outLater11 runLater
  frame_out
  try simp only [read_unread_whole]
  exact norm_step _ _ _ _ _ _ _ _ (Memref.IsWhole.read_unread _ _) _ _ _ _ i j

/-- The eight rows after the last point: the sums over the points of what each adds. -/
theorem normAt_last (ht : t.val + 1 = cfg0.N) (i : Fin 8) (j : Fin 1024) :
    (accAt m c t.val t.isLt).1 (ix2 i j) = ∑ p : Fin cfg0.N, normAt m c p i j := by
  have hN : ∀ p : Fin cfg0.N, p.val < 8 := fun p => Nat.lt_of_lt_of_eq p.isLt N_0
  rw [Pipeline.eq_sum_fin_of_reset_step_apply_last (fun n h (i : Fin 8 × Fin 1024) => (accAt m c n h).1 (ix2 i.1 i.2)) 8
    (fun _ => 0) (fun p i => normAt m c p i.1 i.2) ?_ ?_ (by decide) t ht (i, j), zero_add]
  · intro t h i
    exact normAt_first m c t (by have := hN t; omega) i.1 i.2
  · intro t h i
    exact normAt_step m c t (by omega) i.1 i.2

/-- These are the sums over all the rows: block `p` holds rows 512 p to 512 p + 511. -/
theorem norm_sum (i : Fin 8) (j : Fin 1024) :
    ∑ p : Fin cfg0.N, normAt m c p i j = normSums (m (c.tc.loc main_arg0)) (m (c.tc.loc main_arg1)) (m (c.tc.loc main_arg3)) (m (c.tc.loc main_arg4)) (m (c.tc.loc main_arg5)) (m (c.tc.loc main_arg6)) (m (c.tc.loc main_arg7)) (m (c.tc.loc main_arg8)) (m (c.tc.loc main_arg9)) i j := by
  unfold normAt normAdd normSums
  by_cases h0 : i.val = 0
  · simp only [if_pos h0]
    refine Fin.sum_mul_add_congr (S := cfg0.N) (n := 512) (fun p s hl => ?_) rfl
    rw [pay7_dxo m c p s ⟨p.val * 512 + s.val, hl⟩ rfl j, blk4 m c p s ⟨p.val * 512 + s.val, hl⟩ rfl j]
  simp only [if_neg h0]
  by_cases h1 : i.val = 1
  · simp only [if_pos h1]
    refine Fin.sum_mul_add_congr (S := cfg0.N) (n := 512) (fun p s hl => ?_) rfl
    rw [pay7_dxo m c p s ⟨p.val * 512 + s.val, hl⟩ rfl j]
  simp only [if_neg h1]
  by_cases h2 : i.val = 2
  · simp only [if_pos h2]
    refine Fin.sum_mul_add_congr (S := cfg0.N) (n := 512) (fun p s hl => ?_) rfl
    rw [pay8_dz m c p s ⟨p.val * 512 + s.val, hl⟩ rfl j, blk7 m c p s ⟨p.val * 512 + s.val, hl⟩ rfl j]
  simp only [if_neg h2]
  by_cases h3 : i.val = 3
  · simp only [if_pos h3]
    refine Fin.sum_mul_add_congr (S := cfg0.N) (n := 512) (fun p s hl => ?_) rfl
    rw [pay9_dy m c p s ⟨p.val * 512 + s.val, hl⟩ rfl j]
  simp only [if_neg h3]
  exact Finset.sum_const_zero

/-- The first point clears the eight rows and adds its block's sums to the first 2. -/
theorem modAt_first (h : t.val = 0) (i : Fin 8) (j : Fin 1024) :
    (accAt m c t.val t.isLt).2 (ix2 i j) = 0 + modAt m c t i j := by
  unfold modAt
  rw [accAt_first m c t h]
  obtain rfl : t = t0_0 := Fin.ext h
  generalize hw : weight0 m c = W
  dsimp only
  unfold outFirst12 runFirst
  frame_out
  try simp only [read_unread_whole]
  refine (mod_first _ _ _ _ _ _ i j).trans ?_
  refine congrArg (fun W => 0 + modAdd (iblk m c 1 t0_0) (k0_pay6 (F := Ideal) (iblk m c 0 t0_0) W) i j) (Eq.trans ?_ hw)
  erw [Shards.readCov_all]
  unfold weight0 runFirst
  frame_out

/-- Every later point adds its block's sums to what the point before left. -/
theorem modAt_step (h : ¬t.val = 0) (i : Fin 8) (j : Fin 1024) :
    (accAt m c t.val t.isLt).2 (ix2 i j) = (accAt m c (t.val - 1) (Nat.lt_of_le_of_lt (Nat.sub_le _ _) t.isLt)).2 (ix2 i j) + modAt m c t i j := by
  unfold modAt
  rw [accAt_later m c t h]
  generalize weight0 m c = W
  generalize (accAt m c (t.val - 1) _).1 = y11
  generalize (accAt m c (t.val - 1) _).2 = y12
  dsimp only
  unfold outLater12 runLater
  frame_out
  try simp only [read_unread_whole]
  exact mod_step _ _ _ _ _ (Memref.IsWhole.read_unread _ _) _ _ i j

/-- The eight rows after the last point: the sums over the points of what each adds. -/
theorem modAt_last (ht : t.val + 1 = cfg0.N) (i : Fin 8) (j : Fin 1024) :
    (accAt m c t.val t.isLt).2 (ix2 i j) = ∑ p : Fin cfg0.N, modAt m c p i j := by
  have hN : ∀ p : Fin cfg0.N, p.val < 8 := fun p => Nat.lt_of_lt_of_eq p.isLt N_0
  rw [Pipeline.eq_sum_fin_of_reset_step_apply_last (fun n h (i : Fin 8 × Fin 1024) => (accAt m c n h).2 (ix2 i.1 i.2)) 8
    (fun _ => 0) (fun p i => modAt m c p i.1 i.2) ?_ ?_ (by decide) t ht (i, j), zero_add]
  · intro t h i
    exact modAt_first m c t (by have := hN t; omega) i.1 i.2
  · intro t h i
    exact modAt_step m c t (by omega) i.1 i.2

/-- These are the sums over all the rows: block `p` holds rows 512 p to 512 p + 511. -/
theorem mod_sum (i : Fin 8) (j : Fin 1024) :
    ∑ p : Fin cfg0.N, modAt m c p i j = modSums (m (c.tc.loc main_arg0)) (m (c.tc.loc main_arg1)) (m (c.tc.loc main_arg2)) i j := by
  unfold modAt modAdd modSums
  by_cases h0 : i.val = 0
  · simp only [if_pos h0]
    refine Fin.sum_mul_add_congr (S := cfg0.N) (n := 512) (fun p s hl => ?_) rfl
    rw [pay6_dot m c p s ⟨p.val * 512 + s.val, hl⟩ rfl j, blk1 m c p s ⟨p.val * 512 + s.val, hl⟩ rfl j]
  simp only [if_neg h0]
  by_cases h1 : i.val = 1
  · simp only [if_pos h1]
    refine Fin.sum_mul_add_congr (S := cfg0.N) (n := 512) (fun p s hl => ?_) rfl
    rw [pay6_dot m c p s ⟨p.val * 512 + s.val, hl⟩ rfl j]
  simp only [if_neg h1]
  exact Finset.sum_const_zero

/-- One block of output window 9. -/
theorem out9_apply (x : Fin 512) (j : Fin 1024) (r : Fin 4096) (hr : r.val = t.val * 512 + x.val) :
    out9 m c t (ix2 x j) = (dy (m (c.tc.loc main_arg0)) (m (c.tc.loc main_arg1)) (m (c.tc.loc main_arg3)) (m (c.tc.loc main_arg4)) (m (c.tc.loc main_arg5)) (m (c.tc.loc main_arg6)) (m (c.tc.loc main_arg7)) (m (c.tc.loc main_arg9)) r j : EReal) := by
  rw [out9_eq, ← pay9_dy m c t x r hr j]
  rfl

/-- The whole array of output window 9. -/
theorem final9 : (dats m 0 c).arrAt 9 cfg0.N = fun i : S4096x1024.Idx => (fun (r : Fin 4096) (j : Fin 1024) => (dy (m (c.tc.loc main_arg0)) (m (c.tc.loc main_arg1)) (m (c.tc.loc main_arg3)) (m (c.tc.loc main_arg4)) (m (c.tc.loc main_arg5)) (m (c.tc.loc main_arg6)) (m (c.tc.loc main_arg7)) (m (c.tc.loc main_arg9)) r j : EReal)) (i 0) (i 1) := by
  refine (dats m 0 c).arrAt_eq_of_covers 9 _ (by decide +kernel) fun t hf y => ?_
  rw [after9]
  obtain ⟨a, b, rfl⟩ := Shards.pair y
  have hi := (by decide +kernel : ∀ t : Fin cfg0.N, win0_9.index t (0 : Fin 2) = t.val ∧ win0_9.index t (1 : Fin 2) = 0) t
  blk_simp
  have e1 : (win0_9.blk t).view.emb (ix2 a b) 1 = b :=
    Fin.ext (Shards.at_zero hi.2)
  dsimp only
  rw [e1]
  exact out9_apply m c t a b _ (Shards.at_row hi.1)

/-- One block of output window 10. -/
theorem out10_apply (x : Fin 512) (j : Fin 1024) (r : Fin 4096) (hr : r.val = t.val * 512 + x.val) :
    out10 m c t (ix2 x j) = (Ideal.ofBits FTy.f32 1068827891#32 * dz (m (c.tc.loc main_arg0)) (m (c.tc.loc main_arg1)) (m (c.tc.loc main_arg3)) (m (c.tc.loc main_arg4)) (m (c.tc.loc main_arg5)) (m (c.tc.loc main_arg6)) (m (c.tc.loc main_arg7)) r j : EReal) := by
  rw [out10_eq, pay11_apply, pay8_dz m c t x r hr j]

/-- The whole array of output window 10. -/
theorem final10 : (dats m 0 c).arrAt 10 cfg0.N = fun i : S4096x1024.Idx => (fun (r : Fin 4096) (j : Fin 1024) => (Ideal.ofBits FTy.f32 1068827891#32 * dz (m (c.tc.loc main_arg0)) (m (c.tc.loc main_arg1)) (m (c.tc.loc main_arg3)) (m (c.tc.loc main_arg4)) (m (c.tc.loc main_arg5)) (m (c.tc.loc main_arg6)) (m (c.tc.loc main_arg7)) r j : EReal)) (i 0) (i 1) := by
  refine (dats m 0 c).arrAt_eq_of_covers 10 _ (by decide +kernel) fun t hf y => ?_
  rw [after10]
  obtain ⟨a, b, rfl⟩ := Shards.pair y
  have hi := (by decide +kernel : ∀ t : Fin cfg0.N, win0_10.index t (0 : Fin 2) = t.val ∧ win0_10.index t (1 : Fin 2) = 0) t
  blk_simp
  have e1 : (win0_10.blk t).view.emb (ix2 a b) 1 = b :=
    Fin.ext (Shards.at_zero hi.2)
  dsimp only
  rw [e1]
  exact out10_apply m c t a b _ (Shards.at_row hi.1)

/-- The whole array of output window 11. -/
theorem final11 : (dats m 0 c).arrAt 11 cfg0.N = fun y : S8x1024.Idx => normSums (m (c.tc.loc main_arg0)) (m (c.tc.loc main_arg1)) (m (c.tc.loc main_arg3)) (m (c.tc.loc main_arg4)) (m (c.tc.loc main_arg5)) (m (c.tc.loc main_arg6)) (m (c.tc.loc main_arg7)) (m (c.tc.loc main_arg8)) (m (c.tc.loc main_arg9)) (y 0) (y 1) := by
  refine (dats m 0 c).arrAt_eq_of_covers 11 _ (by decide +kernel) fun t hf y => ?_
  rw [after11]
  obtain ⟨a, b, rfl⟩ := Shards.pair y
  have ht := (by decide +kernel : ∀ t : Fin cfg0.N, (cfg0.win 11).flush t = true → t = ⟨7, by decide⟩) t hf
  have hi := (by decide +kernel : ∀ t : Fin cfg0.N, win0_11.index t (0 : Fin 2) = 0 ∧ win0_11.index t (1 : Fin 2) = 0) t
  blk_simp
  have e0 : (win0_11.blk t).view.emb (ix2 a b) 0 = a :=
    Fin.ext (Shards.at_zero hi.1)
  have e1 : (win0_11.blk t).view.emb (ix2 a b) 1 = b :=
    Fin.ext (Shards.at_zero hi.2)
  dsimp only
  rw [e0, e1]
  exact (normAt_last m c t (by rw [ht]; rfl) a b).trans (norm_sum m c a b)

/-- The whole array of output window 12. -/
theorem final12 : (dats m 0 c).arrAt 12 cfg0.N = fun y : S8x1024.Idx => modSums (m (c.tc.loc main_arg0)) (m (c.tc.loc main_arg1)) (m (c.tc.loc main_arg2)) (y 0) (y 1) := by
  refine (dats m 0 c).arrAt_eq_of_covers 12 _ (by decide +kernel) fun t hf y => ?_
  rw [after12]
  obtain ⟨a, b, rfl⟩ := Shards.pair y
  have ht := (by decide +kernel : ∀ t : Fin cfg0.N, (cfg0.win 12).flush t = true → t = ⟨7, by decide⟩) t hf
  have hi := (by decide +kernel : ∀ t : Fin cfg0.N, win0_12.index t (0 : Fin 2) = 0 ∧ win0_12.index t (1 : Fin 2) = 0) t
  blk_simp
  have e0 : (win0_12.blk t).view.emb (ix2 a b) 0 = a :=
    Fin.ext (Shards.at_zero hi.1)
  have e1 : (win0_12.blk t).view.emb (ix2 a b) 1 = b :=
    Fin.ext (Shards.at_zero hi.2)
  dsimp only
  rw [e0, e1]
  exact (modAt_last m c t (by rw [ht]; rfl) a b).trans (mod_sum m c a b)

end

end Cert.Kernel12Ideal.Run

namespace Cert.Reference12Ideal.Rows

open Cert.Reference12Ideal Cert.Reference12Ideal.Gen Idealize.ShloMosaic

/-- The reference's product of the cotangent with the transposed weight. -/
def prod (d : FVec Ideal S4096x2048 .bf16) (w : FVec Ideal S8x1x1024x256 .bf16) : FVec Ideal S4096x1024 .f32 :=
  Host.dotGeneral dot_S4096x2048_S1024x2048_S4096x1024_1_1_0_0_n_n none (extf .f32 d bitsLt_bf16_f32) (extf .f32 (shapeCast S1024x2048 (transpose S1024x8x256 [1, 0, 2] (shapeCast S8x1024x256 w shapeCasts_S8x1x1024x256_S8x1024x256) transposes_S8x1024x256_S1024x8x256_1_0_2) shapeCasts_S1024x8x256_S1024x2048) bitsLt_bf16_f32)

theorem prod_apply (d : FVec Ideal S4096x2048 .bf16) (w : FVec Ideal S8x1x1024x256 .bf16) (r : Fin 4096) (j : Fin 1024) : prod d w (ix2 r j) = Kernel12Ideal.Run.dot d w r j := by
  have hW : ∀ k : Fin 2048, (shapeCast S1024x2048 (transpose S1024x8x256 [1, 0, 2] (shapeCast S8x1024x256 w shapeCasts_S8x1x1024x256_S8x1024x256) transposes_S8x1024x256_S1024x8x256_1_0_2) shapeCasts_S1024x8x256_S1024x2048) (ix2 j k) = w (ix4 (⟨k.val / 256, by omega⟩ : Fin 8) (⟨0, by decide⟩ : Fin 1) j (⟨k.val % 256, by omega⟩ : Fin 256)) := by
    intro k
    refine (Shards.cols_apply (F := Elt Ideal) (e := .bf16) _ _ _ (by decide) j k (⟨k.val / 256, by omega⟩ : Fin 8) (⟨k.val % 256, by omega⟩ : Fin 256) (by dsimp only; omega)).trans ((Shards.drop_apply (F := Elt Ideal) (e := .bf16) _ _ _ _ _).trans ?_)
    rfl
  unfold Kernel12Ideal.Run.dot prod
  simp only [← hW]
  generalize (shapeCast S1024x2048 (transpose S1024x8x256 [1, 0, 2] (shapeCast S8x1024x256 w shapeCasts_S8x1x1024x256_S8x1024x256) transposes_S8x1024x256_S1024x8x256_1_0_2) shapeCasts_S1024x8x256_S1024x2048) = W
  pointwise []

/-- The cotangent of the modulation's input. -/
def dxo (d : FVec Ideal S4096x2048 .bf16) (w : FVec Ideal S8x1x1024x256 .bf16) (sc : FVec Ideal S1x1024 .f32) (dr : FVec Ideal S4096x1024 .f32) : FVec Ideal S4096x1024 .f32 :=
  addf (mulf (prod d w) (broadcastInDim S4096x1024 ![0, 1] bcast_S1x1024_S4096x1024_0_1 (addf (broadcastInDim S1x1024 ![] bcast_S_S1x1024 (constant S_ .f32 0x3F800000#32)) sc))) dr

theorem dxo_apply (d : FVec Ideal S4096x2048 .bf16) (w : FVec Ideal S8x1x1024x256 .bf16) (sc : FVec Ideal S1x1024 .f32) (dr : FVec Ideal S4096x1024 .f32) (r : Fin 4096) (j : Fin 1024) : dxo d w sc dr (ix2 r j) = Kernel12Ideal.Run.dxo d w sc dr r j := by
  unfold dxo Kernel12Ideal.Run.dxo
  rw [← prod_apply]
  generalize prod d w = X
  pointwise []

/-- The layer norm's gradient by its input, `o` the cotangent of its result. -/
def normGrad (o xh : FVec Ideal S4096x1024 .f32) (rs : FVec Ideal S4096x1 .f32) (gam : FVec Ideal S1x1024 .f32) : FVec Ideal S4096x1024 .f32 :=
  mulf (broadcastInDim S4096x1024 ![0, 1] bcast_S4096x1_S4096x1024_0_1 rs) (subf (subf (mulf o (broadcastInDim S4096x1024 ![0, 1] bcast_S1x1024_S4096x1024_0_1 gam)) (broadcastInDim S4096x1024 ![0, 1] bcast_S4096x1_S4096x1024_0_1 (Host.divf (broadcastInDim S4096x1 ![0] bcast_S4096_S4096x1_0 (Host.reduceAdd (mulf o (broadcastInDim S4096x1024 ![0, 1] bcast_S1x1024_S4096x1024_0_1 gam)) (constant S_ .f32 0x00000000#32) reducesTo_S4096x1024_S4096_d1 h_S_)) (broadcastInDim S4096x1 ![] bcast_S_S4096x1 (constant S_ .f32 0x44800000#32))))) (mulf xh (broadcastInDim S4096x1024 ![0, 1] bcast_S4096x1_S4096x1024_0_1 (Host.divf (broadcastInDim S4096x1 ![0] bcast_S4096_S4096x1_0 (Host.reduceAdd (mulf (mulf o (broadcastInDim S4096x1024 ![0, 1] bcast_S1x1024_S4096x1024_0_1 gam)) xh) (constant S_ .f32 0x00000000#32) reducesTo_S4096x1024_S4096_d1 h_S_)) (broadcastInDim S4096x1 ![] bcast_S_S4096x1 (constant S_ .f32 0x44800000#32))))))

theorem normGrad_apply (o xh : FVec Ideal S4096x1024 .f32) (rs : FVec Ideal S4096x1 .f32) (gam : FVec Ideal S1x1024 .f32) (r : Fin 4096) (j : Fin 1024) :
    normGrad o xh rs gam (ix2 r j) = Kernel12Ideal.Run.normGrad (fun k => o (ix2 r k) * gam (ix2 (0 : Fin 1) k)) (fun k => xh (ix2 r k)) (rs (ix2 r (0 : Fin 1))) j := by
  unfold normGrad Kernel12Ideal.Run.normGrad
  pointwise []

/-- The cotangent of the layer norm's input. -/
def dz (d : FVec Ideal S4096x2048 .bf16) (w : FVec Ideal S8x1x1024x256 .bf16) (sc : FVec Ideal S1x1024 .f32) (dr : FVec Ideal S4096x1024 .f32) (xh : FVec Ideal S4096x1024 .f32) (rs : FVec Ideal S4096x1 .f32) (gam : FVec Ideal S1x1024 .f32) : FVec Ideal S4096x1024 .f32 := normGrad (dxo d w sc dr) xh rs gam

theorem dz_apply (d : FVec Ideal S4096x2048 .bf16) (w : FVec Ideal S8x1x1024x256 .bf16) (sc : FVec Ideal S1x1024 .f32) (dr : FVec Ideal S4096x1024 .f32) (xh : FVec Ideal S4096x1024 .f32) (rs : FVec Ideal S4096x1 .f32) (gam : FVec Ideal S1x1024 .f32) (r : Fin 4096) (j : Fin 1024) : dz d w sc dr xh rs gam (ix2 r j) = Kernel12Ideal.Run.dz d w sc dr xh rs gam r j := by
  unfold dz Kernel12Ideal.Run.dz
  rw [normGrad_apply]
  simp only [dxo_apply]

/-- The cotangent of the gated branch. -/
def dy (d : FVec Ideal S4096x2048 .bf16) (w : FVec Ideal S8x1x1024x256 .bf16) (sc : FVec Ideal S1x1024 .f32) (dr : FVec Ideal S4096x1024 .f32) (xh : FVec Ideal S4096x1024 .f32) (rs : FVec Ideal S4096x1 .f32) (gam : FVec Ideal S1x1024 .f32) (g : FVec Ideal S1x1024 .f32) : FVec Ideal S4096x1024 .f32 := mulf (broadcastInDim S4096x1024 ![0, 1] bcast_S1x1024_S4096x1024_0_1 g) (dz d w sc dr xh rs gam)

theorem dy_apply (d : FVec Ideal S4096x2048 .bf16) (w : FVec Ideal S8x1x1024x256 .bf16) (sc : FVec Ideal S1x1024 .f32) (dr : FVec Ideal S4096x1024 .f32) (xh : FVec Ideal S4096x1024 .f32) (rs : FVec Ideal S4096x1 .f32) (gam : FVec Ideal S1x1024 .f32) (g : FVec Ideal S1x1024 .f32) (r : Fin 4096) (j : Fin 1024) : dy d w sc dr xh rs gam g (ix2 r j) = Kernel12Ideal.Run.dy d w sc dr xh rs gam g r j := by
  unfold dy Kernel12Ideal.Run.dy
  rw [← dz_apply]
  generalize dz d w sc dr xh rs gam = X
  pointwise []

/-- The sum over the rows. -/
def colsum (a : FVec Ideal S4096x1024 .f32) : FVec Ideal S1x1024 .f32 :=
  broadcastInDim S1x1024 ![1] bcast_S1024_S1x1024_1 (Host.reduceAdd a (constant S_ .f32 0x00000000#32) reducesTo_S4096x1024_S1024_d0 h_S_)

theorem colsum_apply (a : FVec Ideal S4096x1024 .f32) (j : Fin 1024) : colsum a (ix2 (0 : Fin 1) j) = ∑ r : Fin 4096, a (ix2 r j) := by
  unfold colsum
  pointwise []

/-- The layer norm's four sums above four rows of zeros. -/
def norm (d : FVec Ideal S4096x2048 .bf16) (w : FVec Ideal S8x1x1024x256 .bf16) (sc : FVec Ideal S1x1024 .f32) (dr : FVec Ideal S4096x1024 .f32) (xh : FVec Ideal S4096x1024 .f32) (rs : FVec Ideal S4096x1 .f32) (gam : FVec Ideal S1x1024 .f32) (y : FVec Ideal S4096x1024 .bf16) (g : FVec Ideal S1x1024 .f32) : FVec Ideal S8x1024 .f32 :=
  concatenate S8x1024 0 [⟨S1x1024, colsum (mulf (dxo d w sc dr) xh)⟩, ⟨S1x1024, colsum (dxo d w sc dr)⟩, ⟨S1x1024, colsum (mulf (dz d w sc dr xh rs gam) (extf .f32 y bitsLt_bf16_f32))⟩, ⟨S1x1024, colsum (dy d w sc dr xh rs gam g)⟩, ⟨S4x1024, broadcastInDim S4x1024 ![] bcast_S_S4x1024 (constant S_ .f32 0x00000000#32)⟩] concatenates_S1x1024_S1x1024_S1x1024_S1x1024_S4x1024_S8x1024_d0

theorem norm_apply (d : FVec Ideal S4096x2048 .bf16) (w : FVec Ideal S8x1x1024x256 .bf16) (sc : FVec Ideal S1x1024 .f32) (dr : FVec Ideal S4096x1024 .f32) (xh : FVec Ideal S4096x1024 .f32) (rs : FVec Ideal S4096x1 .f32) (gam : FVec Ideal S1x1024 .f32) (y : FVec Ideal S4096x1024 .bf16) (g : FVec Ideal S1x1024 .f32) (i : Fin 8) (j : Fin 1024) : norm d w sc dr xh rs gam y g (ix2 i j) = Kernel12Ideal.Run.normSums d w sc dr xh rs gam y g i j := by
  unfold norm Kernel12Ideal.Run.normSums
  generalize hs0 : colsum (mulf (dxo d w sc dr) xh) = S0
  generalize hs1 : colsum (dxo d w sc dr) = S1
  generalize hs2 : colsum (mulf (dz d w sc dr xh rs gam) (extf .f32 y bitsLt_bf16_f32)) = S2
  generalize hs3 : colsum (dy d w sc dr xh rs gam g) = S3
  generalize hz : (broadcastInDim S4x1024 ![] bcast_S_S4x1024 (constant S_ .f32 0x00000000#32) : FVec Ideal S4x1024 .f32) = Z
  by_cases h0 : i.val = 0
  · rw [if_pos h0]
    refine Eq.trans (concatenate_apply_piece (t := S8x1024) 0 [⟨S1x1024, S0⟩, ⟨S1x1024, S1⟩, ⟨S1x1024, S2⟩, ⟨S1x1024, S3⟩, ⟨S4x1024, Z⟩] _ _ 0 (by show 0 < 5; decide) S1x1024 S0 rfl rfl 0 rfl (ix2 (0 : Fin 1) j) ?_ ?_) ?_
    · intro b hb; fin_cases b
      · exact absurd rfl hb
      · rfl
    · show 0 + 0 = i.val; omega
    · rw [← hs0, colsum_apply]
      exact Finset.sum_congr rfl fun r _ => congrArg (HMul.hMul (α := EReal) (β := EReal) (γ := EReal) · _) (dxo_apply d w sc dr r j)
  rw [if_neg h0]
  by_cases h1 : i.val = 1
  · rw [if_pos h1]
    refine Eq.trans (concatenate_apply_piece (t := S8x1024) 0 [⟨S1x1024, S0⟩, ⟨S1x1024, S1⟩, ⟨S1x1024, S2⟩, ⟨S1x1024, S3⟩, ⟨S4x1024, Z⟩] _ _ 1 (by show 1 < 5; decide) S1x1024 S1 rfl rfl 1 rfl (ix2 (0 : Fin 1) j) ?_ ?_) ?_
    · intro b hb; fin_cases b
      · exact absurd rfl hb
      · rfl
    · show 1 + 0 = i.val; omega
    · rw [← hs1, colsum_apply]
      exact Finset.sum_congr rfl fun r _ => dxo_apply d w sc dr r j
  rw [if_neg h1]
  by_cases h2 : i.val = 2
  · rw [if_pos h2]
    refine Eq.trans (concatenate_apply_piece (t := S8x1024) 0 [⟨S1x1024, S0⟩, ⟨S1x1024, S1⟩, ⟨S1x1024, S2⟩, ⟨S1x1024, S3⟩, ⟨S4x1024, Z⟩] _ _ 2 (by show 2 < 5; decide) S1x1024 S2 rfl rfl 2 rfl (ix2 (0 : Fin 1) j) ?_ ?_) ?_
    · intro b hb; fin_cases b
      · exact absurd rfl hb
      · rfl
    · show 2 + 0 = i.val; omega
    · rw [← hs2, colsum_apply]
      exact Finset.sum_congr rfl fun r _ => congrArg (HMul.hMul (α := EReal) (β := EReal) (γ := EReal) · _) (dz_apply d w sc dr xh rs gam r j)
  rw [if_neg h2]
  by_cases h3 : i.val = 3
  · rw [if_pos h3]
    refine Eq.trans (concatenate_apply_piece (t := S8x1024) 0 [⟨S1x1024, S0⟩, ⟨S1x1024, S1⟩, ⟨S1x1024, S2⟩, ⟨S1x1024, S3⟩, ⟨S4x1024, Z⟩] _ _ 3 (by show 3 < 5; decide) S1x1024 S3 rfl rfl 3 rfl (ix2 (0 : Fin 1) j) ?_ ?_) ?_
    · intro b hb; fin_cases b
      · exact absurd rfl hb
      · rfl
    · show 3 + 0 = i.val; omega
    · rw [← hs3, colsum_apply]
      exact Finset.sum_congr rfl fun r _ => dy_apply d w sc dr xh rs gam g r j
  rw [if_neg h3]
  refine (concatenate_apply_piece (t := S8x1024) 0 [⟨S1x1024, S0⟩, ⟨S1x1024, S1⟩, ⟨S1x1024, S2⟩, ⟨S1x1024, S3⟩, ⟨S4x1024, Z⟩] _ _ 4 (by show 4 < 5; decide) S4x1024 Z rfl rfl 4 rfl (ix2 (⟨i.val - 4, by omega⟩ : Fin 4) j) ?_ ?_).trans ?_
  · intro b hb; fin_cases b
    · exact absurd rfl hb
    · rfl
  · show 4 + (i.val - 4) = i.val; omega
  · rw [← hz]
    pointwise []

/-- The modulation's two sums above six rows of zeros. -/
def mod (d : FVec Ideal S4096x2048 .bf16) (w : FVec Ideal S8x1x1024x256 .bf16) (x : FVec Ideal S4096x1024 .f32) : FVec Ideal S8x1024 .f32 :=
  concatenate S8x1024 0 [⟨S1x1024, colsum (mulf (prod d w) x)⟩, ⟨S1x1024, colsum (prod d w)⟩, ⟨S6x1024, broadcastInDim S6x1024 ![] bcast_S_S6x1024 (constant S_ .f32 0x00000000#32)⟩] concatenates_S1x1024_S1x1024_S6x1024_S8x1024_d0

theorem mod_apply (d : FVec Ideal S4096x2048 .bf16) (w : FVec Ideal S8x1x1024x256 .bf16) (x : FVec Ideal S4096x1024 .f32) (i : Fin 8) (j : Fin 1024) : mod d w x (ix2 i j) = Kernel12Ideal.Run.modSums d w x i j := by
  unfold mod Kernel12Ideal.Run.modSums
  generalize hs0 : colsum (mulf (prod d w) x) = S0
  generalize hs1 : colsum (prod d w) = S1
  generalize hz : (broadcastInDim S6x1024 ![] bcast_S_S6x1024 (constant S_ .f32 0x00000000#32) : FVec Ideal S6x1024 .f32) = Z
  by_cases h0 : i.val = 0
  · rw [if_pos h0]
    refine Eq.trans (concatenate_apply_piece (t := S8x1024) 0 [⟨S1x1024, S0⟩, ⟨S1x1024, S1⟩, ⟨S6x1024, Z⟩] _ _ 0 (by show 0 < 3; decide) S1x1024 S0 rfl rfl 0 rfl (ix2 (0 : Fin 1) j) ?_ ?_) ?_
    · intro b hb; fin_cases b
      · exact absurd rfl hb
      · rfl
    · show 0 + 0 = i.val; omega
    · rw [← hs0, colsum_apply]
      exact Finset.sum_congr rfl fun r _ => congrArg (HMul.hMul (α := EReal) (β := EReal) (γ := EReal) · _) (prod_apply d w r j)
  rw [if_neg h0]
  by_cases h1 : i.val = 1
  · rw [if_pos h1]
    refine Eq.trans (concatenate_apply_piece (t := S8x1024) 0 [⟨S1x1024, S0⟩, ⟨S1x1024, S1⟩, ⟨S6x1024, Z⟩] _ _ 1 (by show 1 < 3; decide) S1x1024 S1 rfl rfl 1 rfl (ix2 (0 : Fin 1) j) ?_ ?_) ?_
    · intro b hb; fin_cases b
      · exact absurd rfl hb
      · rfl
    · show 1 + 0 = i.val; omega
    · rw [← hs1, colsum_apply]
      exact Finset.sum_congr rfl fun r _ => prod_apply d w r j
  rw [if_neg h1]
  refine (concatenate_apply_piece (t := S8x1024) 0 [⟨S1x1024, S0⟩, ⟨S1x1024, S1⟩, ⟨S6x1024, Z⟩] _ _ 2 (by show 2 < 3; decide) S6x1024 Z rfl rfl 2 rfl (ix2 (⟨i.val - 2, by omega⟩ : Fin 6) j) ?_ ?_).trans ?_
  · intro b hb; fin_cases b
    · exact absurd rfl hb
    · rfl
  · show 2 + (i.val - 2) = i.val; omega
  · rw [← hz]
    pointwise []

end Cert.Reference12Ideal.Rows

namespace Cert.Proof

open Idealize.ShloMosaic Idealize.SL.Sem

/-- The gradient of the first pointwise projection, its modulation and the layer norm before it: on memories that agree on the arguments, the kernel's result arrays are the reference's, entry by entry. -/
theorem algebraic_Pw1Dx : algebraic_Kernel12Ideal_Reference12Ideal := by
  intro m ρ m' ρ' _ hagree
  refine ⟨fun c => (Kernel12Ideal.Run.dats m 0 c).arrAt 9 Kernel12Ideal.cfg0.N, fun c => (Kernel12Ideal.Run.dats m 0 c).arrAt 10 Kernel12Ideal.cfg0.N, fun c => (Kernel12Ideal.Run.dats m 0 c).arrAt 11 Kernel12Ideal.cfg0.N, fun c => (Kernel12Ideal.Run.dats m 0 c).arrAt 12 Kernel12Ideal.cfg0.N, (θ_run Kernel12Ideal.defs _ _).mono (fun _ h c => ?run) (Kernel12Ideal.Run.run_blocks (F := Ideal) m ρ), ?_⟩
  case run =>
    have h := h c
    exact ⟨h.1.1, h.1.2.1, h.1.2.2.1, h.1.2.2.2, h.2⟩
  refine (θ_run Reference12Ideal.defs _ _).mono (fun _ h c => ⟨?_, ?_, ?_, ?_, (h c).2.2.2.2⟩) (Reference12Ideal.Value.run (F := Ideal) m' ρ')
  · refine ((h c).1).trans (Eq.trans ?_ (Kernel12Ideal.Run.final9 m c).symm)
    simp only [hagree c]
    funext j
    obtain ⟨r, q, rfl⟩ := Shards.pair j
    show _ = (_ : EReal)
    show truncf (F := Ideal) .bf16 (Reference12Ideal.Rows.dy (m (c.tc.loc Kernel12Ideal.main_arg0)) (m (c.tc.loc Kernel12Ideal.main_arg1)) (m (c.tc.loc Kernel12Ideal.main_arg3)) (m (c.tc.loc Kernel12Ideal.main_arg4)) (m (c.tc.loc Kernel12Ideal.main_arg5)) (m (c.tc.loc Kernel12Ideal.main_arg6)) (m (c.tc.loc Kernel12Ideal.main_arg7)) (m (c.tc.loc Kernel12Ideal.main_arg9))) _ (ix2 r q) = _
    exact Reference12Ideal.Rows.dy_apply (m (c.tc.loc Kernel12Ideal.main_arg0)) (m (c.tc.loc Kernel12Ideal.main_arg1)) (m (c.tc.loc Kernel12Ideal.main_arg3)) (m (c.tc.loc Kernel12Ideal.main_arg4)) (m (c.tc.loc Kernel12Ideal.main_arg5)) (m (c.tc.loc Kernel12Ideal.main_arg6)) (m (c.tc.loc Kernel12Ideal.main_arg7)) (m (c.tc.loc Kernel12Ideal.main_arg9)) r q
  · refine ((h c).2.1).trans (Eq.trans ?_ (Kernel12Ideal.Run.final10 m c).symm)
    simp only [hagree c]
    funext j
    obtain ⟨r, q, rfl⟩ := Shards.pair j
    show _ = (_ : EReal)
    show mulf (F := Ideal) (broadcastInDim Reference12Ideal.S4096x1024 ![] Reference12Ideal.Gen.bcast_S_S4096x1024 (constant Reference12Ideal.S_ .f32 0x3FB504F3#32)) (Reference12Ideal.Rows.dz (m (c.tc.loc Kernel12Ideal.main_arg0)) (m (c.tc.loc Kernel12Ideal.main_arg1)) (m (c.tc.loc Kernel12Ideal.main_arg3)) (m (c.tc.loc Kernel12Ideal.main_arg4)) (m (c.tc.loc Kernel12Ideal.main_arg5)) (m (c.tc.loc Kernel12Ideal.main_arg6)) (m (c.tc.loc Kernel12Ideal.main_arg7))) (ix2 r q)
      = Ideal.ofBits FTy.f32 1068827891#32 * Kernel12Ideal.Run.dz (m (c.tc.loc Kernel12Ideal.main_arg0)) (m (c.tc.loc Kernel12Ideal.main_arg1)) (m (c.tc.loc Kernel12Ideal.main_arg3)) (m (c.tc.loc Kernel12Ideal.main_arg4)) (m (c.tc.loc Kernel12Ideal.main_arg5)) (m (c.tc.loc Kernel12Ideal.main_arg6)) (m (c.tc.loc Kernel12Ideal.main_arg7)) r q
    rw [← Reference12Ideal.Rows.dz_apply]
    generalize Reference12Ideal.Rows.dz (m (c.tc.loc Kernel12Ideal.main_arg0)) (m (c.tc.loc Kernel12Ideal.main_arg1)) (m (c.tc.loc Kernel12Ideal.main_arg3)) (m (c.tc.loc Kernel12Ideal.main_arg4)) (m (c.tc.loc Kernel12Ideal.main_arg5)) (m (c.tc.loc Kernel12Ideal.main_arg6)) (m (c.tc.loc Kernel12Ideal.main_arg7)) = X
    pointwise []
  · refine ((h c).2.2.1).trans (Eq.trans ?_ (Kernel12Ideal.Run.final11 m c).symm)
    funext j
    obtain ⟨r, q, rfl⟩ := Shards.pair j
    show _ = (_ : EReal)
    show Reference12Ideal.Rows.norm (m' (c.tc.loc Reference12Ideal.main_arg0)) (m' (c.tc.loc Reference12Ideal.main_arg1)) (m' (c.tc.loc Reference12Ideal.main_arg3)) (m' (c.tc.loc Reference12Ideal.main_arg4)) (m' (c.tc.loc Reference12Ideal.main_arg5)) (m' (c.tc.loc Reference12Ideal.main_arg6)) (m' (c.tc.loc Reference12Ideal.main_arg7)) (m' (c.tc.loc Reference12Ideal.main_arg8)) (m' (c.tc.loc Reference12Ideal.main_arg9)) (ix2 r q) = Kernel12Ideal.Run.normSums (m (c.tc.loc Kernel12Ideal.main_arg0)) (m (c.tc.loc Kernel12Ideal.main_arg1)) (m (c.tc.loc Kernel12Ideal.main_arg3)) (m (c.tc.loc Kernel12Ideal.main_arg4)) (m (c.tc.loc Kernel12Ideal.main_arg5)) (m (c.tc.loc Kernel12Ideal.main_arg6)) (m (c.tc.loc Kernel12Ideal.main_arg7)) (m (c.tc.loc Kernel12Ideal.main_arg8)) (m (c.tc.loc Kernel12Ideal.main_arg9)) r q
    rw [Reference12Ideal.Rows.norm_apply]
    simp only [hagree c]
  · refine ((h c).2.2.2.1).trans (Eq.trans ?_ (Kernel12Ideal.Run.final12 m c).symm)
    funext j
    obtain ⟨r, q, rfl⟩ := Shards.pair j
    show _ = (_ : EReal)
    show Reference12Ideal.Rows.mod (m' (c.tc.loc Reference12Ideal.main_arg0)) (m' (c.tc.loc Reference12Ideal.main_arg1)) (m' (c.tc.loc Reference12Ideal.main_arg2)) (ix2 r q) = Kernel12Ideal.Run.modSums (m (c.tc.loc Kernel12Ideal.main_arg0)) (m (c.tc.loc Kernel12Ideal.main_arg1)) (m (c.tc.loc Kernel12Ideal.main_arg2)) r q
    rw [Reference12Ideal.Rows.mod_apply]
    simp only [hagree c]

/-- The two printings of the program have the same bodies. -/
theorem defs_Pw1Dx : Kernel12.defs (F := Bits) = Kernel12Ideal.defs (F := Bits) := by
  have e : Kernel12.defs₀ (F := Bits) = Kernel12Ideal.defs₀ (F := Bits) := by
    unfold Kernel12.defs₀ Kernel12Ideal.defs₀
    refine congrArg Defs.onTc (funext fun i => ?_)
    match i with
    | 0 => exact funext fun p => rfl
  exact congrArg (Pipeline.defs (Kernel12.pcfgs (F := Bits))) e

/-- As printed, on bits, it ends with its arguments unchanged and every counter at zero. -/
theorem frame_Pw1Dx : quiescent_Kernel12 := fun m ρ _ => by
  rw [defs_Pw1Dx]
  exact Kernel12Ideal.Run.frame (F := Bits) m ρ

end Cert.Proof

end
-- ==== Proof.InFwd.lean ====
module

public import proofs.«01_k».proof.Proof.Shards.Own
public import proofs.«01_k».proof.Proof.Gen.Kernel13Ideal.Launch
public import proofs.«01_k».proof.Proof.Gen.Kernel13Ideal.Skeleton
public import proofs.«01_k».proof.Proof.Gen.Kernel13Ideal.Points
public import proofs.«01_k».proof.Proof.Shards.Read
public import proofs.«01_k».proof.Proof.Shards.Cols
public import proofs.«01_k».proof.Defs
public import proofs.«01_k».proof.Proof.Gen.Reference13Ideal.Run
public import proofs.«01_k».proof.Proof.Gen.Kernel13

@[expose] public section

set_option maxRecDepth 16384

noncomputable section

namespace Cert.Kernel13Ideal.Run

section
open Cert.Kernel13Ideal Cert.Kernel13Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body copies the weight in: the grid's coordinate is zero. -/
abbrev first (i : grid0.Coords) : Prop := (Scalar.cmpi .ne (Scalar.extui (Scalar.cmpi .eq (BitVec.ofNat 32 (i 0).val) 0#32)) 0#32) = 1#1

/-- It holds at the first point of the grid and at no other. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : first (grid0.coords t) ↔ t.val % 8 = 0 := by
    simp only [first, e0]
    word_cmp
  rw [e1, Nat.mod_eq_of_lt ht]

/-- The gathered weight, left in HBM. -/
abbrev wgt : Memref sig .tc .hbm S8x1x1024x384 .bf16 := Memref.whole main_arg3
/-- A memref's contents on core `c`, and its buffer held whole at some. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc c.tc ↦{fullShare} f

/-- The counters of the copies' semaphores, all at zero. -/
def cells (c : Dev nD) : sProp 𝕄 :=
  iprop(semVal (c.tc, SemLoc.dma 7) 0 ∗ semVal (c.tc, SemLoc.dma 8) 0 ∗ semVal (c.tc, SemLoc.dma 9) 0 ∗ semVal (c.tc, SemLoc.dma 10) 0 ∗ semVal (c.tc, SemLoc.dma 11) 0 ∗ semVal (c.tc, SemLoc.dma 12) 0 ∗ semVal (c.tc, SemLoc.dma 13) 0 ∗ semVal (c.tc, SemLoc.dma 14) 0)

section
variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S1x3072 .f32) (harg4 : arg4.IsWhole)
  (arg6 : Memref sig .tc .vmem S512x3072 .bf16) (harg6 : arg6.IsWhole)
  (arg7 : Memref sig .tc .vmem S1024x3072 .bf16) (harg7 : arg7.IsWhole)

set_option maxHeartbeats 4000000 in
set_option sl_exec.dmaWindow true in
set_option sl_exec.dmaWindowSet true in
/-- The body at the first point copies the weight into the scratch and leaves each output and the scratch written by the pieces found here. -/
def bodyFirst (hc : first i) (x0 : Vec F S512x1024 .f32) (x1 : Vec F S1x1024 .f32) (x2 : Vec F S1x1024 .f32) (x3 : Vec F S1x3072 .f32) (fh : Held (F := F) c wgt) :
    Σ' (L4 : List (View.Piece (Elt F) S512x3072 .bf16)), { T0 : List (View.Piece (Elt F) S1024x3072 .bf16) //
      ∀ (W : Waits sig Unit) (K : PUnit → sProp 𝕄),
        iprop(owns c.tc arg1 fullShare x0 ∗ owns c.tc arg2 fullShare x1 ∗ owns c.tc arg3 fullShare x2 ∗ owns c.tc arg4 fullShare x3 ∗ (∃ d, owns c.tc arg6 fullShare d) ∗ (∃ d, owns c.tc arg7 fullShare d) ∗ cells c ∗ held c wgt fh ∗ owes c.tc 0 W
            ∗ (iprop(owns c.tc arg1 fullShare x0 ∗ owns c.tc arg2 fullShare x1 ∗ owns c.tc arg3 fullShare x2 ∗ owns c.tc arg4 fullShare x3 ∗ (∃ f, arg6.view.loc c.tc ↦[arg6.view.set]{fullShare} arg6.view.writes (Elt F) f L4) ∗ (∃ f, arg7.view.loc c.tc ↦[arg7.view.set]{fullShare} arg7.view.writes (Elt F) f T0) ∗ cells c ∗ held c wgt fh ∗ (∃ W', owes c.tc 0 W')) -∗ K ⟨⟩))
          ⊢ wp frame (wpE (defs₀ (F := F)) Variants.none c none) Set.univ (cc0_a_in_fwd i arg1 harg1 arg2 harg2 arg3 harg3 arg4 harg4 (Memref.whole main_arg3) (Memref.isWhole_whole _) arg6 harg6 arg7 harg7 cc0_scratch1) K } := by
  refine ⟨?_, ?_, fun W K => ?run⟩
  case run =>
    simp only [cc0_a_in_fwd_eq_skeleton]; unfold cc0_a_in_fwd_skel
    simp only [k0_part1_eq_skeleton, k0_part2_eq_skeleton, k0_part3_eq_skeleton, k0_part4_eq_skeleton]
    unfold owns cells
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨Hq0, Hq1, Hq2, Hq3, Hq4, Hq5, Hq6, Hq7⟩, Hh, HW, Hk⟩
    obtain rfl := harg1.eq_unread hf0
    obtain rfl := harg2.eq_unread hf1
    obtain rfl := harg3.eq_unread hf2
    obtain rfl := harg4.eq_unread hf3
    sl_exec (disch := first | sl_exact hc)
    sl_step
    iapply Hk
    isplitl [H0]; · iapply (Shards.unread harg1 _); iexact H0
    isplitl [H1]; · iapply (Shards.unread harg2 _); iexact H1
    isplitl [H2]; · iapply (Shards.unread harg3 _); iexact H2
    isplitl [H3]; · iapply (Shards.unread harg4 _); iexact H3
    isplitl [H4]; · iexists _; iexact H4
    isplitl [HS0]; · iexists _; iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

set_option maxHeartbeats 4000000 in
set_option sl_exec.dmaWindow true in
set_option sl_exec.dmaWindowSet true in
/-- The body at a later point: the scratch holds the weight already and keeps it. -/
def bodyLater (hc : ¬first i) (x0 : Vec F S512x1024 .f32) (x1 : Vec F S1x1024 .f32) (x2 : Vec F S1x1024 .f32) (x3 : Vec F S1x3072 .f32) (s0 : Vec F S1024x3072 .bf16) (fh : Held (F := F) c wgt) :
    { L4 : List (View.Piece (Elt F) S512x3072 .bf16) //
      ∀ (W : Waits sig Unit) (K : PUnit → sProp 𝕄),
        iprop(owns c.tc arg1 fullShare x0 ∗ owns c.tc arg2 fullShare x1 ∗ owns c.tc arg3 fullShare x2 ∗ owns c.tc arg4 fullShare x3 ∗ (∃ d, owns c.tc arg6 fullShare d) ∗ owns c.tc arg7 fullShare s0 ∗ cells c ∗ held c wgt fh ∗ owes c.tc 0 W
            ∗ (iprop(owns c.tc arg1 fullShare x0 ∗ owns c.tc arg2 fullShare x1 ∗ owns c.tc arg3 fullShare x2 ∗ owns c.tc arg4 fullShare x3 ∗ (∃ f, arg6.view.loc c.tc ↦[arg6.view.set]{fullShare} arg6.view.writes (Elt F) f L4) ∗ owns c.tc arg7 fullShare s0 ∗ cells c ∗ held c wgt fh ∗ (∃ W', owes c.tc 0 W')) -∗ K ⟨⟩))
          ⊢ wp frame (wpE (defs₀ (F := F)) Variants.none c none) Set.univ (cc0_a_in_fwd i arg1 harg1 arg2 harg2 arg3 harg3 arg4 harg4 (Memref.whole main_arg3) (Memref.isWhole_whole _) arg6 harg6 arg7 harg7 cc0_scratch1) K } := by
  refine ⟨?_, fun W K => ?run⟩
  case run =>
    simp only [cc0_a_in_fwd_eq_skeleton]; unfold cc0_a_in_fwd_skel
    simp only [k0_part1_eq_skeleton, k0_part2_eq_skeleton, k0_part3_eq_skeleton, k0_part4_eq_skeleton]
    unfold owns cells
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨Hq0, Hq1, Hq2, Hq3, Hq4, Hq5, Hq6, Hq7⟩, Hh, HW, Hk⟩
    obtain rfl := harg1.eq_unread hf0
    obtain rfl := harg2.eq_unread hf1
    obtain rfl := harg3.eq_unread hf2
    obtain rfl := harg4.eq_unread hf3
    obtain rfl := harg7.eq_unread hfs0
    sl_exec (disch := first | sl_exact hc)
    sl_step
    iapply Hk
    isplitl [H0]; · iapply (Shards.unread harg1 _); iexact H0
    isplitl [H1]; · iapply (Shards.unread harg2 _); iexact H1
    isplitl [H2]; · iapply (Shards.unread harg3 _); iexact H2
    isplitl [H3]; · iapply (Shards.unread harg4 _); iexact H3
    isplitl [H4]; · iexists _; iexact H4
    isplitl [HS0]; · iapply (Shards.unread harg7 _); iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

end

variable (m : (ℓ : Loc nD τ sig) → Buf (Elt F) ℓ) (ρ : Dev nD → PrngReg)
variable (c : Dev nD) (t : Fin cfg0.N)

/-- Core `c`'s buffers when the grid starts: after the host's lines before it. -/
abbrev V (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the grid is the host's lines. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host's lines leave the arguments as they were. -/
theorem V_args : V m c main_arg0 = m (c.tc.loc main_arg0) ∧ V m c main_arg1 = m (c.tc.loc main_arg1) ∧ V m c main_arg2 = m (c.tc.loc main_arg2) ∧ V m c main_arg3 = m (c.tc.loc main_arg3) := by
  refine ⟨?_, ?_, ?_, ?_⟩
  all_goals
    refine StableHlo.after_of_forall_not_mem (b := Proc.devRef .tc _) _ _ (List.forall_iff_forall_mem.mp ?_)
    simp only [hostOps0, List.Forall, StableHlo.nullary_writes, StableHlo.unary_writes, Finset.mem_singleton]
    repeat' apply And.intro
    all_goals exact StableHlo.devRef_ne_of_ne (by decide)

/-- Window `w`'s block at point `t`. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 : Memref sig .tc .vmem S512x1024 .f32 := win0_0.stage (cfg0.slots t 0)
abbrev hs0 : (ms0 t).IsWhole := hstage0_0 ((cfg0.slots t 0).cast nbuf0_0)
abbrev ms1 : Memref sig .tc .vmem S1x1024 .f32 := win0_1.stage (cfg0.slots t 1)
abbrev hs1 : (ms1 t).IsWhole := hstage0_1 ((cfg0.slots t 1).cast nbuf0_1)
abbrev ms2 : Memref sig .tc .vmem S1x1024 .f32 := win0_2.stage (cfg0.slots t 2)
abbrev hs2 : (ms2 t).IsWhole := hstage0_2 ((cfg0.slots t 2).cast nbuf0_2)
abbrev ms3 : Memref sig .tc .vmem S1x3072 .f32 := win0_3.stage (cfg0.slots t 3)
abbrev hs3 : (ms3 t).IsWhole := hstage0_3 ((cfg0.slots t 3).cast nbuf0_3)
abbrev ms4 : Memref sig .tc .vmem S512x3072 .bf16 := win0_4.stage (cfg0.slots t 4)
abbrev hs4 : (ms4 t).IsWhole := hstage0_4 ((cfg0.slots t 4).cast nbuf0_4)
/-- The scratch that keeps the weight. -/
abbrev scr0 : Memref sig .tc .vmem S1024x3072 .bf16 := Memref.whole cc0_scratch0
abbrev VO4 : View sig .tc .vmem S512x3072 .bf16 := (Memref.whole cc0_stg4_0 : Memref sig .tc .vmem S512x3072 .bf16).view

/-- The copies' semaphores. -/
abbrev sems : Fin 8 → SemLoc sig := fun j => (![SemLoc.dma 7, SemLoc.dma 8, SemLoc.dma 9, SemLoc.dma 10, SemLoc.dma 11, SemLoc.dma 12, SemLoc.dma 13, SemLoc.dma 14] : Fin 8 → SemLoc sig) j
theorem sems_own : Pipeline.OwnSemFacts spec0 sems := by decide
theorem sems_eq :
    (Pipeline.ownSems0 (Ix := Unit) (Name := ℕ) (U := Pipeline.UD sig nD τ) (Lvl := ℕ) (Val := Elt F) (τ := τ) sems c : sProp 𝕄) = cells c := by
  rw [Pipeline.ownSems0_eq_of_list c sems [0, 1, 2, 3, 4, 5, 6, 7] (by decide) (by decide)]; rfl
/-- The operand the body copies itself. -/
def moved : Finset (Ref sig .tc) := {main_arg3}
theorem moved_sub : moved ⊆ Pipeline.restRefs sig spec0 := by decide
theorem moved_eq :
    (bigSep moved (fun b => (c.tc.loc b) ↦{fullShare} V m c b) : sProp 𝕄) = iprop(held c wgt (V m c main_arg3)) := by
  rw [BI.bigSep_eq_bigSepL_of_eq [main_arg3] (by decide) (by decide)]; rfl

/-- What the grid starts with, conjunct by conjunct. -/
theorem start_eq :
    (Pipeline.ΦD sems spec0 moved (V m) c : sProp 𝕄)
      = iprop(iprop((∃ d, owns c.tc scr0 fullShare d)) ∗ (∃ r, prngReg c r) ∗ cells c ∗ iprop(held c wgt (V m c main_arg3))) := by
  rw [Pipeline.ΦD_eq, scopedRest0_eq, sems_eq, moved_eq]; simp only [scr0, owns_whole]; try rfl

/-- The body's run at the first point, on that point's buffers and blocks. -/
def runFirst (h : t.val = 0) :=
  bodyFirst (F := F) c (grid0.coords t) (ms0 t) (hs0 t) (ms1 t) (hs1 t) (ms2 t) (hs2 t) (ms3 t) (hs3 t) (ms4 t) (hs4 t) scr0 (Memref.isWhole_whole _) ((first_iff t).mpr h) (iblk m c 0 t) (iblk m c 1 t) (iblk m c 2 t) (iblk m c 3 t) (V m c main_arg3)
/-- The body's run at a later point. -/
def runLater (h : ¬t.val = 0) (s0 : Vec F S1024x3072 .bf16) :=
  bodyLater (F := F) c (grid0.coords t) (ms0 t) (hs0 t) (ms1 t) (hs1 t) (ms2 t) (hs2 t) (ms3 t) (hs3 t) (ms4 t) (hs4 t) scr0 (Memref.isWhole_whole _) (fun e => h ((first_iff t).mp e)) (iblk m c 0 t) (iblk m c 1 t) (iblk m c 2 t) (iblk m c 3 t) s0 (V m c main_arg3)

theorem coverFirst4 (h : t.val = 0) (y : S512x3072.Idx) : ∃ pc ∈ (runFirst m c t h).1, y ∈ pc.1.set :=
  View.cover_of_tiledL _ S512x3072.size (by sl_kernel_rfl) y
/-- What the first point leaves in output 0. -/
def outFirst4 (h : t.val = 0) : Vec F S512x3072 .bf16 := VO4.read (Elt F) (VO4.writes (Elt F) VO4.junk (runFirst m c t h).1)
theorem coverLater4 (h : ¬t.val = 0) (s0 : Vec F S1024x3072 .bf16) (y : S512x3072.Idx) : ∃ pc ∈ (runLater m c t h s0).1, y ∈ pc.1.set :=
  View.cover_of_tiledL _ S512x3072.size (by sl_kernel_rfl) y
/-- What a later point leaves in output 0, the scratch holding `s0`. -/
def outLater4 (h : ¬t.val = 0) (s0 : Vec F S1024x3072 .bf16) : Vec F S512x3072 .bf16 := VO4.read (Elt F) (VO4.writes (Elt F) VO4.junk (runLater m c t h s0).1)
theorem coverScr0 (h : t.val = 0) (y : S1024x3072.Idx) : ∃ pc ∈ (runFirst m c t h).2.1, y ∈ pc.1.set :=
  View.cover_of_tiledL _ ![1024,384] (by sl_kernel_rfl) y
/-- The weight as the first point leaves it in the scratch. -/
def weight0 : Vec F S1024x3072 .bf16 :=
  scr0.view.read (Elt F) (scr0.view.writes (Elt F) scr0.view.junk (runFirst m c t0_0 (show t0_0.val = 0 from rfl)).2.1)

/-- What point `t` leaves in output 0. -/
def out4 : Vec F S512x3072 .bf16 := if h : t.val = 0 then outFirst4 m c t h else outLater4 m c t h (weight0 m c)
theorem out4_first (h : t.val = 0) : out4 m c t = outFirst4 m c t h := dif_pos h
theorem out4_later (h : ¬t.val = 0) : out4 m c t = outLater4 m c t h (weight0 m c) := dif_neg h

/-- Between the points: at first what the grid starts with, afterwards the scratch at the weight. -/
def Keep : (n : ℕ) → n ≤ cfg0.N → sProp 𝕄
  | 0, _ => Pipeline.ΦD sems spec0 moved (V m) c
  | n + 1, _ => iprop(iprop(owns c.tc scr0 fullShare (weight0 m c)) ∗ (∃ r, prngReg c r) ∗ cells c ∗ iprop(held c wgt (V m c main_arg3)))
theorem Keep_zero (n : ℕ) (h : n ≤ cfg0.N) (hz : n = 0) : Keep m c n h = Pipeline.ΦD sems spec0 moved (V m) c := by
  subst hz; rfl
theorem Keep_pos (n : ℕ) (h : n ≤ cfg0.N) (hz : n ≠ 0) :
    Keep m c n h = iprop(iprop(owns c.tc scr0 fullShare (weight0 m c)) ∗ (∃ r, prngReg c r) ∗ cells c ∗ iprop(held c wgt (V m c main_arg3))) := by
  cases n with
  | zero => exact absurd rfl hz
  | succ n => rfl

/-- The proof data: inputs at their blocks, outputs at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ t := Keep m c t.val (Nat.le_of_lt_succ t.isLt)
  q _ := fullShare
  owed _ := 0
theorem A_eq (w : Fin cfg0.W) : (dats m 0 c).A w = V m c (Pipeline.arrRef spec0 w) := by
  dsimp only [dats]
theorem Keep_castSucc :
    (dats m 0 c).Φ t.castSucc = Keep m c t.val (Nat.le_of_lt t.isLt) := by
  dsimp only [dats]; exact Pipeline.Dat.Φ_castSucc (Keep m c) t
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = out4 m c t := by dsimp only [dats]
theorem before0 (d) : (dats m 0 c).before 0 t d = iblk m c 0 t :=
  (dats m 0 c).before_in_eq_fetched 0 rfl (fun _ => rfl) (fun _ _ _ => rfl) (fun _ => rfl) t d
theorem before1 (d) : (dats m 0 c).before 1 t d = iblk m c 1 t :=
  (dats m 0 c).before_in_eq_fetched 1 rfl (fun _ => rfl) (fun _ _ _ => rfl) (fun _ => rfl) t d
theorem before2 (d) : (dats m 0 c).before 2 t d = iblk m c 2 t :=
  (dats m 0 c).before_in_eq_fetched 2 rfl (fun _ => rfl) (fun _ _ _ => rfl) (fun _ => rfl) t d
theorem before3 (d) : (dats m 0 c).before 3 t d = iblk m c 3 t :=
  (dats m 0 c).before_in_eq_fetched 3 rfl (fun _ => rfl) (fun _ _ _ => rfl) (fun _ => rfl) t d

def bodyPre : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d)))
def bodyPost : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t)
    ∗ owns c.tc (ms2 t) fullShare ((dats m 0 c).after 2 t)
    ∗ owns c.tc (ms3 t) fullShare ((dats m 0 c).after 3 t)
    ∗ owns c.tc (ms4 t) fullShare ((dats m 0 c).after 4 t))

set_option maxHeartbeats 4000000 in
/-- The body at every point takes what holds before the point to what holds after it. -/
theorem sound :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Keep m c (t.val + 1) t.isLt from rfl, Keep_pos m c _ _ (Nat.succ_ne_zero _),
    after0, after1, after2, after3, after4]
  unfold Dat.owesAt Pipeline.owesWithin
  rw [show (dats m 0 c).owed t.castSucc = 0 from rfl, show (dats m 0 c).owed t.succ = 0 from rfl]
  by_cases h0 : t.val = 0
  · have hz := h0
    rw [Keep_castSucc m c t, Keep_zero m c _ _ h0, start_eq]
    obtain rfl : t = t0_0 := Fin.ext h0
    rw [out4_first m c t0_0 h0]
    unfold outFirst4 weight0; (try dsimp only)
    iintro ⟨⟨HS0, Hg, Hq, Hh⟩, ⟨%W, -, HW⟩, ⟨%d0, H0⟩, ⟨%d1, H1⟩, ⟨%d2, H2⟩, ⟨%d3, H3⟩, ⟨%d4, H4⟩⟩
    iapply ((runFirst m c t0_0 h0).2.2 W _)
    iframe H0 H1 H2 H3
    isplitl [H4]; · iexists _; iexact H4
    iframe HS0 Hq Hh HW
    iintro ⟨H0, H1, H2, H3, ⟨%e4, H4⟩, ⟨%es0, HS0⟩, Hq, Hh, ⟨%W', HW'⟩⟩
    isplitl [HS0 Hg Hq Hh]
    · isplitl [HS0]
      · iapply (Shards.owned _ _ _ _ _ (coverScr0 m c t0_0 h0)); iexact HS0
      iframe Hg Hq Hh
    isplitl [HW']
    · iexists W'; isplitr; · ipureintro; exact fun _ _ => Or.inl trivial
      iexact HW'
    iframe H0 H1 H2 H3
    iapply (Shards.owned _ _ _ _ _ (coverFirst4 m c _ h0)); iexact H4
  · have hz := h0
    rw [Keep_castSucc m c t, Keep_pos m c _ _ h0]
    rw [out4_later m c t h0]
    unfold outLater4; (try dsimp only)
    iintro ⟨⟨HS0, Hg, Hq, Hh⟩, ⟨%W, -, HW⟩, ⟨%d0, H0⟩, ⟨%d1, H1⟩, ⟨%d2, H2⟩, ⟨%d3, H3⟩, ⟨%d4, H4⟩⟩
    iapply ((runLater m c t h0 (weight0 m c)).2 W _)
    iframe H0 H1 H2 H3
    isplitl [H4]; · iexists _; iexact H4
    iframe HS0 Hq Hh HW
    iintro ⟨H0, H1, H2, H3, ⟨%e4, H4⟩, HS0, Hq, Hh, ⟨%W', HW'⟩⟩
    isplitl [HS0 Hg Hq Hh]
    · isplitl [HS0]
      · iexact HS0
      iframe Hg Hq Hh
    isplitl [HW']
    · iexists W'; isplitr; · ipureintro; exact fun _ _ => Or.inl trivial
      iexact HW'
    iframe H0 H1 H2 H3
    iapply (Shards.owned _ _ _ _ _ (coverLater4 m c _ h0 _)); iexact H4

theorem defs_row :
    defs₀ (F := F) .tc cfg0.body (cfg0.bodyArgs t (cfg0.slots t)) = bodyAt0 t := by
  unfold defs₀; rw [Defs.onTc_tc]
theorem obligation : BodyObligation (dats (F := F) m 0 c) (defs₀ (F := F)) Variants.none () Set.univ := fun t => by
  rw [bigSep_W0, bigSep_W0, defs_row]
  exact triple_restated (sound m c t) rfl .rfl fun _ => .rfl
theorem hin : Pipeline.ΦD sems spec0 moved (V m) c ⊢ (dats m 0 c).Φ 0 := by
  rw [show (dats m 0 c).Φ 0 = Keep m c 0 (Nat.zero_le _) from rfl, Keep_zero m c 0 _ rfl]
  try exact Idealize.SL.BI.Entails.refl _
theorem hout : (dats m 0 c).Φ (Fin.last cfg0.N) ⊢ Pipeline.ΦD sems spec0 moved (V m) c := by
  rw [show (dats m 0 c).Φ (Fin.last cfg0.N) = Keep m c (Fin.last cfg0.N).val (Nat.le_of_lt_succ (Fin.last cfg0.N).isLt) from rfl,
    Keep_pos m c _ _ (by rw [Fin.val_last]; have : cfg0.N = 8 := N_0; omega), start_eq]
  iintro ⟨HS0, Hg, Hq, Hh⟩
  isplitl [HS0]
  · iexists _; iexact HS0
  iframe Hg Hq Hh

set_option backward.isDefEq.respectTransparency.types false in
/-- Every fair execution ends, the arrays at what the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none sems_own moved moved_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments are as launched. -/
abbrev Kept (μ : (ℓ : Loc nD τ sig) → Buf (Elt F) ℓ) : Prop :=
  μ (c.tc.loc main_arg0) = m (c.tc.loc main_arg0) ∧ μ (c.tc.loc main_arg1) = m (c.tc.loc main_arg1) ∧ μ (c.tc.loc main_arg2) = m (c.tc.loc main_arg2) ∧ μ (c.tc.loc main_arg3) = m (c.tc.loc main_arg3)

/-- The arguments end as they were. -/
theorem kept (r : PUnit × MemSt nD τ sig (Elt F)) (h : Pipeline.FramePost cfgs (dats m) 0 (V m) r) (c : Dev nD) :
    Kept m c r.2.mem :=
  ⟨((h c).1 0).trans (((dats m 0 c).arrAt_in 0 rfl _).trans ((A_eq m c 0).trans ((V_args m c).1))),
    ((h c).1 1).trans (((dats m 0 c).arrAt_in 1 rfl _).trans ((A_eq m c 1).trans ((V_args m c).2.1))),
    ((h c).1 2).trans (((dats m 0 c).arrAt_in 2 rfl _).trans ((A_eq m c 2).trans ((V_args m c).2.2.1))),
    ((h c).2 main_arg3 (Pipeline.mem_restRefs_of main_arg3 (by decide) (by decide))).trans ((V_args m c).2.2.2)⟩

/-- The program ends with its arguments unchanged and every counter at zero. -/
theorem frame : θ_run defs (onTc (τ := τ) (main (F := F))) ⟨m, fun _ => 0, ρ⟩ (fun r => (∀ c : Dev nD,
      Kept m c r.2.mem)
      ∧ r.2.sem = fun _ => 0) :=
  (θ_run defs _ _).mono (fun r h => ⟨fun c => kept m r h.1 c, h.2⟩) (run_quiescent m ρ)

/-- The program ends with each result at the blocks the points wrote. -/
theorem run_blocks : θ_run defs (onTc (τ := τ) (main (F := F))) ⟨m, fun _ => 0, ρ⟩ fun r => ∀ c : Dev nD,
      (r.2.mem (c.tc.loc main_v1) = (dats m 0 c).arrAt 4 cfg0.N)
      ∧ (Kept m c r.2.mem) :=
  (θ_run defs _ _).mono (fun r h c => ⟨(h.1 c).1 4, kept m r h.1 c⟩) (run_quiescent m ρ)

end

section
open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- The weight in the scratch: column `k` is column `k % 384` of the shard of device `k / 384`. -/
theorem weight0_apply (d : Fin 8) (r : Fin 384) (k : Fin 1024) (j : Fin 3072) (hj : j.val = d.val * 384 + r.val) :
    weight0 m c (ix2 k j) = m (c.tc.loc main_arg3) (ix4 d (⟨0, by decide⟩ : Fin 1) k r) := by
  unfold weight0 runFirst
  frame_out
  canon_tiles x h
  all_goals obtain ⟨x0, x1, rfl⟩ := Shards.pair x
  all_goals
    have e0 : ((ix2 k j : S1024x3072.Idx) 0).val = k.val := rfl
    have e1 : ((ix2 k j : S1024x3072.Idx) 1).val = j.val := rfl
    have e2 : ((ix2 x0 x1 : S1024x384.Idx) 0).val = x0.val := rfl
    have e3 : ((ix2 x0 x1 : S1024x384.Idx) 1).val = x1.val := rfl
    rw [e0, e2] at h0
    rw [e1, e3] at h1
    have := x0.isLt
    have := x1.isLt
    refine (Shards.read_block4 _ _ _ _ _ d (⟨0, by decide⟩ : Fin 1) x0 x1 k r ?_ rfl ?_ ?_).trans (congrFun ((V_args m c).2.2.2) _)
    all_goals
      try simp only [Matrix.cons_val_zero, Matrix.cons_val_one, Matrix.cons_val]
      omega

/-- Every point leaves the product with the weight of its block. -/
theorem out4_eq : out4 m c t = k0_pay1 (F := Ideal) (iblk m c 0 t) (iblk m c 1 t) (iblk m c 2 t) (weight0 m c) (iblk m c 3 t) := by
  by_cases h : t.val = 0
  · rw [out4_first m c t h]
    obtain rfl : t = t0_0 := Fin.ext h
    unfold outFirst4 weight0 runFirst
    frame_out
    try simp only [read_unread_whole]
    repeat erw [Shards.readCov_all]
    try rfl
  · rw [out4_later m c t h]
    unfold outLater4 runLater
    frame_out
    try simp only [read_unread_whole]

/-- The modulated input times the gathered weight at an entry; `i` names the weight in its stack. -/
def prod (x : S4096x1024.Idx → Elt Ideal .f32) (sc sh : S1x1024.Idx → Elt Ideal .f32) (w : S8x1x1024x384.Idx → Elt Ideal .bf16) (i : Fin 1) (r : Fin 4096) (j : Fin 3072) : EReal :=
  ∑ k : Fin 1024, (x (ix2 r k) * (1 + sc (ix2 (0 : Fin 1) k)) + sh (ix2 (0 : Fin 1) k)) * w (ix4 (⟨j.val / 384, by omega⟩ : Fin 8) i k (⟨j.val % 384, by omega⟩ : Fin 384))

theorem blk0 (x : Fin 512) (r : Fin 4096) (hr : r.val = t.val * 512 + x.val) (k : Fin 1024) :
    iblk m c 0 t (ix2 x k) = m (c.tc.loc main_arg0) (ix2 r k) := by
  have hi := (by decide +kernel : ∀ t : Fin cfg0.N, win0_0.index t (0 : Fin 2) = t.val ∧ win0_0.index t (1 : Fin 2) = 0) t
  rw [← (V_args m c).1]
  blk_point [iblk, hi.1, hi.2]
theorem blk1 (k : Fin 1024) : iblk m c 1 t (ix2 (0 : Fin 1) k) = m (c.tc.loc main_arg1) (ix2 (0 : Fin 1) k) := by
  have hi := (by decide +kernel : ∀ t : Fin cfg0.N, win0_1.index t (0 : Fin 2) = 0 ∧ win0_1.index t (1 : Fin 2) = 0) t
  rw [← (V_args m c).2.1]
  blk_point [iblk, hi.1, hi.2]
theorem blk2 (k : Fin 1024) : iblk m c 2 t (ix2 (0 : Fin 1) k) = m (c.tc.loc main_arg2) (ix2 (0 : Fin 1) k) := by
  have hi := (by decide +kernel : ∀ t : Fin cfg0.N, win0_2.index t (0 : Fin 2) = 0 ∧ win0_2.index t (1 : Fin 2) = 0) t
  rw [← (V_args m c).2.2.1]
  blk_point [iblk, hi.1, hi.2]
theorem blk3 (k : Fin 3072) : iblk m c 3 t (ix2 (0 : Fin 1) k) = (0 : EReal) := by
  have hi := (by decide +kernel : ∀ t : Fin cfg0.N, win0_3.index t (0 : Fin 2) = 0 ∧ win0_3.index t (1 : Fin 2) = 0) t
  have e : V m c main_v0 (ix2 (0 : Fin 1) k) = (0 : EReal) := by
    have e : V m c main_v0 = broadcastInDim S1x3072 ![] bcast_S_S1x3072 (constant (F := Ideal) S_ .f32 0x00000000#32) := rfl
    rw [e]
    pointwise []
  rw [← e]
  blk_point [iblk, hi.1, hi.2]

/-- One block of output window 4. -/
theorem out4_apply (x : Fin 512) (j : Fin 3072) (r : Fin 4096) (hr : r.val = t.val * 512 + x.val) :
    out4 m c t (ix2 x j) = (prod (m (c.tc.loc main_arg0)) (m (c.tc.loc main_arg1)) (m (c.tc.loc main_arg2)) (m (c.tc.loc main_arg3)) (⟨0, by decide⟩ : Fin 1) r j : EReal) := by
  rw [out4_eq]
  unfold prod
  have hW : ∀ k : Fin 1024, weight0 m c (ix2 k j) = m (c.tc.loc main_arg3) (ix4 (⟨j.val / 384, by omega⟩ : Fin 8) (⟨0, by decide⟩ : Fin 1) k (⟨j.val % 384, by omega⟩ : Fin 384)) :=
    fun k => weight0_apply m c _ _ k j (by dsimp only; omega)
  simp only [← hW, ← blk0 m c t x r hr, ← blk1 m c t, ← blk2 m c t]
  refine Eq.trans ?_ ((congrArg (HAdd.hAdd (α := EReal) (β := EReal) (γ := EReal) _) (blk3 m c t j)).trans (add_zero (M := EReal) _))
  generalize weight0 m c = W
  generalize iblk m c 0 t = X
  generalize iblk m c 1 t = A
  generalize iblk m c 2 t = B
  generalize iblk m c 3 t = C
  pointwise [k0_pay1]

/-- The whole array of output window 4. -/
theorem final4 : (dats m 0 c).arrAt 4 cfg0.N = fun i : S4096x3072.Idx => (fun (r : Fin 4096) (j : Fin 3072) => (prod (m (c.tc.loc main_arg0)) (m (c.tc.loc main_arg1)) (m (c.tc.loc main_arg2)) (m (c.tc.loc main_arg3)) (⟨0, by decide⟩ : Fin 1) r j : EReal)) (i 0) (i 1) := by
  refine (dats m 0 c).arrAt_eq_of_covers 4 _ (by decide +kernel) fun t hf y => ?_
  rw [after4]
  obtain ⟨a, b, rfl⟩ := Shards.pair y
  have hi := (by decide +kernel : ∀ t : Fin cfg0.N, win0_4.index t (0 : Fin 2) = t.val ∧ win0_4.index t (1 : Fin 2) = 0) t
  blk_simp
  have e1 : (win0_4.blk t).view.emb (ix2 a b) 1 = b :=
    Fin.ext (Shards.at_zero hi.2)
  dsimp only
  rw [e1]
  exact out4_apply m c t a b _ (Shards.at_row hi.1)

end

end Cert.Kernel13Ideal.Run

namespace Cert.Proof

open Idealize.ShloMosaic Idealize.SL.Sem

/-- The mixer's input projection: on memories that agree on the arguments, the kernel's result arrays are the reference's, entry by entry. -/
theorem algebraic_InFwd : algebraic_Kernel13Ideal_Reference13Ideal := by
  intro m ρ m' ρ' _ hagree
  refine ⟨fun c => (Kernel13Ideal.Run.dats m 0 c).arrAt 4 Kernel13Ideal.cfg0.N, (θ_run Kernel13Ideal.defs _ _).mono (fun _ h c => ?run) (Kernel13Ideal.Run.run_blocks (F := Ideal) m ρ), ?_⟩
  case run =>
    have h := h c
    exact ⟨h.1, h.2⟩
  refine (θ_run Reference13Ideal.defs _ _).mono (fun _ h c => ⟨?_, (h c).2⟩) (Reference13Ideal.Value.run (F := Ideal) m' ρ')
  · refine ((h c).1).trans (Eq.trans ?_ (Kernel13Ideal.Run.final4 m c).symm)
    simp only [hagree c]
    funext j
    obtain ⟨r, q, rfl⟩ := Shards.pair j
    show _ = (_ : EReal)
    show _ = Kernel13Ideal.Run.prod (m (c.tc.loc Kernel13Ideal.main_arg0)) (m (c.tc.loc Kernel13Ideal.main_arg1)) (m (c.tc.loc Kernel13Ideal.main_arg2)) (m (c.tc.loc Kernel13Ideal.main_arg3)) (⟨0, by decide⟩ : Fin 1) r q
    unfold Kernel13Ideal.Run.prod
    have hW : ∀ k : Fin 1024, (shapeCast Reference13Ideal.S1024x3072 (transpose Reference13Ideal.S1024x8x384 [1, 0, 2] (shapeCast Reference13Ideal.S8x1024x384 (m (c.tc.loc Kernel13Ideal.main_arg3)) Reference13Ideal.Gen.shapeCasts_S8x1x1024x384_S8x1024x384) Reference13Ideal.Gen.transposes_S8x1024x384_S1024x8x384_1_0_2) Reference13Ideal.Gen.shapeCasts_S1024x8x384_S1024x3072) (ix2 k q) = m (c.tc.loc Kernel13Ideal.main_arg3) (ix4 (⟨q.val / 384, by omega⟩ : Fin 8) (⟨0, by decide⟩ : Fin 1) k (⟨q.val % 384, by omega⟩ : Fin 384)) := by
      intro k
      refine (Shards.cols_apply _ _ _ (by decide) k q (⟨q.val / 384, by omega⟩ : Fin 8) (⟨q.val % 384, by omega⟩ : Fin 384) (by dsimp only; omega)).trans ((Shards.drop_apply _ _ _ _ _).trans ?_)
      rfl
    simp only [← hW]
    generalize (shapeCast Reference13Ideal.S1024x3072 (transpose Reference13Ideal.S1024x8x384 [1, 0, 2] (shapeCast Reference13Ideal.S8x1024x384 (m (c.tc.loc Kernel13Ideal.main_arg3)) Reference13Ideal.Gen.shapeCasts_S8x1x1024x384_S8x1024x384) Reference13Ideal.Gen.transposes_S8x1024x384_S1024x8x384_1_0_2) Reference13Ideal.Gen.shapeCasts_S1024x8x384_S1024x3072) = W
    pointwise []

/-- The two printings of the program have the same bodies. -/
theorem defs_InFwd : Kernel13.defs (F := Bits) = Kernel13Ideal.defs (F := Bits) := by
  have e : Kernel13.defs₀ (F := Bits) = Kernel13Ideal.defs₀ (F := Bits) := by
    unfold Kernel13.defs₀ Kernel13Ideal.defs₀
    refine congrArg Defs.onTc (funext fun i => ?_)
    match i with
    | 0 => exact funext fun p => rfl
  exact congrArg (Pipeline.defs (Kernel13.pcfgs (F := Bits))) e

/-- As printed, on bits, it ends with its arguments unchanged and every counter at zero. -/
theorem frame_InFwd : quiescent_Kernel13 := fun m ρ _ => by
  rw [defs_InFwd]
  exact Kernel13Ideal.Run.frame (F := Bits) m ρ

end Cert.Proof

end
-- ==== Proof.Pw1Fwd.lean ====
module

public import proofs.«01_k».proof.Proof.Shards.Own
public import proofs.«01_k».proof.Proof.Gen.Kernel14Ideal.Launch
public import proofs.«01_k».proof.Proof.Gen.Kernel14Ideal.Skeleton
public import proofs.«01_k».proof.Proof.Gen.Kernel14Ideal.Points
public import proofs.«01_k».proof.Proof.Shards.Read
public import proofs.«01_k».proof.Proof.Shards.Cols
public import proofs.«01_k».proof.Defs
public import proofs.«01_k».proof.Proof.Gen.Reference14Ideal.Run
public import proofs.«01_k».proof.Proof.Gen.Kernel14

@[expose] public section

set_option maxRecDepth 16384

noncomputable section

namespace Cert.Kernel14Ideal.Run

section
open Cert.Kernel14Ideal Cert.Kernel14Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body copies the weight in: the grid's coordinate is zero. -/
abbrev first (i : grid0.Coords) : Prop := (Scalar.cmpi .ne (Scalar.extui (Scalar.cmpi .eq (BitVec.ofNat 32 (i 0).val) 0#32)) 0#32) = 1#1

/-- It holds at the first point of the grid and at no other. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : first (grid0.coords t) ↔ t.val % 8 = 0 := by
    simp only [first, e0]
    word_cmp
  rw [e1, Nat.mod_eq_of_lt ht]

/-- The gathered weight, left in HBM. -/
abbrev wgt : Memref sig .tc .hbm S8x1x1024x256 .bf16 := Memref.whole main_arg4
/-- A memref's contents on core `c`, and its buffer held whole at some. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc c.tc ↦{fullShare} f

/-- The counters of the copies' semaphores, all at zero. -/
def cells (c : Dev nD) : sProp 𝕄 :=
  iprop(semVal (c.tc, SemLoc.dma 7) 0 ∗ semVal (c.tc, SemLoc.dma 8) 0 ∗ semVal (c.tc, SemLoc.dma 9) 0 ∗ semVal (c.tc, SemLoc.dma 10) 0 ∗ semVal (c.tc, SemLoc.dma 11) 0 ∗ semVal (c.tc, SemLoc.dma 12) 0 ∗ semVal (c.tc, SemLoc.dma 13) 0 ∗ semVal (c.tc, SemLoc.dma 14) 0)

section
variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S1x2048 .f32) (harg4 : arg4.IsWhole)
  (arg6 : Memref sig .tc .vmem S512x2048 .bf16) (harg6 : arg6.IsWhole)
  (arg7 : Memref sig .tc .vmem S1024x2048 .bf16) (harg7 : arg7.IsWhole)

set_option maxHeartbeats 4000000 in
set_option sl_exec.dmaWindow true in
set_option sl_exec.dmaWindowSet true in
/-- The body at the first point copies the weight into the scratch and leaves each output and the scratch written by the pieces found here. -/
def bodyFirst (hc : first i) (x0 : Vec F S512x1024 .f32) (x1 : Vec F S1x1024 .f32) (x2 : Vec F S1x1024 .f32) (x3 : Vec F S1x2048 .f32) (fh : Held (F := F) c wgt) :
    Σ' (L4 : List (View.Piece (Elt F) S512x2048 .bf16)), { T0 : List (View.Piece (Elt F) S1024x2048 .bf16) //
      ∀ (W : Waits sig Unit) (K : PUnit → sProp 𝕄),
        iprop(owns c.tc arg1 fullShare x0 ∗ owns c.tc arg2 fullShare x1 ∗ owns c.tc arg3 fullShare x2 ∗ owns c.tc arg4 fullShare x3 ∗ (∃ d, owns c.tc arg6 fullShare d) ∗ (∃ d, owns c.tc arg7 fullShare d) ∗ cells c ∗ held c wgt fh ∗ owes c.tc 0 W
            ∗ (iprop(owns c.tc arg1 fullShare x0 ∗ owns c.tc arg2 fullShare x1 ∗ owns c.tc arg3 fullShare x2 ∗ owns c.tc arg4 fullShare x3 ∗ (∃ f, arg6.view.loc c.tc ↦[arg6.view.set]{fullShare} arg6.view.writes (Elt F) f L4) ∗ (∃ f, arg7.view.loc c.tc ↦[arg7.view.set]{fullShare} arg7.view.writes (Elt F) f T0) ∗ cells c ∗ held c wgt fh ∗ (∃ W', owes c.tc 0 W')) -∗ K ⟨⟩))
          ⊢ wp frame (wpE (defs₀ (F := F)) Variants.none c none) Set.univ (cc0_b_pw1_fwd i arg1 harg1 arg2 harg2 arg3 harg3 arg4 harg4 (Memref.whole main_arg4) (Memref.isWhole_whole _) arg6 harg6 arg7 harg7 cc0_scratch1) K } := by
  refine ⟨?_, ?_, fun W K => ?run⟩
  case run =>
    simp only [cc0_b_pw1_fwd_eq_skeleton]; unfold cc0_b_pw1_fwd_skel
    simp only [k0_part1_eq_skeleton, k0_part2_eq_skeleton, k0_part3_eq_skeleton, k0_part4_eq_skeleton]
    unfold owns cells
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨Hq0, Hq1, Hq2, Hq3, Hq4, Hq5, Hq6, Hq7⟩, Hh, HW, Hk⟩
    obtain rfl := harg1.eq_unread hf0
    obtain rfl := harg2.eq_unread hf1
    obtain rfl := harg3.eq_unread hf2
    obtain rfl := harg4.eq_unread hf3
    sl_exec (disch := first | sl_exact hc)
    sl_step
    iapply Hk
    isplitl [H0]; · iapply (Shards.unread harg1 _); iexact H0
    isplitl [H1]; · iapply (Shards.unread harg2 _); iexact H1
    isplitl [H2]; · iapply (Shards.unread harg3 _); iexact H2
    isplitl [H3]; · iapply (Shards.unread harg4 _); iexact H3
    isplitl [H4]; · iexists _; iexact H4
    isplitl [HS0]; · iexists _; iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

set_option maxHeartbeats 4000000 in
set_option sl_exec.dmaWindow true in
set_option sl_exec.dmaWindowSet true in
/-- The body at a later point: the scratch holds the weight already and keeps it. -/
def bodyLater (hc : ¬first i) (x0 : Vec F S512x1024 .f32) (x1 : Vec F S1x1024 .f32) (x2 : Vec F S1x1024 .f32) (x3 : Vec F S1x2048 .f32) (s0 : Vec F S1024x2048 .bf16) (fh : Held (F := F) c wgt) :
    { L4 : List (View.Piece (Elt F) S512x2048 .bf16) //
      ∀ (W : Waits sig Unit) (K : PUnit → sProp 𝕄),
        iprop(owns c.tc arg1 fullShare x0 ∗ owns c.tc arg2 fullShare x1 ∗ owns c.tc arg3 fullShare x2 ∗ owns c.tc arg4 fullShare x3 ∗ (∃ d, owns c.tc arg6 fullShare d) ∗ owns c.tc arg7 fullShare s0 ∗ cells c ∗ held c wgt fh ∗ owes c.tc 0 W
            ∗ (iprop(owns c.tc arg1 fullShare x0 ∗ owns c.tc arg2 fullShare x1 ∗ owns c.tc arg3 fullShare x2 ∗ owns c.tc arg4 fullShare x3 ∗ (∃ f, arg6.view.loc c.tc ↦[arg6.view.set]{fullShare} arg6.view.writes (Elt F) f L4) ∗ owns c.tc arg7 fullShare s0 ∗ cells c ∗ held c wgt fh ∗ (∃ W', owes c.tc 0 W')) -∗ K ⟨⟩))
          ⊢ wp frame (wpE (defs₀ (F := F)) Variants.none c none) Set.univ (cc0_b_pw1_fwd i arg1 harg1 arg2 harg2 arg3 harg3 arg4 harg4 (Memref.whole main_arg4) (Memref.isWhole_whole _) arg6 harg6 arg7 harg7 cc0_scratch1) K } := by
  refine ⟨?_, fun W K => ?run⟩
  case run =>
    simp only [cc0_b_pw1_fwd_eq_skeleton]; unfold cc0_b_pw1_fwd_skel
    simp only [k0_part1_eq_skeleton, k0_part2_eq_skeleton, k0_part3_eq_skeleton, k0_part4_eq_skeleton]
    unfold owns cells
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨Hq0, Hq1, Hq2, Hq3, Hq4, Hq5, Hq6, Hq7⟩, Hh, HW, Hk⟩
    obtain rfl := harg1.eq_unread hf0
    obtain rfl := harg2.eq_unread hf1
    obtain rfl := harg3.eq_unread hf2
    obtain rfl := harg4.eq_unread hf3
    obtain rfl := harg7.eq_unread hfs0
    sl_exec (disch := first | sl_exact hc)
    sl_step
    iapply Hk
    isplitl [H0]; · iapply (Shards.unread harg1 _); iexact H0
    isplitl [H1]; · iapply (Shards.unread harg2 _); iexact H1
    isplitl [H2]; · iapply (Shards.unread harg3 _); iexact H2
    isplitl [H3]; · iapply (Shards.unread harg4 _); iexact H3
    isplitl [H4]; · iexists _; iexact H4
    isplitl [HS0]; · iapply (Shards.unread harg7 _); iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

end

variable (m : (ℓ : Loc nD τ sig) → Buf (Elt F) ℓ) (ρ : Dev nD → PrngReg)
variable (c : Dev nD) (t : Fin cfg0.N)

/-- Core `c`'s buffers when the grid starts: as launched. -/
abbrev V (b : Ref sig .tc) : Buf (Elt F) ((c : Thread nD τ).loc b) := m ((c : Thread nD τ).loc b)

/-- The program is the grid alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 : V m c main_arg0 = m (c.tc.loc main_arg0) := rfl
theorem V_main_arg1 : V m c main_arg1 = m (c.tc.loc main_arg1) := rfl
theorem V_main_arg2 : V m c main_arg2 = m (c.tc.loc main_arg2) := rfl
theorem V_main_arg3 : V m c main_arg3 = m (c.tc.loc main_arg3) := rfl
theorem V_main_arg4 : V m c main_arg4 = m (c.tc.loc main_arg4) := rfl

/-- Window `w`'s block at point `t`. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 : Memref sig .tc .vmem S512x1024 .f32 := win0_0.stage (cfg0.slots t 0)
abbrev hs0 : (ms0 t).IsWhole := hstage0_0 ((cfg0.slots t 0).cast nbuf0_0)
abbrev ms1 : Memref sig .tc .vmem S1x1024 .f32 := win0_1.stage (cfg0.slots t 1)
abbrev hs1 : (ms1 t).IsWhole := hstage0_1 ((cfg0.slots t 1).cast nbuf0_1)
abbrev ms2 : Memref sig .tc .vmem S1x1024 .f32 := win0_2.stage (cfg0.slots t 2)
abbrev hs2 : (ms2 t).IsWhole := hstage0_2 ((cfg0.slots t 2).cast nbuf0_2)
abbrev ms3 : Memref sig .tc .vmem S1x2048 .f32 := win0_3.stage (cfg0.slots t 3)
abbrev hs3 : (ms3 t).IsWhole := hstage0_3 ((cfg0.slots t 3).cast nbuf0_3)
abbrev ms4 : Memref sig .tc .vmem S512x2048 .bf16 := win0_4.stage (cfg0.slots t 4)
abbrev hs4 : (ms4 t).IsWhole := hstage0_4 ((cfg0.slots t 4).cast nbuf0_4)
/-- The scratch that keeps the weight. -/
abbrev scr0 : Memref sig .tc .vmem S1024x2048 .bf16 := Memref.whole cc0_scratch0
abbrev VO4 : View sig .tc .vmem S512x2048 .bf16 := (Memref.whole cc0_stg4_0 : Memref sig .tc .vmem S512x2048 .bf16).view

/-- The copies' semaphores. -/
abbrev sems : Fin 8 → SemLoc sig := fun j => (![SemLoc.dma 7, SemLoc.dma 8, SemLoc.dma 9, SemLoc.dma 10, SemLoc.dma 11, SemLoc.dma 12, SemLoc.dma 13, SemLoc.dma 14] : Fin 8 → SemLoc sig) j
theorem sems_own : Pipeline.OwnSemFacts spec0 sems := by decide
theorem sems_eq :
    (Pipeline.ownSems0 (Ix := Unit) (Name := ℕ) (U := Pipeline.UD sig nD τ) (Lvl := ℕ) (Val := Elt F) (τ := τ) sems c : sProp 𝕄) = cells c := by
  rw [Pipeline.ownSems0_eq_of_list c sems [0, 1, 2, 3, 4, 5, 6, 7] (by decide) (by decide)]; rfl
/-- The operand the body copies itself. -/
def moved : Finset (Ref sig .tc) := {main_arg4}
theorem moved_sub : moved ⊆ Pipeline.restRefs sig spec0 := by decide
theorem moved_eq :
    (bigSep moved (fun b => (c.tc.loc b) ↦{fullShare} V m c b) : sProp 𝕄) = iprop(held c wgt (V m c main_arg4)) := by
  rw [BI.bigSep_eq_bigSepL_of_eq [main_arg4] (by decide) (by decide)]; rfl

/-- What the grid starts with, conjunct by conjunct. -/
theorem start_eq :
    (Pipeline.ΦD sems spec0 moved (V m) c : sProp 𝕄)
      = iprop(iprop((∃ d, owns c.tc scr0 fullShare d)) ∗ (∃ r, prngReg c r) ∗ cells c ∗ iprop(held c wgt (V m c main_arg4))) := by
  rw [Pipeline.ΦD_eq, scopedRest0_eq, sems_eq, moved_eq]; simp only [scr0, owns_whole]; try rfl

/-- The body's run at the first point, on that point's buffers and blocks. -/
def runFirst (h : t.val = 0) :=
  bodyFirst (F := F) c (grid0.coords t) (ms0 t) (hs0 t) (ms1 t) (hs1 t) (ms2 t) (hs2 t) (ms3 t) (hs3 t) (ms4 t) (hs4 t) scr0 (Memref.isWhole_whole _) ((first_iff t).mpr h) (iblk m c 0 t) (iblk m c 1 t) (iblk m c 2 t) (iblk m c 3 t) (V m c main_arg4)
/-- The body's run at a later point. -/
def runLater (h : ¬t.val = 0) (s0 : Vec F S1024x2048 .bf16) :=
  bodyLater (F := F) c (grid0.coords t) (ms0 t) (hs0 t) (ms1 t) (hs1 t) (ms2 t) (hs2 t) (ms3 t) (hs3 t) (ms4 t) (hs4 t) scr0 (Memref.isWhole_whole _) (fun e => h ((first_iff t).mp e)) (iblk m c 0 t) (iblk m c 1 t) (iblk m c 2 t) (iblk m c 3 t) s0 (V m c main_arg4)

theorem coverFirst4 (h : t.val = 0) (y : S512x2048.Idx) : ∃ pc ∈ (runFirst m c t h).1, y ∈ pc.1.set :=
  View.cover_of_tiledL _ S512x2048.size (by sl_kernel_rfl) y
/-- What the first point leaves in output 0. -/
def outFirst4 (h : t.val = 0) : Vec F S512x2048 .bf16 := VO4.read (Elt F) (VO4.writes (Elt F) VO4.junk (runFirst m c t h).1)
theorem coverLater4 (h : ¬t.val = 0) (s0 : Vec F S1024x2048 .bf16) (y : S512x2048.Idx) : ∃ pc ∈ (runLater m c t h s0).1, y ∈ pc.1.set :=
  View.cover_of_tiledL _ S512x2048.size (by sl_kernel_rfl) y
/-- What a later point leaves in output 0, the scratch holding `s0`. -/
def outLater4 (h : ¬t.val = 0) (s0 : Vec F S1024x2048 .bf16) : Vec F S512x2048 .bf16 := VO4.read (Elt F) (VO4.writes (Elt F) VO4.junk (runLater m c t h s0).1)
theorem coverScr0 (h : t.val = 0) (y : S1024x2048.Idx) : ∃ pc ∈ (runFirst m c t h).2.1, y ∈ pc.1.set :=
  View.cover_of_tiledL _ ![1024,256] (by sl_kernel_rfl) y
/-- The weight as the first point leaves it in the scratch. -/
def weight0 : Vec F S1024x2048 .bf16 :=
  scr0.view.read (Elt F) (scr0.view.writes (Elt F) scr0.view.junk (runFirst m c t0_0 (show t0_0.val = 0 from rfl)).2.1)

/-- What point `t` leaves in output 0. -/
def out4 : Vec F S512x2048 .bf16 := if h : t.val = 0 then outFirst4 m c t h else outLater4 m c t h (weight0 m c)
theorem out4_first (h : t.val = 0) : out4 m c t = outFirst4 m c t h := dif_pos h
theorem out4_later (h : ¬t.val = 0) : out4 m c t = outLater4 m c t h (weight0 m c) := dif_neg h

/-- Between the points: at first what the grid starts with, afterwards the scratch at the weight. -/
def Keep : (n : ℕ) → n ≤ cfg0.N → sProp 𝕄
  | 0, _ => Pipeline.ΦD sems spec0 moved (V m) c
  | n + 1, _ => iprop(iprop(owns c.tc scr0 fullShare (weight0 m c)) ∗ (∃ r, prngReg c r) ∗ cells c ∗ iprop(held c wgt (V m c main_arg4)))
theorem Keep_zero (n : ℕ) (h : n ≤ cfg0.N) (hz : n = 0) : Keep m c n h = Pipeline.ΦD sems spec0 moved (V m) c := by
  subst hz; rfl
theorem Keep_pos (n : ℕ) (h : n ≤ cfg0.N) (hz : n ≠ 0) :
    Keep m c n h = iprop(iprop(owns c.tc scr0 fullShare (weight0 m c)) ∗ (∃ r, prngReg c r) ∗ cells c ∗ iprop(held c wgt (V m c main_arg4))) := by
  cases n with
  | zero => exact absurd rfl hz
  | succ n => rfl

/-- The proof data: inputs at their blocks, outputs at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ t := Keep m c t.val (Nat.le_of_lt_succ t.isLt)
  q _ := fullShare
  owed _ := 0
theorem A_eq (w : Fin cfg0.W) : (dats m 0 c).A w = V m c (Pipeline.arrRef spec0 w) := by
  dsimp only [dats]
theorem Keep_castSucc :
    (dats m 0 c).Φ t.castSucc = Keep m c t.val (Nat.le_of_lt t.isLt) := by
  dsimp only [dats]; exact Pipeline.Dat.Φ_castSucc (Keep m c) t
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = out4 m c t := by dsimp only [dats]
theorem before0 (d) : (dats m 0 c).before 0 t d = iblk m c 0 t :=
  (dats m 0 c).before_in_eq_fetched 0 rfl (fun _ => rfl) (fun _ _ _ => rfl) (fun _ => rfl) t d
theorem before1 (d) : (dats m 0 c).before 1 t d = iblk m c 1 t :=
  (dats m 0 c).before_in_eq_fetched 1 rfl (fun _ => rfl) (fun _ _ _ => rfl) (fun _ => rfl) t d
theorem before2 (d) : (dats m 0 c).before 2 t d = iblk m c 2 t :=
  (dats m 0 c).before_in_eq_fetched 2 rfl (fun _ => rfl) (fun _ _ _ => rfl) (fun _ => rfl) t d
theorem before3 (d) : (dats m 0 c).before 3 t d = iblk m c 3 t :=
  (dats m 0 c).before_in_eq_fetched 3 rfl (fun _ => rfl) (fun _ _ _ => rfl) (fun _ => rfl) t d

def bodyPre : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d)))
def bodyPost : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t)
    ∗ owns c.tc (ms2 t) fullShare ((dats m 0 c).after 2 t)
    ∗ owns c.tc (ms3 t) fullShare ((dats m 0 c).after 3 t)
    ∗ owns c.tc (ms4 t) fullShare ((dats m 0 c).after 4 t))

set_option maxHeartbeats 4000000 in
/-- The body at every point takes what holds before the point to what holds after it. -/
theorem sound :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Keep m c (t.val + 1) t.isLt from rfl, Keep_pos m c _ _ (Nat.succ_ne_zero _),
    after0, after1, after2, after3, after4]
  unfold Dat.owesAt Pipeline.owesWithin
  rw [show (dats m 0 c).owed t.castSucc = 0 from rfl, show (dats m 0 c).owed t.succ = 0 from rfl]
  by_cases h0 : t.val = 0
  · have hz := h0
    rw [Keep_castSucc m c t, Keep_zero m c _ _ h0, start_eq]
    obtain rfl : t = t0_0 := Fin.ext h0
    rw [out4_first m c t0_0 h0]
    unfold outFirst4 weight0; (try dsimp only)
    iintro ⟨⟨HS0, Hg, Hq, Hh⟩, ⟨%W, -, HW⟩, ⟨%d0, H0⟩, ⟨%d1, H1⟩, ⟨%d2, H2⟩, ⟨%d3, H3⟩, ⟨%d4, H4⟩⟩
    iapply ((runFirst m c t0_0 h0).2.2 W _)
    iframe H0 H1 H2 H3
    isplitl [H4]; · iexists _; iexact H4
    iframe HS0 Hq Hh HW
    iintro ⟨H0, H1, H2, H3, ⟨%e4, H4⟩, ⟨%es0, HS0⟩, Hq, Hh, ⟨%W', HW'⟩⟩
    isplitl [HS0 Hg Hq Hh]
    · isplitl [HS0]
      · iapply (Shards.owned _ _ _ _ _ (coverScr0 m c t0_0 h0)); iexact HS0
      iframe Hg Hq Hh
    isplitl [HW']
    · iexists W'; isplitr; · ipureintro; exact fun _ _ => Or.inl trivial
      iexact HW'
    iframe H0 H1 H2 H3
    iapply (Shards.owned _ _ _ _ _ (coverFirst4 m c _ h0)); iexact H4
  · have hz := h0
    rw [Keep_castSucc m c t, Keep_pos m c _ _ h0]
    rw [out4_later m c t h0]
    unfold outLater4; (try dsimp only)
    iintro ⟨⟨HS0, Hg, Hq, Hh⟩, ⟨%W, -, HW⟩, ⟨%d0, H0⟩, ⟨%d1, H1⟩, ⟨%d2, H2⟩, ⟨%d3, H3⟩, ⟨%d4, H4⟩⟩
    iapply ((runLater m c t h0 (weight0 m c)).2 W _)
    iframe H0 H1 H2 H3
    isplitl [H4]; · iexists _; iexact H4
    iframe HS0 Hq Hh HW
    iintro ⟨H0, H1, H2, H3, ⟨%e4, H4⟩, HS0, Hq, Hh, ⟨%W', HW'⟩⟩
    isplitl [HS0 Hg Hq Hh]
    · isplitl [HS0]
      · iexact HS0
      iframe Hg Hq Hh
    isplitl [HW']
    · iexists W'; isplitr; · ipureintro; exact fun _ _ => Or.inl trivial
      iexact HW'
    iframe H0 H1 H2 H3
    iapply (Shards.owned _ _ _ _ _ (coverLater4 m c _ h0 _)); iexact H4

theorem defs_row :
    defs₀ (F := F) .tc cfg0.body (cfg0.bodyArgs t (cfg0.slots t)) = bodyAt0 t := by
  unfold defs₀; rw [Defs.onTc_tc]
theorem obligation : BodyObligation (dats (F := F) m 0 c) (defs₀ (F := F)) Variants.none () Set.univ := fun t => by
  rw [bigSep_W0, bigSep_W0, defs_row]
  exact triple_restated (sound m c t) rfl .rfl fun _ => .rfl
theorem hin : Pipeline.ΦD sems spec0 moved (V m) c ⊢ (dats m 0 c).Φ 0 := by
  rw [show (dats m 0 c).Φ 0 = Keep m c 0 (Nat.zero_le _) from rfl, Keep_zero m c 0 _ rfl]
  try exact Idealize.SL.BI.Entails.refl _
theorem hout : (dats m 0 c).Φ (Fin.last cfg0.N) ⊢ Pipeline.ΦD sems spec0 moved (V m) c := by
  rw [show (dats m 0 c).Φ (Fin.last cfg0.N) = Keep m c (Fin.last cfg0.N).val (Nat.le_of_lt_succ (Fin.last cfg0.N).isLt) from rfl,
    Keep_pos m c _ _ (by rw [Fin.val_last]; have : cfg0.N = 8 := N_0; omega), start_eq]
  iintro ⟨HS0, Hg, Hq, Hh⟩
  isplitl [HS0]
  · iexists _; iexact HS0
  iframe Hg Hq Hh

set_option backward.isDefEq.respectTransparency.types false in
/-- Every fair execution ends, the arrays at what the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none sems_own moved moved_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments are as launched. -/
abbrev Kept (μ : (ℓ : Loc nD τ sig) → Buf (Elt F) ℓ) : Prop :=
  μ (c.tc.loc main_arg0) = m (c.tc.loc main_arg0) ∧ μ (c.tc.loc main_arg1) = m (c.tc.loc main_arg1) ∧ μ (c.tc.loc main_arg2) = m (c.tc.loc main_arg2) ∧ μ (c.tc.loc main_arg3) = m (c.tc.loc main_arg3) ∧ μ (c.tc.loc main_arg4) = m (c.tc.loc main_arg4)

/-- The arguments end as they were. -/
theorem kept (r : PUnit × MemSt nD τ sig (Elt F)) (h : Pipeline.FramePost cfgs (dats m) 0 (V m) r) (c : Dev nD) :
    Kept m c r.2.mem :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c)⟩

/-- The program ends with its arguments unchanged and every counter at zero. -/
theorem frame : θ_run defs (onTc (τ := τ) (main (F := F))) ⟨m, fun _ => 0, ρ⟩ (fun r => (∀ c : Dev nD,
      Kept m c r.2.mem)
      ∧ r.2.sem = fun _ => 0) :=
  (θ_run defs _ _).mono (fun r h => ⟨fun c => kept m r h.1 c, h.2⟩) (run_quiescent m ρ)

/-- The program ends with each result at the blocks the points wrote. -/
theorem run_blocks : θ_run defs (onTc (τ := τ) (main (F := F))) ⟨m, fun _ => 0, ρ⟩ fun r => ∀ c : Dev nD,
      (r.2.mem (c.tc.loc main_v0) = (dats m 0 c).arrAt 4 cfg0.N)
      ∧ (Kept m c r.2.mem) :=
  (θ_run defs _ _).mono (fun r h c => ⟨(h.1 c).1 4, kept m r h.1 c⟩) (run_quiescent m ρ)

end

section
open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- The weight in the scratch: column `k` is column `k % 256` of the shard of device `k / 256`. -/
theorem weight0_apply (d : Fin 8) (r : Fin 256) (k : Fin 1024) (j : Fin 2048) (hj : j.val = d.val * 256 + r.val) :
    weight0 m c (ix2 k j) = m (c.tc.loc main_arg4) (ix4 d (⟨0, by decide⟩ : Fin 1) k r) := by
  unfold weight0 runFirst
  frame_out
  canon_tiles x h
  all_goals obtain ⟨x0, x1, rfl⟩ := Shards.pair x
  all_goals
    have e0 : ((ix2 k j : S1024x2048.Idx) 0).val = k.val := rfl
    have e1 : ((ix2 k j : S1024x2048.Idx) 1).val = j.val := rfl
    have e2 : ((ix2 x0 x1 : S1024x256.Idx) 0).val = x0.val := rfl
    have e3 : ((ix2 x0 x1 : S1024x256.Idx) 1).val = x1.val := rfl
    rw [e0, e2] at h0
    rw [e1, e3] at h1
    have := x0.isLt
    have := x1.isLt
    refine (Shards.read_block4 _ _ _ _ _ d (⟨0, by decide⟩ : Fin 1) x0 x1 k r ?_ rfl ?_ ?_).trans (congrFun (V_main_arg4 m c) _)
    all_goals
      try simp only [Matrix.cons_val_zero, Matrix.cons_val_one, Matrix.cons_val]
      omega

/-- Every point leaves the product with the weight of its block. -/
theorem out4_eq : out4 m c t = k0_pay1 (F := Ideal) (iblk m c 0 t) (iblk m c 1 t) (iblk m c 2 t) (weight0 m c) (iblk m c 3 t) := by
  by_cases h : t.val = 0
  · rw [out4_first m c t h]
    obtain rfl : t = t0_0 := Fin.ext h
    unfold outFirst4 weight0 runFirst
    frame_out
    try simp only [read_unread_whole]
    repeat erw [Shards.readCov_all]
    try rfl
  · rw [out4_later m c t h]
    unfold outLater4 runLater
    frame_out
    try simp only [read_unread_whole]

/-- The modulated input times the gathered weight at an entry, plus the bias; `i` names the weight in its stack. -/
def prod (x : S4096x1024.Idx → Elt Ideal .f32) (sc sh : S1x1024.Idx → Elt Ideal .f32) (b : S1x2048.Idx → Elt Ideal .f32) (w : S8x1x1024x256.Idx → Elt Ideal .bf16) (i : Fin 1) (r : Fin 4096) (j : Fin 2048) : EReal :=
  ∑ k : Fin 1024, (x (ix2 r k) * (1 + sc (ix2 (0 : Fin 1) k)) + sh (ix2 (0 : Fin 1) k)) * w (ix4 (⟨j.val / 256, by omega⟩ : Fin 8) i k (⟨j.val % 256, by omega⟩ : Fin 256)) + b (ix2 (0 : Fin 1) j)

theorem blk0 (x : Fin 512) (r : Fin 4096) (hr : r.val = t.val * 512 + x.val) (k : Fin 1024) :
    iblk m c 0 t (ix2 x k) = m (c.tc.loc main_arg0) (ix2 r k) := by
  have hi := (by decide +kernel : ∀ t : Fin cfg0.N, win0_0.index t (0 : Fin 2) = t.val ∧ win0_0.index t (1 : Fin 2) = 0) t
  rw [← V_main_arg0 m c]
  blk_point [iblk, hi.1, hi.2]
theorem blk1 (k : Fin 1024) : iblk m c 1 t (ix2 (0 : Fin 1) k) = m (c.tc.loc main_arg1) (ix2 (0 : Fin 1) k) := by
  have hi := (by decide +kernel : ∀ t : Fin cfg0.N, win0_1.index t (0 : Fin 2) = 0 ∧ win0_1.index t (1 : Fin 2) = 0) t
  rw [← V_main_arg1 m c]
  blk_point [iblk, hi.1, hi.2]
theorem blk2 (k : Fin 1024) : iblk m c 2 t (ix2 (0 : Fin 1) k) = m (c.tc.loc main_arg2) (ix2 (0 : Fin 1) k) := by
  have hi := (by decide +kernel : ∀ t : Fin cfg0.N, win0_2.index t (0 : Fin 2) = 0 ∧ win0_2.index t (1 : Fin 2) = 0) t
  rw [← V_main_arg2 m c]
  blk_point [iblk, hi.1, hi.2]
theorem blk3 (k : Fin 2048) : iblk m c 3 t (ix2 (0 : Fin 1) k) = m (c.tc.loc main_arg3) (ix2 (0 : Fin 1) k) := by
  have hi := (by decide +kernel : ∀ t : Fin cfg0.N, win0_3.index t (0 : Fin 2) = 0 ∧ win0_3.index t (1 : Fin 2) = 0) t
  rw [← V_main_arg3 m c]
  blk_point [iblk, hi.1, hi.2]

/-- One block of output window 4. -/
theorem out4_apply (x : Fin 512) (j : Fin 2048) (r : Fin 4096) (hr : r.val = t.val * 512 + x.val) :
    out4 m c t (ix2 x j) = (prod (m (c.tc.loc main_arg0)) (m (c.tc.loc main_arg1)) (m (c.tc.loc main_arg2)) (m (c.tc.loc main_arg3)) (m (c.tc.loc main_arg4)) (⟨0, by decide⟩ : Fin 1) r j : EReal) := by
  rw [out4_eq]
  unfold prod
  have hW : ∀ k : Fin 1024, weight0 m c (ix2 k j) = m (c.tc.loc main_arg4) (ix4 (⟨j.val / 256, by omega⟩ : Fin 8) (⟨0, by decide⟩ : Fin 1) k (⟨j.val % 256, by omega⟩ : Fin 256)) :=
    fun k => weight0_apply m c _ _ k j (by dsimp only; omega)
  simp only [← hW, ← blk0 m c t x r hr, ← blk1 m c t, ← blk2 m c t, ← blk3 m c t]
  generalize weight0 m c = W
  generalize iblk m c 0 t = X
  generalize iblk m c 1 t = A
  generalize iblk m c 2 t = B
  generalize iblk m c 3 t = C
  pointwise [k0_pay1]

/-- The whole array of output window 4. -/
theorem final4 : (dats m 0 c).arrAt 4 cfg0.N = fun i : S4096x2048.Idx => (fun (r : Fin 4096) (j : Fin 2048) => (prod (m (c.tc.loc main_arg0)) (m (c.tc.loc main_arg1)) (m (c.tc.loc main_arg2)) (m (c.tc.loc main_arg3)) (m (c.tc.loc main_arg4)) (⟨0, by decide⟩ : Fin 1) r j : EReal)) (i 0) (i 1) := by
  refine (dats m 0 c).arrAt_eq_of_covers 4 _ (by decide +kernel) fun t hf y => ?_
  rw [after4]
  obtain ⟨a, b, rfl⟩ := Shards.pair y
  have hi := (by decide +kernel : ∀ t : Fin cfg0.N, win0_4.index t (0 : Fin 2) = t.val ∧ win0_4.index t (1 : Fin 2) = 0) t
  blk_simp
  have e1 : (win0_4.blk t).view.emb (ix2 a b) 1 = b :=
    Fin.ext (Shards.at_zero hi.2)
  dsimp only
  rw [e1]
  exact out4_apply m c t a b _ (Shards.at_row hi.1)

end

end Cert.Kernel14Ideal.Run

namespace Cert.Proof

open Idealize.ShloMosaic Idealize.SL.Sem

/-- The first pointwise projection: on memories that agree on the arguments, the kernel's result arrays are the reference's, entry by entry. -/
theorem algebraic_Pw1Fwd : algebraic_Kernel14Ideal_Reference14Ideal := by
  intro m ρ m' ρ' _ hagree
  refine ⟨fun c => (Kernel14Ideal.Run.dats m 0 c).arrAt 4 Kernel14Ideal.cfg0.N, (θ_run Kernel14Ideal.defs _ _).mono (fun _ h c => ?run) (Kernel14Ideal.Run.run_blocks (F := Ideal) m ρ), ?_⟩
  case run =>
    have h := h c
    exact ⟨h.1, h.2⟩
  refine (θ_run Reference14Ideal.defs _ _).mono (fun _ h c => ⟨?_, (h c).2⟩) (Reference14Ideal.Value.run (F := Ideal) m' ρ')
  · refine ((h c).1).trans (Eq.trans ?_ (Kernel14Ideal.Run.final4 m c).symm)
    simp only [hagree c]
    funext j
    obtain ⟨r, q, rfl⟩ := Shards.pair j
    show _ = (_ : EReal)
    show _ = Kernel14Ideal.Run.prod (m (c.tc.loc Kernel14Ideal.main_arg0)) (m (c.tc.loc Kernel14Ideal.main_arg1)) (m (c.tc.loc Kernel14Ideal.main_arg2)) (m (c.tc.loc Kernel14Ideal.main_arg3)) (m (c.tc.loc Kernel14Ideal.main_arg4)) (⟨0, by decide⟩ : Fin 1) r q
    unfold Kernel14Ideal.Run.prod
    have hW : ∀ k : Fin 1024, (shapeCast Reference14Ideal.S1024x2048 (transpose Reference14Ideal.S1024x8x256 [1, 0, 2] (shapeCast Reference14Ideal.S8x1024x256 (m (c.tc.loc Kernel14Ideal.main_arg4)) Reference14Ideal.Gen.shapeCasts_S8x1x1024x256_S8x1024x256) Reference14Ideal.Gen.transposes_S8x1024x256_S1024x8x256_1_0_2) Reference14Ideal.Gen.shapeCasts_S1024x8x256_S1024x2048) (ix2 k q) = m (c.tc.loc Kernel14Ideal.main_arg4) (ix4 (⟨q.val / 256, by omega⟩ : Fin 8) (⟨0, by decide⟩ : Fin 1) k (⟨q.val % 256, by omega⟩ : Fin 256)) := by
      intro k
      refine (Shards.cols_apply _ _ _ (by decide) k q (⟨q.val / 256, by omega⟩ : Fin 8) (⟨q.val % 256, by omega⟩ : Fin 256) (by dsimp only; omega)).trans ((Shards.drop_apply _ _ _ _ _).trans ?_)
      rfl
    simp only [← hW]
    generalize (shapeCast Reference14Ideal.S1024x2048 (transpose Reference14Ideal.S1024x8x256 [1, 0, 2] (shapeCast Reference14Ideal.S8x1024x256 (m (c.tc.loc Kernel14Ideal.main_arg4)) Reference14Ideal.Gen.shapeCasts_S8x1x1024x256_S8x1024x256) Reference14Ideal.Gen.transposes_S8x1024x256_S1024x8x256_1_0_2) Reference14Ideal.Gen.shapeCasts_S1024x8x256_S1024x2048) = W
    pointwise []

/-- The two printings of the program have the same bodies. -/
theorem defs_Pw1Fwd : Kernel14.defs (F := Bits) = Kernel14Ideal.defs (F := Bits) := by
  have e : Kernel14.defs₀ (F := Bits) = Kernel14Ideal.defs₀ (F := Bits) := by
    unfold Kernel14.defs₀ Kernel14Ideal.defs₀
    refine congrArg Defs.onTc (funext fun i => ?_)
    match i with
    | 0 => exact funext fun p => rfl
  exact congrArg (Pipeline.defs (Kernel14.pcfgs (F := Bits))) e

/-- As printed, on bits, it ends with its arguments unchanged and every counter at zero. -/
theorem frame_Pw1Fwd : quiescent_Kernel14 := fun m ρ _ => by
  rw [defs_Pw1Fwd]
  exact Kernel14Ideal.Run.frame (F := Bits) m ρ

end Cert.Proof

end
-- ==== Proof.UpGate.lean ====
module

public import proofs.«01_k».proof.Proof.Shards.Own
public import proofs.«01_k».proof.Proof.Gen.Kernel15Ideal.Launch
public import proofs.«01_k».proof.Proof.Gen.Kernel15Ideal.Skeleton
public import proofs.«01_k».proof.Proof.Gen.Kernel15Ideal.Points
public import proofs.«01_k».proof.Proof.Shards.Read
public import proofs.«01_k».proof.Proof.Shards.Cols
public import proofs.«01_k».proof.Defs
public import proofs.«01_k».proof.Proof.Gen.Reference15Ideal.Run
public import proofs.«01_k».proof.Proof.Gen.Kernel15

@[expose] public section

set_option maxRecDepth 16384

noncomputable section

namespace Cert.Kernel15Ideal.Run

section
open Cert.Kernel15Ideal Cert.Kernel15Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body copies the weight in: the grid's coordinate is zero. -/
abbrev first (i : grid0.Coords) : Prop := (Scalar.cmpi .ne (Scalar.extui (Scalar.cmpi .eq (BitVec.ofNat 32 (i 0).val) 0#32)) 0#32) = 1#1

/-- It holds at the first point of the grid and at no other. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : first (grid0.coords t) ↔ t.val % 8 = 0 := by
    simp only [first, e0]
    word_cmp
  rw [e1, Nat.mod_eq_of_lt ht]

/-- The gathered weight, left in HBM. -/
abbrev wgt : Memref sig .tc .hbm S8x2x1024x384 .bf16 := Memref.whole main_arg3
/-- A memref's contents on core `c`, and its buffer held whole at some. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc c.tc ↦{fullShare} f

/-- The counters of the copies' semaphores, all at zero. -/
def cells (c : Dev nD) : sProp 𝕄 :=
  iprop(semVal (c.tc, SemLoc.dma 9) 0 ∗ semVal (c.tc, SemLoc.dma 10) 0 ∗ semVal (c.tc, SemLoc.dma 11) 0 ∗ semVal (c.tc, SemLoc.dma 12) 0 ∗ semVal (c.tc, SemLoc.dma 13) 0 ∗ semVal (c.tc, SemLoc.dma 14) 0 ∗ semVal (c.tc, SemLoc.dma 15) 0 ∗ semVal (c.tc, SemLoc.dma 16) 0 ∗ semVal (c.tc, SemLoc.dma 17) 0 ∗ semVal (c.tc, SemLoc.dma 18) 0 ∗ semVal (c.tc, SemLoc.dma 19) 0 ∗ semVal (c.tc, SemLoc.dma 20) 0 ∗ semVal (c.tc, SemLoc.dma 21) 0 ∗ semVal (c.tc, SemLoc.dma 22) 0 ∗ semVal (c.tc, SemLoc.dma 23) 0 ∗ semVal (c.tc, SemLoc.dma 24) 0)

section
variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S1x3072 .f32) (harg4 : arg4.IsWhole)
  (arg6 : Memref sig .tc .vmem S512x3072 .bf16) (harg6 : arg6.IsWhole)
  (arg7 : Memref sig .tc .vmem S512x3072 .bf16) (harg7 : arg7.IsWhole)
  (arg8 : Memref sig .tc .vmem S1024x3072 .bf16) (harg8 : arg8.IsWhole)
  (arg9 : Memref sig .tc .vmem S1024x3072 .bf16) (harg9 : arg9.IsWhole)

set_option maxHeartbeats 4000000 in
set_option sl_exec.dmaWindow true in
set_option sl_exec.dmaWindowSet true in
/-- The body at the first point copies the weight into the scratch and leaves each output and the scratch written by the pieces found here. -/
def bodyFirst (hc : first i) (x0 : Vec F S512x1024 .f32) (x1 : Vec F S1x1024 .f32) (x2 : Vec F S1x1024 .f32) (x3 : Vec F S1x3072 .f32) (fh : Held (F := F) c wgt) :
    Σ' (L4 : List (View.Piece (Elt F) S512x3072 .bf16)), Σ' (L5 : List (View.Piece (Elt F) S512x3072 .bf16)), Σ' (T0 : List (View.Piece (Elt F) S1024x3072 .bf16)), { T1 : List (View.Piece (Elt F) S1024x3072 .bf16) //
      ∀ (W : Waits sig Unit) (K : PUnit → sProp 𝕄),
        iprop(owns c.tc arg1 fullShare x0 ∗ owns c.tc arg2 fullShare x1 ∗ owns c.tc arg3 fullShare x2 ∗ owns c.tc arg4 fullShare x3 ∗ (∃ d, owns c.tc arg6 fullShare d) ∗ (∃ d, owns c.tc arg7 fullShare d) ∗ (∃ d, owns c.tc arg8 fullShare d) ∗ (∃ d, owns c.tc arg9 fullShare d) ∗ cells c ∗ held c wgt fh ∗ owes c.tc 0 W
            ∗ (iprop(owns c.tc arg1 fullShare x0 ∗ owns c.tc arg2 fullShare x1 ∗ owns c.tc arg3 fullShare x2 ∗ owns c.tc arg4 fullShare x3 ∗ (∃ f, arg6.view.loc c.tc ↦[arg6.view.set]{fullShare} arg6.view.writes (Elt F) f L4) ∗ (∃ f, arg7.view.loc c.tc ↦[arg7.view.set]{fullShare} arg7.view.writes (Elt F) f L5) ∗ (∃ f, arg8.view.loc c.tc ↦[arg8.view.set]{fullShare} arg8.view.writes (Elt F) f T0) ∗ (∃ f, arg9.view.loc c.tc ↦[arg9.view.set]{fullShare} arg9.view.writes (Elt F) f T1) ∗ cells c ∗ held c wgt fh ∗ (∃ W', owes c.tc 0 W')) -∗ K ⟨⟩))
          ⊢ wp frame (wpE (defs₀ (F := F)) Variants.none c none) Set.univ (cc0_f_upgate_fwd0 i arg1 harg1 arg2 harg2 arg3 harg3 arg4 harg4 (Memref.whole main_arg3) (Memref.isWhole_whole _) arg6 harg6 arg7 harg7 arg8 harg8 arg9 harg9 cc0_scratch2) K } := by
  refine ⟨?_, ?_, ?_, ?_, fun W K => ?run⟩
  case run =>
    simp only [cc0_f_upgate_fwd0_eq_skeleton]; unfold cc0_f_upgate_fwd0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns cells
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨Hq0, Hq1, Hq2, Hq3, Hq4, Hq5, Hq6, Hq7, Hq8, Hq9, Hq10, Hq11, Hq12, Hq13, Hq14, Hq15⟩, Hh, HW, Hk⟩
    obtain rfl := harg1.eq_unread hf0
    obtain rfl := harg2.eq_unread hf1
    obtain rfl := harg3.eq_unread hf2
    obtain rfl := harg4.eq_unread hf3
    sl_exec (disch := first | sl_exact hc)
    sl_step
    iapply Hk
    isplitl [H0]; · iapply (Shards.unread harg1 _); iexact H0
    isplitl [H1]; · iapply (Shards.unread harg2 _); iexact H1
    isplitl [H2]; · iapply (Shards.unread harg3 _); iexact H2
    isplitl [H3]; · iapply (Shards.unread harg4 _); iexact H3
    isplitl [H4]; · iexists _; iexact H4
    isplitl [H5]; · iexists _; iexact H5
    isplitl [HS0]; · iexists _; iexact HS0
    isplitl [HS1]; · iexists _; iexact HS1
    isplitl [Hq0 Hq1 Hq2 Hq3 Hq4 Hq5 Hq6 Hq7 Hq8 Hq9 Hq10 Hq11 Hq12 Hq13 Hq14 Hq15]
    · iframe Hq0 Hq1 Hq2 Hq3 Hq4 Hq5 Hq6 Hq7 Hq8 Hq9 Hq10 Hq11 Hq12 Hq13 Hq14 Hq15
    isplitl [Hh]; · iexact Hh
    iexists _; iexact HW

set_option maxHeartbeats 4000000 in
set_option sl_exec.dmaWindow true in
set_option sl_exec.dmaWindowSet true in
/-- The body at a later point: the scratch holds the weight already and keeps it. -/
def bodyLater (hc : ¬first i) (x0 : Vec F S512x1024 .f32) (x1 : Vec F S1x1024 .f32) (x2 : Vec F S1x1024 .f32) (x3 : Vec F S1x3072 .f32) (s0 : Vec F S1024x3072 .bf16) (s1 : Vec F S1024x3072 .bf16) (fh : Held (F := F) c wgt) :
    Σ' (L4 : List (View.Piece (Elt F) S512x3072 .bf16)), { L5 : List (View.Piece (Elt F) S512x3072 .bf16) //
      ∀ (W : Waits sig Unit) (K : PUnit → sProp 𝕄),
        iprop(owns c.tc arg1 fullShare x0 ∗ owns c.tc arg2 fullShare x1 ∗ owns c.tc arg3 fullShare x2 ∗ owns c.tc arg4 fullShare x3 ∗ (∃ d, owns c.tc arg6 fullShare d) ∗ (∃ d, owns c.tc arg7 fullShare d) ∗ owns c.tc arg8 fullShare s0 ∗ owns c.tc arg9 fullShare s1 ∗ cells c ∗ held c wgt fh ∗ owes c.tc 0 W
            ∗ (iprop(owns c.tc arg1 fullShare x0 ∗ owns c.tc arg2 fullShare x1 ∗ owns c.tc arg3 fullShare x2 ∗ owns c.tc arg4 fullShare x3 ∗ (∃ f, arg6.view.loc c.tc ↦[arg6.view.set]{fullShare} arg6.view.writes (Elt F) f L4) ∗ (∃ f, arg7.view.loc c.tc ↦[arg7.view.set]{fullShare} arg7.view.writes (Elt F) f L5) ∗ owns c.tc arg8 fullShare s0 ∗ owns c.tc arg9 fullShare s1 ∗ cells c ∗ held c wgt fh ∗ (∃ W', owes c.tc 0 W')) -∗ K ⟨⟩))
          ⊢ wp frame (wpE (defs₀ (F := F)) Variants.none c none) Set.univ (cc0_f_upgate_fwd0 i arg1 harg1 arg2 harg2 arg3 harg3 arg4 harg4 (Memref.whole main_arg3) (Memref.isWhole_whole _) arg6 harg6 arg7 harg7 arg8 harg8 arg9 harg9 cc0_scratch2) K } := by
  refine ⟨?_, ?_, fun W K => ?run⟩
  case run =>
    simp only [cc0_f_upgate_fwd0_eq_skeleton]; unfold cc0_f_upgate_fwd0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns cells
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨Hq0, Hq1, Hq2, Hq3, Hq4, Hq5, Hq6, Hq7, Hq8, Hq9, Hq10, Hq11, Hq12, Hq13, Hq14, Hq15⟩, Hh, HW, Hk⟩
    obtain rfl := harg1.eq_unread hf0
    obtain rfl := harg2.eq_unread hf1
    obtain rfl := harg3.eq_unread hf2
    obtain rfl := harg4.eq_unread hf3
    obtain rfl := harg8.eq_unread hfs0
    obtain rfl := harg9.eq_unread hfs1
    sl_exec (disch := first | sl_exact hc)
    sl_step
    iapply Hk
    isplitl [H0]; · iapply (Shards.unread harg1 _); iexact H0
    isplitl [H1]; · iapply (Shards.unread harg2 _); iexact H1
    isplitl [H2]; · iapply (Shards.unread harg3 _); iexact H2
    isplitl [H3]; · iapply (Shards.unread harg4 _); iexact H3
    isplitl [H4]; · iexists _; iexact H4
    isplitl [H5]; · iexists _; iexact H5
    isplitl [HS0]; · iapply (Shards.unread harg8 _); iexact HS0
    isplitl [HS1]; · iapply (Shards.unread harg9 _); iexact HS1
    isplitl [Hq0 Hq1 Hq2 Hq3 Hq4 Hq5 Hq6 Hq7 Hq8 Hq9 Hq10 Hq11 Hq12 Hq13 Hq14 Hq15]
    · iframe Hq0 Hq1 Hq2 Hq3 Hq4 Hq5 Hq6 Hq7 Hq8 Hq9 Hq10 Hq11 Hq12 Hq13 Hq14 Hq15
    isplitl [Hh]; · iexact Hh
    iexists _; iexact HW

end

variable (m : (ℓ : Loc nD τ sig) → Buf (Elt F) ℓ) (ρ : Dev nD → PrngReg)
variable (c : Dev nD) (t : Fin cfg0.N)

/-- Core `c`'s buffers when the grid starts: after the host's lines before it. -/
abbrev V (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the grid is the host's lines. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host's lines leave the arguments as they were. -/
theorem V_args : V m c main_arg0 = m (c.tc.loc main_arg0) ∧ V m c main_arg1 = m (c.tc.loc main_arg1) ∧ V m c main_arg2 = m (c.tc.loc main_arg2) ∧ V m c main_arg3 = m (c.tc.loc main_arg3) := by
  refine ⟨?_, ?_, ?_, ?_⟩
  all_goals
    refine StableHlo.after_of_forall_not_mem (b := Proc.devRef .tc _) _ _ (List.forall_iff_forall_mem.mp ?_)
    simp only [hostOps0, List.Forall, StableHlo.nullary_writes, StableHlo.unary_writes, Finset.mem_singleton]
    repeat' apply And.intro
    all_goals exact StableHlo.devRef_ne_of_ne (by decide)

/-- Window `w`'s block at point `t`. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 : Memref sig .tc .vmem S512x1024 .f32 := win0_0.stage (cfg0.slots t 0)
abbrev hs0 : (ms0 t).IsWhole := hstage0_0 ((cfg0.slots t 0).cast nbuf0_0)
abbrev ms1 : Memref sig .tc .vmem S1x1024 .f32 := win0_1.stage (cfg0.slots t 1)
abbrev hs1 : (ms1 t).IsWhole := hstage0_1 ((cfg0.slots t 1).cast nbuf0_1)
abbrev ms2 : Memref sig .tc .vmem S1x1024 .f32 := win0_2.stage (cfg0.slots t 2)
abbrev hs2 : (ms2 t).IsWhole := hstage0_2 ((cfg0.slots t 2).cast nbuf0_2)
abbrev ms3 : Memref sig .tc .vmem S1x3072 .f32 := win0_3.stage (cfg0.slots t 3)
abbrev hs3 : (ms3 t).IsWhole := hstage0_3 ((cfg0.slots t 3).cast nbuf0_3)
abbrev ms4 : Memref sig .tc .vmem S512x3072 .bf16 := win0_4.stage (cfg0.slots t 4)
abbrev hs4 : (ms4 t).IsWhole := hstage0_4 ((cfg0.slots t 4).cast nbuf0_4)
abbrev ms5 : Memref sig .tc .vmem S512x3072 .bf16 := win0_5.stage (cfg0.slots t 5)
abbrev hs5 : (ms5 t).IsWhole := hstage0_5 ((cfg0.slots t 5).cast nbuf0_5)
/-- The scratch that keeps the weight. -/
abbrev scr0 : Memref sig .tc .vmem S1024x3072 .bf16 := Memref.whole cc0_scratch0
/-- The scratch that keeps the weight. -/
abbrev scr1 : Memref sig .tc .vmem S1024x3072 .bf16 := Memref.whole cc0_scratch1
abbrev VO4 : View sig .tc .vmem S512x3072 .bf16 := (Memref.whole cc0_stg4_0 : Memref sig .tc .vmem S512x3072 .bf16).view
abbrev VO5 : View sig .tc .vmem S512x3072 .bf16 := (Memref.whole cc0_stg5_0 : Memref sig .tc .vmem S512x3072 .bf16).view

/-- The copies' semaphores. -/
abbrev sems : Fin 16 → SemLoc sig := fun j => (![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24] : Fin 16 → SemLoc sig) j
theorem sems_own : Pipeline.OwnSemFacts spec0 sems := by decide
theorem sems_eq :
    (Pipeline.ownSems0 (Ix := Unit) (Name := ℕ) (U := Pipeline.UD sig nD τ) (Lvl := ℕ) (Val := Elt F) (τ := τ) sems c : sProp 𝕄) = cells c := by
  rw [Pipeline.ownSems0_eq_of_list c sems [0, 1, 2, 3, 4, 5, 6, 7, 8, 9, 10, 11, 12, 13, 14, 15] (by decide) (by decide)]; rfl
/-- The operand the body copies itself. -/
def moved : Finset (Ref sig .tc) := {main_arg3}
theorem moved_sub : moved ⊆ Pipeline.restRefs sig spec0 := by decide
theorem moved_eq :
    (bigSep moved (fun b => (c.tc.loc b) ↦{fullShare} V m c b) : sProp 𝕄) = iprop(held c wgt (V m c main_arg3)) := by
  rw [BI.bigSep_eq_bigSepL_of_eq [main_arg3] (by decide) (by decide)]; rfl

/-- What the grid starts with, conjunct by conjunct. -/
theorem start_eq :
    (Pipeline.ΦD sems spec0 moved (V m) c : sProp 𝕄)
      = iprop(iprop((∃ d, owns c.tc scr0 fullShare d) ∗ (∃ d, owns c.tc scr1 fullShare d)) ∗ (∃ r, prngReg c r) ∗ cells c ∗ iprop(held c wgt (V m c main_arg3))) := by
  rw [Pipeline.ΦD_eq, scopedRest0_eq, sems_eq, moved_eq]; simp only [scr0, scr1, owns_whole]; try rfl

/-- The body's run at the first point, on that point's buffers and blocks. -/
def runFirst (h : t.val = 0) :=
  bodyFirst (F := F) c (grid0.coords t) (ms0 t) (hs0 t) (ms1 t) (hs1 t) (ms2 t) (hs2 t) (ms3 t) (hs3 t) (ms4 t) (hs4 t) (ms5 t) (hs5 t) scr0 (Memref.isWhole_whole _) scr1 (Memref.isWhole_whole _) ((first_iff t).mpr h) (iblk m c 0 t) (iblk m c 1 t) (iblk m c 2 t) (iblk m c 3 t) (V m c main_arg3)
/-- The body's run at a later point. -/
def runLater (h : ¬t.val = 0) (s0 : Vec F S1024x3072 .bf16) (s1 : Vec F S1024x3072 .bf16) :=
  bodyLater (F := F) c (grid0.coords t) (ms0 t) (hs0 t) (ms1 t) (hs1 t) (ms2 t) (hs2 t) (ms3 t) (hs3 t) (ms4 t) (hs4 t) (ms5 t) (hs5 t) scr0 (Memref.isWhole_whole _) scr1 (Memref.isWhole_whole _) (fun e => h ((first_iff t).mp e)) (iblk m c 0 t) (iblk m c 1 t) (iblk m c 2 t) (iblk m c 3 t) s0 s1 (V m c main_arg3)

theorem coverFirst4 (h : t.val = 0) (y : S512x3072.Idx) : ∃ pc ∈ (runFirst m c t h).1, y ∈ pc.1.set :=
  View.cover_of_tiledL _ S512x3072.size (by sl_kernel_rfl) y
/-- What the first point leaves in output 0. -/
def outFirst4 (h : t.val = 0) : Vec F S512x3072 .bf16 := VO4.read (Elt F) (VO4.writes (Elt F) VO4.junk (runFirst m c t h).1)
theorem coverFirst5 (h : t.val = 0) (y : S512x3072.Idx) : ∃ pc ∈ (runFirst m c t h).2.1, y ∈ pc.1.set :=
  View.cover_of_tiledL _ S512x3072.size (by sl_kernel_rfl) y
/-- What the first point leaves in output 1. -/
def outFirst5 (h : t.val = 0) : Vec F S512x3072 .bf16 := VO5.read (Elt F) (VO5.writes (Elt F) VO5.junk (runFirst m c t h).2.1)
theorem coverLater4 (h : ¬t.val = 0) (s0 : Vec F S1024x3072 .bf16) (s1 : Vec F S1024x3072 .bf16) (y : S512x3072.Idx) : ∃ pc ∈ (runLater m c t h s0 s1).1, y ∈ pc.1.set :=
  View.cover_of_tiledL _ S512x3072.size (by sl_kernel_rfl) y
/-- What a later point leaves in output 0, the scratch holding `s0`. -/
def outLater4 (h : ¬t.val = 0) (s0 : Vec F S1024x3072 .bf16) (s1 : Vec F S1024x3072 .bf16) : Vec F S512x3072 .bf16 := VO4.read (Elt F) (VO4.writes (Elt F) VO4.junk (runLater m c t h s0 s1).1)
theorem coverLater5 (h : ¬t.val = 0) (s0 : Vec F S1024x3072 .bf16) (s1 : Vec F S1024x3072 .bf16) (y : S512x3072.Idx) : ∃ pc ∈ (runLater m c t h s0 s1).2.1, y ∈ pc.1.set :=
  View.cover_of_tiledL _ S512x3072.size (by sl_kernel_rfl) y
/-- What a later point leaves in output 1, the scratch holding `s0`. -/
def outLater5 (h : ¬t.val = 0) (s0 : Vec F S1024x3072 .bf16) (s1 : Vec F S1024x3072 .bf16) : Vec F S512x3072 .bf16 := VO5.read (Elt F) (VO5.writes (Elt F) VO5.junk (runLater m c t h s0 s1).2.1)
theorem coverScr0 (h : t.val = 0) (y : S1024x3072.Idx) : ∃ pc ∈ (runFirst m c t h).2.2.1, y ∈ pc.1.set :=
  View.cover_of_tiledL _ ![1024,384] (by sl_kernel_rfl) y
/-- The weight as the first point leaves it in the scratch. -/
def weight0 : Vec F S1024x3072 .bf16 :=
  scr0.view.read (Elt F) (scr0.view.writes (Elt F) scr0.view.junk (runFirst m c t0_0 (show t0_0.val = 0 from rfl)).2.2.1)
theorem coverScr1 (h : t.val = 0) (y : S1024x3072.Idx) : ∃ pc ∈ (runFirst m c t h).2.2.2.1, y ∈ pc.1.set :=
  View.cover_of_tiledL _ ![1024,384] (by sl_kernel_rfl) y
/-- The weight as the first point leaves it in the scratch. -/
def weight1 : Vec F S1024x3072 .bf16 :=
  scr1.view.read (Elt F) (scr1.view.writes (Elt F) scr1.view.junk (runFirst m c t0_0 (show t0_0.val = 0 from rfl)).2.2.2.1)

/-- What point `t` leaves in output 0. -/
def out4 : Vec F S512x3072 .bf16 := if h : t.val = 0 then outFirst4 m c t h else outLater4 m c t h (weight0 m c) (weight1 m c)
theorem out4_first (h : t.val = 0) : out4 m c t = outFirst4 m c t h := dif_pos h
theorem out4_later (h : ¬t.val = 0) : out4 m c t = outLater4 m c t h (weight0 m c) (weight1 m c) := dif_neg h

/-- What point `t` leaves in output 1. -/
def out5 : Vec F S512x3072 .bf16 := if h : t.val = 0 then outFirst5 m c t h else outLater5 m c t h (weight0 m c) (weight1 m c)
theorem out5_first (h : t.val = 0) : out5 m c t = outFirst5 m c t h := dif_pos h
theorem out5_later (h : ¬t.val = 0) : out5 m c t = outLater5 m c t h (weight0 m c) (weight1 m c) := dif_neg h

/-- Between the points: at first what the grid starts with, afterwards the scratch at the weight. -/
def Keep : (n : ℕ) → n ≤ cfg0.N → sProp 𝕄
  | 0, _ => Pipeline.ΦD sems spec0 moved (V m) c
  | n + 1, _ => iprop(iprop(owns c.tc scr0 fullShare (weight0 m c) ∗ owns c.tc scr1 fullShare (weight1 m c)) ∗ (∃ r, prngReg c r) ∗ cells c ∗ iprop(held c wgt (V m c main_arg3)))
theorem Keep_zero (n : ℕ) (h : n ≤ cfg0.N) (hz : n = 0) : Keep m c n h = Pipeline.ΦD sems spec0 moved (V m) c := by
  subst hz; rfl
theorem Keep_pos (n : ℕ) (h : n ≤ cfg0.N) (hz : n ≠ 0) :
    Keep m c n h = iprop(iprop(owns c.tc scr0 fullShare (weight0 m c) ∗ owns c.tc scr1 fullShare (weight1 m c)) ∗ (∃ r, prngReg c r) ∗ cells c ∗ iprop(held c wgt (V m c main_arg3))) := by
  cases n with
  | zero => exact absurd rfl hz
  | succ n => rfl

/-- The proof data: inputs at their blocks, outputs at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
  Φ t := Keep m c t.val (Nat.le_of_lt_succ t.isLt)
  q _ := fullShare
  owed _ := 0
theorem A_eq (w : Fin cfg0.W) : (dats m 0 c).A w = V m c (Pipeline.arrRef spec0 w) := by
  dsimp only [dats]
theorem Keep_castSucc :
    (dats m 0 c).Φ t.castSucc = Keep m c t.val (Nat.le_of_lt t.isLt) := by
  dsimp only [dats]; exact Pipeline.Dat.Φ_castSucc (Keep m c) t
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = out4 m c t := by dsimp only [dats]
theorem after5 : (dats m 0 c).after 5 t = out5 m c t := by dsimp only [dats]
theorem before0 (d) : (dats m 0 c).before 0 t d = iblk m c 0 t :=
  (dats m 0 c).before_in_eq_fetched 0 rfl (fun _ => rfl) (fun _ _ _ => rfl) (fun _ => rfl) t d
theorem before1 (d) : (dats m 0 c).before 1 t d = iblk m c 1 t :=
  (dats m 0 c).before_in_eq_fetched 1 rfl (fun _ => rfl) (fun _ _ _ => rfl) (fun _ => rfl) t d
theorem before2 (d) : (dats m 0 c).before 2 t d = iblk m c 2 t :=
  (dats m 0 c).before_in_eq_fetched 2 rfl (fun _ => rfl) (fun _ _ _ => rfl) (fun _ => rfl) t d
theorem before3 (d) : (dats m 0 c).before 3 t d = iblk m c 3 t :=
  (dats m 0 c).before_in_eq_fetched 3 rfl (fun _ => rfl) (fun _ _ _ => rfl) (fun _ => rfl) t d

def bodyPre : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d)))
def bodyPost : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t)
    ∗ owns c.tc (ms2 t) fullShare ((dats m 0 c).after 2 t)
    ∗ owns c.tc (ms3 t) fullShare ((dats m 0 c).after 3 t)
    ∗ owns c.tc (ms4 t) fullShare ((dats m 0 c).after 4 t)
    ∗ owns c.tc (ms5 t) fullShare ((dats m 0 c).after 5 t))

set_option maxHeartbeats 4000000 in
/-- The body at every point takes what holds before the point to what holds after it. -/
theorem sound :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Keep m c (t.val + 1) t.isLt from rfl, Keep_pos m c _ _ (Nat.succ_ne_zero _),
    after0, after1, after2, after3, after4, after5]
  unfold Dat.owesAt Pipeline.owesWithin
  rw [show (dats m 0 c).owed t.castSucc = 0 from rfl, show (dats m 0 c).owed t.succ = 0 from rfl]
  by_cases h0 : t.val = 0
  · have hz := h0
    rw [Keep_castSucc m c t, Keep_zero m c _ _ h0, start_eq]
    obtain rfl : t = t0_0 := Fin.ext h0
    rw [out4_first m c t0_0 h0, out5_first m c t0_0 h0]
    unfold outFirst4 outFirst5 weight0 weight1; (try dsimp only)
    iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩⟩
    iapply ((runFirst m c t0_0 h0).2.2.2.2 W _)
    iframe H0 H1 H2 H3
    isplitl [H4]; · iexists _; iexact H4
    isplitl [H5]; · iexists _; iexact H5
    iframe HS0 HS1 Hq Hh HW
    iintro ⟨H0, H1, H2, H3, ⟨%e4, H4⟩, ⟨%e5, H5⟩, ⟨%es0, HS0⟩, ⟨%es1, HS1⟩, Hq, Hh, ⟨%W', HW'⟩⟩
    isplitl [HS0 HS1 Hg Hq Hh]
    · isplitl [HS0 HS1]
      · isplitl [HS0]
        · iapply (Shards.owned _ _ _ _ _ (coverScr0 m c t0_0 h0)); iexact HS0
        iapply (Shards.owned _ _ _ _ _ (coverScr1 m c t0_0 h0)); iexact HS1
      iframe Hg Hq Hh
    isplitl [HW']
    · iexists W'; isplitr; · ipureintro; exact fun _ _ => Or.inl trivial
      iexact HW'
    iframe H0 H1 H2 H3
    isplitl [H4]
    · iapply (Shards.owned _ _ _ _ _ (coverFirst4 m c _ h0)); iexact H4
    iapply (Shards.owned _ _ _ _ _ (coverFirst5 m c _ h0)); iexact H5
  · have hz := h0
    rw [Keep_castSucc m c t, Keep_pos m c _ _ h0]
    rw [out4_later m c t h0, out5_later m c t h0]
    unfold outLater4 outLater5; (try dsimp only)
    iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩⟩
    iapply ((runLater m c t h0 (weight0 m c) (weight1 m c)).2.2 W _)
    iframe H0 H1 H2 H3
    isplitl [H4]; · iexists _; iexact H4
    isplitl [H5]; · iexists _; iexact H5
    iframe HS0 HS1 Hq Hh HW
    iintro ⟨H0, H1, H2, H3, ⟨%e4, H4⟩, ⟨%e5, H5⟩, HS0, HS1, Hq, Hh, ⟨%W', HW'⟩⟩
    isplitl [HS0 HS1 Hg Hq Hh]
    · isplitl [HS0 HS1]
      · isplitl [HS0]
        · iexact HS0
        iexact HS1
      iframe Hg Hq Hh
    isplitl [HW']
    · iexists W'; isplitr; · ipureintro; exact fun _ _ => Or.inl trivial
      iexact HW'
    iframe H0 H1 H2 H3
    isplitl [H4]
    · iapply (Shards.owned _ _ _ _ _ (coverLater4 m c _ h0 _ _)); iexact H4
    iapply (Shards.owned _ _ _ _ _ (coverLater5 m c _ h0 _ _)); iexact H5

theorem defs_row :
    defs₀ (F := F) .tc cfg0.body (cfg0.bodyArgs t (cfg0.slots t)) = bodyAt0 t := by
  unfold defs₀; rw [Defs.onTc_tc]
theorem obligation : BodyObligation (dats (F := F) m 0 c) (defs₀ (F := F)) Variants.none () Set.univ := fun t => by
  rw [bigSep_W0, bigSep_W0, defs_row]
  exact triple_restated (sound m c t) rfl .rfl fun _ => .rfl
theorem hin : Pipeline.ΦD sems spec0 moved (V m) c ⊢ (dats m 0 c).Φ 0 := by
  rw [show (dats m 0 c).Φ 0 = Keep m c 0 (Nat.zero_le _) from rfl, Keep_zero m c 0 _ rfl]
  try exact Idealize.SL.BI.Entails.refl _
theorem hout : (dats m 0 c).Φ (Fin.last cfg0.N) ⊢ Pipeline.ΦD sems spec0 moved (V m) c := by
  rw [show (dats m 0 c).Φ (Fin.last cfg0.N) = Keep m c (Fin.last cfg0.N).val (Nat.le_of_lt_succ (Fin.last cfg0.N).isLt) from rfl,
    Keep_pos m c _ _ (by rw [Fin.val_last]; have : cfg0.N = 8 := N_0; omega), start_eq]
  iintro ⟨⟨HS0, HS1⟩, Hg, Hq, Hh⟩
  isplitl [HS0 HS1]
  · isplitl [HS0]; · iexists _; iexact HS0
    iexists _; iexact HS1
  iframe Hg Hq Hh

set_option backward.isDefEq.respectTransparency.types false in
/-- Every fair execution ends, the arrays at what the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none sems_own moved moved_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments are as launched. -/
abbrev Kept (μ : (ℓ : Loc nD τ sig) → Buf (Elt F) ℓ) : Prop :=
  μ (c.tc.loc main_arg0) = m (c.tc.loc main_arg0) ∧ μ (c.tc.loc main_arg1) = m (c.tc.loc main_arg1) ∧ μ (c.tc.loc main_arg2) = m (c.tc.loc main_arg2) ∧ μ (c.tc.loc main_arg3) = m (c.tc.loc main_arg3)

/-- The arguments end as they were. -/
theorem kept (r : PUnit × MemSt nD τ sig (Elt F)) (h : Pipeline.FramePost cfgs (dats m) 0 (V m) r) (c : Dev nD) :
    Kept m c r.2.mem :=
  ⟨((h c).1 0).trans (((dats m 0 c).arrAt_in 0 rfl _).trans ((A_eq m c 0).trans ((V_args m c).1))),
    ((h c).1 1).trans (((dats m 0 c).arrAt_in 1 rfl _).trans ((A_eq m c 1).trans ((V_args m c).2.1))),
    ((h c).1 2).trans (((dats m 0 c).arrAt_in 2 rfl _).trans ((A_eq m c 2).trans ((V_args m c).2.2.1))),
    ((h c).2 main_arg3 (Pipeline.mem_restRefs_of main_arg3 (by decide) (by decide))).trans ((V_args m c).2.2.2)⟩

/-- The program ends with its arguments unchanged and every counter at zero. -/
theorem frame : θ_run defs (onTc (τ := τ) (main (F := F))) ⟨m, fun _ => 0, ρ⟩ (fun r => (∀ c : Dev nD,
      Kept m c r.2.mem)
      ∧ r.2.sem = fun _ => 0) :=
  (θ_run defs _ _).mono (fun r h => ⟨fun c => kept m r h.1 c, h.2⟩) (run_quiescent m ρ)

/-- The program ends with each result at the blocks the points wrote. -/
theorem run_blocks : θ_run defs (onTc (τ := τ) (main (F := F))) ⟨m, fun _ => 0, ρ⟩ fun r => ∀ c : Dev nD,
      (r.2.mem (c.tc.loc main_v1_0) = (dats m 0 c).arrAt 4 cfg0.N ∧ r.2.mem (c.tc.loc main_v1_1) = (dats m 0 c).arrAt 5 cfg0.N)
      ∧ (Kept m c r.2.mem) :=
  (θ_run defs _ _).mono (fun r h c => ⟨⟨(h.1 c).1 4, (h.1 c).1 5⟩, kept m r h.1 c⟩) (run_quiescent m ρ)

end

section
open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- The weight in the scratch: column `k` is column `k % 384` of the shard of device `k / 384`. -/
theorem weight0_apply (d : Fin 8) (r : Fin 384) (k : Fin 1024) (j : Fin 3072) (hj : j.val = d.val * 384 + r.val) :
    weight0 m c (ix2 k j) = m (c.tc.loc main_arg3) (ix4 d (⟨0, by decide⟩ : Fin 2) k r) := by
  unfold weight0 runFirst
  frame_out
  canon_tiles x h
  all_goals obtain ⟨x0, x1, rfl⟩ := Shards.pair x
  all_goals
    have e0 : ((ix2 k j : S1024x3072.Idx) 0).val = k.val := rfl
    have e1 : ((ix2 k j : S1024x3072.Idx) 1).val = j.val := rfl
    have e2 : ((ix2 x0 x1 : S1024x384.Idx) 0).val = x0.val := rfl
    have e3 : ((ix2 x0 x1 : S1024x384.Idx) 1).val = x1.val := rfl
    rw [e0, e2] at h0
    rw [e1, e3] at h1
    have := x0.isLt
    have := x1.isLt
    refine (Shards.read_block4 _ _ _ _ _ d (⟨0, by decide⟩ : Fin 2) x0 x1 k r ?_ rfl ?_ ?_).trans (congrFun ((V_args m c).2.2.2) _)
    all_goals
      try simp only [Matrix.cons_val_zero, Matrix.cons_val_one, Matrix.cons_val]
      omega

/-- The weight in the scratch: column `k` is column `k % 384` of the shard of device `k / 384`. -/
theorem weight1_apply (d : Fin 8) (r : Fin 384) (k : Fin 1024) (j : Fin 3072) (hj : j.val = d.val * 384 + r.val) :
    weight1 m c (ix2 k j) = m (c.tc.loc main_arg3) (ix4 d (⟨1, by decide⟩ : Fin 2) k r) := by
  unfold weight1 runFirst
  frame_out
  canon_tiles x h
  all_goals obtain ⟨x0, x1, rfl⟩ := Shards.pair x
  all_goals
    have e0 : ((ix2 k j : S1024x3072.Idx) 0).val = k.val := rfl
    have e1 : ((ix2 k j : S1024x3072.Idx) 1).val = j.val := rfl
    have e2 : ((ix2 x0 x1 : S1024x384.Idx) 0).val = x0.val := rfl
    have e3 : ((ix2 x0 x1 : S1024x384.Idx) 1).val = x1.val := rfl
    rw [e0, e2] at h0
    rw [e1, e3] at h1
    have := x0.isLt
    have := x1.isLt
    refine (Shards.read_block4 _ _ _ _ _ d (⟨1, by decide⟩ : Fin 2) x0 x1 k r ?_ rfl ?_ ?_).trans (congrFun ((V_args m c).2.2.2) _)
    all_goals
      try simp only [Matrix.cons_val_zero, Matrix.cons_val_one, Matrix.cons_val]
      omega

/-- Every point leaves the product with the weight of its block. -/
theorem out4_eq : out4 m c t = k0_pay2 (F := Ideal) (iblk m c 0 t) (iblk m c 1 t) (iblk m c 2 t) (weight0 m c) (iblk m c 3 t) := by
  by_cases h : t.val = 0
  · rw [out4_first m c t h]
    obtain rfl : t = t0_0 := Fin.ext h
    unfold outFirst4 weight0 runFirst
    frame_out
    try simp only [read_unread_whole]
    repeat erw [Shards.readCov_all]
    try rfl
  · rw [out4_later m c t h]
    unfold outLater4 runLater
    frame_out
    try simp only [read_unread_whole]

/-- Every point leaves the product with the weight of its block. -/
theorem out5_eq : out5 m c t = k0_pay3 (F := Ideal) (iblk m c 0 t) (iblk m c 1 t) (iblk m c 2 t) (weight1 m c) (iblk m c 3 t) := by
  by_cases h : t.val = 0
  · rw [out5_first m c t h]
    obtain rfl : t = t0_0 := Fin.ext h
    unfold outFirst5 weight1 runFirst
    frame_out
    try simp only [read_unread_whole]
    repeat erw [Shards.readCov_all]
    try rfl
  · rw [out5_later m c t h]
    unfold outLater5 runLater
    frame_out
    try simp only [read_unread_whole]

/-- The modulated input times the gathered weight at an entry; `i` names the weight in its stack. -/
def prod (x : S4096x1024.Idx → Elt Ideal .f32) (sc sh : S1x1024.Idx → Elt Ideal .f32) (w : S8x2x1024x384.Idx → Elt Ideal .bf16) (i : Fin 2) (r : Fin 4096) (j : Fin 3072) : EReal :=
  ∑ k : Fin 1024, (x (ix2 r k) * (1 + sc (ix2 (0 : Fin 1) k)) + sh (ix2 (0 : Fin 1) k)) * w (ix4 (⟨j.val / 384, by omega⟩ : Fin 8) i k (⟨j.val % 384, by omega⟩ : Fin 384))

theorem blk0 (x : Fin 512) (r : Fin 4096) (hr : r.val = t.val * 512 + x.val) (k : Fin 1024) :
    iblk m c 0 t (ix2 x k) = m (c.tc.loc main_arg0) (ix2 r k) := by
  have hi := (by decide +kernel : ∀ t : Fin cfg0.N, win0_0.index t (0 : Fin 2) = t.val ∧ win0_0.index t (1 : Fin 2) = 0) t
  rw [← (V_args m c).1]
  blk_point [iblk, hi.1, hi.2]
theorem blk1 (k : Fin 1024) : iblk m c 1 t (ix2 (0 : Fin 1) k) = m (c.tc.loc main_arg1) (ix2 (0 : Fin 1) k) := by
  have hi := (by decide +kernel : ∀ t : Fin cfg0.N, win0_1.index t (0 : Fin 2) = 0 ∧ win0_1.index t (1 : Fin 2) = 0) t
  rw [← (V_args m c).2.1]
  blk_point [iblk, hi.1, hi.2]
theorem blk2 (k : Fin 1024) : iblk m c 2 t (ix2 (0 : Fin 1) k) = m (c.tc.loc main_arg2) (ix2 (0 : Fin 1) k) := by
  have hi := (by decide +kernel : ∀ t : Fin cfg0.N, win0_2.index t (0 : Fin 2) = 0 ∧ win0_2.index t (1 : Fin 2) = 0) t
  rw [← (V_args m c).2.2.1]
  blk_point [iblk, hi.1, hi.2]
theorem blk3 (k : Fin 3072) : iblk m c 3 t (ix2 (0 : Fin 1) k) = (0 : EReal) := by
  have hi := (by decide +kernel : ∀ t : Fin cfg0.N, win0_3.index t (0 : Fin 2) = 0 ∧ win0_3.index t (1 : Fin 2) = 0) t
  have e : V m c main_v0 (ix2 (0 : Fin 1) k) = (0 : EReal) := by
    have e : V m c main_v0 = broadcastInDim S1x3072 ![] bcast_S_S1x3072 (constant (F := Ideal) S_ .f32 0x00000000#32) := rfl
    rw [e]
    pointwise []
  rw [← e]
  blk_point [iblk, hi.1, hi.2]

/-- One block of output window 4. -/
theorem out4_apply (x : Fin 512) (j : Fin 3072) (r : Fin 4096) (hr : r.val = t.val * 512 + x.val) :
    out4 m c t (ix2 x j) = (prod (m (c.tc.loc main_arg0)) (m (c.tc.loc main_arg1)) (m (c.tc.loc main_arg2)) (m (c.tc.loc main_arg3)) (⟨0, by decide⟩ : Fin 2) r j : EReal) := by
  rw [out4_eq]
  unfold prod
  have hW : ∀ k : Fin 1024, weight0 m c (ix2 k j) = m (c.tc.loc main_arg3) (ix4 (⟨j.val / 384, by omega⟩ : Fin 8) (⟨0, by decide⟩ : Fin 2) k (⟨j.val % 384, by omega⟩ : Fin 384)) :=
    fun k => weight0_apply m c _ _ k j (by dsimp only; omega)
  simp only [← hW, ← blk0 m c t x r hr, ← blk1 m c t, ← blk2 m c t]
  refine Eq.trans ?_ ((congrArg (HAdd.hAdd (α := EReal) (β := EReal) (γ := EReal) _) (blk3 m c t j)).trans (add_zero (M := EReal) _))
  generalize weight0 m c = W
  generalize iblk m c 0 t = X
  generalize iblk m c 1 t = A
  generalize iblk m c 2 t = B
  generalize iblk m c 3 t = C
  pointwise [k0_pay2, k0_pay1]

/-- The whole array of output window 4. -/
theorem final4 : (dats m 0 c).arrAt 4 cfg0.N = fun i : S4096x3072.Idx => (fun (r : Fin 4096) (j : Fin 3072) => (prod (m (c.tc.loc main_arg0)) (m (c.tc.loc main_arg1)) (m (c.tc.loc main_arg2)) (m (c.tc.loc main_arg3)) (⟨0, by decide⟩ : Fin 2) r j : EReal)) (i 0) (i 1) := by
  refine (dats m 0 c).arrAt_eq_of_covers 4 _ (by decide +kernel) fun t hf y => ?_
  rw [after4]
  obtain ⟨a, b, rfl⟩ := Shards.pair y
  have hi := (by decide +kernel : ∀ t : Fin cfg0.N, win0_4.index t (0 : Fin 2) = t.val ∧ win0_4.index t (1 : Fin 2) = 0) t
  blk_simp
  have e1 : (win0_4.blk t).view.emb (ix2 a b) 1 = b :=
    Fin.ext (Shards.at_zero hi.2)
  dsimp only
  rw [e1]
  exact out4_apply m c t a b _ (Shards.at_row hi.1)

/-- One block of output window 5. -/
theorem out5_apply (x : Fin 512) (j : Fin 3072) (r : Fin 4096) (hr : r.val = t.val * 512 + x.val) :
    out5 m c t (ix2 x j) = (prod (m (c.tc.loc main_arg0)) (m (c.tc.loc main_arg1)) (m (c.tc.loc main_arg2)) (m (c.tc.loc main_arg3)) (⟨1, by decide⟩ : Fin 2) r j : EReal) := by
  rw [out5_eq]
  unfold prod
  have hW : ∀ k : Fin 1024, weight1 m c (ix2 k j) = m (c.tc.loc main_arg3) (ix4 (⟨j.val / 384, by omega⟩ : Fin 8) (⟨1, by decide⟩ : Fin 2) k (⟨j.val % 384, by omega⟩ : Fin 384)) :=
    fun k => weight1_apply m c _ _ k j (by dsimp only; omega)
  simp only [← hW, ← blk0 m c t x r hr, ← blk1 m c t, ← blk2 m c t]
  refine Eq.trans ?_ ((congrArg (HAdd.hAdd (α := EReal) (β := EReal) (γ := EReal) _) (blk3 m c t j)).trans (add_zero (M := EReal) _))
  generalize weight1 m c = W
  generalize iblk m c 0 t = X
  generalize iblk m c 1 t = A
  generalize iblk m c 2 t = B
  generalize iblk m c 3 t = C
  pointwise [k0_pay3, k0_pay1]

/-- The whole array of output window 5. -/
theorem final5 : (dats m 0 c).arrAt 5 cfg0.N = fun i : S4096x3072.Idx => (fun (r : Fin 4096) (j : Fin 3072) => (prod (m (c.tc.loc main_arg0)) (m (c.tc.loc main_arg1)) (m (c.tc.loc main_arg2)) (m (c.tc.loc main_arg3)) (⟨1, by decide⟩ : Fin 2) r j : EReal)) (i 0) (i 1) := by
  refine (dats m 0 c).arrAt_eq_of_covers 5 _ (by decide +kernel) fun t hf y => ?_
  rw [after5]
  obtain ⟨a, b, rfl⟩ := Shards.pair y
  have hi := (by decide +kernel : ∀ t : Fin cfg0.N, win0_5.index t (0 : Fin 2) = t.val ∧ win0_5.index t (1 : Fin 2) = 0) t
  blk_simp
  have e1 : (win0_5.blk t).view.emb (ix2 a b) 1 = b :=
    Fin.ext (Shards.at_zero hi.2)
  dsimp only
  rw [e1]
  exact out5_apply m c t a b _ (Shards.at_row hi.1)

end

end Cert.Kernel15Ideal.Run

namespace Cert.Proof

open Idealize.ShloMosaic Idealize.SL.Sem

/-- The feed-forward's up and gate projections: on memories that agree on the arguments, the kernel's result arrays are the reference's, entry by entry. -/
theorem algebraic_UpGate : algebraic_Kernel15Ideal_Reference15Ideal := by
  intro m ρ m' ρ' _ hagree
  refine ⟨fun c => (Kernel15Ideal.Run.dats m 0 c).arrAt 4 Kernel15Ideal.cfg0.N, fun c => (Kernel15Ideal.Run.dats m 0 c).arrAt 5 Kernel15Ideal.cfg0.N, (θ_run Kernel15Ideal.defs _ _).mono (fun _ h c => ?run) (Kernel15Ideal.Run.run_blocks (F := Ideal) m ρ), ?_⟩
  case run =>
    have h := h c
    exact ⟨h.1.1, h.1.2, h.2⟩
  refine (θ_run Reference15Ideal.defs _ _).mono (fun _ h c => ⟨?_, ?_, (h c).2.2⟩) (Reference15Ideal.Value.run (F := Ideal) m' ρ')
  · refine ((h c).1).trans (Eq.trans ?_ (Kernel15Ideal.Run.final4 m c).symm)
    simp only [hagree c]
    funext j
    obtain ⟨r, q, rfl⟩ := Shards.pair j
    show _ = (_ : EReal)
    show _ = Kernel15Ideal.Run.prod (m (c.tc.loc Kernel15Ideal.main_arg0)) (m (c.tc.loc Kernel15Ideal.main_arg1)) (m (c.tc.loc Kernel15Ideal.main_arg2)) (m (c.tc.loc Kernel15Ideal.main_arg3)) (⟨0, by decide⟩ : Fin 2) r q
    unfold Kernel15Ideal.Run.prod
    have hW : ∀ k : Fin 1024, (shapeCast Reference15Ideal.S1024x3072 (transpose Reference15Ideal.S1024x8x384 [1, 0, 2] (shapeCast Reference15Ideal.S8x1024x384 (extractStridedSlice Reference15Ideal.S8x1x1024x384 ![0, 0, 0, 0] (m (c.tc.loc Kernel15Ideal.main_arg3)) Reference15Ideal.Gen.slices_S8x2x1024x384_S8x1x1024x384_0_0_0_0) Reference15Ideal.Gen.shapeCasts_S8x1x1024x384_S8x1024x384) Reference15Ideal.Gen.transposes_S8x1024x384_S1024x8x384_1_0_2) Reference15Ideal.Gen.shapeCasts_S1024x8x384_S1024x3072) (ix2 k q) = m (c.tc.loc Kernel15Ideal.main_arg3) (ix4 (⟨q.val / 384, by omega⟩ : Fin 8) (⟨0, by decide⟩ : Fin 2) k (⟨q.val % 384, by omega⟩ : Fin 384)) := by
      intro k
      refine (Shards.cols_apply _ _ _ (by decide) k q (⟨q.val / 384, by omega⟩ : Fin 8) (⟨q.val % 384, by omega⟩ : Fin 384) (by dsimp only; omega)).trans ((Shards.drop_apply _ _ _ _ _).trans ?_)
      pointwise []
    simp only [← hW]
    generalize (shapeCast Reference15Ideal.S1024x3072 (transpose Reference15Ideal.S1024x8x384 [1, 0, 2] (shapeCast Reference15Ideal.S8x1024x384 (extractStridedSlice Reference15Ideal.S8x1x1024x384 ![0, 0, 0, 0] (m (c.tc.loc Kernel15Ideal.main_arg3)) Reference15Ideal.Gen.slices_S8x2x1024x384_S8x1x1024x384_0_0_0_0) Reference15Ideal.Gen.shapeCasts_S8x1x1024x384_S8x1024x384) Reference15Ideal.Gen.transposes_S8x1024x384_S1024x8x384_1_0_2) Reference15Ideal.Gen.shapeCasts_S1024x8x384_S1024x3072) = W
    pointwise []
  · refine ((h c).2.1).trans (Eq.trans ?_ (Kernel15Ideal.Run.final5 m c).symm)
    simp only [hagree c]
    funext j
    obtain ⟨r, q, rfl⟩ := Shards.pair j
    show _ = (_ : EReal)
    show _ = Kernel15Ideal.Run.prod (m (c.tc.loc Kernel15Ideal.main_arg0)) (m (c.tc.loc Kernel15Ideal.main_arg1)) (m (c.tc.loc Kernel15Ideal.main_arg2)) (m (c.tc.loc Kernel15Ideal.main_arg3)) (⟨1, by decide⟩ : Fin 2) r q
    unfold Kernel15Ideal.Run.prod
    have hW : ∀ k : Fin 1024, (shapeCast Reference15Ideal.S1024x3072 (transpose Reference15Ideal.S1024x8x384 [1, 0, 2] (shapeCast Reference15Ideal.S8x1024x384 (extractStridedSlice Reference15Ideal.S8x1x1024x384 ![0, 1, 0, 0] (m (c.tc.loc Kernel15Ideal.main_arg3)) Reference15Ideal.Gen.slices_S8x2x1024x384_S8x1x1024x384_0_1_0_0) Reference15Ideal.Gen.shapeCasts_S8x1x1024x384_S8x1024x384) Reference15Ideal.Gen.transposes_S8x1024x384_S1024x8x384_1_0_2) Reference15Ideal.Gen.shapeCasts_S1024x8x384_S1024x3072) (ix2 k q) = m (c.tc.loc Kernel15Ideal.main_arg3) (ix4 (⟨q.val / 384, by omega⟩ : Fin 8) (⟨1, by decide⟩ : Fin 2) k (⟨q.val % 384, by omega⟩ : Fin 384)) := by
      intro k
      refine (Shards.cols_apply _ _ _ (by decide) k q (⟨q.val / 384, by omega⟩ : Fin 8) (⟨q.val % 384, by omega⟩ : Fin 384) (by dsimp only; omega)).trans ((Shards.drop_apply _ _ _ _ _).trans ?_)
      pointwise []
    simp only [← hW]
    generalize (shapeCast Reference15Ideal.S1024x3072 (transpose Reference15Ideal.S1024x8x384 [1, 0, 2] (shapeCast Reference15Ideal.S8x1024x384 (extractStridedSlice Reference15Ideal.S8x1x1024x384 ![0, 1, 0, 0] (m (c.tc.loc Kernel15Ideal.main_arg3)) Reference15Ideal.Gen.slices_S8x2x1024x384_S8x1x1024x384_0_1_0_0) Reference15Ideal.Gen.shapeCasts_S8x1x1024x384_S8x1024x384) Reference15Ideal.Gen.transposes_S8x1024x384_S1024x8x384_1_0_2) Reference15Ideal.Gen.shapeCasts_S1024x8x384_S1024x3072) = W
    pointwise []

/-- The two printings of the program have the same bodies. -/
theorem defs_UpGate : Kernel15.defs (F := Bits) = Kernel15Ideal.defs (F := Bits) := by
  have e : Kernel15.defs₀ (F := Bits) = Kernel15Ideal.defs₀ (F := Bits) := by
    unfold Kernel15.defs₀ Kernel15Ideal.defs₀
    refine congrArg Defs.onTc (funext fun i => ?_)
    match i with
    | 0 => exact funext fun p => rfl
  exact congrArg (Pipeline.defs (Kernel15.pcfgs (F := Bits))) e

/-- As printed, on bits, it ends with its arguments unchanged and every counter at zero. -/
theorem frame_UpGate : quiescent_Kernel15 := fun m ρ _ => by
  rw [defs_UpGate]
  exact Kernel15Ideal.Run.frame (F := Bits) m ρ

end Cert.Proof

end
-- ==== Proof.InDx.lean ====
module

public import proofs.«01_k».proof.Proof.Shards.Own
public import proofs.«01_k».proof.Proof.Gen.Kernel16Ideal.Launch
public import proofs.«01_k».proof.Proof.Gen.Kernel16Ideal.Skeleton
public import proofs.«01_k».proof.Proof.Gen.Kernel16Ideal.Points
public import proofs.«01_k».proof.Proof.Shards.Read
public import proofs.«01_k».proof.Proof.Shards.Cols
public import proofs.«01_k».proof.Proof.Shards.Rows
public import proofs.«01_k».proof.Defs
public import proofs.«01_k».proof.Proof.Gen.Reference16Ideal.Run
public import proofs.«01_k».proof.Proof.Gen.Kernel16

@[expose] public section

set_option maxRecDepth 16384

noncomputable section

namespace Cert.Kernel16Ideal.Run

section
open Cert.Kernel16Ideal Cert.Kernel16Ideal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body copies the weight in: the grid's coordinate is zero. -/
abbrev first (i : grid0.Coords) : Prop := (Scalar.cmpi .ne (Scalar.extui (Scalar.cmpi .eq (BitVec.ofNat 32 (i 0).val) 0#32)) 0#32) = 1#1

/-- It holds at the first point of the grid and at no other. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : first (grid0.coords t) ↔ t.val % 8 = 0 := by
    simp only [first, e0]
    word_cmp
  rw [e1, Nat.mod_eq_of_lt ht]

/-- The gathered weight, left in HBM. -/
abbrev wgt : Memref sig .tc .hbm S8x1x1024x384 .bf16 := Memref.whole main_arg1
/-- A memref's contents on core `c`, and its buffer held whole at some. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc c.tc ↦{fullShare} f

/-- The counters of the copies' semaphores, all at zero. -/
def cells (c : Dev nD) : sProp 𝕄 :=
  iprop(semVal (c.tc, SemLoc.dma 10) 0 ∗ semVal (c.tc, SemLoc.dma 11) 0 ∗ semVal (c.tc, SemLoc.dma 12) 0 ∗ semVal (c.tc, SemLoc.dma 13) 0 ∗ semVal (c.tc, SemLoc.dma 14) 0 ∗ semVal (c.tc, SemLoc.dma 15) 0 ∗ semVal (c.tc, SemLoc.dma 16) 0 ∗ semVal (c.tc, SemLoc.dma 17) 0)

section
variable (c : Dev nD) (i : grid0.Coords) (arg1 : Memref sig .tc .vmem S512x3072 .bf16) (harg1 : arg1.IsWhole)
  (arg3 : Memref sig .tc .vmem S512x1024 .f32) (harg3 : arg3.IsWhole)
  (arg4 : Memref sig .tc .vmem S1x1024 .f32) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S8x1024 .f32) (harg7 : arg7.IsWhole)
  (arg8 : Memref sig .tc .vmem S1024x3072 .bf16) (harg8 : arg8.IsWhole)

set_option maxHeartbeats 4000000 in
set_option sl_exec.dmaWindow true in
set_option sl_exec.dmaWindowSet true in
/-- The body at the first point copies the weight into the scratch and leaves each output and the scratch written by the pieces found here. -/
def bodyFirst (hc : first i) (x0 : Vec F S512x3072 .bf16) (x1 : Vec F S512x1024 .f32) (x2 : Vec F S1x1024 .f32) (x3 : Vec F S512x1024 .f32) (fh : Held (F := F) c wgt) :
    Σ' (L4 : List (View.Piece (Elt F) S512x1024 .f32)), Σ' (L5 : List (View.Piece (Elt F) S8x1024 .f32)), { T0 : List (View.Piece (Elt F) S1024x3072 .bf16) //
      ∀ (W : Waits sig Unit) (K : PUnit → sProp 𝕄),
        iprop(owns c.tc arg1 fullShare x0 ∗ owns c.tc arg3 fullShare x1 ∗ owns c.tc arg4 fullShare x2 ∗ owns c.tc arg5 fullShare x3 ∗ (∃ d, owns c.tc arg6 fullShare d) ∗ (∃ d, owns c.tc arg7 fullShare d) ∗ (∃ d, owns c.tc arg8 fullShare d) ∗ cells c ∗ held c wgt fh ∗ owes c.tc 0 W
            ∗ (iprop(owns c.tc arg1 fullShare x0 ∗ owns c.tc arg3 fullShare x1 ∗ owns c.tc arg4 fullShare x2 ∗ owns c.tc arg5 fullShare x3 ∗ (∃ f, arg6.view.loc c.tc ↦[arg6.view.set]{fullShare} arg6.view.writes (Elt F) f L4) ∗ (∃ f, arg7.view.loc c.tc ↦[arg7.view.set]{fullShare} arg7.view.writes (Elt F) f L5) ∗ (∃ f, arg8.view.loc c.tc ↦[arg8.view.set]{fullShare} arg8.view.writes (Elt F) f T0) ∗ cells c ∗ held c wgt fh ∗ (∃ W', owes c.tc 0 W')) -∗ K ⟨⟩))
          ⊢ wp frame (wpE (defs₀ (F := F)) Variants.none c none) Set.univ (cc0_a_in_dx i arg1 harg1 (Memref.whole main_arg1) (Memref.isWhole_whole _) arg3 harg3 arg4 harg4 arg5 harg5 arg6 harg6 arg7 harg7 arg8 harg8 cc0_scratch1) K } := by
  refine ⟨?_, ?_, ?_, fun W K => ?run⟩
  case run =>
    simp only [cc0_a_in_dx_eq_skeleton]; unfold cc0_a_in_dx_skel
    simp only [k0_part1_eq_skeleton, k0_part2_eq_skeleton, k0_part3_eq_skeleton, k0_part4_eq_skeleton]
    unfold owns cells
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨Hq0, Hq1, Hq2, Hq3, Hq4, Hq5, Hq6, Hq7⟩, Hh, HW, Hk⟩
    obtain rfl := harg1.eq_unread hf0
    obtain rfl := harg3.eq_unread hf1
    obtain rfl := harg4.eq_unread hf2
    obtain rfl := harg5.eq_unread hf3
    sl_exec (disch := first | sl_exact hc)
    sl_step
    iapply Hk
    isplitl [H0]; · iapply (Shards.unread harg1 _); iexact H0
    isplitl [H1]; · iapply (Shards.unread harg3 _); iexact H1
    isplitl [H2]; · iapply (Shards.unread harg4 _); iexact H2
    isplitl [H3]; · iapply (Shards.unread harg5 _); iexact H3
    isplitl [H4]; · iexists _; iexact H4
    isplitl [H5]; · iexists _; iexact H5
    isplitl [HS0]; · iexists _; iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

set_option maxHeartbeats 4000000 in
set_option sl_exec.dmaWindow true in
set_option sl_exec.dmaWindowSet true in
/-- The body at a later point: the scratch holds the weight already and keeps it. The accumulated outputs are
    read at what the point before left. -/
def bodyLater (hc : ¬first i) (x0 : Vec F S512x3072 .bf16) (x1 : Vec F S512x1024 .f32) (x2 : Vec F S1x1024 .f32) (x3 : Vec F S512x1024 .f32) (s0 : Vec F S1024x3072 .bf16) (y5 : Vec F S8x1024 .f32) (fh : Held (F := F) c wgt) :
    Σ' (L4 : List (View.Piece (Elt F) S512x1024 .f32)), { L5 : List (View.Piece (Elt F) S8x1024 .f32) //
      ∀ (W : Waits sig Unit) (K : PUnit → sProp 𝕄),
        iprop(owns c.tc arg1 fullShare x0 ∗ owns c.tc arg3 fullShare x1 ∗ owns c.tc arg4 fullShare x2 ∗ owns c.tc arg5 fullShare x3 ∗ (∃ d, owns c.tc arg6 fullShare d) ∗ owns c.tc arg7 fullShare y5 ∗ owns c.tc arg8 fullShare s0 ∗ cells c ∗ held c wgt fh ∗ owes c.tc 0 W
            ∗ (iprop(owns c.tc arg1 fullShare x0 ∗ owns c.tc arg3 fullShare x1 ∗ owns c.tc arg4 fullShare x2 ∗ owns c.tc arg5 fullShare x3 ∗ (∃ f, arg6.view.loc c.tc ↦[arg6.view.set]{fullShare} arg6.view.writes (Elt F) f L4) ∗ (arg7.view.loc c.tc ↦[arg7.view.set]{fullShare} arg7.view.writes (Elt F) (harg7.unread y5) L5) ∗ owns c.tc arg8 fullShare s0 ∗ cells c ∗ held c wgt fh ∗ (∃ W', owes c.tc 0 W')) -∗ K ⟨⟩))
          ⊢ wp frame (wpE (defs₀ (F := F)) Variants.none c none) Set.univ (cc0_a_in_dx i arg1 harg1 (Memref.whole main_arg1) (Memref.isWhole_whole _) arg3 harg3 arg4 harg4 arg5 harg5 arg6 harg6 arg7 harg7 arg8 harg8 cc0_scratch1) K } := by
  refine ⟨?_, ?_, fun W K => ?run⟩
  case run =>
    simp only [cc0_a_in_dx_eq_skeleton]; unfold cc0_a_in_dx_skel
    simp only [k0_part1_eq_skeleton, k0_part2_eq_skeleton, k0_part3_eq_skeleton, k0_part4_eq_skeleton]
    unfold owns cells
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨Hq0, Hq1, Hq2, Hq3, Hq4, Hq5, Hq6, Hq7⟩, Hh, HW, Hk⟩
    obtain rfl := harg1.eq_unread hf0
    obtain rfl := harg3.eq_unread hf1
    obtain rfl := harg4.eq_unread hf2
    obtain rfl := harg5.eq_unread hf3
    obtain rfl := harg7.eq_unread hf5
    obtain rfl := harg8.eq_unread hfs0
    sl_exec (disch := first | sl_exact hc)
    sl_step
    iapply Hk
    isplitl [H0]; · iapply (Shards.unread harg1 _); iexact H0
    isplitl [H1]; · iapply (Shards.unread harg3 _); iexact H1
    isplitl [H2]; · iapply (Shards.unread harg4 _); iexact H2
    isplitl [H3]; · iapply (Shards.unread harg5 _); iexact H3
    isplitl [H4]; · iexists _; iexact H4
    isplitl [H5]; · iexact H5
    isplitl [HS0]; · iapply (Shards.unread harg8 _); iexact HS0
    isplitl [Hq0 Hq1 Hq2 Hq3 Hq4 Hq5 Hq6 Hq7]
    · iframe Hq0 Hq1 Hq2 Hq3 Hq4 Hq5 Hq6 Hq7
    isplitl [Hh]; · iexact Hh
    iexists _; iexact HW

end

variable (m : (ℓ : Loc nD τ sig) → Buf (Elt F) ℓ) (ρ : Dev nD → PrngReg)
variable (c : Dev nD) (t : Fin cfg0.N)

/-- Core `c`'s buffers when the grid starts: as launched. -/
abbrev V (b : Ref sig .tc) : Buf (Elt F) ((c : Thread nD τ).loc b) := m ((c : Thread nD τ).loc b)

/-- The program is the grid alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 : V m c main_arg0 = m (c.tc.loc main_arg0) := rfl
theorem V_main_arg1 : V m c main_arg1 = m (c.tc.loc main_arg1) := rfl
theorem V_main_arg2 : V m c main_arg2 = m (c.tc.loc main_arg2) := rfl
theorem V_main_arg3 : V m c main_arg3 = m (c.tc.loc main_arg3) := rfl
theorem V_main_arg4 : V m c main_arg4 = m (c.tc.loc main_arg4) := rfl

/-- Window `w`'s block at point `t`. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 : Memref sig .tc .vmem S512x3072 .bf16 := win0_0.stage (cfg0.slots t 0)
abbrev hs0 : (ms0 t).IsWhole := hstage0_0 ((cfg0.slots t 0).cast nbuf0_0)
abbrev ms1 : Memref sig .tc .vmem S512x1024 .f32 := win0_1.stage (cfg0.slots t 1)
abbrev hs1 : (ms1 t).IsWhole := hstage0_1 ((cfg0.slots t 1).cast nbuf0_1)
abbrev ms2 : Memref sig .tc .vmem S1x1024 .f32 := win0_2.stage (cfg0.slots t 2)
abbrev hs2 : (ms2 t).IsWhole := hstage0_2 ((cfg0.slots t 2).cast nbuf0_2)
abbrev ms3 : Memref sig .tc .vmem S512x1024 .f32 := win0_3.stage (cfg0.slots t 3)
abbrev hs3 : (ms3 t).IsWhole := hstage0_3 ((cfg0.slots t 3).cast nbuf0_3)
abbrev ms4 : Memref sig .tc .vmem S512x1024 .f32 := win0_4.stage (cfg0.slots t 4)
abbrev hs4 : (ms4 t).IsWhole := hstage0_4 ((cfg0.slots t 4).cast nbuf0_4)
abbrev ms5 : Memref sig .tc .vmem S8x1024 .f32 := win0_5.stage (cfg0.slots t 5)
abbrev hs5 : (ms5 t).IsWhole := hstage0_5 ((cfg0.slots t 5).cast nbuf0_5)
/-- The scratch that keeps the weight. -/
abbrev scr0 : Memref sig .tc .vmem S1024x3072 .bf16 := Memref.whole cc0_scratch0
abbrev VO4 : View sig .tc .vmem S512x1024 .f32 := (Memref.whole cc0_stg4_0 : Memref sig .tc .vmem S512x1024 .f32).view
abbrev VO5 : View sig .tc .vmem S8x1024 .f32 := (Memref.whole cc0_stg5_0 : Memref sig .tc .vmem S8x1024 .f32).view

/-- The copies' semaphores. -/
abbrev sems : Fin 8 → SemLoc sig := fun j => (![SemLoc.dma 10, SemLoc.dma 11, SemLoc.dma 12, SemLoc.dma 13, SemLoc.dma 14, SemLoc.dma 15, SemLoc.dma 16, SemLoc.dma 17] : Fin 8 → SemLoc sig) j
theorem sems_own : Pipeline.OwnSemFacts spec0 sems := by decide
theorem sems_eq :
    (Pipeline.ownSems0 (Ix := Unit) (Name := ℕ) (U := Pipeline.UD sig nD τ) (Lvl := ℕ) (Val := Elt F) (τ := τ) sems c : sProp 𝕄) = cells c := by
  rw [Pipeline.ownSems0_eq_of_list c sems [0, 1, 2, 3, 4, 5, 6, 7] (by decide) (by decide)]; rfl
/-- The operand the body copies itself. -/
def moved : Finset (Ref sig .tc) := {main_arg1}
theorem moved_sub : moved ⊆ Pipeline.restRefs sig spec0 := by decide
theorem moved_eq :
    (bigSep moved (fun b => (c.tc.loc b) ↦{fullShare} V m c b) : sProp 𝕄) = iprop(held c wgt (V m c main_arg1)) := by
  rw [BI.bigSep_eq_bigSepL_of_eq [main_arg1] (by decide) (by decide)]; rfl

/-- What the grid starts with, conjunct by conjunct. -/
theorem start_eq :
    (Pipeline.ΦD sems spec0 moved (V m) c : sProp 𝕄)
      = iprop(iprop((∃ d, owns c.tc scr0 fullShare d)) ∗ (∃ r, prngReg c r) ∗ cells c ∗ iprop(held c wgt (V m c main_arg1))) := by
  rw [Pipeline.ΦD_eq, scopedRest0_eq, sems_eq, moved_eq]; simp only [scr0, owns_whole]; try rfl

/-- The body's run at the first point, on that point's buffers and blocks. -/
def runFirst (h : t.val = 0) :=
  bodyFirst (F := F) c (grid0.coords t) (ms0 t) (hs0 t) (ms1 t) (hs1 t) (ms2 t) (hs2 t) (ms3 t) (hs3 t) (ms4 t) (hs4 t) (ms5 t) (hs5 t) scr0 (Memref.isWhole_whole _) ((first_iff t).mpr h) (iblk m c 0 t) (iblk m c 1 t) (iblk m c 2 t) (iblk m c 3 t) (V m c main_arg1)
/-- The body's run at a later point. -/
def runLater (h : ¬t.val = 0) (s0 : Vec F S1024x3072 .bf16) (y5 : Vec F S8x1024 .f32) :=
  bodyLater (F := F) c (grid0.coords t) (ms0 t) (hs0 t) (ms1 t) (hs1 t) (ms2 t) (hs2 t) (ms3 t) (hs3 t) (ms4 t) (hs4 t) (ms5 t) (hs5 t) scr0 (Memref.isWhole_whole _) (fun e => h ((first_iff t).mp e)) (iblk m c 0 t) (iblk m c 1 t) (iblk m c 2 t) (iblk m c 3 t) s0 y5 (V m c main_arg1)

theorem coverFirst4 (h : t.val = 0) (y : S512x1024.Idx) : ∃ pc ∈ (runFirst m c t h).1, y ∈ pc.1.set :=
  View.cover_of_tiledL _ S512x1024.size (by sl_kernel_rfl) y
/-- What the first point leaves in output 0. -/
def outFirst4 (h : t.val = 0) : Vec F S512x1024 .f32 := VO4.read (Elt F) (VO4.writes (Elt F) VO4.junk (runFirst m c t h).1)
theorem coverFirst5 (h : t.val = 0) (y : S8x1024.Idx) : ∃ pc ∈ (runFirst m c t h).2.1, y ∈ pc.1.set :=
  View.cover_of_wholeMem _ (by sl_whole_mem) y
/-- What the first point leaves in output 1. -/
def outFirst5 (h : t.val = 0) : Vec F S8x1024 .f32 := VO5.read (Elt F) (VO5.writes (Elt F) VO5.junk (runFirst m c t h).2.1)
theorem coverLater4 (h : ¬t.val = 0) (s0 : Vec F S1024x3072 .bf16) (y5 : Vec F S8x1024 .f32) (y : S512x1024.Idx) : ∃ pc ∈ (runLater m c t h s0 y5).1, y ∈ pc.1.set :=
  View.cover_of_tiledL _ S512x1024.size (by sl_kernel_rfl) y
/-- What a later point leaves in output 0, the scratch holding `s0`. -/
def outLater4 (h : ¬t.val = 0) (s0 : Vec F S1024x3072 .bf16) (y5 : Vec F S8x1024 .f32) : Vec F S512x1024 .f32 := VO4.read (Elt F) (VO4.writes (Elt F) VO4.junk (runLater m c t h s0 y5).1)
/-- What a later point leaves in output 1, which held `y5`. -/
def outLater5 (h : ¬t.val = 0) (s0 : Vec F S1024x3072 .bf16) (y5 : Vec F S8x1024 .f32) : Vec F S8x1024 .f32 :=
  (ms5 t).view.read (Elt F) ((ms5 t).view.writes (Elt F) ((hs5 t).unread y5) (runLater m c t h s0 y5).2.1)
theorem coverScr0 (h : t.val = 0) (y : S1024x3072.Idx) : ∃ pc ∈ (runFirst m c t h).2.2.1, y ∈ pc.1.set :=
  View.cover_of_tiledL _ ![1024,384] (by sl_kernel_rfl) y
/-- The weight as the first point leaves it in the scratch. -/
def weight0 : Vec F S1024x3072 .bf16 :=
  scr0.view.read (Elt F) (scr0.view.writes (Elt F) scr0.view.junk (runFirst m c t0_0 (show t0_0.val = 0 from rfl)).2.2.1)

/-- The accumulated outputs after point `n`. -/
def accAt (c : Dev nD) : (n : ℕ) → n < cfg0.N → Vec F S8x1024 .f32
  | 0, hn => (outFirst5 m c ⟨0, hn⟩ rfl)
  | n + 1, hn => (outLater5 m c ⟨n + 1, hn⟩ (Nat.succ_ne_zero n) (weight0 m c) (accAt c n (Nat.lt_of_succ_lt hn)))

/-- The accumulated outputs before point `t`. -/
abbrev accPrev := accAt m c (t.val - 1) (Nat.lt_of_le_of_lt (Nat.sub_le _ _) t.isLt)

theorem accAt_first (h : t.val = 0) : accAt m c t.val t.isLt = (outFirst5 m c t h) := by
  obtain ⟨n, hn⟩ := t
  cases n with
  | zero => rfl
  | succ n => exact absurd h (Nat.succ_ne_zero n)
theorem accAt_later (h : ¬t.val = 0) :
    accAt m c t.val t.isLt = (outLater5 m c t h (weight0 m c) (accPrev m c t)) := by
  obtain ⟨n, hn⟩ := t
  cases n with
  | zero => exact absurd rfl h
  | succ n => rfl

/-- What point `t` leaves in output 0. -/
def out4 : Vec F S512x1024 .f32 := if h : t.val = 0 then outFirst4 m c t h else outLater4 m c t h (weight0 m c) (accPrev m c t)
theorem out4_first (h : t.val = 0) : out4 m c t = outFirst4 m c t h := dif_pos h
theorem out4_later (h : ¬t.val = 0) : out4 m c t = outLater4 m c t h (weight0 m c) (accPrev m c t) := dif_neg h

/-- Between the points: at first what the grid starts with, afterwards the scratch at the weight. -/
def Keep : (n : ℕ) → n ≤ cfg0.N → sProp 𝕄
  | 0, _ => Pipeline.ΦD sems spec0 moved (V m) c
  | n + 1, _ => iprop(iprop(owns c.tc scr0 fullShare (weight0 m c)) ∗ (∃ r, prngReg c r) ∗ cells c ∗ iprop(held c wgt (V m c main_arg1)))
theorem Keep_zero (n : ℕ) (h : n ≤ cfg0.N) (hz : n = 0) : Keep m c n h = Pipeline.ΦD sems spec0 moved (V m) c := by
  subst hz; rfl
theorem Keep_pos (n : ℕ) (h : n ≤ cfg0.N) (hz : n ≠ 0) :
    Keep m c n h = iprop(iprop(owns c.tc scr0 fullShare (weight0 m c)) ∗ (∃ r, prngReg c r) ∗ cells c ∗ iprop(held c wgt (V m c main_arg1))) := by
  cases n with
  | zero => exact absurd rfl hz
  | succ n => rfl

/-- The proof data: inputs at their blocks, outputs at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => (accAt m c t.val t.isLt)
  Φ t := Keep m c t.val (Nat.le_of_lt_succ t.isLt)
  q _ := fullShare
  owed _ := 0
theorem A_eq (w : Fin cfg0.W) : (dats m 0 c).A w = V m c (Pipeline.arrRef spec0 w) := by
  dsimp only [dats]
theorem Keep_castSucc :
    (dats m 0 c).Φ t.castSucc = Keep m c t.val (Nat.le_of_lt t.isLt) := by
  dsimp only [dats]; exact Pipeline.Dat.Φ_castSucc (Keep m c) t
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = out4 m c t := by dsimp only [dats]
theorem after5 : (dats m 0 c).after 5 t = (accAt m c t.val t.isLt) := by dsimp only [dats]
theorem before0 (d) : (dats m 0 c).before 0 t d = iblk m c 0 t :=
  (dats m 0 c).before_in_eq_fetched 0 rfl (fun _ => rfl) (fun _ _ _ => rfl) (fun _ => rfl) t d
theorem before1 (d) : (dats m 0 c).before 1 t d = iblk m c 1 t :=
  (dats m 0 c).before_in_eq_fetched 1 rfl (fun _ => rfl) (fun _ _ _ => rfl) (fun _ => rfl) t d
theorem before2 (d) : (dats m 0 c).before 2 t d = iblk m c 2 t :=
  (dats m 0 c).before_in_eq_fetched 2 rfl (fun _ => rfl) (fun _ _ _ => rfl) (fun _ => rfl) t d
theorem before3 (d) : (dats m 0 c).before 3 t d = iblk m c 3 t :=
  (dats m 0 c).before_in_eq_fetched 3 rfl (fun _ => rfl) (fun _ _ _ => rfl) (fun _ => rfl) t d
theorem before5 (h : ¬t.val = 0) (d) :
    (dats m 0 c).before 5 t d = (accPrev m c t) := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]

def bodyPre : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d)))
def bodyPost : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t)
    ∗ owns c.tc (ms2 t) fullShare ((dats m 0 c).after 2 t)
    ∗ owns c.tc (ms3 t) fullShare ((dats m 0 c).after 3 t)
    ∗ owns c.tc (ms4 t) fullShare ((dats m 0 c).after 4 t)
    ∗ owns c.tc (ms5 t) fullShare ((dats m 0 c).after 5 t))

set_option maxHeartbeats 4000000 in
/-- The body at every point takes what holds before the point to what holds after it. -/
theorem sound :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Keep m c (t.val + 1) t.isLt from rfl, Keep_pos m c _ _ (Nat.succ_ne_zero _),
    after0, after1, after2, after3, after4, after5]
  unfold Dat.owesAt Pipeline.owesWithin
  rw [show (dats m 0 c).owed t.castSucc = 0 from rfl, show (dats m 0 c).owed t.succ = 0 from rfl]
  by_cases h0 : t.val = 0
  · have hz := h0
    rw [Keep_castSucc m c t, Keep_zero m c _ _ h0, start_eq]
    obtain rfl : t = t0_0 := Fin.ext h0
    rw [out4_first m c t0_0 h0, accAt_first m c t0_0 h0]
    unfold outFirst4 outFirst5 weight0; (try dsimp only)
    iintro ⟨⟨HS0, Hg, Hq, Hh⟩, ⟨%W, -, HW⟩, ⟨%d0, H0⟩, ⟨%d1, H1⟩, ⟨%d2, H2⟩, ⟨%d3, H3⟩, ⟨%d4, H4⟩, ⟨%d5, H5⟩⟩
    iapply ((runFirst m c t0_0 h0).2.2.2 W _)
    iframe H0 H1 H2 H3
    isplitl [H4]; · iexists _; iexact H4
    isplitl [H5]; · iexists _; iexact H5
    iframe HS0 Hq Hh HW
    iintro ⟨H0, H1, H2, H3, ⟨%e4, H4⟩, ⟨%e5, H5⟩, ⟨%es0, HS0⟩, Hq, Hh, ⟨%W', HW'⟩⟩
    isplitl [HS0 Hg Hq Hh]
    · isplitl [HS0]
      · iapply (Shards.owned _ _ _ _ _ (coverScr0 m c t0_0 h0)); iexact HS0
      iframe Hg Hq Hh
    isplitl [HW']
    · iexists W'; isplitr; · ipureintro; exact fun _ _ => Or.inl trivial
      iexact HW'
    iframe H0 H1 H2 H3
    isplitl [H4]
    · iapply (Shards.owned _ _ _ _ _ (coverFirst4 m c _ h0)); iexact H4
    iapply (Shards.owned _ _ _ _ _ (coverFirst5 m c _ h0)); iexact H5
  · have hz := h0
    rw [Keep_castSucc m c t, Keep_pos m c _ _ h0]
    rw [out4_later m c t h0, accAt_later m c t h0]
    simp only [before5 m c t h0]
    unfold outLater4 outLater5; (try dsimp only)
    iintro ⟨⟨HS0, Hg, Hq, Hh⟩, ⟨%W, -, HW⟩, ⟨%d0, H0⟩, ⟨%d1, H1⟩, ⟨%d2, H2⟩, ⟨%d3, H3⟩, ⟨%d4, H4⟩, ⟨%d5, H5⟩⟩
    iapply ((runLater m c t h0 (weight0 m c) (accPrev m c t)).2.2 W _)
    iframe H0 H1 H2 H3
    isplitl [H4]; · iexists _; iexact H4
    iframe H5 HS0 Hq Hh HW
    iintro ⟨H0, H1, H2, H3, ⟨%e4, H4⟩, H5, HS0, Hq, Hh, ⟨%W', HW'⟩⟩
    isplitl [HS0 Hg Hq Hh]
    · isplitl [HS0]
      · iexact HS0
      iframe Hg Hq Hh
    isplitl [HW']
    · iexists W'; isplitr; · ipureintro; exact fun _ _ => Or.inl trivial
      iexact HW'
    iframe H0 H1 H2 H3
    isplitl [H4]
    · iapply (Shards.owned _ _ _ _ _ (coverLater4 m c _ h0 _ _)); iexact H4
    unfold owns; iexists _; isplitr
    swap; · iexact H5
    ipureintro; rfl

theorem defs_row :
    defs₀ (F := F) .tc cfg0.body (cfg0.bodyArgs t (cfg0.slots t)) = bodyAt0 t := by
  unfold defs₀; rw [Defs.onTc_tc]
theorem obligation : BodyObligation (dats (F := F) m 0 c) (defs₀ (F := F)) Variants.none () Set.univ := fun t => by
  rw [bigSep_W0, bigSep_W0, defs_row]
  exact triple_restated (sound m c t) rfl .rfl fun _ => .rfl
theorem hin : Pipeline.ΦD sems spec0 moved (V m) c ⊢ (dats m 0 c).Φ 0 := by
  rw [show (dats m 0 c).Φ 0 = Keep m c 0 (Nat.zero_le _) from rfl, Keep_zero m c 0 _ rfl]
  try exact Idealize.SL.BI.Entails.refl _
theorem hout : (dats m 0 c).Φ (Fin.last cfg0.N) ⊢ Pipeline.ΦD sems spec0 moved (V m) c := by
  rw [show (dats m 0 c).Φ (Fin.last cfg0.N) = Keep m c (Fin.last cfg0.N).val (Nat.le_of_lt_succ (Fin.last cfg0.N).isLt) from rfl,
    Keep_pos m c _ _ (by rw [Fin.val_last]; have : cfg0.N = 8 := N_0; omega), start_eq]
  iintro ⟨HS0, Hg, Hq, Hh⟩
  isplitl [HS0]
  · iexists _; iexact HS0
  iframe Hg Hq Hh

set_option backward.isDefEq.respectTransparency.types false in
/-- Every fair execution ends, the arrays at what the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none sems_own moved moved_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments are as launched. -/
abbrev Kept (μ : (ℓ : Loc nD τ sig) → Buf (Elt F) ℓ) : Prop :=
  μ (c.tc.loc main_arg0) = m (c.tc.loc main_arg0) ∧ μ (c.tc.loc main_arg1) = m (c.tc.loc main_arg1) ∧ μ (c.tc.loc main_arg2) = m (c.tc.loc main_arg2) ∧ μ (c.tc.loc main_arg3) = m (c.tc.loc main_arg3) ∧ μ (c.tc.loc main_arg4) = m (c.tc.loc main_arg4)

/-- The arguments end as they were. -/
theorem kept (r : PUnit × MemSt nD τ sig (Elt F)) (h : Pipeline.FramePost cfgs (dats m) 0 (V m) r) (c : Dev nD) :
    Kept m c r.2.mem :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c)))⟩

/-- The program ends with its arguments unchanged and every counter at zero. -/
theorem frame : θ_run defs (onTc (τ := τ) (main (F := F))) ⟨m, fun _ => 0, ρ⟩ (fun r => (∀ c : Dev nD,
      Kept m c r.2.mem)
      ∧ r.2.sem = fun _ => 0) :=
  (θ_run defs _ _).mono (fun r h => ⟨fun c => kept m r h.1 c, h.2⟩) (run_quiescent m ρ)

/-- The program ends with each result at the blocks the points wrote. -/
theorem run_blocks : θ_run defs (onTc (τ := τ) (main (F := F))) ⟨m, fun _ => 0, ρ⟩ fun r => ∀ c : Dev nD,
      (r.2.mem (c.tc.loc main_v0_0) = (dats m 0 c).arrAt 4 cfg0.N ∧ r.2.mem (c.tc.loc main_v0_1) = (dats m 0 c).arrAt 5 cfg0.N)
      ∧ (Kept m c r.2.mem) :=
  (θ_run defs _ _).mono (fun r h c => ⟨⟨(h.1 c).1 4, (h.1 c).1 5⟩, kept m r h.1 c⟩) (run_quiescent m ρ)

end

section
open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N)

/-- The weight in the scratch: column `k` is column `k % 384` of the shard of device `k / 384`. -/
theorem weight0_apply (d : Fin 8) (r : Fin 384) (k : Fin 1024) (j : Fin 3072) (hj : j.val = d.val * 384 + r.val) :
    weight0 m c (ix2 k j) = m (c.tc.loc main_arg1) (ix4 d (⟨0, by decide⟩ : Fin 1) k r) := by
  unfold weight0 runFirst
  frame_out
  canon_tiles x h
  all_goals obtain ⟨x0, x1, rfl⟩ := Shards.pair x
  all_goals
    have e0 : ((ix2 k j : S1024x3072.Idx) 0).val = k.val := rfl
    have e1 : ((ix2 k j : S1024x3072.Idx) 1).val = j.val := rfl
    have e2 : ((ix2 x0 x1 : S1024x384.Idx) 0).val = x0.val := rfl
    have e3 : ((ix2 x0 x1 : S1024x384.Idx) 1).val = x1.val := rfl
    rw [e0, e2] at h0
    rw [e1, e3] at h1
    have := x0.isLt
    have := x1.isLt
    refine (Shards.read_block4 _ _ _ _ _ d (⟨0, by decide⟩ : Fin 1) x0 x1 k r ?_ rfl ?_ ?_).trans (congrFun (V_main_arg1 m c) _)
    all_goals
      try simp only [Matrix.cons_val_zero, Matrix.cons_val_one, Matrix.cons_val]
      omega

/-- Every point leaves the gradient of the input of its block. -/
theorem out4_eq : out4 m c t = k0_pay2 (F := Ideal) (iblk m c 0 t) (weight0 m c) (iblk m c 2 t) (iblk m c 3 t) := by
  by_cases h : t.val = 0
  · rw [out4_first m c t h]
    obtain rfl : t = t0_0 := Fin.ext h
    unfold outFirst4 weight0 runFirst
    frame_out
    try simp only [read_unread_whole]
    repeat erw [Shards.readCov_all]
    try rfl
  · rw [out4_later m c t h]
    unfold outLater4 runLater
    frame_out
    try simp only [read_unread_whole]

/-- The product with the transposed weight at an entry: row `r` of the cotangent against row `j` of the gathered weight. -/
def dot (d : S4096x3072.Idx → Elt Ideal .bf16) (w : S8x1x1024x384.Idx → Elt Ideal .bf16) (r : Fin 4096) (j : Fin 1024) : EReal :=
  ∑ k : Fin 3072, d (ix2 r k) * w (ix4 (⟨k.val / 384, by omega⟩ : Fin 8) (⟨0, by decide⟩ : Fin 1) j (⟨k.val % 384, by omega⟩ : Fin 384))

/-- The two sums over the rows, and zeros: what the array of eight rows holds at the end. -/
def sums (d : S4096x3072.Idx → Elt Ideal .bf16) (w : S8x1x1024x384.Idx → Elt Ideal .bf16) (x : S4096x1024.Idx → Elt Ideal .f32) (i : Fin 8) (j : Fin 1024) : EReal :=
  if i.val = 0 then ∑ r : Fin 4096, dot d w r j * x (ix2 r j) else if i.val = 1 then ∑ r : Fin 4096, dot d w r j else 0

theorem blk0 (x : Fin 512) (r : Fin 4096) (hr : r.val = t.val * 512 + x.val) (k : Fin 3072) :
    iblk m c 0 t (ix2 x k) = m (c.tc.loc main_arg0) (ix2 r k) := by
  have hi := (by decide +kernel : ∀ t : Fin cfg0.N, win0_0.index t (0 : Fin 2) = t.val ∧ win0_0.index t (1 : Fin 2) = 0) t
  rw [← V_main_arg0 m c]
  blk_point [iblk, hi.1, hi.2]
theorem blk1 (x : Fin 512) (r : Fin 4096) (hr : r.val = t.val * 512 + x.val) (k : Fin 1024) :
    iblk m c 1 t (ix2 x k) = m (c.tc.loc main_arg2) (ix2 r k) := by
  have hi := (by decide +kernel : ∀ t : Fin cfg0.N, win0_1.index t (0 : Fin 2) = t.val ∧ win0_1.index t (1 : Fin 2) = 0) t
  rw [← V_main_arg2 m c]
  blk_point [iblk, hi.1, hi.2]
theorem blk2 (k : Fin 1024) : iblk m c 2 t (ix2 (0 : Fin 1) k) = m (c.tc.loc main_arg3) (ix2 (0 : Fin 1) k) := by
  have hi := (by decide +kernel : ∀ t : Fin cfg0.N, win0_2.index t (0 : Fin 2) = 0 ∧ win0_2.index t (1 : Fin 2) = 0) t
  rw [← V_main_arg3 m c]
  blk_point [iblk, hi.1, hi.2]
theorem blk3 (x : Fin 512) (r : Fin 4096) (hr : r.val = t.val * 512 + x.val) (k : Fin 1024) :
    iblk m c 3 t (ix2 x k) = m (c.tc.loc main_arg4) (ix2 r k) := by
  have hi := (by decide +kernel : ∀ t : Fin cfg0.N, win0_3.index t (0 : Fin 2) = t.val ∧ win0_3.index t (1 : Fin 2) = 0) t
  rw [← V_main_arg4 m c]
  blk_point [iblk, hi.1, hi.2]

section
variable (D : Vec Ideal S512x3072 .bf16) (W : Vec Ideal S1024x3072 .bf16) (X : Vec Ideal S512x1024 .f32)

/-- A block's product at an entry. -/
theorem pay1_apply (x : Fin 512) (j : Fin 1024) : k0_pay1 (F := Ideal) D W (ix2 x j) = ∑ k : Fin 3072, D (ix2 x k) * W (ix2 j k) := by
  pointwise [k0_pay1]
theorem pay3_apply (a : Vec Ideal S1x1024 .f32) (j : Fin 1024) :
    k0_pay3 (F := Ideal) D W a X (ix2 (0 : Fin 1) j) = a (ix2 (0 : Fin 1) j) + ∑ x : Fin 512, k0_pay1 (F := Ideal) D W (ix2 x j) * X (ix2 x j) := by
  unfold k0_pay3
  generalize k0_pay1 (F := Ideal) D W = P
  pointwise []
theorem pay4_apply (a : Vec Ideal S1x1024 .f32) (j : Fin 1024) :
    k0_pay4 (F := Ideal) D W a (ix2 (0 : Fin 1) j) = a (ix2 (0 : Fin 1) j) + ∑ x : Fin 512, k0_pay1 (F := Ideal) D W (ix2 x j) := by
  unfold k0_pay4
  generalize k0_pay1 (F := Ideal) D W = P
  pointwise []
theorem pay5_apply (y : S8x1024.Idx) : k0_pay5 (F := Ideal) y = 0 := by
  pointwise [k0_pay5]

/-- What a block adds to the array of eight rows. -/
def add (i : Fin 8) (j : Fin 1024) : EReal :=
  if i.val = 0 then ∑ x : Fin 512, k0_pay1 (F := Ideal) D W (ix2 x j) * X (ix2 x j) else if i.val = 1 then ∑ x : Fin 512, k0_pay1 (F := Ideal) D W (ix2 x j) else 0

/-- The eight rows after the first point: cleared, then its sums added to the first two. -/
theorem rows_first {κ : Kind} {sp : Space} (v : View sig κ sp S8x1024 .f32) (i0) (i1) (i8) (i : Fin 8) (j : Fin 1024) :
    View.canon [(⟨Rect.unit (s := S8x1024) ![1, 0] ![1, 1024] i1, k0_pay4 (F := Ideal) D W (v.readCov [(⟨Rect.unit (s := S8x1024) ![0, 0] ![1, 1024] i0, k0_pay3 (F := Ideal) D W (v.readCov [(⟨Rect.unit (s := S8x1024) ![0, 0] ![8, 1024] i8, k0_pay5 (F := Ideal)⟩ : View.Piece (Elt Ideal) S8x1024 .f32)] (Rect.unit (s := S8x1024) ![0, 0] ![1, 1024] i0).toLoadRect) X⟩ : View.Piece (Elt Ideal) S8x1024 .f32), (⟨Rect.unit (s := S8x1024) ![0, 0] ![8, 1024] i8, k0_pay5 (F := Ideal)⟩ : View.Piece (Elt Ideal) S8x1024 .f32)] (Rect.unit (s := S8x1024) ![1, 0] ![1, 1024] i1).toLoadRect)⟩ : View.Piece (Elt Ideal) S8x1024 .f32), (⟨Rect.unit (s := S8x1024) ![0, 0] ![1, 1024] i0, k0_pay3 (F := Ideal) D W (v.readCov [(⟨Rect.unit (s := S8x1024) ![0, 0] ![8, 1024] i8, k0_pay5 (F := Ideal)⟩ : View.Piece (Elt Ideal) S8x1024 .f32)] (Rect.unit (s := S8x1024) ![0, 0] ![1, 1024] i0).toLoadRect) X⟩ : View.Piece (Elt Ideal) S8x1024 .f32), (⟨Rect.unit (s := S8x1024) ![0, 0] ![8, 1024] i8, k0_pay5 (F := Ideal)⟩ : View.Piece (Elt Ideal) S8x1024 .f32)] (ix2 i j) = 0 + add D W X i j := by
  unfold add
  by_cases h0 : i.val = 0
  · rw [if_pos h0]
    refine (Shards.canon_row_ne _ _ _ i j (by omega)).trans ((Shards.canon_row _ _ _ i j h0).trans ((pay3_apply _ _ _ _ j).trans ?_))
    refine congrArg (HAdd.hAdd (α := EReal) (β := EReal) (γ := EReal) · _) ?_
    exact (Shards.readCov_row _ _ _ i j h0).trans ((Shards.read_fill _ _ _ _ _ _).trans (pay5_apply _))
  · rw [if_neg h0]
    by_cases h1 : i.val = 1
    · rw [if_pos h1]
      refine (Shards.canon_row _ _ _ i j h1).trans ((pay4_apply _ _ _ j).trans ?_)
      refine congrArg (HAdd.hAdd (α := EReal) (β := EReal) (γ := EReal) · _) ?_
      exact (Shards.readCov_row _ _ _ i j h1).trans ((Shards.read_row_ne _ _ _ _ _ i j (by omega)).trans ((Shards.read_fill _ _ _ _ _ _).trans (pay5_apply _)))
    · rw [if_neg h1, add_zero]
      exact (Shards.canon_row_ne _ _ _ i j h1).trans ((Shards.canon_row_ne _ _ _ i j h0).trans ((Shards.canon_fill _ _ _ _).trans (pay5_apply _)))

end

/-- The first point clears the eight rows and adds its block's sums to the first two. -/
theorem acc_first (h : t.val = 0) (i : Fin 8) (j : Fin 1024) :
    accAt m c t.val t.isLt (ix2 i j) = 0 + add (iblk m c 0 t) (weight0 m c) (iblk m c 1 t) i j := by
  rw [accAt_first m c t h]
  obtain rfl : t = t0_0 := Fin.ext h
  generalize hw : weight0 m c = W
  unfold outFirst5 runFirst
  frame_out
  try simp only [read_unread_whole]
  refine (rows_first _ _ _ _ _ _ _ i j).trans ?_
  refine congrArg (fun W => 0 + add (iblk m c 0 t0_0) W (iblk m c 1 t0_0) i j) (Eq.trans ?_ hw)
  erw [Shards.readCov_all]
  unfold weight0 runFirst
  frame_out

/-- Every later point adds its block's sums to what the point before left. -/
theorem acc_step (h : ¬t.val = 0) (i : Fin 8) (j : Fin 1024) :
    accAt m c t.val t.isLt (ix2 i j) = accAt m c (t.val - 1) (Nat.lt_of_le_of_lt (Nat.sub_le _ _) t.isLt) (ix2 i j) + add (iblk m c 0 t) (weight0 m c) (iblk m c 1 t) i j := by
  rw [accAt_later m c t h]
  unfold accPrev
  generalize weight0 m c = W
  generalize accAt m c (t.val - 1) _ = y
  unfold outLater5 runLater
  frame_out
  try simp only [read_unread_whole]
  unfold add
  by_cases h0 : i.val = 0
  · rw [if_pos h0]
    refine (Shards.read_row_ne _ _ _ _ _ i j (by omega)).trans ((Shards.read_row _ _ _ _ _ i j h0).trans ((pay3_apply _ _ _ _ j).trans ?_))
    exact congrArg (HAdd.hAdd (α := EReal) (β := EReal) (γ := EReal) · _) (Shards.ld_row _ _ i j h0)
  · rw [if_neg h0]
    by_cases h1 : i.val = 1
    · rw [if_pos h1]
      refine (Shards.read_row _ _ _ _ _ i j h1).trans ((pay4_apply _ _ _ j).trans ?_)
      exact congrArg (HAdd.hAdd (α := EReal) (β := EReal) (γ := EReal) · _) (Shards.ld_row _ _ i j h1)
    · rw [if_neg h1, add_zero]
      refine (Shards.read_row_ne _ _ _ _ _ i j h1).trans ((Shards.read_row_ne _ _ _ _ _ i j h0).trans ?_)
      rw [View.writes_nil]
      exact congrFun (Memref.IsWhole.read_unread _ _) _

/-- The product of a block is the product of its rows. -/
theorem pay1_dot (x : Fin 512) (r : Fin 4096) (hr : r.val = t.val * 512 + x.val) (j : Fin 1024) :
    k0_pay1 (F := Ideal) (iblk m c 0 t) (weight0 m c) (ix2 x j) = dot (m (c.tc.loc main_arg0)) (m (c.tc.loc main_arg1)) r j := by
  rw [pay1_apply]
  unfold dot
  have hW : ∀ k : Fin 3072, weight0 m c (ix2 j k) = m (c.tc.loc main_arg1) (ix4 (⟨k.val / 384, by omega⟩ : Fin 8) (⟨0, by decide⟩ : Fin 1) j (⟨k.val % 384, by omega⟩ : Fin 384)) :=
    fun k => weight0_apply m c _ _ j k (by dsimp only; omega)
  simp only [← hW, ← blk0 m c t x r hr]

/-- The eight rows after the last point: the sums over the points of what each adds. -/
theorem acc_last (ht : t.val + 1 = cfg0.N) (i : Fin 8) (j : Fin 1024) :
    accAt m c t.val t.isLt (ix2 i j) = ∑ p : Fin cfg0.N, add (iblk m c 0 p) (weight0 m c) (iblk m c 1 p) i j := by
  have hN : ∀ p : Fin cfg0.N, p.val < 8 := fun p => Nat.lt_of_lt_of_eq p.isLt N_0
  rw [Pipeline.eq_sum_fin_of_reset_step_apply_last (fun n h (i : Fin 8 × Fin 1024) => accAt m c n h (ix2 i.1 i.2)) 8
    (fun _ => 0) (fun p i => add (iblk m c 0 p) (weight0 m c) (iblk m c 1 p) i.1 i.2) ?_ ?_ (by decide) t ht (i, j), zero_add]
  · intro t h i
    exact acc_first m c t (by have := hN t; omega) i.1 i.2
  · intro t h i
    exact acc_step m c t (by omega) i.1 i.2

/-- These are the sums over all the rows: block `p` holds rows 512 p to 512 p + 511. -/
theorem add_sum (i : Fin 8) (j : Fin 1024) :
    ∑ p : Fin cfg0.N, add (iblk m c 0 p) (weight0 m c) (iblk m c 1 p) i j = sums (m (c.tc.loc main_arg0)) (m (c.tc.loc main_arg1)) (m (c.tc.loc main_arg2)) i j := by
  unfold add sums
  by_cases h0 : i.val = 0
  · simp only [if_pos h0]
    refine Fin.sum_mul_add_congr (S := cfg0.N) (n := 512) (fun p s hl => ?_) rfl
    rw [pay1_dot m c p s ⟨p.val * 512 + s.val, hl⟩ rfl j, blk1 m c p s ⟨p.val * 512 + s.val, hl⟩ rfl j]
  · simp only [if_neg h0]
    by_cases h1 : i.val = 1
    · simp only [if_pos h1]
      refine Fin.sum_mul_add_congr (S := cfg0.N) (n := 512) (fun p s hl => ?_) rfl
      rw [pay1_dot m c p s ⟨p.val * 512 + s.val, hl⟩ rfl j]
    · simp only [if_neg h1]
      exact Finset.sum_const_zero

/-- One block of output window 4. -/
theorem out4_apply (x : Fin 512) (j : Fin 1024) (r : Fin 4096) (hr : r.val = t.val * 512 + x.val) :
    out4 m c t (ix2 x j) = (dot (m (c.tc.loc main_arg0)) (m (c.tc.loc main_arg1)) r j * (1 + (m (c.tc.loc main_arg3)) (ix2 (0 : Fin 1) j)) + (m (c.tc.loc main_arg4)) (ix2 r j) : EReal) := by
  rw [out4_eq, ← pay1_dot m c t x r hr j, ← blk2 m c t j, ← blk3 m c t x r hr j]
  unfold k0_pay2
  generalize k0_pay1 (F := Ideal) (iblk m c 0 t) (weight0 m c) = P
  generalize iblk m c 2 t = A
  generalize iblk m c 3 t = B
  pointwise []

/-- The whole array of output window 4. -/
theorem final4 : (dats m 0 c).arrAt 4 cfg0.N = fun i : S4096x1024.Idx => (fun (r : Fin 4096) (j : Fin 1024) => (dot (m (c.tc.loc main_arg0)) (m (c.tc.loc main_arg1)) r j * (1 + (m (c.tc.loc main_arg3)) (ix2 (0 : Fin 1) j)) + (m (c.tc.loc main_arg4)) (ix2 r j) : EReal)) (i 0) (i 1) := by
  refine (dats m 0 c).arrAt_eq_of_covers 4 _ (by decide +kernel) fun t hf y => ?_
  rw [after4]
  obtain ⟨a, b, rfl⟩ := Shards.pair y
  have hi := (by decide +kernel : ∀ t : Fin cfg0.N, win0_4.index t (0 : Fin 2) = t.val ∧ win0_4.index t (1 : Fin 2) = 0) t
  blk_simp
  have e1 : (win0_4.blk t).view.emb (ix2 a b) 1 = b :=
    Fin.ext (Shards.at_zero hi.2)
  dsimp only
  rw [e1]
  exact out4_apply m c t a b _ (Shards.at_row hi.1)

/-- The whole array of output window 5. -/
theorem final5 : (dats m 0 c).arrAt 5 cfg0.N = fun y : S8x1024.Idx => sums (m (c.tc.loc main_arg0)) (m (c.tc.loc main_arg1)) (m (c.tc.loc main_arg2)) (y 0) (y 1) := by
  refine (dats m 0 c).arrAt_eq_of_covers 5 _ (by decide +kernel) fun t hf y => ?_
  rw [after5]
  obtain ⟨a, b, rfl⟩ := Shards.pair y
  have ht := (by decide +kernel : ∀ t : Fin cfg0.N, (cfg0.win 5).flush t = true → t = ⟨7, by decide⟩) t hf
  have hi := (by decide +kernel : ∀ t : Fin cfg0.N, win0_5.index t (0 : Fin 2) = 0 ∧ win0_5.index t (1 : Fin 2) = 0) t
  blk_simp
  have e0 : (win0_5.blk t).view.emb (ix2 a b) 0 = a :=
    Fin.ext (Shards.at_zero hi.1)
  have e1 : (win0_5.blk t).view.emb (ix2 a b) 1 = b :=
    Fin.ext (Shards.at_zero hi.2)
  dsimp only
  rw [e0, e1]
  exact (acc_last m c t (by rw [ht]; rfl) a b).trans (add_sum m c a b)

end

end Cert.Kernel16Ideal.Run

namespace Cert.Reference16Ideal.Rows

open Cert.Reference16Ideal Cert.Reference16Ideal.Gen Idealize.ShloMosaic

/-- The reference's product of the cotangent with the transposed weight. -/
def prod (d : FVec Ideal S4096x3072 .bf16) (w : FVec Ideal S8x1x1024x384 .bf16) : FVec Ideal S4096x1024 .f32 :=
  Host.dotGeneral dot_S4096x3072_S1024x3072_S4096x1024_1_1_0_0_n_n none (extf .f32 d bitsLt_bf16_f32) (extf .f32 (shapeCast S1024x3072 (transpose S1024x8x384 [1, 0, 2] (shapeCast S8x1024x384 w shapeCasts_S8x1x1024x384_S8x1024x384) transposes_S8x1024x384_S1024x8x384_1_0_2) shapeCasts_S1024x8x384_S1024x3072) bitsLt_bf16_f32)

theorem prod_apply (d : FVec Ideal S4096x3072 .bf16) (w : FVec Ideal S8x1x1024x384 .bf16) (r : Fin 4096) (j : Fin 1024) : prod d w (ix2 r j) = Kernel16Ideal.Run.dot d w r j := by
  have hW : ∀ k : Fin 3072, (shapeCast S1024x3072 (transpose S1024x8x384 [1, 0, 2] (shapeCast S8x1024x384 w shapeCasts_S8x1x1024x384_S8x1024x384) transposes_S8x1024x384_S1024x8x384_1_0_2) shapeCasts_S1024x8x384_S1024x3072) (ix2 j k) = w (ix4 (⟨k.val / 384, by omega⟩ : Fin 8) (⟨0, by decide⟩ : Fin 1) j (⟨k.val % 384, by omega⟩ : Fin 384)) := by
    intro k
    refine (Shards.cols_apply (F := Elt Ideal) (e := .bf16) _ _ _ (by decide) j k (⟨k.val / 384, by omega⟩ : Fin 8) (⟨k.val % 384, by omega⟩ : Fin 384) (by dsimp only; omega)).trans ((Shards.drop_apply (F := Elt Ideal) (e := .bf16) _ _ _ _ _).trans ?_)
    rfl
  unfold Kernel16Ideal.Run.dot prod
  simp only [← hW]
  generalize (shapeCast S1024x3072 (transpose S1024x8x384 [1, 0, 2] (shapeCast S8x1024x384 w shapeCasts_S8x1x1024x384_S8x1024x384) transposes_S8x1024x384_S1024x8x384_1_0_2) shapeCasts_S1024x8x384_S1024x3072) = W
  pointwise []

/-- The gradient of the scale: a sum over the rows. -/
def scale (d : FVec Ideal S4096x3072 .bf16) (w : FVec Ideal S8x1x1024x384 .bf16) (x : FVec Ideal S4096x1024 .f32) : FVec Ideal S1x1024 .f32 :=
  shapeCast S1x1024 (Host.reduceAdd (mulf x (prod d w)) (constant S_ .f32 0x00000000#32) reducesTo_S4096x1024_S1024_d0 h_S_) shapeCasts_S1024_S1x1024

/-- The gradient of the shift: a sum over the rows. -/
def shift (d : FVec Ideal S4096x3072 .bf16) (w : FVec Ideal S8x1x1024x384 .bf16) : FVec Ideal S1x1024 .f32 :=
  shapeCast S1x1024 (Host.reduceAdd (prod d w) (constant S_ .f32 0x00000000#32) reducesTo_S4096x1024_S1024_d0 h_S_) shapeCasts_S1024_S1x1024

theorem scale_apply (d : FVec Ideal S4096x3072 .bf16) (w : FVec Ideal S8x1x1024x384 .bf16) (x : FVec Ideal S4096x1024 .f32) (j : Fin 1024) : scale d w x (ix2 (0 : Fin 1) j) = ∑ r : Fin 4096, Kernel16Ideal.Run.dot d w r j * x (ix2 r j) := by
  simp only [← prod_apply, mul_comm (G := EReal) _ (x _)]
  unfold scale
  generalize prod d w = Y
  pointwise []
theorem shift_apply (d : FVec Ideal S4096x3072 .bf16) (w : FVec Ideal S8x1x1024x384 .bf16) (j : Fin 1024) : shift d w (ix2 (0 : Fin 1) j) = ∑ r : Fin 4096, Kernel16Ideal.Run.dot d w r j := by
  simp only [← prod_apply]
  unfold shift
  generalize prod d w = Y
  pointwise []

/-- The two sums above six rows of zeros. -/
def eight (d : FVec Ideal S4096x3072 .bf16) (w : FVec Ideal S8x1x1024x384 .bf16) (x : FVec Ideal S4096x1024 .f32) : FVec Ideal S8x1024 .f32 :=
  concatenate S8x1024 0 [⟨S1x1024, scale d w x⟩, ⟨S1x1024, shift d w⟩, ⟨S6x1024, broadcastInDim S6x1024 ![] bcast_S_S6x1024 (constant S_ .f32 0x00000000#32)⟩] concatenates_S1x1024_S1x1024_S6x1024_S8x1024_d0

theorem eight_apply (d : FVec Ideal S4096x3072 .bf16) (w : FVec Ideal S8x1x1024x384 .bf16) (x : FVec Ideal S4096x1024 .f32) (i : Fin 8) (j : Fin 1024) : eight d w x (ix2 i j) = Kernel16Ideal.Run.sums d w x i j := by
  unfold eight Kernel16Ideal.Run.sums
  generalize hs : scale d w x = S
  generalize hh : shift d w = H
  generalize hz : (broadcastInDim S6x1024 ![] bcast_S_S6x1024 (constant S_ .f32 0x00000000#32) : FVec Ideal S6x1024 .f32) = Z
  by_cases h0 : i.val = 0
  · rw [if_pos h0, ← scale_apply, hs]
    refine concatenate_apply_piece (t := S8x1024) 0 [⟨S1x1024, S⟩, ⟨S1x1024, H⟩, ⟨S6x1024, Z⟩] _ _ 0 (by show 0 < 3; decide) S1x1024 S rfl rfl 0 rfl (ix2 (0 : Fin 1) j) ?_ ?_
    · intro b hb; fin_cases b
      · exact absurd rfl hb
      · rfl
    · show 0 + 0 = i.val; omega
  · rw [if_neg h0]
    by_cases h1 : i.val = 1
    · rw [if_pos h1, ← shift_apply, hh]
      refine concatenate_apply_piece (t := S8x1024) 0 [⟨S1x1024, S⟩, ⟨S1x1024, H⟩, ⟨S6x1024, Z⟩] _ _ 1 (by show 1 < 3; decide) S1x1024 H rfl rfl 1 rfl (ix2 (0 : Fin 1) j) ?_ ?_
      · intro b hb; fin_cases b
        · exact absurd rfl hb
        · rfl
      · show 1 + 0 = i.val; omega
    · rw [if_neg h1]
      refine (concatenate_apply_piece (t := S8x1024) 0 [⟨S1x1024, S⟩, ⟨S1x1024, H⟩, ⟨S6x1024, Z⟩] _ _ 2 (by show 2 < 3; decide) S6x1024 Z rfl rfl 2 rfl (ix2 (⟨i.val - 2, by omega⟩ : Fin 6) j) ?_ ?_).trans ?_
      · intro b hb; fin_cases b
        · exact absurd rfl hb
        · rfl
      · show 2 + (i.val - 2) = i.val; omega
      · rw [← hz]
        pointwise []

end Cert.Reference16Ideal.Rows

namespace Cert.Proof

open Idealize.ShloMosaic Idealize.SL.Sem

/-- The gradient of the mixer's modulated input projection by its input, scale and shift: on memories that agree on the arguments, the kernel's result arrays are the reference's, entry by entry. -/
theorem algebraic_InDx : algebraic_Kernel16Ideal_Reference16Ideal := by
  intro m ρ m' ρ' _ hagree
  refine ⟨fun c => (Kernel16Ideal.Run.dats m 0 c).arrAt 4 Kernel16Ideal.cfg0.N, fun c => (Kernel16Ideal.Run.dats m 0 c).arrAt 5 Kernel16Ideal.cfg0.N, (θ_run Kernel16Ideal.defs _ _).mono (fun _ h c => ?run) (Kernel16Ideal.Run.run_blocks (F := Ideal) m ρ), ?_⟩
  case run =>
    have h := h c
    exact ⟨h.1.1, h.1.2, h.2⟩
  refine (θ_run Reference16Ideal.defs _ _).mono (fun _ h c => ⟨?_, ?_, (h c).2.2⟩) (Reference16Ideal.Value.run (F := Ideal) m' ρ')
  · refine ((h c).1).trans (Eq.trans ?_ (Kernel16Ideal.Run.final4 m c).symm)
    simp only [hagree c]
    funext j
    obtain ⟨r, q, rfl⟩ := Shards.pair j
    show _ = (_ : EReal)
    show addf (F := Ideal) (m (c.tc.loc Kernel16Ideal.main_arg4)) (mulf (Reference16Ideal.Rows.prod (m (c.tc.loc Kernel16Ideal.main_arg0)) (m (c.tc.loc Kernel16Ideal.main_arg1))) (broadcastInDim Reference16Ideal.S4096x1024 ![0, 1] Reference16Ideal.Gen.bcast_S1x1024_S4096x1024_0_1 (addf (broadcastInDim Reference16Ideal.S1x1024 ![] Reference16Ideal.Gen.bcast_S_S1x1024 (constant Reference16Ideal.S_ .f32 0x3F800000#32)) (m (c.tc.loc Kernel16Ideal.main_arg3))))) (ix2 r q)
      = Kernel16Ideal.Run.dot (m (c.tc.loc Kernel16Ideal.main_arg0)) (m (c.tc.loc Kernel16Ideal.main_arg1)) r q * (1 + (m (c.tc.loc Kernel16Ideal.main_arg3)) (ix2 (0 : Fin 1) q)) + (m (c.tc.loc Kernel16Ideal.main_arg4)) (ix2 r q)
    rw [← Reference16Ideal.Rows.prod_apply]
    generalize Reference16Ideal.Rows.prod (m (c.tc.loc Kernel16Ideal.main_arg0)) (m (c.tc.loc Kernel16Ideal.main_arg1)) = X
    refine Eq.trans ?_ (add_comm (G := EReal) _ _)
    pointwise []
  · refine ((h c).2.1).trans (Eq.trans ?_ (Kernel16Ideal.Run.final5 m c).symm)
    funext j
    obtain ⟨r, q, rfl⟩ := Shards.pair j
    show _ = (_ : EReal)
    show Reference16Ideal.Rows.eight (m' (c.tc.loc Reference16Ideal.main_arg0)) (m' (c.tc.loc Reference16Ideal.main_arg1)) (m' (c.tc.loc Reference16Ideal.main_arg2)) (ix2 r q) = Kernel16Ideal.Run.sums (m (c.tc.loc Kernel16Ideal.main_arg0)) (m (c.tc.loc Kernel16Ideal.main_arg1)) (m (c.tc.loc Kernel16Ideal.main_arg2)) r q
    rw [Reference16Ideal.Rows.eight_apply]
    simp only [hagree c]

/-- The two printings of the program have the same bodies. -/
theorem defs_InDx : Kernel16.defs (F := Bits) = Kernel16Ideal.defs (F := Bits) := by
  have e : Kernel16.defs₀ (F := Bits) = Kernel16Ideal.defs₀ (F := Bits) := by
    unfold Kernel16.defs₀ Kernel16Ideal.defs₀
    refine congrArg Defs.onTc (funext fun i => ?_)
    match i with
    | 0 => exact funext fun p => rfl
  exact congrArg (Pipeline.defs (Kernel16.pcfgs (F := Bits))) e

/-- As printed, on bits, it ends with its arguments unchanged and every counter at zero. -/
theorem frame_InDx : quiescent_Kernel16 := fun m ρ _ => by
  rw [defs_InDx]
  exact Kernel16Ideal.Run.frame (F := Bits) m ρ

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.DwDown
public import proofs.«01_k».proof.Proof.DwUp
public import proofs.«01_k».proof.Proof.DwOut
public import proofs.«01_k».proof.Proof.DwPw
public import proofs.«01_k».proof.Proof.DwIn
public import proofs.«01_k».proof.Proof.OutDx
public import proofs.«01_k».proof.Proof.Pw2Dx
public import proofs.«01_k».proof.Proof.OutLn
public import proofs.«01_k».proof.Proof.Pw2Ln
public import proofs.«01_k».proof.Proof.Tail.Points
public import proofs.«01_k».proof.Proof.Pw1Dx
public import proofs.«01_k».proof.Proof.InFwd
public import proofs.«01_k».proof.Proof.Pw1Fwd
public import proofs.«01_k».proof.Proof.UpGate
public import proofs.«01_k».proof.Proof.InDx
public import Idealize.ShloMosaic.Adequacy
public import Idealize.ShloMosaic.Init
public import Idealize.ShloMosaic.Lib.Quiescent

@[expose] public section

noncomputable section

namespace Cert.Proof

open Idealize.ShloMosaic Idealize.SL.Sem

/-- The reference of the gated convolution's gradient leaves its arguments as they were and every counter at zero. -/
theorem frame_ref : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The same of the down projection's reference. -/
theorem frame_ref2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The same of the up projections' reference. -/
theorem frame_ref3 : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The same of the output projections' reference. -/
theorem frame_ref4 : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The same of the first pointwise projection's reference. -/
theorem frame_ref5 : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The same of the mixer's input projection's reference. -/
theorem frame_ref6 : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The same of the reference of the output projection's input gradient. -/
theorem frame_ref7 : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The same of the reference of the second pointwise projection's input gradient. -/
theorem frame_ref8 : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The same of the reference of the output projection with its layer norm. -/
theorem frame_ref9 : quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- The same of the reference of the second pointwise projection with its layer norm. -/
theorem frame_ref10 : quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

/-- The same of the reference of the feed-forward's tail. -/
theorem frame_ref11 : quiescent_Reference11Ideal := fun m ρ _ =>
  (θ_run Cert.Reference11Ideal.defs _ _).mono (fun r h => ⟨fun c => (h c).2.2.2.2.2.2, sem_eq_zero_of_no_sems (by decide) r.2⟩)
    (Cert.Reference11Ideal.Value.run (F := Ideal) m ρ)

/-- The same of the reference of the first pointwise projection's input gradient. -/
theorem frame_ref12 : quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-- The same of the reference of the input projection. -/
theorem frame_ref13 : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The same of the reference of the first pointwise projection. -/
theorem frame_ref14 : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The same of the reference of the up and gate projections. -/
theorem frame_ref15 : quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

/-- The same of the reference of the input projection's input gradient. -/
theorem frame_ref16 : quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)

/-- All claims together. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   Cert.Kernel16.Gen.facts, Cert.Kernel16Ideal.Gen.facts, Cert.Reference16Ideal.Gen.facts,
   fun m ρ _ => Cert.Kernel.Gen.frame m ρ, fun m ρ _ => Cert.KernelIdeal.Gen.frame m ρ, frame_ref,
   fun m ρ _ => Cert.Kernel2.Gen.frame m ρ, fun m ρ _ => Cert.Kernel2Ideal.Gen.frame m ρ, frame_ref2,
   fun m ρ _ => Cert.Kernel3.Gen.frame m ρ, fun m ρ _ => Cert.Kernel3Ideal.Gen.frame m ρ, frame_ref3,
   fun m ρ _ => Cert.Kernel4.Gen.frame m ρ, fun m ρ _ => Cert.Kernel4Ideal.Gen.frame m ρ, frame_ref4,
   fun m ρ _ => Cert.Kernel5.Gen.frame m ρ, fun m ρ _ => Cert.Kernel5Ideal.Gen.frame m ρ, frame_ref5,
   fun m ρ _ => Cert.Kernel6.Gen.frame m ρ, fun m ρ _ => Cert.Kernel6Ideal.Gen.frame m ρ, frame_ref6,
   frame_OutDx, fun m ρ _ => Cert.Kernel7Ideal.Run.frame m ρ, frame_ref7,
   frame_Pw2Dx, fun m ρ _ => Cert.Kernel8Ideal.Run.frame m ρ, frame_ref8,
   frame_OutLn, fun m ρ _ => Cert.Kernel9Ideal.Run.frame m ρ, frame_ref9,
   frame_Pw2Ln, fun m ρ _ => Cert.Kernel10Ideal.Run.frame m ρ, frame_ref10,
   frame_Tail, fun m ρ _ => Cert.Kernel11Ideal.Run.frame m ρ, frame_ref11,
   frame_Pw1Dx, fun m ρ _ => Cert.Kernel12Ideal.Run.frame m ρ, frame_ref12,
   frame_InFwd, fun m ρ _ => Cert.Kernel13Ideal.Run.frame m ρ, frame_ref13,
   frame_Pw1Fwd, fun m ρ _ => Cert.Kernel14Ideal.Run.frame m ρ, frame_ref14,
   frame_UpGate, fun m ρ _ => Cert.Kernel15Ideal.Run.frame m ρ, frame_ref15,
   frame_InDx, fun m ρ _ => Cert.Kernel16Ideal.Run.frame m ρ, frame_ref16,
   (trivial : preserves_Kernel_KernelIdeal),
   (trivial : preserves_Kernel2_Kernel2Ideal), algebraic_DwDown,
   (trivial : preserves_Kernel3_Kernel3Ideal), algebraic_DwUp,
   (trivial : preserves_Kernel4_Kernel4Ideal), algebraic_DwOut,
   (trivial : preserves_Kernel5_Kernel5Ideal), algebraic_DwPw,
   (trivial : preserves_Kernel6_Kernel6Ideal), algebraic_DwIn,
   (trivial : preserves_Kernel7_Kernel7Ideal), algebraic_OutDx,
   (trivial : preserves_Kernel8_Kernel8Ideal), algebraic_Pw2Dx,
   (trivial : preserves_Kernel9_Kernel9Ideal), algebraic_OutLn,
   (trivial : preserves_Kernel10_Kernel10Ideal), algebraic_Pw2Ln,
   (trivial : preserves_Kernel11_Kernel11Ideal), algebraic_Tail,
   (trivial : preserves_Kernel12_Kernel12Ideal), algebraic_Pw1Dx,
   (trivial : preserves_Kernel13_Kernel13Ideal), algebraic_InFwd,
   (trivial : preserves_Kernel14_Kernel14Ideal), algebraic_Pw1Fwd,
   (trivial : preserves_Kernel15_Kernel15Ideal), algebraic_UpGate,
   (trivial : preserves_Kernel16_Kernel16Ideal), algebraic_InDx⟩

end Cert.Proof

end
